-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v51) = v1 c
          ∧ r.2.mem ((c.tc : Thread Cert.Reference10Ideal.nD Cert.Reference10Ideal.τ).loc Cert.Reference10Ideal.main_v52) = v2 c
          ∧ r.2.mem ((c.tc : Thread Cert.Reference10Ideal.nD Cert.Reference10Ideal.τ).loc Cert.Reference10Ideal.main_v34) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m ((c.tc : Thread Cert.Kernel23Ideal.nD Cert.Kernel23Ideal.τ).loc Cert.Kernel23Ideal.main_arg0) = Layout.block ⟨2, ![72, 128]⟩ ⟨2, ![576, 128]⟩ 0 8 c (m' (((0 : Dev Cert.Reference23Ideal.nD).tc : Thread Cert.Reference23Ideal.nD Cert.Reference23Ideal.τ).loc Cert.Reference23Ideal.main_arg0))) →
    ∃ (v0 : Buf (Elt Ideal) (((0 : Dev Cert.Reference23Ideal.nD).tc : Thread Cert.Reference23Ideal.nD Cert.Reference23Ideal.τ).loc Cert.Reference23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r =>
          r.2.mem (((0 : Dev Cert.Reference23Ideal.nD).tc : Thread Cert.Reference23Ideal.nD Cert.Reference23Ideal.τ).loc Cert.Reference23Ideal.main_v0) = v0
          ∧ r.2.mem (((0 : Dev Cert.Reference23Ideal.nD).tc : Thread Cert.Reference23Ideal.nD Cert.Reference23Ideal.τ).loc Cert.Reference23Ideal.main_arg0) = m' (((0 : Dev Cert.Reference23Ideal.nD).tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m ((c.tc : Thread Cert.Kernel24Ideal.nD Cert.Kernel24Ideal.τ).loc Cert.Kernel24Ideal.main_arg0) = Layout.block ⟨2, ![128, 1024]⟩ ⟨2, ![1024, 1024]⟩ 0 8 c (m' (((0 : Dev Cert.Reference24Ideal.nD).tc : Thread Cert.Reference24Ideal.nD Cert.Reference24Ideal.τ).loc Cert.Reference24Ideal.main_arg0))) →
    ∃ (v0 : Buf (Elt Ideal) (((0 : Dev Cert.Reference24Ideal.nD).tc : Thread Cert.Reference24Ideal.nD Cert.Reference24Ideal.τ).loc Cert.Reference24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r =>
          r.2.mem (((0 : Dev Cert.Reference24Ideal.nD).tc : Thread Cert.Reference24Ideal.nD Cert.Reference24Ideal.τ).loc Cert.Reference24Ideal.main_v0) = v0
          ∧ r.2.mem (((0 : Dev Cert.Reference24Ideal.nD).tc : Thread Cert.Reference24Ideal.nD Cert.Reference24Ideal.τ).loc Cert.Reference24Ideal.main_arg0) = m' (((0 : Dev Cert.Reference24Ideal.nD).tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m ((c.tc : Thread Cert.Kernel25Ideal.nD Cert.Kernel25Ideal.τ).loc Cert.Kernel25Ideal.main_arg0) = Layout.block ⟨2, ![1024, 512]⟩ ⟨2, ![1024, 4096]⟩ 1 8 c (m' (((0 : Dev Cert.Reference25Ideal.nD).tc : Thread Cert.Reference25Ideal.nD Cert.Reference25Ideal.τ).loc Cert.Reference25Ideal.main_arg0))) →
    ∃ (v0 : Buf (Elt Ideal) (((0 : Dev Cert.Reference25Ideal.nD).tc : Thread Cert.Reference25Ideal.nD Cert.Reference25Ideal.τ).loc Cert.Reference25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r =>
          r.2.mem (((0 : Dev Cert.Reference25Ideal.nD).tc : Thread Cert.Reference25Ideal.nD Cert.Reference25Ideal.τ).loc Cert.Reference25Ideal.main_v1) = v0
          ∧ r.2.mem (((0 : Dev Cert.Reference25Ideal.nD).tc : Thread Cert.Reference25Ideal.nD Cert.Reference25Ideal.τ).loc Cert.Reference25Ideal.main_arg0) = m' (((0 : Dev Cert.Reference25Ideal.nD).tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m ((c.tc : Thread Cert.Kernel26Ideal.nD Cert.Kernel26Ideal.τ).loc Cert.Kernel26Ideal.main_arg0) = Layout.block ⟨2, ![512, 1024]⟩ ⟨2, ![4096, 1024]⟩ 0 8 c (m' (((0 : Dev Cert.Reference26Ideal.nD).tc : Thread Cert.Reference26Ideal.nD Cert.Reference26Ideal.τ).loc Cert.Reference26Ideal.main_arg0))) →
    ∃ (v0 : Buf (Elt Ideal) (((0 : Dev Cert.Reference26Ideal.nD).tc : Thread Cert.Reference26Ideal.nD Cert.Reference26Ideal.τ).loc Cert.Reference26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r =>
          r.2.mem (((0 : Dev Cert.Reference26Ideal.nD).tc : Thread Cert.Reference26Ideal.nD Cert.Reference26Ideal.τ).loc Cert.Reference26Ideal.main_v0) = v0
          ∧ r.2.mem (((0 : Dev Cert.Reference26Ideal.nD).tc : Thread Cert.Reference26Ideal.nD Cert.Reference26Ideal.τ).loc Cert.Reference26Ideal.main_arg0) = m' (((0 : Dev Cert.Reference26Ideal.nD).tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m ((c.tc : Thread Cert.Kernel27Ideal.nD Cert.Kernel27Ideal.τ).loc Cert.Kernel27Ideal.main_arg0) = Layout.block ⟨3, ![8, 128, 1024]⟩ ⟨3, ![64, 128, 1024]⟩ 0 8 c (m' (((0 : Dev Cert.Reference27Ideal.nD).tc : Thread Cert.Reference27Ideal.nD Cert.Reference27Ideal.τ).loc Cert.Reference27Ideal.main_arg0))) →
    ∃ (v0 : Buf (Elt Ideal) (((0 : Dev Cert.Reference27Ideal.nD).tc : Thread Cert.Reference27Ideal.nD Cert.Reference27Ideal.τ).loc Cert.Reference27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = Layout.block ⟨3, ![8, 128, 1024]⟩ ⟨3, ![64, 128, 1024]⟩ 0 8 c v0
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r =>
          r.2.mem (((0 : Dev Cert.Reference27Ideal.nD).tc : Thread Cert.Reference27Ideal.nD Cert.Reference27Ideal.τ).loc Cert.Reference27Ideal.main_v2) = v0
          ∧ r.2.mem (((0 : Dev Cert.Reference27Ideal.nD).tc : Thread Cert.Reference27Ideal.nD Cert.Reference27Ideal.τ).loc Cert.Reference27Ideal.main_arg0) = m' (((0 : Dev Cert.Reference27Ideal.nD).tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m ((c.tc : Thread Cert.Kernel28Ideal.nD Cert.Kernel28Ideal.τ).loc Cert.Kernel28Ideal.main_arg0) = Layout.block ⟨3, ![8, 1024, 512]⟩ ⟨3, ![64, 1024, 512]⟩ 0 8 c (m' (((0 : Dev Cert.Reference28Ideal.nD).tc : Thread Cert.Reference28Ideal.nD Cert.Reference28Ideal.τ).loc Cert.Reference28Ideal.main_arg0))) →
    ∃ (v0 : Buf (Elt Ideal) (((0 : Dev Cert.Reference28Ideal.nD).tc : Thread Cert.Reference28Ideal.nD Cert.Reference28Ideal.τ).loc Cert.Reference28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = Layout.block ⟨3, ![8, 1024, 512]⟩ ⟨3, ![64, 1024, 512]⟩ 0 8 c v0
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r =>
          r.2.mem (((0 : Dev Cert.Reference28Ideal.nD).tc : Thread Cert.Reference28Ideal.nD Cert.Reference28Ideal.τ).loc Cert.Reference28Ideal.main_v2) = v0
          ∧ r.2.mem (((0 : Dev Cert.Reference28Ideal.nD).tc : Thread Cert.Reference28Ideal.nD Cert.Reference28Ideal.τ).loc Cert.Reference28Ideal.main_arg0) = m' (((0 : Dev Cert.Reference28Ideal.nD).tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m ((c.tc : Thread Cert.Kernel29Ideal.nD Cert.Kernel29Ideal.τ).loc Cert.Kernel29Ideal.main_arg0) = Layout.block ⟨3, ![8, 512, 1024]⟩ ⟨3, ![64, 512, 1024]⟩ 0 8 c (m' (((0 : Dev Cert.Reference29Ideal.nD).tc : Thread Cert.Reference29Ideal.nD Cert.Reference29Ideal.τ).loc Cert.Reference29Ideal.main_arg0))) →
    ∃ (v0 : Buf (Elt Ideal) (((0 : Dev Cert.Reference29Ideal.nD).tc : Thread Cert.Reference29Ideal.nD Cert.Reference29Ideal.τ).loc Cert.Reference29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = Layout.block ⟨3, ![8, 512, 1024]⟩ ⟨3, ![64, 512, 1024]⟩ 0 8 c v0
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r =>
          r.2.mem (((0 : Dev Cert.Reference29Ideal.nD).tc : Thread Cert.Reference29Ideal.nD Cert.Reference29Ideal.τ).loc Cert.Reference29Ideal.main_v2) = v0
          ∧ r.2.mem (((0 : Dev Cert.Reference29Ideal.nD).tc : Thread Cert.Reference29Ideal.nD Cert.Reference29Ideal.τ).loc Cert.Reference29Ideal.main_arg0) = m' (((0 : Dev Cert.Reference29Ideal.nD).tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m ((c.tc : Thread Cert.Kernel30Ideal.nD Cert.Kernel30Ideal.τ).loc Cert.Kernel30Ideal.main_arg0) = Layout.block ⟨3, ![8, 1024, 416]⟩ ⟨3, ![64, 1024, 416]⟩ 0 8 c (m' (((0 : Dev Cert.Reference30Ideal.nD).tc : Thread Cert.Reference30Ideal.nD Cert.Reference30Ideal.τ).loc Cert.Reference30Ideal.main_arg0))) →
    ∃ (v0 : Buf (Elt Ideal) (((0 : Dev Cert.Reference30Ideal.nD).tc : Thread Cert.Reference30Ideal.nD Cert.Reference30Ideal.τ).loc Cert.Reference30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = Layout.block ⟨3, ![8, 1024, 416]⟩ ⟨3, ![64, 1024, 416]⟩ 0 8 c v0
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r =>
          r.2.mem (((0 : Dev Cert.Reference30Ideal.nD).tc : Thread Cert.Reference30Ideal.nD Cert.Reference30Ideal.τ).loc Cert.Reference30Ideal.main_v2) = v0
          ∧ r.2.mem (((0 : Dev Cert.Reference30Ideal.nD).tc : Thread Cert.Reference30Ideal.nD Cert.Reference30Ideal.τ).loc Cert.Reference30Ideal.main_arg0) = m' (((0 : Dev Cert.Reference30Ideal.nD).tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m ((c.tc : Thread Cert.Kernel31Ideal.nD Cert.Kernel31Ideal.τ).loc Cert.Kernel31Ideal.main_arg0) = Layout.block ⟨3, ![8, 64, 64]⟩ ⟨3, ![64, 64, 64]⟩ 0 8 c (m' (((0 : Dev Cert.Reference31Ideal.nD).tc : Thread Cert.Reference31Ideal.nD Cert.Reference31Ideal.τ).loc Cert.Reference31Ideal.main_arg0))) →
    ∃ (v0 : Buf (Elt Ideal) (((0 : Dev Cert.Reference31Ideal.nD).tc : Thread Cert.Reference31Ideal.nD Cert.Reference31Ideal.τ).loc Cert.Reference31Ideal.main_v2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = Layout.block ⟨3, ![8, 64, 64]⟩ ⟨3, ![64, 64, 64]⟩ 0 8 c v0
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r =>
          r.2.mem (((0 : Dev Cert.Reference31Ideal.nD).tc : Thread Cert.Reference31Ideal.nD Cert.Reference31Ideal.τ).loc Cert.Reference31Ideal.main_v2) = v0
          ∧ r.2.mem (((0 : Dev Cert.Reference31Ideal.nD).tc : Thread Cert.Reference31Ideal.nD Cert.Reference31Ideal.τ).loc Cert.Reference31Ideal.main_arg0) = m' (((0 : Dev Cert.Reference31Ideal.nD).tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m ((c.tc : Thread Cert.Kernel32Ideal.nD Cert.Kernel32Ideal.τ).loc Cert.Kernel32Ideal.main_arg0) = Layout.block ⟨3, ![8, 64, 64]⟩ ⟨3, ![64, 64, 64]⟩ 0 8 c (m' (((0 : Dev Cert.Reference32Ideal.nD).tc : Thread Cert.Reference32Ideal.nD Cert.Reference32Ideal.τ).loc Cert.Reference32Ideal.main_arg0))) →
    ∃ (v0 : Buf (Elt Ideal) (((0 : Dev Cert.Reference32Ideal.nD).tc : Thread Cert.Reference32Ideal.nD Cert.Reference32Ideal.τ).loc Cert.Reference32Ideal.main_v2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = Layout.block ⟨3, ![8, 64, 64]⟩ ⟨3, ![64, 64, 64]⟩ 0 8 c v0
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r =>
          r.2.mem (((0 : Dev Cert.Reference32Ideal.nD).tc : Thread Cert.Reference32Ideal.nD Cert.Reference32Ideal.τ).loc Cert.Reference32Ideal.main_v2) = v0
          ∧ r.2.mem (((0 : Dev Cert.Reference32Ideal.nD).tc : Thread Cert.Reference32Ideal.nD Cert.Reference32Ideal.τ).loc Cert.Reference32Ideal.main_arg0) = m' (((0 : Dev Cert.Reference32Ideal.nD).tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m ((c.tc : Thread Cert.Kernel33Ideal.nD Cert.Kernel33Ideal.τ).loc Cert.Kernel33Ideal.main_arg0) = Layout.block ⟨3, ![8, 128, 64]⟩ ⟨3, ![64, 128, 64]⟩ 0 8 c (m' (((0 : Dev Cert.Reference33Ideal.nD).tc : Thread Cert.Reference33Ideal.nD Cert.Reference33Ideal.τ).loc Cert.Reference33Ideal.main_arg0))) →
    ∃ (v0 : Buf (Elt Ideal) (((0 : Dev Cert.Reference33Ideal.nD).tc : Thread Cert.Reference33Ideal.nD Cert.Reference33Ideal.τ).loc Cert.Reference33Ideal.main_v2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1) = Layout.block ⟨3, ![8, 128, 64]⟩ ⟨3, ![64, 128, 64]⟩ 0 8 c v0
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r =>
          r.2.mem (((0 : Dev Cert.Reference33Ideal.nD).tc : Thread Cert.Reference33Ideal.nD Cert.Reference33Ideal.τ).loc Cert.Reference33Ideal.main_v2) = v0
          ∧ r.2.mem (((0 : Dev Cert.Reference33Ideal.nD).tc : Thread Cert.Reference33Ideal.nD Cert.Reference33Ideal.τ).loc Cert.Reference33Ideal.main_arg0) = m' (((0 : Dev Cert.Reference33Ideal.nD).tc : Thread Cert.Reference33Ideal.nD Cert.Reference33Ideal.τ).loc Cert.Reference33Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite_inputs.lean ====
abbrev S4x2048x3328 : Shape := ⟨3, ![4, 2048, 3328]⟩
abbrev S1x512 : Shape := ⟨2, ![1, 512]⟩
abbrev S4x2048x1024 : Shape := ⟨3, ![4, 2048, 1024]⟩
abbrev S_ : Shape := ⟨0, ![]⟩

class Facts : Prop where
  bcast_S_S4x2048x3328 : S_.BroadcastsInDim S4x2048x3328 (![] : Fin 0 → Fin S4x2048x3328.rank)
  bcast_S_S1x512 : S_.BroadcastsInDim S1x512 (![] : Fin 0 → Fin S1x512.rank)
  bcast_S_S4x2048x1024 : S_.BroadcastsInDim S4x2048x1024 (![] : Fin 0 → Fin S4x2048x1024.rank)

variable [Facts]

def fn {F : FTy → Type} [FloatOps F] (main_arg0 : FVec F S4x2048x3328 .f32) (main_arg1 : FVec F S1x512 .f32) (main_arg2 : FVec F S4x2048x1024 .f32) : IVec S4x2048x3328 1 × IVec S1x512 1 × IVec S4x2048x1024 1 :=
  let main_v0 : FVec F S4x2048x3328 .f32 := Host.absf main_arg0
  let main_cst : FVec F S_ .f32 := constant S_ .f32 0x7F800000#32
  let main_v1 : FVec F S4x2048x3328 .f32 := broadcastInDim S4x2048x3328 ![] bcast_S_S4x2048x3328 main_cst
  let main_v2 : IVec S4x2048x3328 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S4x2048x1024 .f32 := Host.absf main_arg2
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  (main_v2, main_v5, main_v8)
-- ==== Kernel.lean ====
abbrev S4x2048x3328 : Shape := ⟨3, ![4, 2048, 3328]⟩
abbrev S1x512 : Shape := ⟨2, ![1, 512]⟩
abbrev S4x2048x1024 : Shape := ⟨3, ![4, 2048, 1024]⟩
abbrev S4x2048x1536 : Shape := ⟨3, ![4, 2048, 1536]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x2048x8 : Shape := ⟨3, ![4, 2048, 8]⟩
abbrev S2x4x8 : Shape := ⟨3, ![2, 4, 8]⟩
abbrev S1x128 : Shape := ⟨2, ![1, 128]⟩
abbrev S2x2048x128 : Shape := ⟨3, ![2, 2048, 128]⟩
abbrev S256x1 : Shape := ⟨2, ![256, 1]⟩
abbrev S1x256x128 : Shape := ⟨3, ![1, 256, 128]⟩
abbrev S256x128 : Shape := ⟨2, ![256, 128]⟩
abbrev S256 : Shape := ⟨1, ![256]⟩
abbrev S128 : Shape := ⟨1, ![128]⟩
abbrev S1x1x1 : Shape := ⟨3, ![1, 1, 1]⟩
abbrev S256x256 : Shape := ⟨2, ![256, 256]⟩

abbrev nBuf : Space → Nat
  | .hbm => 71
  | .vmem => 13
  | .smem => 1
  | _ => 0

abbrev bufTy : (tb : Table) → Fin (tcTables nBuf tb) → BufTy
  | .hbm, ⟨0, _⟩ => ⟨S4x2048x3328, .f32⟩
  | .hbm, ⟨1, _⟩ => ⟨S1x512, .f32⟩
  | .hbm, ⟨2, _⟩ => ⟨S4x2048x1024, .f32⟩
  | .hbm, ⟨3, _⟩ => ⟨S4x2048x1536, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x8x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S_, .f32⟩
  | .hbm, ⟨43, _⟩ => ⟨S4x8x2048x2048, .i1⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S_, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S_, .f32⟩
  | .hbm, ⟨54, _⟩ => ⟨S4x8x2048x2048, .i1⟩
  | .hbm, ⟨55, _⟩ => ⟨S4x8x2048x2048, .f32⟩
  | .hbm, ⟨56, _⟩ => ⟨S4x8x2048x2048, .f32⟩
  | .hbm, ⟨57, _⟩ => ⟨S4x8x2048x64, .f32⟩
  | .hbm, ⟨58, _⟩ => ⟨S4x2048x8x64, .f32⟩
  | .hbm, ⟨59, _⟩ => ⟨S4x2048x512, .f32⟩
  | .hbm, ⟨60, _⟩ => ⟨S_, .f32⟩
  | .hbm, ⟨61, _⟩ => ⟨S4x8x2048, .f32⟩
  | .hbm, ⟨62, _⟩ => ⟨S4x2048x8, .f32⟩
  | .hbm, ⟨63, _⟩ => ⟨S4x2048x8x64, .f32⟩
  | .hbm, ⟨64, _⟩ => ⟨S4x2048x512, .f32⟩
  | .hbm, ⟨65, _⟩ => ⟨S_, .i32⟩
  | .hbm, ⟨66, _⟩ => ⟨S2x4x8, .i32⟩
  | .hbm, ⟨67, _⟩ => ⟨S4x2048x512, .f32⟩
  | .hbm, ⟨68, _⟩ => ⟨S4x2048x512, .f32⟩
  | .hbm, ⟨69, _⟩ => ⟨S4x2048x512, .f32⟩
  | .hbm, ⟨70, _⟩ => ⟨S1x512, .f32⟩
  | .local _ .vmem, ⟨0, _⟩ => ⟨S1x128, .f32⟩
  | .local _ .vmem, ⟨1, _⟩ => ⟨S1x128, .f32⟩
  | .local _ .vmem, ⟨2, _⟩ => ⟨S2x2048x128, .f32⟩
  | .local _ .vmem, ⟨3, _⟩ => ⟨S2x2048x128, .f32⟩
  | .local _ .vmem, ⟨4, _⟩ => ⟨S2x2048x128, .f32⟩
  | .local _ .vmem, ⟨5, _⟩ => ⟨S2x2048x128, .f32⟩
  | .local _ .vmem, ⟨6, _⟩ => ⟨S2x2048x128, .f32⟩
  | .local _ .vmem, ⟨7, _⟩ => ⟨S2x2048x128, .f32⟩
  | .local _ .vmem, ⟨8, _⟩ => ⟨S2x2048x128, .f32⟩
  | .local _ .vmem, ⟨9, _⟩ => ⟨S2x2048x128, .f32⟩
  | .local _ .vmem, ⟨10, _⟩ => ⟨S2x2048x128, .f32⟩
  | .local _ .vmem, ⟨11, _⟩ => ⟨S1x128, .f32⟩
  | .local _ .vmem, ⟨12, _⟩ => ⟨S1x128, .f32⟩
  | .local _ .smem, ⟨0, _⟩ => ⟨S2x4x8, .i32⟩
  | _, _ => ⟨S4x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_call2_cst : Ref sig .tc := ⟨.hbm, 46, rfl⟩
abbrev main_call2_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c : Ref sig .tc := ⟨.hbm, 65, rfl⟩
abbrev main_v35 : Ref sig .tc := ⟨.hbm, 66, rfl⟩
abbrev main_v36_0 : Ref sig .tc := ⟨.hbm, 67, rfl⟩
abbrev main_v36_1 : Ref sig .tc := ⟨.hbm, 68, rfl⟩
abbrev main_v36_2 : Ref sig .tc := ⟨.hbm, 69, rfl⟩
abbrev main_v36_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v17 : BitVec 32 := Scalar.muli arg14 c256_i32
  v17
def k0_off1 (k0_t1 : Fin k0_t1_loop.trips) : Fin 3 → Nat :=
  let c0_14 : Index := 0#32
  let c0_i32 : BitVec 32 := 0#32
  let c1_i32 : BitVec 32 := 1#32
  let arg14 : BitVec 32 := Scf.iv c0_i32 c1_i32 k0_t1
  let c256_i32 : BitVec 32 := 256#32
  let v17 : BitVec 32 := Scalar.muli arg14 c256_i32
  let v18 : BitVec 32 := v17
  let v20 : Index := Scalar.indexCast v18
  let c0_15 : Index := 0#32
  ![0, v20.toNat, 0]
def k0_off2 (k0_t1 : Fin k0_t1_loop.trips) : Fin 3 → Nat :=
  let c1 : Index := 1#32
  let c0_i32 : BitVec 32 := 0#32
  let c1_i32 : BitVec 32 := 1#32
  let arg14 : BitVec 32 := Scf.iv c0_i32 c1_i32 k0_t1
  let c256_i32 : BitVec 32 := 256#32
  let v17 : BitVec 32 := Scalar.muli arg14 c256_i32
  let v18 : BitVec 32 := v17
  let v116 : Index := Scalar.indexCast v18
  let c0_47 : Index := 0#32
  ![1, v116.toNat, 0]
def k0_off3 (i : grid0.Coords) (k0_t1 : Fin k0_t1_loop.trips) : Fin 3 → Nat :=
  let arg1 : BitVec 32 := BitVec.ofNat 32 (i 1).val
  let v213 : Index := Scalar.indexCast arg1
  let arg0 : BitVec 32 := BitVec.ofNat 32 (i 0).val
  let v214 : Index := Scalar.indexCast arg0
  let c0_i32 : BitVec 32 := 0#32
  let c1_i32 : BitVec 32 := 1#32
  let arg14 : BitVec 32 := Scf.iv c0_i32 c1_i32 k0_t1
  let v215 : Index := Scalar.indexCast arg14
  ![v213.toNat, v214.toNat, v215.toNat]
@[reducible] def k0_t2_loop (k0_t1 : Fin k0_t1_loop.trips) (v216 : BitVec 32) : Scf.Loop 32 :=
  let c0_i32 : BitVec 32 := 0#32
  let c1_i32 : BitVec 32 := 1#32
  let arg14 : BitVec 32 := Scf.iv c0_i32 c1_i32 k0_t1
  let v217 : BitVec 32 := Scalar.subi arg14 v216
  let c1_i32_80 : BitVec 32 := 1#32
  let v219 : BitVec 32 := Scalar.divsi v217 c1_i32_80
  let v220 : BitVec 32 := Scalar.muli v219 c1_i32_80
  let v221 : BitVec 32 := Scalar.addi v216 v220
  let c1_i32_81 : BitVec 32 := 1#32
  ⟨v216, v221, c1_i32_81⟩

def k0_mult2 (k0_t1 : Fin k0_t1_loop.trips) (v216 : BitVec 32) (k0_t2 : Fin (k0_t2_loop k0_t1 v216).trips) : BitVec 32 :=
  let c1_i32_81 : BitVec 32 := 1#32
  let arg16 : BitVec 32 := Scf.iv v216 c1_i32_81 k0_t2
  let c256_i32_192 : BitVec 32 := 256#32
  let v573 : BitVec 32 := Scalar.muli arg16 c256_i32_192
  v573
def k0_off4 (k0_t1 : Fin k0_t1_loop.trips) (v216 : BitVec 32) (k0_t2 : Fin (k0_t2_loop k0_t1 v216).trips) : Fin 3 → Nat :=
  let c0_193 : Index := 0#32
  let c1_i32_81 : BitVec 32 := 1#32
  let arg16 : BitVec 32 := Scf.iv v216 c1_i32_81 k0_t2
  let c256_i32_192 : BitVec 32 := 256#32
  let v573 : BitVec 32 := Scalar.muli arg16 c256_i32_192
  let v574 : BitVec 32 := v573
  let v575 : Index := Scalar.indexCast v574
  let c0_194 : Index := 0#32
  ![0, v575.toNat, 0]
def k0_off5 (k0_t1 : Fin k0_t1_loop.trips) (v216 : BitVec 32) (k0_t2 : Fin (k0_t2_loop k0_t1 v216).trips) : Fin 3 → Nat :=
  let c1_195 : Index := 1#32
  let c1_i32_81 : BitVec 32 := 1#32
  let arg16 : BitVec 32 := Scf.iv v216 c1_i32_81 k0_t2
  let c256_i32_192 : BitVec 32 := 256#32
  let v573 : BitVec 32 := Scalar.muli arg16 c256_i32_192
  let v574 : BitVec 32 := v573
  let v578 : Index := Scalar.indexCast v574
  let c0_196 : Index := 0#32
  ![1, v578.toNat, 0]
@[reducible] def k0_t3_loop (k0_t1 : Fin k0_t1_loop.trips) (v216 : BitVec 32) : Scf.Loop 32 :=
  let c0_i32 : BitVec 32 := 0#32
  let c1_i32 : BitVec 32 := 1#32
  let arg14 : BitVec 32 := Scf.iv c0_i32 c1_i32 k0_t1
  let v217 : BitVec 32 := Scalar.subi arg14 v216
  let c1_i32_80 : BitVec 32 := 1#32
  let v219 : BitVec 32 := Scalar.divsi v217 c1_i32_80
  let v220 : BitVec 32 := Scalar.muli v219 c1_i32_80
  let v221 : BitVec 32 := Scalar.addi v216 v220
  let v218 : BitVec 32 := Scalar.addi v216 v217
  let c1_i32_82 : BitVec 32 := 1#32
  ⟨v221, v218, c1_i32_82⟩
def k0_mult3 (k0_t1 : Fin k0_t1_loop.trips) (v216 : BitVec 32) (k0_t3 : Fin (k0_t3_loop k0_t1 v216).trips) : BitVec 32 :=
  let c0_i32 : BitVec 32 := 0#32
  let c1_i32 : BitVec 32 := 1#32
  let arg14 : BitVec 32 := Scf.iv c0_i32 c1_i32 k0_t1
  let v217 : BitVec 32 := Scalar.subi arg14 v216
  let c1_i32_80 : BitVec 32 := 1#32
  let v219 : BitVec 32 := Scalar.divsi v217 c1_i32_80
  let v220 : BitVec 32 := Scalar.muli v219 c1_i32_80
  let v221 : BitVec 32 := Scalar.addi v216 v220
  let c1_i32_82 : BitVec 32 := 1#32
  let arg16 : BitVec 32 := Scf.iv v221 c1_i32_82 k0_t3
  let c256_i32_192 : BitVec 32 := 256#32
  let v573 : BitVec 32 := Scalar.muli arg16 c256_i32_192
  v573
def k0_off6 (k0_t1 : Fin k0_t1_loop.trips) (v216 : BitVec 32) (k0_t3 : Fin (k0_t3_loop k0_t1 v216).trips) : Fin 3 → Nat :=
  let c0_193 : Index := 0#32
  let c0_i32 : BitVec 32 := 0#32
  let c1_i32 : BitVec 32 := 1#32
  let arg14 : BitVec 32 := Scf.iv c0_i32 c1_i32 k0_t1
  let v217 : BitVec 32 := Scalar.subi arg14 v216
  let c1_i32_80 : BitVec 32 := 1#32
  let v219 : BitVec 32 := Scalar.divsi v217 c1_i32_80
  let v220 : BitVec 32 := Scalar.muli v219 c1_i32_80
  let v221 : BitVec 32 := Scalar.addi v216 v220
  let c1_i32_82 : BitVec 32 := 1#32
  let arg16 : BitVec 32 := Scf.iv v221 c1_i32_82 k0_t3
  let c256_i32_192 : BitVec 32 := 256#32
  let v573 : BitVec 32 := Scalar.muli arg16 c256_i32_192
  let v574 : BitVec 32 := v573
  let v575 : Index := Scalar.indexCast v574
  let c0_194 : Index := 0#32
  ![0, v575.toNat, 0]
def k0_off7 (k0_t1 : Fin k0_t1_loop.trips) (v216 : BitVec 32) (k0_t3 : Fin (k0_t3_loop k0_t1 v216).trips) : Fin 3 → Nat :=
  let c1_195 : Index := 1#32
  let c0_i32 : BitVec 32 := 0#32
  let c1_i32 : BitVec 32 := 1#32
  let arg14 : BitVec 32 := Scf.iv c0_i32 c1_i32 k0_t1
  let v217 : BitVec 32 := Scalar.subi arg14 v216
  let c1_i32_80 : BitVec 32 := 1#32
  let v219 : BitVec 32 := Scalar.divsi v217 c1_i32_80
  let v220 : BitVec 32 := Scalar.muli v219 c1_i32_80
  let v221 : BitVec 32 := Scalar.addi v216 v220
  let c1_i32_82 : BitVec 32 := 1#32
  let arg16 : BitVec 32 := Scf.iv v221 c1_i32_82 k0_t3
  let c256_i32_192 : BitVec 32 := 256#32
  let v573 : BitVec 32 := Scalar.muli arg16 c256_i32_192
  let v574 : BitVec 32 := v573
  let v578 : Index := Scalar.indexCast v574
  let c0_196 : Index := 0#32
  ![1, v578.toNat, 0]

def k0_chk1 (k0_t1 : Fin k0_t1_loop.trips) (v216 : BitVec 32) : Prop :=
  ((k0_t2_loop k0_t1 v216).OK) ∧
  (∀ k0_t2 : Fin (k0_t2_loop k0_t1 v216).trips, 256 ∣ (k0_mult2 k0_t1 v216 k0_t2).toNat) ∧
  (∀ k0_t2 : Fin (k0_t2_loop k0_t1 v216).trips, ∀ a, (k0_off4 k0_t1 v216 k0_t2) a + S1x256x128.size a ≤ S2x2048x128.size a) ∧
  (∀ k0_t2 : Fin (k0_t2_loop k0_t1 v216).trips, ∀ a, (k0_off5 k0_t1 v216 k0_t2) a + S1x256x128.size a ≤ S2x2048x128.size a) ∧
  ((k0_t3_loop k0_t1 v216).OK) ∧
  (∀ k0_t3 : Fin (k0_t3_loop k0_t1 v216).trips, 256 ∣ (k0_mult3 k0_t1 v216 k0_t3).toNat) ∧
  (∀ k0_t3 : Fin (k0_t3_loop k0_t1 v216).trips, ∀ a, (k0_off6 k0_t1 v216 k0_t3) a + S1x256x128.size a ≤ S2x2048x128.size a) ∧
  (∀ k0_t3 : Fin (k0_t3_loop k0_t1 v216).trips, ∀ a, (k0_off7 k0_t1 v216 k0_t3) a + S1x256x128.size a ≤ S2x2048x128.size a)
theorem k0_t2_ok : ∀ (k0_t1 : Fin k0_t1_loop.trips) (v216 : BitVec 32) (k0_hw1 : k0_chk1 k0_t1 v216), (k0_t2_loop k0_t1 v216).OK := fun k0_t1 v216 k0_hw1 => k0_hw1.1
theorem k0_mult2_dvd : ∀ (k0_t1 : Fin k0_t1_loop.trips) (v216 : BitVec 32) (k0_hw1 : k0_chk1 k0_t1 v216) (k0_t2 : Fin (k0_t2_loop k0_t1 v216).trips), 256 ∣ (k0_mult2 k0_t1 v216 k0_t2).toNat := fun k0_t1 v216 k0_hw1 k0_t2 => k0_hw1.2.1 k0_t2
theorem k0_off4_inb : ∀ (k0_t1 : Fin k0_t1_loop.trips) (v216 : BitVec 32) (k0_hw1 : k0_chk1 k0_t1 v216) (k0_t2 : Fin (k0_t2_loop k0_t1 v216).trips), ∀ a, (k0_off4 k0_t1 v216 k0_t2) a + S1x256x128.size a ≤ S2x2048x128.size a := fun k0_t1 v216 k0_hw1 k0_t2 => k0_hw1.2.2.1 k0_t2
theorem k0_off5_inb : ∀ (k0_t1 : Fin k0_t1_loop.trips) (v216 : BitVec 32) (k0_hw1 : k0_chk1 k0_t1 v216) (k0_t2 : Fin (k0_t2_loop k0_t1 v216).trips), ∀ a, (k0_off5 k0_t1 v216 k0_t2) a + S1x256x128.size a ≤ S2x2048x128.size a := fun k0_t1 v216 k0_hw1 k0_t2 => k0_hw1.2.2.2.1 k0_t2
theorem k0_t3_ok : ∀ (k0_t1 : Fin k0_t1_loop.trips) (v216 : BitVec 32) (k0_hw1 : k0_chk1 k0_t1 v216), (k0_t3_loop k0_t1 v216).OK := fun k0_t1 v216 k0_hw1 => k0_hw1.2.2.2.2.1
theorem k0_mult3_dvd : ∀ (k0_t1 : Fin k0_t1_loop.trips) (v216 : BitVec 32) (k0_hw1 : k0_chk1 k0_t1 v216) (k0_t3 : Fin (k0_t3_loop k0_t1 v216).trips), 256 ∣ (k0_mult3 k0_t1 v216 k0_t3).toNat := fun k0_t1 v216 k0_hw1 k0_t3 => k0_hw1.2.2.2.2.2.1 k0_t3
theorem k0_off6_inb : ∀ (k0_t1 : Fin k0_t1_loop.trips) (v216 : BitVec 32) (k0_hw1 : k0_chk1 k0_t1 v216) (k0_t3 : Fin (k0_t3_loop k0_t1 v216).trips), ∀ a, (k0_off6 k0_t1 v216 k0_t3) a + S1x256x128.size a ≤ S2x2048x128.size a := fun k0_t1 v216 k0_hw1 k0_t3 => k0_hw1.2.2.2.2.2.2.1 k0_t3
theorem k0_off7_inb : ∀ (k0_t1 : Fin k0_t1_loop.trips) (v216 : BitVec 32) (k0_hw1 : k0_chk1 k0_t1 v216) (k0_t3 : Fin (k0_t3_loop k0_t1 v216).trips), ∀ a, (k0_off7 k0_t1 v216 k0_t3) a + S1x256x128.size a ≤ S2x2048x128.size a := fun k0_t1 v216 k0_hw1 k0_t3 => k0_hw1.2.2.2.2.2.2.2 k0_t3

def k0_off8 (k0_t1 : Fin k0_t1_loop.trips) : Fin 3 → Nat :=
  let c0_83 : Index := 0#32
  let c0_i32 : BitVec 32 := 0#32
  let c1_i32 : BitVec 32 := 1#32
  let arg14 : BitVec 32 := Scf.iv c0_i32 c1_i32 k0_t1
  let c256_i32 : BitVec 32 := 256#32
  let v17 : BitVec 32 := Scalar.muli arg14 c256_i32
  let v18 : BitVec 32 := v17
  let v224 : Index := Scalar.indexCast v18
  let c0_84 : Index := 0#32
  ![0, v224.toNat, 0]
def k0_off9 (k0_t1 : Fin k0_t1_loop.trips) : Fin 3 → Nat :=
  let c1_85 : Index := 1#32
  let c0_i32 : BitVec 32 := 0#32
  let c1_i32 : BitVec 32 := 1#32
  let arg14 : BitVec 32 := Scf.iv c0_i32 c1_i32 k0_t1
  let c256_i32 : BitVec 32 := 256#32
  let v17 : BitVec 32 := Scalar.muli arg14 c256_i32
  let v18 : BitVec 32 := v17
  let v227 : Index := Scalar.indexCast v18
  let c0_86 : Index := 0#32
  ![1, v227.toNat, 0]
def k0_cond1 (i : grid0.Coords) : BitVec 1 :=
  let arg1 : BitVec 32 := BitVec.ofNat 32 (i 1).val
  let c0_i32_10 : BitVec 32 := 0#32
  let v11 : BitVec 1 := Scalar.cmpi .eq arg1 c0_i32_10
  let v12 : BitVec 32 := Scalar.extui v11
  let c0_i32_11 : BitVec 32 := 0#32
  let v13 : BitVec 1 := Scalar.cmpi .ne v12 c0_i32_11
  v13

def k0_cond2 (i : grid0.Coords) : BitVec 1 :=
  let arg1 : BitVec 32 := BitVec.ofNat 32 (i 1).val
  let c0_i32_10 : BitVec 32 := 0#32
  let v11 : BitVec 1 := Scalar.cmpi .eq arg1 c0_i32_10
  let v_true : BitVec 1 := 1#1
  let v14 : BitVec 1 := Scalar.xori v11 v_true
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .smem S2x4x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S2x2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S2x2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4x2048x3328 : Shape := ⟨3, ![4, 2048, 3328]⟩
abbrev S1x512 : Shape := ⟨2, ![1, 512]⟩
abbrev S4x2048x1024 : Shape := ⟨3, ![4, 2048, 1024]⟩
abbrev S4x2048x1536 : Shape := ⟨3, ![4, 2048, 1536]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048x8 : Shape := ⟨3, ![4, 2048, 8]⟩
abbrev S4x2048x8x1 : Shape := ⟨4, ![4, 2048, 8, 1]⟩
abbrev S8x64 : Shape := ⟨2, ![8, 64]⟩
abbrev S1x1x8x64 : Shape := ⟨4, ![1, 1, 8, 64]⟩
abbrev S4x8x64x2048 : Shape := ⟨4, ![4, 8, 64, 2048]⟩

abbrev nBuf : Space → Nat
  | .hbm => 185
  | .vmem => 0
  | .smem => 0
  | _ => 0

abbrev hbmTy0_0 (i : Nat) : BufTy := match i % 128 with
  | 0 => ⟨S4x2048x3328, .f32⟩
  | 1 => ⟨S1x512, .f32⟩
  | 2 => ⟨S4x2048x1024, .f32⟩
  | 3 => ⟨S4x2048x1536, .f32⟩
  | 4 => ⟨S4x2048x512, .f32⟩
  | 5 => ⟨S4x2048x512, .f32⟩
  | 6 => ⟨S4x2048x512, .f32⟩
  | 7 => ⟨S4x2048x8x64, .f32⟩
  | 8 => ⟨S4x8x2048x64, .f32⟩
  | 9 => ⟨S4x2048x8x64, .f32⟩
  | 10 => ⟨S4x8x2048x64, .f32⟩
  | 11 => ⟨S4x2048x8x64, .f32⟩
  | 12 => ⟨S4x8x2048x64, .f32⟩
  | 13 => ⟨S4x8x2048x2048, .f32⟩
  | 14 => ⟨S_, .f32⟩
  | 15 => ⟨S4x8x2048x2048, .f32⟩
  | 16 => ⟨S4x8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S4x8x2048x2048, .f32⟩
  | 25 => ⟨S_, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S4x8x2048x2048, .i1⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .i1⟩
  | 42 => ⟨S_, .f32⟩
  | 43 => ⟨S4x8x2048x2048, .f32⟩
  | 44 => ⟨S4x8x2048x2048, .f32⟩
  | 45 => ⟨S_, .f32⟩
  | 46 => ⟨S4x8x2048x2048, .f32⟩
  | 47 => ⟨S4x8x2048x2048, .i1⟩
  | 48 => ⟨S_, .f32⟩
  | 49 => ⟨S4x8x2048x2048, .f32⟩
  | 50 => ⟨S4x8x2048x2048, .f32⟩
  | 51 => ⟨S4x8x2048x2048, .f32⟩
  | 52 => ⟨S4x8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x8x2048x2048, .f32⟩
  | 61 => ⟨S4x8x2048x2048, .i1⟩
  | 62 => ⟨S_, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S4x8x2048x2048, .f32⟩
  | 68 => ⟨S_, .f32⟩
  | 69 => ⟨S4x8x2048x2048, .f32⟩
  | 70 => ⟨S4x8x2048x2048, .f32⟩
  | 71 => ⟨S4x8x2048x2048, .f32⟩
  | 72 => ⟨S4x8x2048x2048, .f32⟩
  | 73 => ⟨S_, .f32⟩
  | 74 => ⟨S_, .f32⟩
  | 75 => ⟨S4x8x2048x2048, .i1⟩
  | 76 => ⟨S4x8x2048x2048, .f32⟩
  | 77 => ⟨S4x8x2048x2048, .f32⟩
  | 78 => ⟨S_, .f32⟩
  | 79 => ⟨S4x8x2048x2048, .f32⟩
  | 80 => ⟨S_, .f32⟩
  | 81 => ⟨S_, .f32⟩
  | 82 => ⟨S4x8x2048x2048, .f32⟩
  | 83 => ⟨S4x8x2048x2048, .f32⟩
  | 84 => ⟨S4x8x2048x2048, .f32⟩
  | 85 => ⟨S4x8x2048x2048, .f32⟩
  | 86 => ⟨S_, .f32⟩
  | 87 => ⟨S_, .f32⟩
  | 88 => ⟨S4x8x2048x2048, .i1⟩
  | 89 => ⟨S4x8x2048x2048, .f32⟩
  | 90 => ⟨S4x8x2048x2048, .f32⟩
  | 91 => ⟨S_, .f32⟩
  | 92 => ⟨S4x8x2048x2048, .f32⟩
  | 93 => ⟨S4x8x2048x64, .f32⟩
  | 94 => ⟨S4x2048x8x64, .f32⟩
  | 95 => ⟨S4x2048x8x64, .f32⟩
  | 96 => ⟨S_, .f32⟩
  | 97 => ⟨S4x2048x8, .f32⟩
  | 98 => ⟨S4x2048x8x1, .f32⟩
  | 99 => ⟨S_, .f32⟩
  | 100 => ⟨S4x2048x8x1, .f32⟩
  | 101 => ⟨S4x2048x8x1, .f32⟩
  | 102 => ⟨S_, .f32⟩
  | 103 => ⟨S4x2048x8x1, .f32⟩
  | 104 => ⟨S4x2048x8x1, .f32⟩
  | 105 => ⟨S4x2048x8x1, .f32⟩
  | 106 => ⟨S4x2048x8x1, .f32⟩
  | 107 => ⟨S_, .f32⟩
  | 108 => ⟨S4x2048x8x1, .f32⟩
  | 109 => ⟨S4x2048x8x1, .f32⟩
  | 110 => ⟨S4x2048x8x64, .f32⟩
  | 111 => ⟨S4x2048x8x64, .f32⟩
  | 112 => ⟨S8x64, .f32⟩
  | 113 => ⟨S1x1x8x64, .f32⟩
  | 114 => ⟨S4x2048x8x64, .f32⟩
  | 115 => ⟨S4x2048x8x64, .f32⟩
  | 116 => ⟨S4x2048x512, .f32⟩
  | 117 => ⟨S4x2048x512, .f32⟩
  | 118 => ⟨S4x2048x8x64, .f32⟩
  | 119 => ⟨S4x2048x8x64, .f32⟩
  | 120 => ⟨S_, .f32⟩
  | 121 => ⟨S8x64, .f32⟩
  | 122 => ⟨S1x1x8x64, .f32⟩
  | 123 => ⟨S4x2048x8x64, .f32⟩
  | 124 => ⟨S4x2048x8x64, .f32⟩
  | 125 => ⟨S_, .f32⟩
  | 126 => ⟨S8x64, .f32⟩
  | 127 => ⟨S1x512, .f32⟩
  | _ => ⟨S4x2048x3328, .f32⟩

abbrev hbmTy0_1 (i : Nat) : BufTy := match i % 128 with
  | 0 => ⟨S4x2048x8x64, .f32⟩
  | 1 => ⟨S_, .f32⟩
  | 2 => ⟨S4x2048x8, .f32⟩
  | 3 => ⟨S4x2048x8x1, .f32⟩
  | 4 => ⟨S4x2048x8x64, .f32⟩
  | 5 => ⟨S4x2048x8x64, .f32⟩
  | 6 => ⟨S4x2048x8x1, .f32⟩
  | 7 => ⟨S_, .f32⟩
  | 8 => ⟨S4x2048x8x1, .f32⟩
  | 9 => ⟨S4x2048x8x1, .f32⟩
  | 10 => ⟨S_, .f32⟩
  | 11 => ⟨S4x2048x8, .f32⟩
  | 12 => ⟨S4x2048x8x64, .f32⟩
  | 13 => ⟨S4x2048x8x64, .f32⟩
  | 14 => ⟨S4x2048x8x64, .f32⟩
  | 15 => ⟨S4x2048x8x64, .f32⟩
  | 16 => ⟨S4x2048x8x64, .f32⟩
  | 17 => ⟨S4x8x2048x64, .f32⟩
  | 18 => ⟨S4x8x64x2048, .f32⟩
  | 19 => ⟨S4x8x2048x64, .f32⟩
  | 20 => ⟨S4x8x2048x2048, .f32⟩
  | 21 => ⟨S_, .f32⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S_, .f32⟩
  | 27 => ⟨S_, .f32⟩
  | 28 => ⟨S4x8x2048x2048, .f32⟩
  | 29 => ⟨S4x8x2048x2048, .f32⟩
  | 30 => ⟨S_, .f32⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .f32⟩
  | 42 => ⟨S4x8x2048x64, .f32⟩
  | 43 => ⟨S4x8x2048x64, .f32⟩
  | 44 => ⟨S4x2048x8x64, .f32⟩
  | 45 => ⟨S4x2048x512, .f32⟩
  | 46 => ⟨S4x2048x8x64, .f32⟩
  | 47 => ⟨S4x2048x512, .f32⟩
  | 48 => ⟨S4x2048x8x64, .f32⟩
  | 49 => ⟨S4x2048x512, .f32⟩
  | 50 => ⟨S4x2048x1536, .f32⟩
  | 51 => ⟨S_, .f32⟩
  | 52 => ⟨S4x2048x3328, .f32⟩
  | 53 => ⟨S4x2048x1536, .f32⟩
  | 54 => ⟨S4x2048x512, .f32⟩
  | 55 => ⟨S4x2048x512, .f32⟩
  | 56 => ⟨S4x2048x512, .f32⟩
  | _ => ⟨S4x2048x3328, .f32⟩

abbrev hbmTy (i : Nat) : BufTy := match i / 128 with
  | 0 => hbmTy0_0 i
  | 1 => hbmTy0_1 i
  | _ => ⟨S4x2048x3328, .f32⟩

abbrev bufTy : (tb : Table) → Fin (tcTables nBuf tb) → BufTy
  | .hbm, ⟨i, _⟩ => hbmTy i
  | _, _ => ⟨S4x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_cst : Ref sig .tc := ⟨.hbm, 80, rfl⟩
abbrev main_call2_v0 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_1 : Ref sig .tc := ⟨.hbm, 86, rfl⟩
abbrev main_call3_v0 : Ref sig .tc := ⟨.hbm, 87, rfl⟩
abbrev main_v27_1 : Ref sig .tc := ⟨.hbm, 88, rfl⟩
abbrev main_call3_v2 : Ref sig .tc := ⟨.hbm, 89, rfl⟩
abbrev main_v27_0 : Ref sig .tc := ⟨.hbm, 90, rfl⟩
abbrev main_call3_cst : Ref sig .tc := ⟨.hbm, 91, rfl⟩
abbrev main_v27_2 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_2 : Ref sig .tc := ⟨.hbm, 96, rfl⟩
abbrev main_v31 : Ref sig .tc := ⟨.hbm, 97, rfl⟩
abbrev main_v32 : Ref sig .tc := ⟨.hbm, 98, rfl⟩
abbrev main_cst_3 : Ref sig .tc := ⟨.hbm, 99, rfl⟩
abbrev main_v33 : Ref sig .tc := ⟨.hbm, 100, rfl⟩
abbrev main_v34 : Ref sig .tc := ⟨.hbm, 101, rfl⟩
abbrev main_cst_4 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_cst_5 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_cst_6 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_cst_7 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_9 : Ref sig .tc := ⟨.hbm, 135, rfl⟩
abbrev main_v63 : Ref sig .tc := ⟨.hbm, 136, rfl⟩
abbrev main_v64 : Ref sig .tc := ⟨.hbm, 137, rfl⟩
abbrev main_cst_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call4_cst : Ref sig .tc := ⟨.hbm, 149, rfl⟩
abbrev main_call4_v0 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_call5_cst : Ref sig .tc := ⟨.hbm, 154, rfl⟩
abbrev main_call5_v0 : Ref sig .tc := ⟨.hbm, 155, rfl⟩
abbrev main_v78 : Ref sig .tc := ⟨.hbm, 156, rfl⟩
abbrev main_v79 : Ref sig .tc := ⟨.hbm, 157, rfl⟩
abbrev main_call6_cst : Ref sig .tc := ⟨.hbm, 158, rfl⟩
abbrev main_call6_v0 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_call7_v0 : Ref sig .tc := ⟨.hbm, 163, rfl⟩
abbrev main_call7_v1 : Ref sig .tc := ⟨.hbm, 164, rfl⟩
abbrev main_v83 : Ref sig .tc := ⟨.hbm, 165, rfl⟩
abbrev main_v84 : Ref sig .tc := ⟨.hbm, 166, rfl⟩
abbrev main_cst_11 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_cst_12 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩

abbrev nD : Nat := 1
abbrev τ : Topo := Topo.v7x

variable {F : FTy → Type} [FloatOps F]
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S8192x4096, .bf16⟩
  | .hbm, ⟨4, _⟩ => ⟨S8192x1024, .bf16⟩
  | .hbm, ⟨5, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x1024, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .hbm, ⟨3, _⟩ => ⟨S8192x1024, .bf16⟩
  | .hbm, ⟨4, _⟩ => ⟨S8192x4096, .bf16⟩
  | .hbm, ⟨5, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S1024x4096, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let arg1 : BitVec 32 := BitVec.ofNat 32 (i 1).val
  let c0_i32_21 : BitVec 32 := 0#32
  let v47 : BitVec 1 := Scalar.cmpi .eq arg1 c0_i32_21
  let v48 : BitVec 1 := Scalar.andi v46 v47
  let v49 : BitVec 32 := Scalar.extui v48
  let c0_i32_22 : BitVec 32 := 0#32
  let v50 : BitVec 1 := Scalar.cmpi .ne v49 c0_i32_22
  v50

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let arg1 : BitVec 32 := BitVec.ofNat 32 (i 1).val
  let c0_i32_21 : BitVec 32 := 0#32
  let v47 : BitVec 1 := Scalar.cmpi .eq arg1 c0_i32_21
  let v48 : BitVec 1 := Scalar.andi v46 v47
  let v_true : BitVec 1 := 1#1
  let v51 : BitVec 1 := Scalar.xori v48 v_true
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference5Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x3328 : Shape := ⟨2, ![1024, 3328]⟩
abbrev S8192x3328 : Shape := ⟨2, ![8192, 3328]⟩
abbrev S2048x1024 : Shape := ⟨2, ![2048, 1024]⟩
abbrev S1024x1664 : Shape := ⟨2, ![1024, 1664]⟩
abbrev S2048x1664 : Shape := ⟨2, ![2048, 1664]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x1024, .bf16⟩
  | .hbm, ⟨3, _⟩ => ⟨S1024x3328, .bf16⟩
  | .hbm, ⟨4, _⟩ => ⟨S8192x3328, .f32⟩
  | .local _ .vmem, ⟨0, _⟩ => ⟨S2048x1024, .bf16⟩
  | .local _ .vmem, ⟨1, _⟩ => ⟨S2048x1024, .bf16⟩
  | .local _ .vmem, ⟨2, _⟩ => ⟨S1024x1664, .bf16⟩
  | .local _ .vmem, ⟨3, _⟩ => ⟨S1024x1664, .bf16⟩
  | .local _ .vmem, ⟨4, _⟩ => ⟨S2048x1664, .f32⟩
  | .local _ .vmem, ⟨5, _⟩ => ⟨S2048x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x3328 : Shape := ⟨2, ![1024, 3328]⟩
abbrev S8192x3328 : Shape := ⟨2, ![8192, 3328]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3328, .f32⟩
  | .hbm, ⟨2, _⟩ => ⟨S8192x3328, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x1024 : Shape := ⟨2, ![8192, 1024]⟩
abbrev S8192x3328 : Shape := ⟨2, ![8192, 3328]⟩
abbrev S1024x3328 : Shape := ⟨2, ![1024, 3328]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3328, .f32⟩
  | .hbm, ⟨2, _⟩ => ⟨S1024x3328, .f32⟩
  | .hbm, ⟨3, _⟩ => ⟨S8192x1024, .bf16⟩
  | .hbm, ⟨4, _⟩ => ⟨S8192x3328, .bf16⟩
  | .hbm, ⟨5, _⟩ => ⟨S1024x3328, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3328 : Shape := ⟨2, ![8192, 3328]⟩
abbrev S1024x3328 : Shape := ⟨2, ![1024, 3328]⟩
abbrev S3328x1024 : Shape := ⟨2, ![3328, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3328, .f32⟩
  | .hbm, ⟨2, _⟩ => ⟨S1024x3328, .f32⟩
  | .hbm, ⟨3, _⟩ => ⟨S8192x3328, .f32⟩
  | .hbm, ⟨4, _⟩ => ⟨S3328x1024, .f32⟩
  | .hbm, ⟨5, _⟩ => ⟨S1024x3328, .f32⟩
  | .hbm, ⟨6, _⟩ => ⟨S1024x3328, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel10.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S1x128, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let arg1 : BitVec 32 := BitVec.ofNat 32 (i 1).val
  let c0_i32_29 : BitVec 32 := 0#32
  let v72 : BitVec 1 := Scalar.cmpi .eq arg1 c0_i32_29
  let v73 : BitVec 1 := Scalar.andi v71 v72
  let v74 : BitVec 32 := Scalar.extui v73
  let c0_i32_30 : BitVec 32 := 0#32
  let v75 : BitVec 1 := Scalar.cmpi .ne v74 c0_i32_30
  v75

def k0_cond2 (i : grid0.Coords) : BitVec 1 :=
  let arg0 : BitVec 32 := BitVec.ofNat 32 (i 0).val
  let c0_i32 : BitVec 32 := 0#32
  let v71 : BitVec 1 := Scalar.cmpi .eq arg0 c0_i32
  let arg1 : BitVec 32 := BitVec.ofNat 32 (i 1).val
  let c0_i32_29 : BitVec 32 := 0#32
  let v72 : BitVec 1 := Scalar.cmpi .eq arg1 c0_i32_29
  let v73 : BitVec 1 := Scalar.andi v71 v72
  let v_true : BitVec 1 := 1#1
  let v76 : BitVec 1 := Scalar.xori v73 v_true
  let v77 : BitVec 32 := Scalar.extui v76
  let c0_i32_31 : BitVec 32 := 0#32
  let v78 : BitVec 1 := Scalar.cmpi .ne v77 c0_i32_31
  v78

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference10Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S1x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x3328 : Shape := ⟨2, ![8192, 3328]⟩
abbrev S1024x3328 : Shape := ⟨2, ![1024, 3328]⟩
abbrev S8192x1024 : Shape := ⟨2, ![8192, 1024]⟩
abbrev S1x1024 : Shape := ⟨2, ![1, 1024]⟩
abbrev S512x3328 : Shape := ⟨2, ![512, 3328]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x3328, .f32⟩
  | .hbm, ⟨1, _⟩ => ⟨S1024x3328, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x3328, .bf16⟩
  | .hbm, ⟨6, _⟩ => ⟨S1024x3328, .bf16⟩
  | .hbm, ⟨7, _⟩ => ⟨S8192x1024, .f32⟩
  | .hbm, ⟨8, _⟩ => ⟨S1x1024, .f32⟩
  | .local _ .vmem, ⟨0, _⟩ => ⟨S512x3328, .bf16⟩
  | .local _ .vmem, ⟨1, _⟩ => ⟨S512x3328, .bf16⟩
  | .local _ .vmem, ⟨2, _⟩ => ⟨S1024x3328, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let arg1 : BitVec 32 := BitVec.ofNat 32 (i 1).val
  let c0_i32_19 : BitVec 32 := 0#32
  let v44 : BitVec 1 := Scalar.cmpi .eq arg1 c0_i32_19
  let v45 : BitVec 1 := Scalar.andi v43 v44
  let v46 : BitVec 32 := Scalar.extui v45
  let c0_i32_20 : BitVec 32 := 0#32
  let v47 : BitVec 1 := Scalar.cmpi .ne v46 c0_i32_20
  v47

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let arg1 : BitVec 32 := BitVec.ofNat 32 (i 1).val
  let c0_i32_19 : BitVec 32 := 0#32
  let v44 : BitVec 1 := Scalar.cmpi .eq arg1 c0_i32_19
  let v45 : BitVec 1 := Scalar.andi v43 v44
  let v_true : BitVec 1 := 1#1
  let v48 : BitVec 1 := Scalar.xori v45 v_true
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference13Ideal.lean ====
abbrev S8192x3328 : Shape := ⟨2, ![8192, 3328]⟩
abbrev S1024x3328 : Shape := ⟨2, ![1024, 3328]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x3328, .f32⟩
  | .hbm, ⟨1, _⟩ => ⟨S1024x3328, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3328, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S8192x512 : Shape := ⟨2, ![8192, 512]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x512 : Shape := ⟨2, ![8192, 512]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S1024x416 : Shape := ⟨2, ![1024, 416]⟩
abbrev S8x1024x416 : Shape := ⟨3, ![8, 1024, 416]⟩
abbrev S256x416 : Shape := ⟨2, ![256, 416]⟩
abbrev S8x256x416 : Shape := ⟨3, ![8, 256, 416]⟩
abbrev S1x256x416 : Shape := ⟨3, ![1, 256, 416]⟩

abbrev nBuf : Space → Nat
  | .hbm => 9
  | .vmem => 16
  | .smem => 0
  | _ => 0

abbrev bufTy : (tb : Table) → Fin (tcTables nBuf tb) → BufTy
  | .hbm, ⟨0, _⟩ => ⟨S1024x416, .f32⟩
  | .hbm, ⟨1, _⟩ => ⟨S8x1024x416, .f32⟩
  | .hbm, ⟨2, _⟩ => ⟨S1024x416, .f32⟩
  | .hbm, ⟨3, _⟩ => ⟨S1024x416, .f32⟩
  | .hbm, ⟨4, _⟩ => ⟨S8x1024x416, .bf16⟩
  | .hbm, ⟨5, _⟩ => ⟨S1024x416, .f32⟩
  | .hbm, ⟨6, _⟩ => ⟨S1024x416, .f32⟩
  | .hbm, ⟨7, _⟩ => ⟨S1024x416, .f32⟩
  | .hbm, ⟨8, _⟩ => ⟨S1024x416, .f32⟩
  | .local _ .vmem, ⟨0, _⟩ => ⟨S256x416, .f32⟩
  | .local _ .vmem, ⟨1, _⟩ => ⟨S256x416, .f32⟩
  | .local _ .vmem, ⟨2, _⟩ => ⟨S8x256x416, .bf16⟩
  | .local _ .vmem, ⟨3, _⟩ => ⟨S8x256x416, .bf16⟩
  | .local _ .vmem, ⟨4, _⟩ => ⟨S256x416, .f32⟩
  | .local _ .vmem, ⟨5, _⟩ => ⟨S256x416, .f32⟩
  | .local _ .vmem, ⟨6, _⟩ => ⟨S256x416, .f32⟩
  | .local _ .vmem, ⟨7, _⟩ => ⟨S256x416, .f32⟩
  | .local _ .vmem, ⟨8, _⟩ => ⟨S256x416, .f32⟩
  | .local _ .vmem, ⟨9, _⟩ => ⟨S256x416, .f32⟩
  | .local _ .vmem, ⟨10, _⟩ => ⟨S256x416, .f32⟩
  | .local _ .vmem, ⟨11, _⟩ => ⟨S256x416, .f32⟩
  | .local _ .vmem, ⟨12, _⟩ => ⟨S256x416, .f32⟩
  | .local _ .vmem, ⟨13, _⟩ => ⟨S256x416, .f32⟩
  | .local _ .vmem, ⟨14, _⟩ => ⟨S256x416, .f32⟩
  | .local _ .vmem, ⟨15, _⟩ => ⟨S256x416, .f32⟩
  | _, _ => ⟨S1024x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x416 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x416 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x416 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x416 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x416 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1024x416 : Shape := ⟨2, ![1024, 416]⟩
abbrev S8x1024x416 : Shape := ⟨3, ![8, 1024, 416]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x416, .f32⟩
  | .hbm, ⟨1, _⟩ => ⟨S8x1024x416, .f32⟩
  | .hbm, ⟨2, _⟩ => ⟨S1024x416, .f32⟩
  | .hbm, ⟨3, _⟩ => ⟨S1024x416, .f32⟩
  | .hbm, ⟨4, _⟩ => ⟨S_, .f32⟩
  | .hbm, ⟨5, _⟩ => ⟨S1024x416, .f32⟩
  | .hbm, ⟨6, _⟩ => ⟨S_, .f32⟩
  | .hbm, ⟨7, _⟩ => ⟨S1024x416, .f32⟩
  | .hbm, ⟨8, _⟩ => ⟨S1024x416, .f32⟩
  | .hbm, ⟨9, _⟩ => ⟨S_, .f32⟩
  | .hbm, ⟨10, _⟩ => ⟨S1024x416, .f32⟩
  | .hbm, ⟨11, _⟩ => ⟨S1024x416, .f32⟩
  | .hbm, ⟨12, _⟩ => ⟨S1024x416, .f32⟩
  | .hbm, ⟨13, _⟩ => ⟨S_, .f32⟩
  | .hbm, ⟨14, _⟩ => ⟨S1024x416, .f32⟩
  | .hbm, ⟨15, _⟩ => ⟨S1024x416, .f32⟩
  | .hbm, ⟨16, _⟩ => ⟨S1024x416, .f32⟩
  | .hbm, ⟨17, _⟩ => ⟨S_, .f32⟩
  | .hbm, ⟨18, _⟩ => ⟨S1024x416, .f32⟩
  | .hbm, ⟨19, _⟩ => ⟨S1024x416, .f32⟩
  | .hbm, ⟨20, _⟩ => ⟨S1024x416, .f32⟩
  | .hbm, ⟨21, _⟩ => ⟨S_, .f32⟩
  | .hbm, ⟨22, _⟩ => ⟨S1024x416, .f32⟩
  | .hbm, ⟨23, _⟩ => ⟨S1024x416, .f32⟩
  | .hbm, ⟨24, _⟩ => ⟨S_, .f32⟩
  | .hbm, ⟨25, _⟩ => ⟨S1024x416, .f32⟩
  | .hbm, ⟨26, _⟩ => ⟨S1024x416, .f32⟩
  | .hbm, ⟨27, _⟩ => ⟨S1024x416, .f32⟩
  | .hbm, ⟨28, _⟩ => ⟨S_, .f32⟩
  | .hbm, ⟨29, _⟩ => ⟨S1024x416, .f32⟩
  | .hbm, ⟨30, _⟩ => ⟨S1024x416, .f32⟩
  | .hbm, ⟨31, _⟩ => ⟨S1024x416, .f32⟩
  | .hbm, ⟨32, _⟩ => ⟨S_, .f32⟩
  | .hbm, ⟨33, _⟩ => ⟨S1024x416, .f32⟩
  | .hbm, ⟨34, _⟩ => ⟨S1024x416, .f32⟩
  | .hbm, ⟨35, _⟩ => ⟨S1024x416, .f32⟩
  | .hbm, ⟨36, _⟩ => ⟨S_, .f32⟩
  | .hbm, ⟨37, _⟩ => ⟨S1024x416, .f32⟩
  | .hbm, ⟨38, _⟩ => ⟨S1024x416, .f32⟩
  | _, _ => ⟨S1024x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S64x64 : Shape := ⟨2, ![64, 64]⟩
abbrev S8x64x64 : Shape := ⟨3, ![8, 64, 64]⟩
abbrev S1x64x64 : Shape := ⟨3, ![1, 64, 64]⟩

abbrev nBuf : Space → Nat
  | .hbm => 9
  | .vmem => 8
  | .smem => 0
  | _ => 0

abbrev bufTy : (tb : Table) → Fin (tcTables nBuf tb) → BufTy
  | .hbm, ⟨0, _⟩ => ⟨S64x64, .f32⟩
  | .hbm, ⟨1, _⟩ => ⟨S8x64x64, .f32⟩
  | .hbm, ⟨2, _⟩ => ⟨S64x64, .f32⟩
  | .hbm, ⟨3, _⟩ => ⟨S64x64, .f32⟩
  | .hbm, ⟨4, _⟩ => ⟨S8x64x64, .bf16⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .local _ .vmem, ⟨0, _⟩ => ⟨S64x64, .f32⟩
  | .local _ .vmem, ⟨1, _⟩ => ⟨S8x64x64, .bf16⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S64x64 : Shape := ⟨2, ![64, 64]⟩
abbrev S8x64x64 : Shape := ⟨3, ![8, 64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S8x64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S128x64 : Shape := ⟨2, ![128, 64]⟩
abbrev S8x128x64 : Shape := ⟨3, ![8, 128, 64]⟩
abbrev S1x128x64 : Shape := ⟨3, ![1, 128, 64]⟩

abbrev nBuf : Space → Nat
  | .hbm => 9
  | .vmem => 8
  | .smem => 0
  | _ => 0

abbrev bufTy : (tb : Table) → Fin (tcTables nBuf tb) → BufTy
  | .hbm, ⟨0, _⟩ => ⟨S128x64, .f32⟩
  | .hbm, ⟨1, _⟩ => ⟨S8x128x64, .f32⟩
  | .hbm, ⟨2, _⟩ => ⟨S128x64, .f32⟩
  | .hbm, ⟨3, _⟩ => ⟨S128x64, .f32⟩
  | .hbm, ⟨4, _⟩ => ⟨S8x128x64, .bf16⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .local _ .vmem, ⟨0, _⟩ => ⟨S128x64, .f32⟩
  | .local _ .vmem, ⟨1, _⟩ => ⟨S8x128x64, .bf16⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S128x64 : Shape := ⟨2, ![128, 64]⟩
abbrev S8x128x64 : Shape := ⟨3, ![8, 128, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S8x128x64, .f32⟩
  | .hbm, ⟨2, _⟩ => ⟨S128x64, .f32⟩
  | .hbm, ⟨3, _⟩ => ⟨S128x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S_, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S_, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S_, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S_, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128x64, .f32⟩
  | .hbm, ⟨38, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .f32⟩
  | .hbm, ⟨2, _⟩ => ⟨S1024x512, .f32⟩
  | .hbm, ⟨3, _⟩ => ⟨S1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S8x512x1024, .f32⟩
  | .hbm, ⟨2, _⟩ => ⟨S512x1024, .f32⟩
  | .hbm, ⟨3, _⟩ => ⟨S512x1024, .f32⟩
  | .hbm, ⟨4, _⟩ => ⟨S8x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .bf16⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S72x128 : Shape := ⟨2, ![72, 128]⟩
abbrev S8x72x128 : Shape := ⟨3, ![8, 72, 128]⟩
abbrev S1x72x128 : Shape := ⟨3, ![1, 72, 128]⟩

abbrev nBuf : Space → Nat
  | .hbm => 8
  | .vmem => 8
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S72x128, .f32⟩
  | .local _ .vmem, ⟨1, _⟩ => ⟨S8x72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S72x128 : Shape := ⟨2, ![72, 128]⟩
abbrev S8x72x128 : Shape := ⟨3, ![8, 72, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S_, .f32⟩
  | .hbm, ⟨7, _⟩ => ⟨S72x128, .f32⟩
  | .hbm, ⟨8, _⟩ => ⟨S72x128, .f32⟩
  | .hbm, ⟨9, _⟩ => ⟨S_, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S_, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S_, .f32⟩
  | .hbm, ⟨18, _⟩ => ⟨S72x128, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S72x128, .f32⟩
  | .hbm, ⟨26, _⟩ => ⟨S72x128, .f32⟩
  | .hbm, ⟨27, _⟩ => ⟨S72x128, .f32⟩
  | .hbm, ⟨28, _⟩ => ⟨S_, .f32⟩
  | .hbm, ⟨29, _⟩ => ⟨S72x128, .f32⟩
  | .hbm, ⟨30, _⟩ => ⟨S72x128, .f32⟩
  | .hbm, ⟨31, _⟩ => ⟨S72x128, .f32⟩
  | .hbm, ⟨32, _⟩ => ⟨S_, .f32⟩
  | .hbm, ⟨33, _⟩ => ⟨S72x128, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S72x128 : Shape := ⟨2, ![72, 128]⟩
abbrev S8x72x128 : Shape := ⟨3, ![8, 72, 128]⟩
abbrev S1x7 : Shape := ⟨2, ![1, 7]⟩
abbrev S1 : Shape := ⟨1, ![1]⟩
abbrev S_ : Shape := ⟨0, ![]⟩
abbrev S1x72x128 : Shape := ⟨3, ![1, 72, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_152 : BitVec 32 := 0#32
  let c0_i32_153 : BitVec 32 := 0#32
  ![v12.toNat, 0, 0]
def k0_dev1 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_158 : BitVec 32 := 4#32
  let v248 : BitVec 32 := Scalar.muli v23 c4_i32_158
  let v249 : BitVec 32 := Scalar.addi c0_i32_159 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_160 : BitVec 32 := 2#32
  let v250 : BitVec 32 := Scalar.muli v34 c2_i32_160
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_161 : BitVec 32 := 1#32
  let v252 : BitVec 32 := Scalar.muli v45 c1_i32_161
  let v253 : BitVec 32 := Scalar.addi v251 v252
  v253.toNat
def k0_dev2 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_168 : BitVec 32 := 4#32
  let v260 : BitVec 32 := Scalar.muli v56 c4_i32_168
  let v261 : BitVec 32 := Scalar.addi c0_i32_169 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_170 : BitVec 32 := 2#32
  let v262 : BitVec 32 := Scalar.muli v67 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v68 : BitVec 32 := Scalar.addi v8 c0_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_171 : BitVec 32 := 1#32
  let v264 : BitVec 32 := Scalar.muli v78 c1_i32_171
  let v265 : BitVec 32 := Scalar.addi v263 v264
  v265.toNat
def k0_dev3 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v79 : BitVec 32 := Scalar.addi v2 c0_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_178 : BitVec 32 := 4#32
  let v272 : BitVec 32 := Scalar.muli v89 c4_i32_178
  let v273 : BitVec 32 := Scalar.addi c0_i32_179 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_53 : BitVec 32 := 1#32
  let v90 : BitVec 32 := Scalar.addi v5 c1_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_180 : BitVec 32 := 2#32
  let v274 : BitVec 32 := Scalar.muli v100 c2_i32_180
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_181 : BitVec 32 := 1#32
  let v276 : BitVec 32 := Scalar.muli v111 c1_i32_181
  let v277 : BitVec 32 := Scalar.addi v275 v276
  v277.toNat
def k0_dev4 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_187 : BitVec 32 := 4#32
  let v284 : BitVec 32 := Scalar.muli v122 c4_i32_187
  let v285 : BitVec 32 := Scalar.addi c0_i32_188 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_74 : BitVec 32 := 0#32
  let v123 : BitVec 32 := Scalar.addi v5 c0_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_189 : BitVec 32 := 2#32
  let v286 : BitVec 32 := Scalar.muli v133 c2_i32_189
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_190 : BitVec 32 := 1#32
  let v288 : BitVec 32 := Scalar.muli v144 c1_i32_190
  let v289 : BitVec 32 := Scalar.addi v287 v288
  v289.toNat
def k0_dev5 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v145 : BitVec 32 := Scalar.addi v2 c1_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_197 : BitVec 32 := 4#32
  let v296 : BitVec 32 := Scalar.muli v155 c4_i32_197
  let v297 : BitVec 32 := Scalar.addi c0_i32_198 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_199 : BitVec 32 := 2#32
  let v298 : BitVec 32 := Scalar.muli v166 c2_i32_199
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_200 : BitVec 32 := 1#32
  let v300 : BitVec 32 := Scalar.muli v177 c1_i32_200
  let v301 : BitVec 32 := Scalar.addi v299 v300
  v301.toNat
def k0_dev6 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v178 : BitVec 32 := Scalar.addi v2 c1_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_206 : BitVec 32 := 4#32
  let v308 : BitVec 32 := Scalar.muli v188 c4_i32_206
  let v309 : BitVec 32 := Scalar.addi c0_i32_207 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_208 : BitVec 32 := 2#32
  let v310 : BitVec 32 := Scalar.muli v199 c2_i32_208
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_209 : BitVec 32 := 1#32
  let v312 : BitVec 32 := Scalar.muli v210 c1_i32_209
  let v313 : BitVec 32 := Scalar.addi v311 v312
  v313.toNat
def k0_dev7 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_215 : BitVec 32 := 4#32
  let v320 : BitVec 32 := Scalar.muli v221 c4_i32_215
  let v321 : BitVec 32 := Scalar.addi c0_i32_216 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v222 : BitVec 32 := Scalar.addi v5 c1_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_217 : BitVec 32 := 2#32
  let v322 : BitVec 32 := Scalar.muli v232 c2_i32_217
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v233 : BitVec 32 := Scalar.addi v8 c1_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_218 : BitVec 32 := 1#32
  let v324 : BitVec 32 := Scalar.muli v243 c1_i32_218
  let v325 : BitVec 32 := Scalar.addi v323 v324
  v325.toNat
-- ==== Reference23Ideal.lean ====
abbrev S576x128 : Shape := ⟨2, ![576, 128]⟩
abbrev S8x72x128 : Shape := ⟨3, ![8, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S8x72x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel24.lean ====
abbrev S128x1024 : Shape := ⟨2, ![128, 1024]⟩
abbrev S8x128x1024 : Shape := ⟨3, ![8, 128, 1024]⟩
abbrev S1x7 : Shape := ⟨2, ![1, 7]⟩
abbrev S1 : Shape := ⟨1, ![1]⟩
abbrev S_ : Shape := ⟨0, ![]⟩
abbrev S1x128x1024 : Shape := ⟨3, ![1, 128, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S8x128x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_152 : BitVec 32 := 0#32
  let c0_i32_153 : BitVec 32 := 0#32
  ![v12.toNat, 0, 0]
def k0_dev1 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_158 : BitVec 32 := 4#32
  let v248 : BitVec 32 := Scalar.muli v23 c4_i32_158
  let v249 : BitVec 32 := Scalar.addi c0_i32_159 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_160 : BitVec 32 := 2#32
  let v250 : BitVec 32 := Scalar.muli v34 c2_i32_160
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_161 : BitVec 32 := 1#32
  let v252 : BitVec 32 := Scalar.muli v45 c1_i32_161
  let v253 : BitVec 32 := Scalar.addi v251 v252
  v253.toNat
def k0_dev2 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_168 : BitVec 32 := 4#32
  let v260 : BitVec 32 := Scalar.muli v56 c4_i32_168
  let v261 : BitVec 32 := Scalar.addi c0_i32_169 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_170 : BitVec 32 := 2#32
  let v262 : BitVec 32 := Scalar.muli v67 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v68 : BitVec 32 := Scalar.addi v8 c0_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_171 : BitVec 32 := 1#32
  let v264 : BitVec 32 := Scalar.muli v78 c1_i32_171
  let v265 : BitVec 32 := Scalar.addi v263 v264
  v265.toNat
def k0_dev3 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v79 : BitVec 32 := Scalar.addi v2 c0_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_178 : BitVec 32 := 4#32
  let v272 : BitVec 32 := Scalar.muli v89 c4_i32_178
  let v273 : BitVec 32 := Scalar.addi c0_i32_179 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_53 : BitVec 32 := 1#32
  let v90 : BitVec 32 := Scalar.addi v5 c1_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_180 : BitVec 32 := 2#32
  let v274 : BitVec 32 := Scalar.muli v100 c2_i32_180
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_181 : BitVec 32 := 1#32
  let v276 : BitVec 32 := Scalar.muli v111 c1_i32_181
  let v277 : BitVec 32 := Scalar.addi v275 v276
  v277.toNat
def k0_dev4 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_187 : BitVec 32 := 4#32
  let v284 : BitVec 32 := Scalar.muli v122 c4_i32_187
  let v285 : BitVec 32 := Scalar.addi c0_i32_188 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_74 : BitVec 32 := 0#32
  let v123 : BitVec 32 := Scalar.addi v5 c0_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_189 : BitVec 32 := 2#32
  let v286 : BitVec 32 := Scalar.muli v133 c2_i32_189
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_190 : BitVec 32 := 1#32
  let v288 : BitVec 32 := Scalar.muli v144 c1_i32_190
  let v289 : BitVec 32 := Scalar.addi v287 v288
  v289.toNat
def k0_dev5 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v145 : BitVec 32 := Scalar.addi v2 c1_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_197 : BitVec 32 := 4#32
  let v296 : BitVec 32 := Scalar.muli v155 c4_i32_197
  let v297 : BitVec 32 := Scalar.addi c0_i32_198 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_199 : BitVec 32 := 2#32
  let v298 : BitVec 32 := Scalar.muli v166 c2_i32_199
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_200 : BitVec 32 := 1#32
  let v300 : BitVec 32 := Scalar.muli v177 c1_i32_200
  let v301 : BitVec 32 := Scalar.addi v299 v300
  v301.toNat
def k0_dev6 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v178 : BitVec 32 := Scalar.addi v2 c1_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_206 : BitVec 32 := 4#32
  let v308 : BitVec 32 := Scalar.muli v188 c4_i32_206
  let v309 : BitVec 32 := Scalar.addi c0_i32_207 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_208 : BitVec 32 := 2#32
  let v310 : BitVec 32 := Scalar.muli v199 c2_i32_208
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_209 : BitVec 32 := 1#32
  let v312 : BitVec 32 := Scalar.muli v210 c1_i32_209
  let v313 : BitVec 32 := Scalar.addi v311 v312
  v313.toNat
def k0_dev7 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_215 : BitVec 32 := 4#32
  let v320 : BitVec 32 := Scalar.muli v221 c4_i32_215
  let v321 : BitVec 32 := Scalar.addi c0_i32_216 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v222 : BitVec 32 := Scalar.addi v5 c1_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_217 : BitVec 32 := 2#32
  let v322 : BitVec 32 := Scalar.muli v232 c2_i32_217
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v233 : BitVec 32 := Scalar.addi v8 c1_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_218 : BitVec 32 := 1#32
  let v324 : BitVec 32 := Scalar.muli v243 c1_i32_218
  let v325 : BitVec 32 := Scalar.addi v323 v324
  v325.toNat
-- ==== Reference24Ideal.lean ====
abbrev S1024x1024 : Shape := ⟨2, ![1024, 1024]⟩
abbrev S8x128x1024 : Shape := ⟨3, ![8, 128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8x128x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel25.lean ====
abbrev S1024x512 : Shape := ⟨2, ![1024, 512]⟩
abbrev S8x1024x512 : Shape := ⟨3, ![8, 1024, 512]⟩
abbrev S1x7 : Shape := ⟨2, ![1, 7]⟩
abbrev S1 : Shape := ⟨1, ![1]⟩
abbrev S_ : Shape := ⟨0, ![]⟩
abbrev S1x1024x512 : Shape := ⟨3, ![1, 1024, 512]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S8x1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_152 : BitVec 32 := 0#32
  let c0_i32_153 : BitVec 32 := 0#32
  ![v12.toNat, 0, 0]
def k0_dev1 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_158 : BitVec 32 := 4#32
  let v248 : BitVec 32 := Scalar.muli v23 c4_i32_158
  let v249 : BitVec 32 := Scalar.addi c0_i32_159 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_160 : BitVec 32 := 2#32
  let v250 : BitVec 32 := Scalar.muli v34 c2_i32_160
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_161 : BitVec 32 := 1#32
  let v252 : BitVec 32 := Scalar.muli v45 c1_i32_161
  let v253 : BitVec 32 := Scalar.addi v251 v252
  v253.toNat
def k0_dev2 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_168 : BitVec 32 := 4#32
  let v260 : BitVec 32 := Scalar.muli v56 c4_i32_168
  let v261 : BitVec 32 := Scalar.addi c0_i32_169 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_170 : BitVec 32 := 2#32
  let v262 : BitVec 32 := Scalar.muli v67 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v68 : BitVec 32 := Scalar.addi v8 c0_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_171 : BitVec 32 := 1#32
  let v264 : BitVec 32 := Scalar.muli v78 c1_i32_171
  let v265 : BitVec 32 := Scalar.addi v263 v264
  v265.toNat
def k0_dev3 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v79 : BitVec 32 := Scalar.addi v2 c0_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_178 : BitVec 32 := 4#32
  let v272 : BitVec 32 := Scalar.muli v89 c4_i32_178
  let v273 : BitVec 32 := Scalar.addi c0_i32_179 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_53 : BitVec 32 := 1#32
  let v90 : BitVec 32 := Scalar.addi v5 c1_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_180 : BitVec 32 := 2#32
  let v274 : BitVec 32 := Scalar.muli v100 c2_i32_180
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_181 : BitVec 32 := 1#32
  let v276 : BitVec 32 := Scalar.muli v111 c1_i32_181
  let v277 : BitVec 32 := Scalar.addi v275 v276
  v277.toNat
def k0_dev4 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_187 : BitVec 32 := 4#32
  let v284 : BitVec 32 := Scalar.muli v122 c4_i32_187
  let v285 : BitVec 32 := Scalar.addi c0_i32_188 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_74 : BitVec 32 := 0#32
  let v123 : BitVec 32 := Scalar.addi v5 c0_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_189 : BitVec 32 := 2#32
  let v286 : BitVec 32 := Scalar.muli v133 c2_i32_189
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_190 : BitVec 32 := 1#32
  let v288 : BitVec 32 := Scalar.muli v144 c1_i32_190
  let v289 : BitVec 32 := Scalar.addi v287 v288
  v289.toNat
def k0_dev5 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v145 : BitVec 32 := Scalar.addi v2 c1_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_197 : BitVec 32 := 4#32
  let v296 : BitVec 32 := Scalar.muli v155 c4_i32_197
  let v297 : BitVec 32 := Scalar.addi c0_i32_198 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_199 : BitVec 32 := 2#32
  let v298 : BitVec 32 := Scalar.muli v166 c2_i32_199
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_200 : BitVec 32 := 1#32
  let v300 : BitVec 32 := Scalar.muli v177 c1_i32_200
  let v301 : BitVec 32 := Scalar.addi v299 v300
  v301.toNat
def k0_dev6 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v178 : BitVec 32 := Scalar.addi v2 c1_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_206 : BitVec 32 := 4#32
  let v308 : BitVec 32 := Scalar.muli v188 c4_i32_206
  let v309 : BitVec 32 := Scalar.addi c0_i32_207 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_208 : BitVec 32 := 2#32
  let v310 : BitVec 32 := Scalar.muli v199 c2_i32_208
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_209 : BitVec 32 := 1#32
  let v312 : BitVec 32 := Scalar.muli v210 c1_i32_209
  let v313 : BitVec 32 := Scalar.addi v311 v312
  v313.toNat
def k0_dev7 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_215 : BitVec 32 := 4#32
  let v320 : BitVec 32 := Scalar.muli v221 c4_i32_215
  let v321 : BitVec 32 := Scalar.addi c0_i32_216 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v222 : BitVec 32 := Scalar.addi v5 c1_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_217 : BitVec 32 := 2#32
  let v322 : BitVec 32 := Scalar.muli v232 c2_i32_217
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v233 : BitVec 32 := Scalar.addi v8 c1_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_218 : BitVec 32 := 1#32
  let v324 : BitVec 32 := Scalar.muli v243 c1_i32_218
  let v325 : BitVec 32 := Scalar.addi v323 v324
  v325.toNat
-- ==== Reference25Ideal.lean ====
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 3
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x8x512, .bf16⟩
  | .hbm, ⟨2, _⟩ => ⟨S8x1024x512, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel26.lean ====
abbrev S512x1024 : Shape := ⟨2, ![512, 1024]⟩
abbrev S8x512x1024 : Shape := ⟨3, ![8, 512, 1024]⟩
abbrev S1x7 : Shape := ⟨2, ![1, 7]⟩
abbrev S1 : Shape := ⟨1, ![1]⟩
abbrev S_ : Shape := ⟨0, ![]⟩
abbrev S1x512x1024 : Shape := ⟨3, ![1, 512, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S8x512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_152 : BitVec 32 := 0#32
  let c0_i32_153 : BitVec 32 := 0#32
  ![v12.toNat, 0, 0]
def k0_dev1 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_158 : BitVec 32 := 4#32
  let v248 : BitVec 32 := Scalar.muli v23 c4_i32_158
  let v249 : BitVec 32 := Scalar.addi c0_i32_159 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_160 : BitVec 32 := 2#32
  let v250 : BitVec 32 := Scalar.muli v34 c2_i32_160
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_161 : BitVec 32 := 1#32
  let v252 : BitVec 32 := Scalar.muli v45 c1_i32_161
  let v253 : BitVec 32 := Scalar.addi v251 v252
  v253.toNat
def k0_dev2 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_168 : BitVec 32 := 4#32
  let v260 : BitVec 32 := Scalar.muli v56 c4_i32_168
  let v261 : BitVec 32 := Scalar.addi c0_i32_169 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_170 : BitVec 32 := 2#32
  let v262 : BitVec 32 := Scalar.muli v67 c2_i32_170
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let v68 : BitVec 32 := Scalar.addi v8 c0_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_171 : BitVec 32 := 1#32
  let v264 : BitVec 32 := Scalar.muli v78 c1_i32_171
  let v265 : BitVec 32 := Scalar.addi v263 v264
  v265.toNat
def k0_dev3 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_46 : BitVec 32 := 0#32
  let v79 : BitVec 32 := Scalar.addi v2 c0_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_178 : BitVec 32 := 4#32
  let v272 : BitVec 32 := Scalar.muli v89 c4_i32_178
  let v273 : BitVec 32 := Scalar.addi c0_i32_179 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_53 : BitVec 32 := 1#32
  let v90 : BitVec 32 := Scalar.addi v5 c1_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_180 : BitVec 32 := 2#32
  let v274 : BitVec 32 := Scalar.muli v100 c2_i32_180
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_181 : BitVec 32 := 1#32
  let v276 : BitVec 32 := Scalar.muli v111 c1_i32_181
  let v277 : BitVec 32 := Scalar.addi v275 v276
  v277.toNat
def k0_dev4 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_187 : BitVec 32 := 4#32
  let v284 : BitVec 32 := Scalar.muli v122 c4_i32_187
  let v285 : BitVec 32 := Scalar.addi c0_i32_188 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_74 : BitVec 32 := 0#32
  let v123 : BitVec 32 := Scalar.addi v5 c0_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_189 : BitVec 32 := 2#32
  let v286 : BitVec 32 := Scalar.muli v133 c2_i32_189
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_190 : BitVec 32 := 1#32
  let v288 : BitVec 32 := Scalar.muli v144 c1_i32_190
  let v289 : BitVec 32 := Scalar.addi v287 v288
  v289.toNat
def k0_dev5 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v145 : BitVec 32 := Scalar.addi v2 c1_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_197 : BitVec 32 := 4#32
  let v296 : BitVec 32 := Scalar.muli v155 c4_i32_197
  let v297 : BitVec 32 := Scalar.addi c0_i32_198 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_199 : BitVec 32 := 2#32
  let v298 : BitVec 32 := Scalar.muli v166 c2_i32_199
  let v299 : BitVec 32 := Scalar.addi v297 v298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_200 : BitVec 32 := 1#32
  let v300 : BitVec 32 := Scalar.muli v177 c1_i32_200
  let v301 : BitVec 32 := Scalar.addi v299 v300
  v301.toNat
def k0_dev6 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_109 : BitVec 32 := 1#32
  let v178 : BitVec 32 := Scalar.addi v2 c1_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_206 : BitVec 32 := 4#32
  let v308 : BitVec 32 := Scalar.muli v188 c4_i32_206
  let v309 : BitVec 32 := Scalar.addi c0_i32_207 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_208 : BitVec 32 := 2#32
  let v310 : BitVec 32 := Scalar.muli v199 c2_i32_208
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_209 : BitVec 32 := 1#32
  let v312 : BitVec 32 := Scalar.muli v210 c1_i32_209
  let v313 : BitVec 32 := Scalar.addi v311 v312
  v313.toNat
def k0_dev7 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_215 : BitVec 32 := 4#32
  let v320 : BitVec 32 := Scalar.muli v221 c4_i32_215
  let v321 : BitVec 32 := Scalar.addi c0_i32_216 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_137 : BitVec 32 := 1#32
  let v222 : BitVec 32 := Scalar.addi v5 c1_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_217 : BitVec 32 := 2#32
  let v322 : BitVec 32 := Scalar.muli v232 c2_i32_217
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v233 : BitVec 32 := Scalar.addi v8 c1_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_218 : BitVec 32 := 1#32
  let v324 : BitVec 32 := Scalar.muli v243 c1_i32_218
  let v325 : BitVec 32 := Scalar.addi v323 v324
  v325.toNat
-- ==== Reference26Ideal.lean ====
abbrev S4096x1024 : Shape := ⟨2, ![4096, 1024]⟩
abbrev S8x512x1024 : Shape := ⟨3, ![8, 512, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel27.lean ====
abbrev S8x128x1024 : Shape := ⟨3, ![8, 128, 1024]⟩
abbrev S1x7 : Shape := ⟨2, ![1, 7]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference27Ideal.lean ====
abbrev S64x128x1024 : Shape := ⟨3, ![64, 128, 1024]⟩
abbrev S8x8x128x1024 : Shape := ⟨4, ![8, 8, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x128x1024, .bf16⟩
  | .hbm, ⟨1, _⟩ => ⟨S8x8x128x1024, .bf16⟩
  | .hbm, ⟨2, _⟩ => ⟨S8x8x128x1024, .bf16⟩
  | .hbm, ⟨3, _⟩ => ⟨S64x128x1024, .bf16⟩
  | _, _ => ⟨S64x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel28.lean ====
abbrev S8x1024x512 : Shape := ⟨3, ![8, 1024, 512]⟩
abbrev S1x7 : Shape := ⟨2, ![1, 7]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference28Ideal.lean ====
abbrev S64x1024x512 : Shape := ⟨3, ![64, 1024, 512]⟩
abbrev S8x8x1024x512 : Shape := ⟨4, ![8, 8, 1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S64x1024x512, .bf16⟩
  | .hbm, ⟨1, _⟩ => ⟨S8x8x1024x512, .bf16⟩
  | .hbm, ⟨2, _⟩ => ⟨S8x8x1024x512, .bf16⟩
  | .hbm, ⟨3, _⟩ => ⟨S64x1024x512, .bf16⟩
  | _, _ => ⟨S64x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel29.lean ====
abbrev S8x512x1024 : Shape := ⟨3, ![8, 512, 1024]⟩
abbrev S1x7 : Shape := ⟨2, ![1, 7]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference29Ideal.lean ====
abbrev S64x512x1024 : Shape := ⟨3, ![64, 512, 1024]⟩
abbrev S8x8x512x1024 : Shape := ⟨4, ![8, 8, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x512x1024, .bf16⟩
  | .hbm, ⟨1, _⟩ => ⟨S8x8x512x1024, .bf16⟩
  | .hbm, ⟨2, _⟩ => ⟨S8x8x512x1024, .bf16⟩
  | .hbm, ⟨3, _⟩ => ⟨S64x512x1024, .bf16⟩
  | _, _ => ⟨S64x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel30.lean ====
abbrev S8x1024x416 : Shape := ⟨3, ![8, 1024, 416]⟩
abbrev S1x7 : Shape := ⟨2, ![1, 7]⟩
abbrev S1 : Shape := ⟨1, ![1]⟩
abbrev S_ : Shape := ⟨0, ![]⟩
abbrev S1x1024x416 : Shape := ⟨3, ![1, 1024, 416]⟩
abbrev S1024x416 : Shape := ⟨2, ![1024, 416]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x1024x416, .bf16⟩
  | .hbm, ⟨1, _⟩ => ⟨S8x1024x416, .bf16⟩
  | _, _ => ⟨S8x1024x416, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference30Ideal.lean ====
abbrev S64x1024x416 : Shape := ⟨3, ![64, 1024, 416]⟩
abbrev S8x8x1024x416 : Shape := ⟨4, ![8, 8, 1024, 416]⟩

abbrev nBuf : Space → Nat
  | .hbm => 4
  | .vmem => 0
  | .smem => 0
  | _ => 0

abbrev bufTy : (tb : Table) → Fin (tcTables nBuf tb) → BufTy
  | .hbm, ⟨0, _⟩ => ⟨S64x1024x416, .bf16⟩
  | .hbm, ⟨1, _⟩ => ⟨S8x8x1024x416, .bf16⟩
  | .hbm, ⟨2, _⟩ => ⟨S8x8x1024x416, .bf16⟩
  | .hbm, ⟨3, _⟩ => ⟨S64x1024x416, .bf16⟩
  | _, _ => ⟨S64x1024x416, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel31.lean ====
abbrev S8x64x64 : Shape := ⟨3, ![8, 64, 64]⟩
abbrev S1x7 : Shape := ⟨2, ![1, 7]⟩
abbrev S1 : Shape := ⟨1, ![1]⟩
abbrev S_ : Shape := ⟨0, ![]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x64x64, .bf16⟩
  | .hbm, ⟨1, _⟩ => ⟨S8x64x64, .bf16⟩
  | _, _ => ⟨S8x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference31Ideal.lean ====
abbrev S64x64x64 : Shape := ⟨3, ![64, 64, 64]⟩
abbrev S8x8x64x64 : Shape := ⟨4, ![8, 8, 64, 64]⟩

abbrev nBuf : Space → Nat
  | .hbm => 4
  | .vmem => 0
  | .smem => 0
  | _ => 0

abbrev bufTy : (tb : Table) → Fin (tcTables nBuf tb) → BufTy
  | .hbm, ⟨0, _⟩ => ⟨S64x64x64, .bf16⟩
  | .hbm, ⟨1, _⟩ => ⟨S8x8x64x64, .bf16⟩
  | .hbm, ⟨2, _⟩ => ⟨S8x8x64x64, .bf16⟩
  | .hbm, ⟨3, _⟩ => ⟨S64x64x64, .bf16⟩
  | _, _ => ⟨S64x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel32.lean ====
abbrev S8x64x64 : Shape := ⟨3, ![8, 64, 64]⟩
abbrev S1x7 : Shape := ⟨2, ![1, 7]⟩
abbrev S1 : Shape := ⟨1, ![1]⟩
abbrev S_ : Shape := ⟨0, ![]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x64x64, .bf16⟩
  | .hbm, ⟨1, _⟩ => ⟨S8x64x64, .bf16⟩
  | _, _ => ⟨S8x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference32Ideal.lean ====
abbrev S64x64x64 : Shape := ⟨3, ![64, 64, 64]⟩
abbrev S8x8x64x64 : Shape := ⟨4, ![8, 8, 64, 64]⟩

abbrev nBuf : Space → Nat
  | .hbm => 4
  | .vmem => 0
  | .smem => 0
  | _ => 0

abbrev bufTy : (tb : Table) → Fin (tcTables nBuf tb) → BufTy
  | .hbm, ⟨0, _⟩ => ⟨S64x64x64, .bf16⟩
  | .hbm, ⟨1, _⟩ => ⟨S8x8x64x64, .bf16⟩
  | .hbm, ⟨2, _⟩ => ⟨S8x8x64x64, .bf16⟩
  | .hbm, ⟨3, _⟩ => ⟨S64x64x64, .bf16⟩
  | _, _ => ⟨S64x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel33.lean ====
abbrev S8x128x64 : Shape := ⟨3, ![8, 128, 64]⟩
abbrev S1x7 : Shape := ⟨2, ![1, 7]⟩
abbrev S1 : Shape := ⟨1, ![1]⟩
abbrev S_ : Shape := ⟨0, ![]⟩
abbrev S1x128x64 : Shape := ⟨3, ![1, 128, 64]⟩
abbrev S128x64 : Shape := ⟨2, ![128, 64]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x128x64, .bf16⟩
  | .hbm, ⟨1, _⟩ => ⟨S8x128x64, .bf16⟩
  | _, _ => ⟨S8x128x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_166 : BitVec 32 := 0#32
  let c0_i32_167 : BitVec 32 := 0#32
  ![v12.toNat, 0, 0]
def k0_off2 (d0 : Dev nD) (c0_i32 : BitVec 32) (c0_i32_11 : BitVec 32) (c1_i32_18 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let v46 : BitVec 32 := Scalar.muli c4_i32_25 v23
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v47 : BitVec 32 := Scalar.muli c2_i32_26 v34
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v49 : BitVec 32 := Scalar.addi v48 v45
  let c0_i32_180 : BitVec 32 := 0#32
  let c0_i32_181 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.addi v2 c0_i32
  let c2_i32_5 : BitVec 32 := 2#32
  let c0_i32_6 : BitVec 32 := 0#32
  let v14 : BitVec 1 := Scalar.cmpi .eq c2_i32_5 c0_i32_6
  let c1_i32_7 : BitVec 32 := 1#32
  let v15 : BitVec 32 := Scalar.select v14 c1_i32_7 c2_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_174 : BitVec 32 := 4#32
  let v278 : BitVec 32 := Scalar.muli v23 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v24 : BitVec 32 := Scalar.addi v5 c0_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_176 : BitVec 32 := 2#32
  let v280 : BitVec 32 := Scalar.muli v34 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_177 : BitVec 32 := 1#32
  let v282 : BitVec 32 := Scalar.muli v45 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_27 : BitVec 32 := 0#32
  let v50 : BitVec 32 := Scalar.addi v2 c0_i32_27
  let c2_i32_28 : BitVec 32 := 2#32
  let c0_i32_29 : BitVec 32 := 0#32
  let v51 : BitVec 1 := Scalar.cmpi .eq c2_i32_28 c0_i32_29
  let c1_i32_30 : BitVec 32 := 1#32
  let v52 : BitVec 32 := Scalar.select v51 c1_i32_30 c2_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_186 : BitVec 32 := 4#32
  let v292 : BitVec 32 := Scalar.muli v60 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v61 : BitVec 32 := Scalar.addi v5 c1_i32_34
  let c2_i32_35 : BitVec 32 := 2#32
  let c0_i32_36 : BitVec 32 := 0#32
  let v62 : BitVec 1 := Scalar.cmpi .eq c2_i32_35 c0_i32_36
  let c1_i32_37 : BitVec 32 := 1#32
  let v63 : BitVec 32 := Scalar.select v62 c1_i32_37 c2_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c2_i32_188 : BitVec 32 := 2#32
  let v294 : BitVec 32 := Scalar.muli v71 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_41 : BitVec 32 := 0#32
  let v72 : BitVec 32 := Scalar.addi v8 c0_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_189 : BitVec 32 := 1#32
  let v296 : BitVec 32 := Scalar.muli v82 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_50 : BitVec 32 := 0#32
  let v87 : BitVec 32 := Scalar.addi v2 c0_i32_50
  let c2_i32_51 : BitVec 32 := 2#32
  let c0_i32_52 : BitVec 32 := 0#32
  let v88 : BitVec 1 := Scalar.cmpi .eq c2_i32_51 c0_i32_52
  let c1_i32_53 : BitVec 32 := 1#32
  let v89 : BitVec 32 := Scalar.select v88 c1_i32_53 c2_i32_51
  let v90 : BitVec 32 := Scalar.remsi v87 v89
  let c0_i32_55 : BitVec 32 := 0#32
  let v92 : BitVec 1 := Scalar.cmpi .slt v90 c0_i32_55
  let c0_i32_56 : BitVec 32 := 0#32
  let v93 : BitVec 1 := Scalar.cmpi .slt v89 c0_i32_56
  let v94 : BitVec 1 := Scalar.xori v92 v93
  let c0_i32_54 : BitVec 32 := 0#32
  let v91 : BitVec 1 := Scalar.cmpi .ne v90 c0_i32_54
  let v95 : BitVec 1 := Scalar.andi v94 v91
  let v96 : BitVec 32 := Scalar.addi v90 v89
  let v97 : BitVec 32 := Scalar.select v95 v96 v90
  let c4_i32_198 : BitVec 32 := 4#32
  let v306 : BitVec 32 := Scalar.muli v97 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v98 : BitVec 32 := Scalar.addi v5 c1_i32_57
  let c2_i32_58 : BitVec 32 := 2#32
  let c0_i32_59 : BitVec 32 := 0#32
  let v99 : BitVec 1 := Scalar.cmpi .eq c2_i32_58 c0_i32_59
  let c1_i32_60 : BitVec 32 := 1#32
  let v100 : BitVec 32 := Scalar.select v99 c1_i32_60 c2_i32_58
  let v101 : BitVec 32 := Scalar.remsi v98 v100
  let c0_i32_62 : BitVec 32 := 0#32
  let v103 : BitVec 1 := Scalar.cmpi .slt v101 c0_i32_62
  let c0_i32_63 : BitVec 32 := 0#32
  let v104 : BitVec 1 := Scalar.cmpi .slt v100 c0_i32_63
  let v105 : BitVec 1 := Scalar.xori v103 v104
  let c0_i32_61 : BitVec 32 := 0#32
  let v102 : BitVec 1 := Scalar.cmpi .ne v101 c0_i32_61
  let v106 : BitVec 1 := Scalar.andi v105 v102
  let v107 : BitVec 32 := Scalar.addi v101 v100
  let v108 : BitVec 32 := Scalar.select v106 v107 v101
  let c2_i32_200 : BitVec 32 := 2#32
  let v308 : BitVec 32 := Scalar.muli v108 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v109 : BitVec 32 := Scalar.addi v8 c1_i32_64
  let c2_i32_65 : BitVec 32 := 2#32
  let c0_i32_66 : BitVec 32 := 0#32
  let v110 : BitVec 1 := Scalar.cmpi .eq c2_i32_65 c0_i32_66
  let c1_i32_67 : BitVec 32 := 1#32
  let v111 : BitVec 32 := Scalar.select v110 c1_i32_67 c2_i32_65
  let v112 : BitVec 32 := Scalar.remsi v109 v111
  let c0_i32_69 : BitVec 32 := 0#32
  let v114 : BitVec 1 := Scalar.cmpi .slt v112 c0_i32_69
  let c0_i32_70 : BitVec 32 := 0#32
  let v115 : BitVec 1 := Scalar.cmpi .slt v111 c0_i32_70
  let v116 : BitVec 1 := Scalar.xori v114 v115
  let c0_i32_68 : BitVec 32 := 0#32
  let v113 : BitVec 1 := Scalar.cmpi .ne v112 c0_i32_68
  let v117 : BitVec 1 := Scalar.andi v116 v113
  let v118 : BitVec 32 := Scalar.addi v112 v111
  let v119 : BitVec 32 := Scalar.select v117 v118 v112
  let c1_i32_201 : BitVec 32 := 1#32
  let v310 : BitVec 32 := Scalar.muli v119 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_73 : BitVec 32 := 1#32
  let v124 : BitVec 32 := Scalar.addi v2 c1_i32_73
  let c2_i32_74 : BitVec 32 := 2#32
  let c0_i32_75 : BitVec 32 := 0#32
  let v125 : BitVec 1 := Scalar.cmpi .eq c2_i32_74 c0_i32_75
  let c1_i32_76 : BitVec 32 := 1#32
  let v126 : BitVec 32 := Scalar.select v125 c1_i32_76 c2_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c4_i32_209 : BitVec 32 := 4#32
  let v320 : BitVec 32 := Scalar.muli v134 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_80 : BitVec 32 := 0#32
  let v135 : BitVec 32 := Scalar.addi v5 c0_i32_80
  let c2_i32_81 : BitVec 32 := 2#32
  let c0_i32_82 : BitVec 32 := 0#32
  let v136 : BitVec 1 := Scalar.cmpi .eq c2_i32_81 c0_i32_82
  let c1_i32_83 : BitVec 32 := 1#32
  let v137 : BitVec 32 := Scalar.select v136 c1_i32_83 c2_i32_81
  let v138 : BitVec 32 := Scalar.remsi v135 v137
  let c0_i32_85 : BitVec 32 := 0#32
  let v140 : BitVec 1 := Scalar.cmpi .slt v138 c0_i32_85
  let c0_i32_86 : BitVec 32 := 0#32
  let v141 : BitVec 1 := Scalar.cmpi .slt v137 c0_i32_86
  let v142 : BitVec 1 := Scalar.xori v140 v141
  let c0_i32_84 : BitVec 32 := 0#32
  let v139 : BitVec 1 := Scalar.cmpi .ne v138 c0_i32_84
  let v143 : BitVec 1 := Scalar.andi v142 v139
  let v144 : BitVec 32 := Scalar.addi v138 v137
  let v145 : BitVec 32 := Scalar.select v143 v144 v138
  let c2_i32_211 : BitVec 32 := 2#32
  let v322 : BitVec 32 := Scalar.muli v145 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_87 : BitVec 32 := 0#32
  let v146 : BitVec 32 := Scalar.addi v8 c0_i32_87
  let c2_i32_88 : BitVec 32 := 2#32
  let c0_i32_89 : BitVec 32 := 0#32
  let v147 : BitVec 1 := Scalar.cmpi .eq c2_i32_88 c0_i32_89
  let c1_i32_90 : BitVec 32 := 1#32
  let v148 : BitVec 32 := Scalar.select v147 c1_i32_90 c2_i32_88
  let v149 : BitVec 32 := Scalar.remsi v146 v148
  let c0_i32_92 : BitVec 32 := 0#32
  let v151 : BitVec 1 := Scalar.cmpi .slt v149 c0_i32_92
  let c0_i32_93 : BitVec 32 := 0#32
  let v152 : BitVec 1 := Scalar.cmpi .slt v148 c0_i32_93
  let v153 : BitVec 1 := Scalar.xori v151 v152
  let c0_i32_91 : BitVec 32 := 0#32
  let v150 : BitVec 1 := Scalar.cmpi .ne v149 c0_i32_91
  let v154 : BitVec 1 := Scalar.andi v153 v150
  let v155 : BitVec 32 := Scalar.addi v149 v148
  let v156 : BitVec 32 := Scalar.select v154 v155 v149
  let c1_i32_212 : BitVec 32 := 1#32
  let v324 : BitVec 32 := Scalar.muli v156 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v161 : BitVec 32 := Scalar.addi v2 c1_i32_96
  let c2_i32_97 : BitVec 32 := 2#32
  let c0_i32_98 : BitVec 32 := 0#32
  let v162 : BitVec 1 := Scalar.cmpi .eq c2_i32_97 c0_i32_98
  let c1_i32_99 : BitVec 32 := 1#32
  let v163 : BitVec 32 := Scalar.select v162 c1_i32_99 c2_i32_97
  let v164 : BitVec 32 := Scalar.remsi v161 v163
  let c0_i32_101 : BitVec 32 := 0#32
  let v166 : BitVec 1 := Scalar.cmpi .slt v164 c0_i32_101
  let c0_i32_102 : BitVec 32 := 0#32
  let v167 : BitVec 1 := Scalar.cmpi .slt v163 c0_i32_102
  let v168 : BitVec 1 := Scalar.xori v166 v167
  let c0_i32_100 : BitVec 32 := 0#32
  let v165 : BitVec 1 := Scalar.cmpi .ne v164 c0_i32_100
  let v169 : BitVec 1 := Scalar.andi v168 v165
  let v170 : BitVec 32 := Scalar.addi v164 v163
  let v171 : BitVec 32 := Scalar.select v169 v170 v164
  let c4_i32_221 : BitVec 32 := 4#32
  let v334 : BitVec 32 := Scalar.muli v171 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_103 : BitVec 32 := 0#32
  let v172 : BitVec 32 := Scalar.addi v5 c0_i32_103
  let c2_i32_104 : BitVec 32 := 2#32
  let c0_i32_105 : BitVec 32 := 0#32
  let v173 : BitVec 1 := Scalar.cmpi .eq c2_i32_104 c0_i32_105
  let c1_i32_106 : BitVec 32 := 1#32
  let v174 : BitVec 32 := Scalar.select v173 c1_i32_106 c2_i32_104
  let v175 : BitVec 32 := Scalar.remsi v172 v174
  let c0_i32_108 : BitVec 32 := 0#32
  let v177 : BitVec 1 := Scalar.cmpi .slt v175 c0_i32_108
  let c0_i32_109 : BitVec 32 := 0#32
  let v178 : BitVec 1 := Scalar.cmpi .slt v174 c0_i32_109
  let v179 : BitVec 1 := Scalar.xori v177 v178
  let c0_i32_107 : BitVec 32 := 0#32
  let v176 : BitVec 1 := Scalar.cmpi .ne v175 c0_i32_107
  let v180 : BitVec 1 := Scalar.andi v179 v176
  let v181 : BitVec 32 := Scalar.addi v175 v174
  let v182 : BitVec 32 := Scalar.select v180 v181 v175
  let c2_i32_223 : BitVec 32 := 2#32
  let v336 : BitVec 32 := Scalar.muli v182 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v183 : BitVec 32 := Scalar.addi v8 c1_i32_110
  let c2_i32_111 : BitVec 32 := 2#32
  let c0_i32_112 : BitVec 32 := 0#32
  let v184 : BitVec 1 := Scalar.cmpi .eq c2_i32_111 c0_i32_112
  let c1_i32_113 : BitVec 32 := 1#32
  let v185 : BitVec 32 := Scalar.select v184 c1_i32_113 c2_i32_111
  let v186 : BitVec 32 := Scalar.remsi v183 v185
  let c0_i32_115 : BitVec 32 := 0#32
  let v188 : BitVec 1 := Scalar.cmpi .slt v186 c0_i32_115
  let c0_i32_116 : BitVec 32 := 0#32
  let v189 : BitVec 1 := Scalar.cmpi .slt v185 c0_i32_116
  let v190 : BitVec 1 := Scalar.xori v188 v189
  let c0_i32_114 : BitVec 32 := 0#32
  let v187 : BitVec 1 := Scalar.cmpi .ne v186 c0_i32_114
  let v191 : BitVec 1 := Scalar.andi v190 v187
  let v192 : BitVec 32 := Scalar.addi v186 v185
  let v193 : BitVec 32 := Scalar.select v191 v192 v186
  let c1_i32_224 : BitVec 32 := 1#32
  let v338 : BitVec 32 := Scalar.muli v193 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_119 : BitVec 32 := 1#32
  let v198 : BitVec 32 := Scalar.addi v2 c1_i32_119
  let c2_i32_120 : BitVec 32 := 2#32
  let c0_i32_121 : BitVec 32 := 0#32
  let v199 : BitVec 1 := Scalar.cmpi .eq c2_i32_120 c0_i32_121
  let c1_i32_122 : BitVec 32 := 1#32
  let v200 : BitVec 32 := Scalar.select v199 c1_i32_122 c2_i32_120
  let v201 : BitVec 32 := Scalar.remsi v198 v200
  let c0_i32_124 : BitVec 32 := 0#32
  let v203 : BitVec 1 := Scalar.cmpi .slt v201 c0_i32_124
  let c0_i32_125 : BitVec 32 := 0#32
  let v204 : BitVec 1 := Scalar.cmpi .slt v200 c0_i32_125
  let v205 : BitVec 1 := Scalar.xori v203 v204
  let c0_i32_123 : BitVec 32 := 0#32
  let v202 : BitVec 1 := Scalar.cmpi .ne v201 c0_i32_123
  let v206 : BitVec 1 := Scalar.andi v205 v202
  let v207 : BitVec 32 := Scalar.addi v201 v200
  let v208 : BitVec 32 := Scalar.select v206 v207 v201
  let c4_i32_232 : BitVec 32 := 4#32
  let v348 : BitVec 32 := Scalar.muli v208 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v209 : BitVec 32 := Scalar.addi v5 c1_i32_126
  let c2_i32_127 : BitVec 32 := 2#32
  let c0_i32_128 : BitVec 32 := 0#32
  let v210 : BitVec 1 := Scalar.cmpi .eq c2_i32_127 c0_i32_128
  let c1_i32_129 : BitVec 32 := 1#32
  let v211 : BitVec 32 := Scalar.select v210 c1_i32_129 c2_i32_127
  let v212 : BitVec 32 := Scalar.remsi v209 v211
  let c0_i32_131 : BitVec 32 := 0#32
  let v214 : BitVec 1 := Scalar.cmpi .slt v212 c0_i32_131
  let c0_i32_132 : BitVec 32 := 0#32
  let v215 : BitVec 1 := Scalar.cmpi .slt v211 c0_i32_132
  let v216 : BitVec 1 := Scalar.xori v214 v215
  let c0_i32_130 : BitVec 32 := 0#32
  let v213 : BitVec 1 := Scalar.cmpi .ne v212 c0_i32_130
  let v217 : BitVec 1 := Scalar.andi v216 v213
  let v218 : BitVec 32 := Scalar.addi v212 v211
  let v219 : BitVec 32 := Scalar.select v217 v218 v212
  let c2_i32_234 : BitVec 32 := 2#32
  let v350 : BitVec 32 := Scalar.muli v219 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_133 : BitVec 32 := 0#32
  let v220 : BitVec 32 := Scalar.addi v8 c0_i32_133
  let c2_i32_134 : BitVec 32 := 2#32
  let c0_i32_135 : BitVec 32 := 0#32
  let v221 : BitVec 1 := Scalar.cmpi .eq c2_i32_134 c0_i32_135
  let c1_i32_136 : BitVec 32 := 1#32
  let v222 : BitVec 32 := Scalar.select v221 c1_i32_136 c2_i32_134
  let v223 : BitVec 32 := Scalar.remsi v220 v222
  let c0_i32_138 : BitVec 32 := 0#32
  let v225 : BitVec 1 := Scalar.cmpi .slt v223 c0_i32_138
  let c0_i32_139 : BitVec 32 := 0#32
  let v226 : BitVec 1 := Scalar.cmpi .slt v222 c0_i32_139
  let v227 : BitVec 1 := Scalar.xori v225 v226
  let c0_i32_137 : BitVec 32 := 0#32
  let v224 : BitVec 1 := Scalar.cmpi .ne v223 c0_i32_137
  let v228 : BitVec 1 := Scalar.andi v227 v224
  let v229 : BitVec 32 := Scalar.addi v223 v222
  let v230 : BitVec 32 := Scalar.select v228 v229 v223
  let c1_i32_235 : BitVec 32 := 1#32
  let v352 : BitVec 32 := Scalar.muli v230 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_142 : BitVec 32 := 1#32
  let v235 : BitVec 32 := Scalar.addi v2 c1_i32_142
  let c2_i32_143 : BitVec 32 := 2#32
  let c0_i32_144 : BitVec 32 := 0#32
  let v236 : BitVec 1 := Scalar.cmpi .eq c2_i32_143 c0_i32_144
  let c1_i32_145 : BitVec 32 := 1#32
  let v237 : BitVec 32 := Scalar.select v236 c1_i32_145 c2_i32_143
  let v238 : BitVec 32 := Scalar.remsi v235 v237
  let c0_i32_147 : BitVec 32 := 0#32
  let v240 : BitVec 1 := Scalar.cmpi .slt v238 c0_i32_147
  let c0_i32_148 : BitVec 32 := 0#32
  let v241 : BitVec 1 := Scalar.cmpi .slt v237 c0_i32_148
  let v242 : BitVec 1 := Scalar.xori v240 v241
  let c0_i32_146 : BitVec 32 := 0#32
  let v239 : BitVec 1 := Scalar.cmpi .ne v238 c0_i32_146
  let v243 : BitVec 1 := Scalar.andi v242 v239
  let v244 : BitVec 32 := Scalar.addi v238 v237
  let v245 : BitVec 32 := Scalar.select v243 v244 v238
  let c4_i32_243 : BitVec 32 := 4#32
  let v362 : BitVec 32 := Scalar.muli v245 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_149 : BitVec 32 := 1#32
  let v246 : BitVec 32 := Scalar.addi v5 c1_i32_149
  let c2_i32_150 : BitVec 32 := 2#32
  let c0_i32_151 : BitVec 32 := 0#32
  let v247 : BitVec 1 := Scalar.cmpi .eq c2_i32_150 c0_i32_151
  let c1_i32_152 : BitVec 32 := 1#32
  let v248 : BitVec 32 := Scalar.select v247 c1_i32_152 c2_i32_150
  let v249 : BitVec 32 := Scalar.remsi v246 v248
  let c0_i32_154 : BitVec 32 := 0#32
  let v251 : BitVec 1 := Scalar.cmpi .slt v249 c0_i32_154
  let c0_i32_155 : BitVec 32 := 0#32
  let v252 : BitVec 1 := Scalar.cmpi .slt v248 c0_i32_155
  let v253 : BitVec 1 := Scalar.xori v251 v252
  let c0_i32_153 : BitVec 32 := 0#32
  let v250 : BitVec 1 := Scalar.cmpi .ne v249 c0_i32_153
  let v254 : BitVec 1 := Scalar.andi v253 v250
  let v255 : BitVec 32 := Scalar.addi v249 v248
  let v256 : BitVec 32 := Scalar.select v254 v255 v249
  let c2_i32_245 : BitVec 32 := 2#32
  let v364 : BitVec 32 := Scalar.muli v256 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v257 : BitVec 32 := Scalar.addi v8 c1_i32_156
  let c2_i32_157 : BitVec 32 := 2#32
  let c0_i32_158 : BitVec 32 := 0#32
  let v258 : BitVec 1 := Scalar.cmpi .eq c2_i32_157 c0_i32_158
  let c1_i32_159 : BitVec 32 := 1#32
  let v259 : BitVec 32 := Scalar.select v258 c1_i32_159 c2_i32_157
  let v260 : BitVec 32 := Scalar.remsi v257 v259
  let c0_i32_161 : BitVec 32 := 0#32
  let v262 : BitVec 1 := Scalar.cmpi .slt v260 c0_i32_161
  let c0_i32_162 : BitVec 32 := 0#32
  let v263 : BitVec 1 := Scalar.cmpi .slt v259 c0_i32_162
  let v264 : BitVec 1 := Scalar.xori v262 v263
  let c0_i32_160 : BitVec 32 := 0#32
  let v261 : BitVec 1 := Scalar.cmpi .ne v260 c0_i32_160
  let v265 : BitVec 1 := Scalar.andi v264 v261
  let v266 : BitVec 32 := Scalar.addi v260 v259
  let v267 : BitVec 32 := Scalar.select v265 v266 v260
  let c1_i32_246 : BitVec 32 := 1#32
  let v366 : BitVec 32 := Scalar.muli v267 c1_i32_246
  let v367 : BitVec 32 := Scalar.addi v365 v366
  v367.toNat
-- ==== Reference33Ideal.lean ====
abbrev S64x128x64 : Shape := ⟨3, ![64, 128, 64]⟩
abbrev S8x8x128x64 : Shape := ⟨4, ![8, 8, 128, 64]⟩

abbrev nBuf : Space → Nat
  | .hbm => 4
  | .vmem => 0
  | .smem => 0
  | _ => 0

abbrev bufTy : (tb : Table) → Fin (tcTables nBuf tb) → BufTy
  | .hbm, ⟨0, _⟩ => ⟨S64x128x64, .bf16⟩
  | .hbm, ⟨1, _⟩ => ⟨S8x8x128x64, .bf16⟩
  | .hbm, ⟨2, _⟩ => ⟨S8x8x128x64, .bf16⟩
  | .hbm, ⟨3, _⟩ => ⟨S64x128x64, .bf16⟩
  | _, _ => ⟨S64x128x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.KernelIdeal.Trip.lean ====
/- One trip of the kernel's outer loop (one block of 256 queries) and the loop's invariant.

   The generated invariants of the two inner loops (over the key blocks below the diagonal) are used as they stand; here one
   trip of the outer loop is run once, at a symbolic block, and the state before each block is defined by recursion. The
   skip table the kernel reads in scalar memory is held at zeros: nothing is skipped, so what the body assumes of the word it
   reads holds, and the remainder loop makes no trip. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Of a zero word everything the body assumes holds: the inner loop runs over the blocks below the diagonal, inside the
    arrays, and the remainder loop is empty. -/
theorem chk_zero : ∀ k : Fin k0_t1_loop.trips, k0_chk1 k 0#32 := by decide +kernel

/-- So it holds of the word read off a table of zeros. -/
theorem chk_word {arg9 : Memref sig .tc .smem S2x4x8 .i32} {X9 : BufTy.Contents (Elt F) arg9.view.ty}
    (hX : ∀ y, arg9.view.read (Elt F) X9 y = (0#32 : BitVec 32)) (i : grid0.Coords) (k : Fin k0_t1_loop.trips) {y} :
    k0_chk1 k (arg9.view.readAt (Elt F) (Rect.unit (s := S2x4x8) (k0_off3 i k) S1x1x1.size (k0_off3_inb i k)).toLoadRect X9 y) := by
  rw [View.readAt_apply, hX]; exact chk_zero k

/-- What a block's trip holds: the buffers it reads, at their contents, and the three it writes. -/
abbrev Trip1 (c : Dev nD)
    (arg3 : Memref sig .tc .vmem S2x2048x128 .f32) (arg4 : Memref sig .tc .vmem S2x2048x128 .f32)
    (arg5 : Memref sig .tc .vmem S2x2048x128 .f32) (arg6 : Memref sig .tc .vmem S2x2048x128 .f32)
    (arg7 : Memref sig .tc .vmem S2x2048x128 .f32) (arg8 : Memref sig .tc .vmem S2x2048x128 .f32)
    (arg9 : Memref sig .tc .smem S2x4x8 .i32) (arg10 : Memref sig .tc .vmem S2x2048x128 .f32)
    (arg11 : Memref sig .tc .vmem S2x2048x128 .f32) (arg12 : Memref sig .tc .vmem S2x2048x128 .f32)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty)
    (f10 : BufTy.Contents (Elt F) arg10.view.ty) (f11 : BufTy.Contents (Elt F) arg11.view.ty)
    (f12 : BufTy.Contents (Elt F) arg12.view.ty) : sProp 𝕄 :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12))

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 : BitVec 32) (arg1 : BitVec 32) (v0 : Vec F S1x128 .f32)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty)
  (hX : ∀ y, arg9.view.read (Elt F) X9 y = (0#32 : BitVec 32))

/-- One block's trip, run at a symbolic block `k`: what it carries on and the pieces it writes into the three arrays are the
    run's own finds, as functions of the carried value and of what it finds in the two accumulated arrays. -/
@[irreducible] def trip1 (k : Fin k0_t1_loop.trips) :
    Σ' (R : (FVec F S1x128 .f32 → BufTy.Contents (Elt F) arg11.view.ty → BufTy.Contents (Elt F) arg12.view.ty → FVec F S1x128 .f32))
       (L10 : (FVec F S1x128 .f32 → BufTy.Contents (Elt F) arg11.view.ty → BufTy.Contents (Elt F) arg12.view.ty → List (View.Piece (Elt F) S2x2048x128 .f32)))
       (L11 : (FVec F S1x128 .f32 → BufTy.Contents (Elt F) arg11.view.ty → BufTy.Contents (Elt F) arg12.view.ty → List (View.Piece (Elt F) S2x2048x128 .f32))),
      { L12 : (FVec F S1x128 .f32 → BufTy.Contents (Elt F) arg11.view.ty → BufTy.Contents (Elt F) arg12.view.ty → List (View.Piece (Elt F) S2x2048x128 .f32)) //
        ∀ (acc : FVec F S1x128 .f32) (f10 : BufTy.Contents (Elt F) arg10.view.ty) (f11 : BufTy.Contents (Elt F) arg11.view.ty)
    (f12 : BufTy.Contents (Elt F) arg12.view.ty),
          Trip1 (F := F) c arg3 arg4 arg5 arg6 arg7 arg8 arg9 arg10 arg11 arg12 X3 X4 X5 X6 X7 X8 X9 f10 f11 f12
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg12 harg12 arg13 harg13 arg0 arg1 v0 k acc)
              (fun yld => iprop(⌜yld = R acc f11 f12⌝ ∗ Trip1 (F := F) c arg3 arg4 arg5 arg6 arg7 arg8 arg9 arg10 arg11 arg12 X3 X4 X5 X6 X7 X8 X9
                (arg10.view.writes (Elt F) f10 (L10 acc f11 f12)) (arg11.view.writes (Elt F) f11 (L11 acc f11 f12)) (arg12.view.writes (Elt F) f12 (L12 acc f11 f12)))) } := by
  refine ⟨?_, ?_, ?_, ?_, fun acc f10 f11 f12 => ?run⟩
  case run =>
    unfold k0_t1_body
    simp only [k0_part21_eq_skeleton]
    iintro ⟨H3, H4, H5, H6, H7, H8, H9, H10, H11, H12⟩
    sl_exec (disch := exact chk_word hX i k)
    sl_step
    sl_close

/-- What one block adds to the state: the carried sum after it, and its pieces in front of the earlier ones. -/
@[irreducible] def stepSt (G11 : BufTy.Contents (Elt F) arg11.view.ty) (G12 : BufTy.Contents (Elt F) arg12.view.ty) (k : ℕ)
    (prev : FVec F S1x128 .f32 × List (View.Piece (Elt F) S2x2048x128 .f32) × List (View.Piece (Elt F) S2x2048x128 .f32) × List (View.Piece (Elt F) S2x2048x128 .f32)) :
    FVec F S1x128 .f32 × List (View.Piece (Elt F) S2x2048x128 .f32) × List (View.Piece (Elt F) S2x2048x128 .f32) × List (View.Piece (Elt F) S2x2048x128 .f32) :=
  if h : k < k0_t1_loop.trips then
    ((trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX ⟨k, h⟩).1 prev.1 (arg11.view.writes (Elt F) G11 prev.2.2.1) (arg12.view.writes (Elt F) G12 prev.2.2.2),
     (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX ⟨k, h⟩).2.1 prev.1 (arg11.view.writes (Elt F) G11 prev.2.2.1) (arg12.view.writes (Elt F) G12 prev.2.2.2) ++ prev.2.1,
     (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX ⟨k, h⟩).2.2.1 prev.1 (arg11.view.writes (Elt F) G11 prev.2.2.1) (arg12.view.writes (Elt F) G12 prev.2.2.2) ++ prev.2.2.1,
     (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX ⟨k, h⟩).2.2.2.1 prev.1 (arg11.view.writes (Elt F) G11 prev.2.2.1) (arg12.view.writes (Elt F) G12 prev.2.2.2) ++ prev.2.2.2)
  else prev

/-- The state before block `k`: the carried sum and, per written array, the pieces of the blocks before (last first). -/
def st1 (G11 : BufTy.Contents (Elt F) arg11.view.ty) (G12 : BufTy.Contents (Elt F) arg12.view.ty) (init : FVec F S1x128 .f32) :
    ℕ → FVec F S1x128 .f32 × List (View.Piece (Elt F) S2x2048x128 .f32) × List (View.Piece (Elt F) S2x2048x128 .f32) × List (View.Piece (Elt F) S2x2048x128 .f32)
  | 0 => (init, [], [], [])
  | k + 1 => stepSt c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 k (st1 G11 G12 init k)

theorem st1_succ (G11 : BufTy.Contents (Elt F) arg11.view.ty) (G12 : BufTy.Contents (Elt F) arg12.view.ty) (init : FVec F S1x128 .f32) (k : Fin k0_t1_loop.trips) :
    st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init (k.val + 1)
      = (let prev := st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k.val
         ((trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).1 prev.1 (arg11.view.writes (Elt F) G11 prev.2.2.1) (arg12.view.writes (Elt F) G12 prev.2.2.2),
          (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.1 prev.1 (arg11.view.writes (Elt F) G11 prev.2.2.1) (arg12.view.writes (Elt F) G12 prev.2.2.2) ++ prev.2.1,
          (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.1 prev.1 (arg11.view.writes (Elt F) G11 prev.2.2.1) (arg12.view.writes (Elt F) G12 prev.2.2.2) ++ prev.2.2.1,
          (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.2.1 prev.1 (arg11.view.writes (Elt F) G11 prev.2.2.1) (arg12.view.writes (Elt F) G12 prev.2.2.2) ++ prev.2.2.2)) := by
  rw [st1.eq_2]; unfold stepSt; exact dif_pos k.isLt

theorem st1_zero (G11 : BufTy.Contents (Elt F) arg11.view.ty) (G12 : BufTy.Contents (Elt F) arg12.view.ty) (init : FVec F S1x128 .f32) : (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init 0).1 = init := rfl

/-- The invariant before block `k`: the arrays read as they were, the arrays written at their entry contents under the pieces
    of the blocks before, the carried sum the state's. -/
abbrev inv1 (G10 : BufTy.Contents (Elt F) arg10.view.ty) (G11 : BufTy.Contents (Elt F) arg11.view.ty) (G12 : BufTy.Contents (Elt F) arg12.view.ty) (init : FVec F S1x128 .f32) (k : ℕ) (acc : FVec F S1x128 .f32) :
    sProp 𝕄 :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, (arg10.view.loc (c : Thread nD τ) ↦[arg10.view.set]{fullShare} f) ∗ ⌜f = arg10.view.writes (Elt F) G10 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k).2.1⌝)
    ∗ (∃ f, (arg11.view.loc (c : Thread nD τ) ↦[arg11.view.set]{fullShare} f) ∗ ⌜f = arg11.view.writes (Elt F) G11 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k).2.2.1⌝)
    ∗ (∃ f, (arg12.view.loc (c : Thread nD τ) ↦[arg12.view.set]{fullShare} f) ∗ ⌜f = arg12.view.writes (Elt F) G12 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k).2.2.2⌝)
    ∗ ⌜acc = (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k).1⌝)

set_option warn.classDefReducibility false in
/-- The outer loop by its invariant. -/
@[sl_loop] def loopInv1 (G10 : BufTy.Contents (Elt F) arg10.view.ty) (G11 : BufTy.Contents (Elt F) arg11.view.ty) (G12 : BufTy.Contents (Elt F) arg12.view.ty) (init : FVec F S1x128 .f32) :
    LoopInvTy_k0_t1 (F := F) Unit ℕ (UR sig nD τ) ℕ Variants.none c none Set.univ i
      arg2 harg2 arg3 harg3 arg4 harg4 arg5 harg5 arg6 harg6 arg7 harg7 arg8 harg8 arg9 harg9 arg10 harg10 arg11 harg11 arg12 harg12 arg13 harg13
      arg0 arg1 v0 init where
  inv := inv1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G10 G11 G12 init
  step k acc := by
    iintro ⟨H3, H4, H5, H6, H7, H8, H9, ⟨%f10, H10, %h10⟩, ⟨%f11, H11, %h11⟩, ⟨%f12, H12, %h12⟩, %hacc⟩
    subst hacc
    iapply (wp_wand_r Idealize.ShloMosaic.frame (wpE (defs₀ (F := F)) Variants.none (c : Thread nD τ) none) Set.univ)
    isplitl [H3 H4 H5 H6 H7 H8 H9 H10 H11 H12]
    · iapply ((trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.2.2 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init k).1 f10 f11 f12)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro %yld ⟨%hres, H3, H4, H5, H6, H7, H8, H9, H10, H11, H12⟩
      isplitl [H3]; · iexact H3
      isplitl [H4]; · iexact H4
      isplitl [H5]; · iexact H5
      isplitl [H6]; · iexact H6
      isplitl [H7]; · iexact H7
      isplitl [H8]; · iexact H8
      isplitl [H9]; · iexact H9
      simp only [st1_succ]
      isplitl [H10]
      · iexists _; isplitl [H10]; · iexact H10
        ipureintro; rw [h10, h11, h12, ← View.writes_append]
      isplitl [H11]
      · iexists _; isplitl [H11]; · iexact H11
        ipureintro; rw [h11, h12, ← View.writes_append]
      isplitl [H12]
      · iexists _; isplitl [H12]; · iexact H12
        ipureintro; rw [h11, h12, ← View.writes_append]
      ipureintro; rw [hres, h11, h12]
end

end Cert.KernelIdeal.Hand

end
-- ==== Proof.KernelIdeal.Body.lean ====
/- The kernel's body at one grid point: what it leaves in its four arrays, from the state after the eighth block. -/
module

public import proofs.«01_k».proof.Proof.KernelIdeal.Trip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (hX : ∀ y, arg9.view.read (Elt F) X9 y = (0#32 : BitVec 32))
  (f10 : BufTy.Contents (Elt F) arg10.view.ty) (f11 : BufTy.Contents (Elt F) arg11.view.ty)
  (f12 : BufTy.Contents (Elt F) arg12.view.ty) (f13 : BufTy.Contents (Elt F) arg13.view.ty)

/-- The gain row as the body loads it. -/
abbrev gainRow : Vec F S1x128 .f32 :=
  View.readAt (Elt F) arg2.view (Rect.unit (s := S1x128) ![0, 0] S1x128.size inb_S1x128_S1x128_0_0).toLoadRect X2

/-- The state before block `k` of a grid point, over what the two accumulated arrays hold at the loop's entry. -/
abbrev stAt (G11 : BufTy.Contents (Elt F) arg11.view.ty) (G12 : BufTy.Contents (Elt F) arg12.view.ty) (k : ℕ) :
    FVec F S1x128 .f32 × List (View.Piece (Elt F) S2x2048x128 .f32) × List (View.Piece (Elt F) S2x2048x128 .f32) × List (View.Piece (Elt F) S2x2048x128 .f32) :=
  st1 c i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) (gainRow arg2 X2)
    X3 X4 X5 X6 X7 X8 X9 hX G11 G12 (k0_pay4 (F := F)) k
end

/-- The body at a point of the first sequence pair of a head pair: dq, dk and dv at the state's pieces, the gain's gradient
    stored. -/
theorem body_first (c : Dev nD) (i : grid0.Coords) (h1 : k0_cond1 i = 1#1) (h2 : k0_cond2 i ≠ 1#1)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (hX : ∀ y, arg9.view.read (Elt F) X9 y = (0#32 : BitVec 32))
  (f10 : BufTy.Contents (Elt F) arg10.view.ty) (f11 : BufTy.Contents (Elt F) arg11.view.ty)
  (f12 : BufTy.Contents (Elt F) arg12.view.ty) (f13 : BufTy.Contents (Elt F) arg13.view.ty) (K : PUnit → sProp 𝕄) :
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} (arg10.view.writes (Elt F) f10 (stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.1))
    ∗ (arg11.view.loc (c : Thread nD τ) ↦[arg11.view.set]{fullShare} (arg11.view.writes (Elt F) arg11.view.junk ((stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.2.1 ++ [(⟨Rect.unit (s := S2x2048x128) ![0, 0, 0] S2x2048x128.size inb_S2x2048x128_S2x2048x128_0_0_0, k0_pay2 (F := F)⟩ : View.Piece (Elt F) S2x2048x128 .f32)])))
    ∗ (arg12.view.loc (c : Thread nD τ) ↦[arg12.view.set]{fullShare} (arg12.view.writes (Elt F) arg12.view.junk ((stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.2.2 ++ [(⟨Rect.unit (s := S2x2048x128) ![0, 0, 0] S2x2048x128.size inb_S2x2048x128_S2x2048x128_0_0_0, k0_pay3 (F := F)⟩ : View.Piece (Elt F) S2x2048x128 .f32)])))
    ∗ (arg13.view.loc (c : Thread nD τ) ↦[arg13.view.set]{fullShare} (arg13.view.writes (Elt F) f13 [(⟨Rect.unit (s := S1x128) ![0, 0] S1x128.size inb_S1x128_S1x128_0_0, (stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).1⟩ : View.Piece (Elt F) S1x128 .f32)]))) -∗ K ⟨⟩))
  ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]
  unfold cc0_sb_bwd_skel
  iintro ⟨H2, H3, H4, H5, H6, H7, H8, H9, H10, H11, H12, H13, Hk⟩
  sl_exec (disch := sl_exact hX)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at a point of the second sequence pair of a head pair: dq, dk and dv at the state's pieces, the gain's gradient
    added to what the array held. -/
theorem body_later (c : Dev nD) (i : grid0.Coords) (h1 : k0_cond1 i ≠ 1#1) (h2 : k0_cond2 i = 1#1)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (X8 : BufTy.Contents (Elt F) arg8.view.ty) (X9 : BufTy.Contents (Elt F) arg9.view.ty)
  (hX : ∀ y, arg9.view.read (Elt F) X9 y = (0#32 : BitVec 32))
  (f10 : BufTy.Contents (Elt F) arg10.view.ty) (f11 : BufTy.Contents (Elt F) arg11.view.ty)
  (f12 : BufTy.Contents (Elt F) arg12.view.ty) (f13 : BufTy.Contents (Elt F) arg13.view.ty) (K : PUnit → sProp 𝕄) :
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} (arg10.view.writes (Elt F) f10 (stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.1))
    ∗ (arg11.view.loc (c : Thread nD τ) ↦[arg11.view.set]{fullShare} (arg11.view.writes (Elt F) arg11.view.junk ((stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.2.1 ++ [(⟨Rect.unit (s := S2x2048x128) ![0, 0, 0] S2x2048x128.size inb_S2x2048x128_S2x2048x128_0_0_0, k0_pay2 (F := F)⟩ : View.Piece (Elt F) S2x2048x128 .f32)])))
    ∗ (arg12.view.loc (c : Thread nD τ) ↦[arg12.view.set]{fullShare} (arg12.view.writes (Elt F) arg12.view.junk ((stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).2.2.2 ++ [(⟨Rect.unit (s := S2x2048x128) ![0, 0, 0] S2x2048x128.size inb_S2x2048x128_S2x2048x128_0_0_0, k0_pay3 (F := F)⟩ : View.Piece (Elt F) S2x2048x128 .f32)])))
    ∗ (arg13.view.loc (c : Thread nD τ) ↦[arg13.view.set]{fullShare} (arg13.view.writes (Elt F) f13 [(⟨Rect.unit (s := S1x128) ![0, 0] S1x128.size inb_S1x128_S1x128_0_0, k0_pay8 (stAt c i arg2 harg2 arg3 harg3 arg4 harg4 arg5 harg5 arg6 harg6 arg7 harg7 arg8 harg8 arg9 harg9 arg10 harg10 arg11 harg11 arg12 harg12 arg13 harg13 X2 X3 X4 X5 X6 X7 X8 X9 hX (arg11.view.writes (Elt F) arg11.view.junk [(⟨Rect.unit (s := S2x2048x128) ![0, 0, 0] S2x2048x128.size inb_S2x2048x128_S2x2048x128_0_0_0, k0_pay2 (F := F)⟩ : View.Piece (Elt F) S2x2048x128 .f32)]) (arg12.view.writes (Elt F) arg12.view.junk [(⟨Rect.unit (s := S2x2048x128) ![0, 0, 0] S2x2048x128.size inb_S2x2048x128_S2x2048x128_0_0_0, k0_pay3 (F := F)⟩ : View.Piece (Elt F) S2x2048x128 .f32)]) (Scf.trips k0_t1_loop.lb k0_t1_loop.ub k0_t1_loop.st)).1 (View.readAt (Elt F) arg13.view (Rect.unit (s := S1x128) ![0, 0] S1x128.size inb_S1x128_S1x128_0_0).toLoadRect f13)⟩ : View.Piece (Elt F) S1x128 .f32)]))) -∗ K ⟨⟩))
  ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]
  unfold cc0_sb_bwd_skel
  iintro ⟨H2, H3, H4, H5, H6, H7, H8, H9, H10, H11, H12, H13, Hk⟩
  sl_exec (disch := sl_exact hX)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Hand

end
-- ==== Proof.KernelIdeal.Frame.lean ====
/- The frame: every run of the program ends, faults nowhere, leaves its arguments unchanged and every semaphore counter at zero.
   What each grid point leaves in the four result windows is named here (`out8` … `out11`), for the value proof to read. -/
module

public import proofs.«01_k».proof.Proof.KernelIdeal.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The skip table is zero -/

/-- The host fills the skip table with zeros. -/
theorem V_table (c : Dev nD) (y : S2x4x8.Idx) : (V m c main_v35 : BufTy.Contents (Elt F) ⟨S2x4x8, .i32⟩) y = (0#32 : BitVec 32) := by
  have h : V m c main_v35 = StableHlo.after hostOps0_7
      (StableHlo.after (List.flatten [hostOps0, hostOps0_1, hostOps0_2, hostOps0_3, hostOps0_4, hostOps0_5, hostOps0_6]) (fun b => m (c, b)))
      main_v35 := by
    unfold V
    rw [← StableHlo.after_append]
    rfl
  rw [h]
  generalize StableHlo.after (List.flatten [hostOps0, hostOps0_1, hostOps0_2, hostOps0_3, hostOps0_4, hostOps0_5, hostOps0_6]) (fun b => m (c, b)) = W
  unfold hostOps0_7
  after_results
  rfl

/-! ## The staging buffers at a point -/

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)
abbrev hst5 (t : Fin cfg0.N) : (st0_5 t).IsWhole := hstage0_5 ((cfg0.slots t 5).cast nbuf0_5)
abbrev hst6 (t : Fin cfg0.N) : (st0_6 t).IsWhole := hstage0_6 ((cfg0.slots t 6).cast nbuf0_6)
abbrev hst7 (t : Fin cfg0.N) : (st0_7 t).IsWhole := hstage0_7 ((cfg0.slots t 7).cast nbuf0_7)
abbrev hst8 (t : Fin cfg0.N) : (st0_8 t).IsWhole := hstage0_8 ((cfg0.slots t 8).cast nbuf0_8)
abbrev hst9 (t : Fin cfg0.N) : (st0_9 t).IsWhole := hstage0_9 ((cfg0.slots t 9).cast nbuf0_9)
abbrev hst10 (t : Fin cfg0.N) : (st0_10 t).IsWhole := hstage0_10 ((cfg0.slots t 10).cast nbuf0_10)
abbrev hst11 (t : Fin cfg0.N) : (st0_11 t).IsWhole := hstage0_11 ((cfg0.slots t 11).cast nbuf0_11)

/-- The raw contents that read the window's block. -/
def X2 (c : Dev nD) (t : Fin cfg0.N) : BufTy.Contents (Elt F) (st0_0 t).view.ty := (hst0 t).unread (iblk m c 0 t)
/-- The raw contents that read the window's block. -/
def X3 (c : Dev nD) (t : Fin cfg0.N) : BufTy.Contents (Elt F) (st0_1 t).view.ty := (hst1 t).unread (iblk m c 1 t)
/-- The raw contents that read the window's block. -/
def X4 (c : Dev nD) (t : Fin cfg0.N) : BufTy.Contents (Elt F) (st0_2 t).view.ty := (hst2 t).unread (iblk m c 2 t)
/-- The raw contents that read the window's block. -/
def X5 (c : Dev nD) (t : Fin cfg0.N) : BufTy.Contents (Elt F) (st0_3 t).view.ty := (hst3 t).unread (iblk m c 3 t)
/-- The raw contents that read the window's block. -/
def X6 (c : Dev nD) (t : Fin cfg0.N) : BufTy.Contents (Elt F) (st0_4 t).view.ty := (hst4 t).unread (iblk m c 4 t)
/-- The raw contents that read the window's block. -/
def X7 (c : Dev nD) (t : Fin cfg0.N) : BufTy.Contents (Elt F) (st0_5 t).view.ty := (hst5 t).unread (iblk m c 5 t)
/-- The raw contents that read the window's block. -/
def X8 (c : Dev nD) (t : Fin cfg0.N) : BufTy.Contents (Elt F) (st0_6 t).view.ty := (hst6 t).unread (iblk m c 6 t)
/-- The raw contents that read the window's block. -/
def X9 (c : Dev nD) (t : Fin cfg0.N) : BufTy.Contents (Elt F) (st0_7 t).view.ty := (hst7 t).unread (iblk m c 7 t)

theorem table_zero (c : Dev nD) (t : Fin cfg0.N) : ∀ y, (st0_7 t).view.read (Elt F) (X9 m c t) y = (0#32 : BitVec 32) := by
  intro y
  unfold X9
  rw [Memref.IsWhole.read_unread]
  exact V_table m c _

/-- The state before block `k` at point `t`. -/
abbrev ptSt (c : Dev nD) (t : Fin cfg0.N) (k : ℕ) :
    FVec F S1x128 .f32 × List (View.Piece (Elt F) S2x2048x128 .f32) × List (View.Piece (Elt F) S2x2048x128 .f32) × List (View.Piece (Elt F) S2x2048x128 .f32) :=
  stAt (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
    (X2 m c t) (X3 m c t) (X4 m c t) (X5 m c t) (X6 m c t) (X7 m c t) (X8 m c t) (X9 m c t) (table_zero m c t)
    ((st0_9 t).view.writes (Elt F) (st0_9 t).view.junk [(⟨Rect.unit (s := S2x2048x128) ![0, 0, 0] S2x2048x128.size inb_S2x2048x128_S2x2048x128_0_0_0, k0_pay2 (F := F)⟩ : View.Piece (Elt F) S2x2048x128 .f32)])
    ((st0_10 t).view.writes (Elt F) (st0_10 t).view.junk [(⟨Rect.unit (s := S2x2048x128) ![0, 0, 0] S2x2048x128.size inb_S2x2048x128_S2x2048x128_0_0_0, k0_pay3 (F := F)⟩ : View.Piece (Elt F) S2x2048x128 .f32)]) k

/-- How many blocks there are, in the words the loop counts with. -/
abbrev nblk : ℕ := Scf.trips k0_t1_loop.lb k0_t1_loop.ub k0_t1_loop.st

/-- dq, as point `t` leaves it. -/
def out8 (c : Dev nD) (t : Fin cfg0.N) : S2x2048x128.Idx → Elt F .f32 :=
  (st0_8 t).view.read (Elt F) ((st0_8 t).view.writes (Elt F) (st0_8 t).view.junk (ptSt m c t nblk).2.1)
/-- dk, as point `t` leaves it. -/
def out9 (c : Dev nD) (t : Fin cfg0.N) : S2x2048x128.Idx → Elt F .f32 :=
  (st0_9 t).view.read (Elt F) ((st0_9 t).view.writes (Elt F) (st0_9 t).view.junk ((ptSt m c t nblk).2.2.1 ++ [(⟨Rect.unit (s := S2x2048x128) ![0, 0, 0] S2x2048x128.size inb_S2x2048x128_S2x2048x128_0_0_0, k0_pay2 (F := F)⟩ : View.Piece (Elt F) S2x2048x128 .f32)]))
/-- dv, as point `t` leaves it. -/
def out10 (c : Dev nD) (t : Fin cfg0.N) : S2x2048x128.Idx → Elt F .f32 :=
  (st0_10 t).view.read (Elt F) ((st0_10 t).view.writes (Elt F) (st0_10 t).view.junk ((ptSt m c t nblk).2.2.2 ++ [(⟨Rect.unit (s := S2x2048x128) ![0, 0, 0] S2x2048x128.size inb_S2x2048x128_S2x2048x128_0_0_0, k0_pay3 (F := F)⟩ : View.Piece (Elt F) S2x2048x128 .f32)]))
/-- The gain's gradient after the point numbered `n`: stored at the first pair of sequences of a head pair, added to at the second. -/
def gainSum (c : Dev nD) : (n : ℕ) → n < cfg0.N → FVec F S1x128 .f32
  | 0, h => (ptSt m c ⟨0, h⟩ nblk).1
  | n + 1, h => if (n + 1) % 2 = 0 then (ptSt m c ⟨n + 1, h⟩ nblk).1
      else k0_pay8 (ptSt m c ⟨n + 1, h⟩ nblk).1 (gainSum c n (Nat.lt_of_succ_lt h))

/-! ## The body writes every element of dq -/

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 : BitVec 32) (arg1 : BitVec 32) (v0 : Vec F S1x128 .f32)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty)
  (hX : ∀ y, arg9.view.read (Elt F) X9 y = (0#32 : BitVec 32))

/-- A block's trip stores into dq exactly the two sequences' rows of that block. -/
theorem trip1_dq (k : Fin k0_t1_loop.trips) (acc : FVec F S1x128 .f32) (f11 : BufTy.Contents (Elt F) arg11.view.ty) (f12 : BufTy.Contents (Elt F) arg12.view.ty) :
    ∃ p q, (trip1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.1 acc f11 f12
      = [⟨Rect.unit (s := S2x2048x128) (k0_off9 k) S1x256x128.size (k0_off9_inb k), p⟩,
         ⟨Rect.unit (s := S2x2048x128) (k0_off8 k) S1x256x128.size (k0_off8_inb k), q⟩] := by
  unfold trip1
  exact ⟨_, _, rfl⟩

/-- Every piece of block `k`'s trip is among the pieces of a later state. -/
theorem st1_dq_mem (G11 : BufTy.Contents (Elt F) arg11.view.ty) (G12 : BufTy.Contents (Elt F) arg12.view.ty) (init : FVec F S1x128 .f32) (n : ℕ) (hnt : n ≤ k0_t1_loop.trips) :
    ∀ (k : Fin k0_t1_loop.trips), k.val < n → ∃ p q,
      (⟨Rect.unit (s := S2x2048x128) (k0_off9 k) S1x256x128.size (k0_off9_inb k), p⟩ : View.Piece (Elt F) S2x2048x128 .f32)
        ∈ (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.1
      ∧ (⟨Rect.unit (s := S2x2048x128) (k0_off8 k) S1x256x128.size (k0_off8_inb k), q⟩ : View.Piece (Elt F) S2x2048x128 .f32)
        ∈ (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.1 := by
  induction n with
  | zero => intro k hk; exact absurd hk (Nat.not_lt_zero _)
  | succ n ih =>
    intro k hk
    have hn : n < k0_t1_loop.trips := hnt
    · have hs := st1_succ c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init ⟨n, hn⟩
      dsimp only at hs
      rw [hs]
      rcases Nat.lt_succ_iff_lt_or_eq.mp hk with h | h
      · obtain ⟨p, q, hp, hq⟩ := ih (Nat.le_of_succ_le hnt) k h
        exact ⟨p, q, List.mem_append_right _ hp, List.mem_append_right _ hq⟩
      · obtain rfl : k = ⟨n, hn⟩ := Fin.ext h
        obtain ⟨p, q, e⟩ := trip1_dq c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX ⟨n, hn⟩ (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).1
          (arg11.view.writes (Elt F) G11 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.2.1) (arg12.view.writes (Elt F) G12 (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.2.2)
        refine ⟨p, q, List.mem_append_left _ ?_, List.mem_append_left _ ?_⟩ <;> rw [e] <;> simp

theorem off8_eq : ∀ k : Fin k0_t1_loop.trips, k0_off8 k = ![0, 256 * k.val, 0] := by decide +kernel
theorem off9_eq : ∀ k : Fin k0_t1_loop.trips, k0_off9 k = ![1, 256 * k.val, 0] := by decide +kernel
theorem trips1 : k0_t1_loop.trips = 8 := by decide +kernel

/-- The eight blocks of the two sequences tile dq. -/
theorem cover_dq (G11 : BufTy.Contents (Elt F) arg11.view.ty) (G12 : BufTy.Contents (Elt F) arg12.view.ty) (init : FVec F S1x128 .f32) (y : S2x2048x128.Idx) :
    ∃ pc ∈ (st1 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init nblk).2.1, y ∈ pc.1.set := by
  have h0 : (y 0).val < 2 := (y 0).isLt
  have h1 : (y 1).val < 2048 := (y 1).isLt
  have h2 : (y 2).val < 128 := (y 2).isLt
  have hk : (y 1).val / 256 < k0_t1_loop.trips := by rw [trips1]; omega
  obtain ⟨p, q, hp, hq⟩ := st1_dq_mem c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init nblk (Nat.le_refl _) ⟨(y 1).val / 256, hk⟩ hk
  by_cases e : (y 0).val = 0
  · refine ⟨_, hq, ?_⟩
    rw [Rect.mem_set_unit]
    intro a
    rw [off8_eq]
    fin_cases a <;> simp [S1x256x128] <;> omega
  · refine ⟨_, hp, ?_⟩
    rw [Rect.mem_set_unit]
    intro a
    rw [off9_eq]
    fin_cases a <;> simp [S1x256x128] <;> omega
end

/-! ## The proof data -/

/-- What the pipeline holds around the body: each input its block, each result what the point leaves in it. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => out8 m c t
    | 9 => out9 m c t
    | 10 => out10 m c t
    | 11 => gainSum m c t.val t.isLt
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = gainSum m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond2_iff : ∀ t : Fin cfg0.N, k0_cond2 (grid0.coords t) = 1#1 ↔ ¬ t.val % 2 = 0 :=
  (by decide +kernel : ∀ t : Fin grid0.N, k0_cond2 (grid0.coords t) = 1#1 ↔ ¬ t.val % 2 = 0)

/-- At the second pair of sequences the gain's gradient is what the first left. -/
theorem before0_11 (c : Dev nD) (t : Fin cfg0.N) (h : ¬ t.val % 2 = 0) (d) :
    (dats m 0 c).before 11 t d = gainSum m c (t.val - 1) (Nat.lt_of_le_of_lt (Nat.sub_le _ _) t.isLt) := by
  rw [(dats m 0 c).before_out_kept 11 rfl t (by omega) ?_ (by decide +kernel) (fun _ _ => rfl) d]
  · dsimp only [dats]
  · rw [Bool.eq_false_iff, ne_eq, flush0_11]
    have := t.isLt
    show ¬ (t.val - 1) % 2 = 1
    omega

/-- The sum after a point at a first pair of sequences. -/
theorem gainSum_even (c : Dev nD) (t : Fin cfg0.N) (h : t.val % 2 = 0) : gainSum m c t.val t.isLt = (ptSt m c t nblk).1 := by
  obtain ⟨n, hn⟩ := t
  cases n with
  | zero => rfl
  | succ n => exact if_pos h

/-- The sum after a point at a second pair of sequences. -/
theorem gainSum_odd (c : Dev nD) (t : Fin cfg0.N) (h : ¬ t.val % 2 = 0) : gainSum m c t.val t.isLt
    = k0_pay8 (ptSt m c t nblk).1 (gainSum m c (t.val - 1) (Nat.lt_of_le_of_lt (Nat.sub_le _ _) t.isLt)) := by
  obtain ⟨n, hn⟩ := t
  cases n with
  | zero => exact absurd rfl h
  | succ n => exact if_neg h

/-- A store over a whole S1x128 array reads back what was stored. -/
theorem read_row {sp : Space} (M : Memref sig .tc sp S1x128 .f32) (f : BufTy.Contents (Elt F) M.view.ty) (x : FVec F S1x128 .f32) :
    M.view.read (Elt F) (M.view.writes (Elt F) f [(⟨Rect.unit (s := S1x128) ![0, 0] S1x128.size inb_S1x128_S1x128_0_0, x⟩ : View.Piece (Elt F) S1x128 .f32)]) = x := by
  funext y
  refine View.read_writes_cons_hit_of_coords M.view f (Rect.unit (s := S1x128) ![0, 0] S1x128.size inb_S1x128_S1x128_0_0) x [] y y ?_
  intro a
  fin_cases a <;> simp [Rect.unit]

/-- A load of a whole S1x128 array reads what it holds. -/
theorem load_row {sp : Space} (M : Memref sig .tc sp S1x128 .f32) (f : BufTy.Contents (Elt F) M.view.ty) :
    View.readAt (Elt F) M.view (Rect.unit (s := S1x128) ![0, 0] S1x128.size inb_S1x128_S1x128_0_0).toLoadRect f = M.view.read (Elt F) f := by
  funext y
  rw [View.readAt_apply]
  congr 1
  funext a
  have h0 : (y 0).val < 1 := (y 0).isLt
  fin_cases a <;> exact Fin.ext (by simp [Rect.toLoadRect, Rect.unit, LoadRect.idx] <;> omega)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body keeps what the pipeline holds around it: the two cases of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [after0_0, after0_1, after0_2, after0_3, after0_4, after0_5, after0_6, after0_7, after0_8, after0_9, after0_10, after0_11]
  simp only [before0_0, before0_1, before0_2, before0_3, before0_4, before0_5, before0_6, before0_7]
  unfold Dat.owesAt Pipeline.owesWithin
  rw [show (dats m 0 c).owed t.castSucc = 0 from rfl, show (dats m 0 c).owed t.succ = 0 from rfl]
  by_cases hb : t.val % 2 = 0
  · unfold owns
    iintro ⟨HΦ, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
    obtain rfl := (hst0 t).eq_unread e0
    obtain rfl := (hst1 t).eq_unread e1
    obtain rfl := (hst2 t).eq_unread e2
    obtain rfl := (hst3 t).eq_unread e3
    obtain rfl := (hst4 t).eq_unread e4
    obtain rfl := (hst5 t).eq_unread e5
    obtain rfl := (hst6 t).eq_unread e6
    obtain rfl := (hst7 t).eq_unread e7
    iapply (body_first c (grid0.coords t) ((cond1_iff t).mpr hb) (fun h => (cond2_iff t).mp h hb)
      (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
      (X2 m c t) (X3 m c t) (X4 m c t) (X5 m c t) (X6 m c t) (X7 m c t) (X8 m c t) (X9 m c t) (table_zero m c t) f8 f9 f10 f11 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [HW]
    · iexists W; isplitr; · ipureintro; exact fun _ _ => Or.inl trivial
      iexact HW
    isplitl [H0]
    · iexists _; isplitr
      swap; · iexact H0
      ipureintro; exact (hst0 t).read_unread _
    isplitl [H1]
    · iexists _; isplitr
      swap; · iexact H1
      ipureintro; exact (hst1 t).read_unread _
    isplitl [H2]
    · iexists _; isplitr
      swap; · iexact H2
      ipureintro; exact (hst2 t).read_unread _
    isplitl [H3]
    · iexists _; isplitr
      swap; · iexact H3
      ipureintro; exact (hst3 t).read_unread _
    isplitl [H4]
    · iexists _; isplitr
      swap; · iexact H4
      ipureintro; exact (hst4 t).read_unread _
    isplitl [H5]
    · iexists _; isplitr
      swap; · iexact H5
      ipureintro; exact (hst5 t).read_unread _
    isplitl [H6]
    · iexists _; isplitr
      swap; · iexact H6
      ipureintro; exact (hst6 t).read_unread _
    isplitl [H7]
    · iexists _; isplitr
      swap; · iexact H7
      ipureintro; exact (hst7 t).read_unread _
    isplitl [H8]
    · iexists _; isplitr
      swap; · iexact H8
      ipureintro; exact View.read_writes_of_cover _ _ _ _ _ (cover_dq _ _ _ _ _ _ _ _ _ _ _ _ _ _ _ _ _ _ _ _ _ _ _ _ _ _ _ _ _ _ _ _ _ _ _ _ _ _ _ _)
    isplitl [H9]
    · iexists _; isplitr
      swap; · iexact H9
      ipureintro; exact rfl
    isplitl [H10]
    · iexists _; isplitr
      swap; · iexact H10
      ipureintro; exact rfl
    iexists _; isplitr
    swap; · iexact H11
    ipureintro
    rw [read_row, gainSum_even m c t hb]
  · simp only [before0_11 m c t hb]
    unfold owns
    iintro ⟨HΦ, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
    obtain rfl := (hst0 t).eq_unread e0
    obtain rfl := (hst1 t).eq_unread e1
    obtain rfl := (hst2 t).eq_unread e2
    obtain rfl := (hst3 t).eq_unread e3
    obtain rfl := (hst4 t).eq_unread e4
    obtain rfl := (hst5 t).eq_unread e5
    obtain rfl := (hst6 t).eq_unread e6
    obtain rfl := (hst7 t).eq_unread e7
    iapply (body_later c (grid0.coords t) (fun h => hb ((cond1_iff t).mp h)) ((cond2_iff t).mpr hb)
      (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
      (X2 m c t) (X3 m c t) (X4 m c t) (X5 m c t) (X6 m c t) (X7 m c t) (X8 m c t) (X9 m c t) (table_zero m c t) f8 f9 f10 f11 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [HW]
    · iexists W; isplitr; · ipureintro; exact fun _ _ => Or.inl trivial
      iexact HW
    isplitl [H0]
    · iexists _; isplitr
      swap; · iexact H0
      ipureintro; exact (hst0 t).read_unread _
    isplitl [H1]
    · iexists _; isplitr
      swap; · iexact H1
      ipureintro; exact (hst1 t).read_unread _
    isplitl [H2]
    · iexists _; isplitr
      swap; · iexact H2
      ipureintro; exact (hst2 t).read_unread _
    isplitl [H3]
    · iexists _; isplitr
      swap; · iexact H3
      ipureintro; exact (hst3 t).read_unread _
    isplitl [H4]
    · iexists _; isplitr
      swap; · iexact H4
      ipureintro; exact (hst4 t).read_unread _
    isplitl [H5]
    · iexists _; isplitr
      swap; · iexact H5
      ipureintro; exact (hst5 t).read_unread _
    isplitl [H6]
    · iexists _; isplitr
      swap; · iexact H6
      ipureintro; exact (hst6 t).read_unread _
    isplitl [H7]
    · iexists _; isplitr
      swap; · iexact H7
      ipureintro; exact (hst7 t).read_unread _
    isplitl [H8]
    · iexists _; isplitr
      swap; · iexact H8
      ipureintro; exact View.read_writes_of_cover _ _ _ _ _ (cover_dq _ _ _ _ _ _ _ _ _ _ _ _ _ _ _ _ _ _ _ _ _ _ _ _ _ _ _ _ _ _ _ _ _ _ _ _ _ _ _ _)
    isplitl [H9]
    · iexists _; isplitr
      swap; · iexact H9
      ipureintro; exact rfl
    isplitl [H10]
    · iexists _; isplitr
      swap; · iexact H10
      ipureintro; exact rfl
    iexists _; isplitr
    swap; · iexact H11
    ipureintro
    rw [read_row, gainSum_odd m c t hb, load_row, e11]

theorem defs₀_row (t : Fin cfg0.N) :
    defs₀ (F := F) .tc cfg0.body (cfg0.bodyArgs t (cfg0.slots t)) = bodyAt0 t := by
  unfold defs₀; rw [Defs.onTc_tc]

theorem idle11 : ∀ t : Fin cfg0.N, cfg0.idle 11 (cfg0.grid.coords t) = false :=
  (by decide +kernel : ∀ t : Fin grid0.N, idle0 11 (grid0.coords t) = false)

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  rw [idle11 t]
  exact .rfl

/-! ## The run -/

set_option backward.isDefEq.respectTransparency.types false in
/-- Every run ends with the arrays the pipeline computes from the proof data, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: every run ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).1 3).trans (((dats m 0 c).arrAt_in 3 rfl _).trans ((A_eq m c 3).trans (V_main_arg0 m c))),
       ((h.1 c).1 0).trans (((dats m 0 c).arrAt_in 0 rfl _).trans ((A_eq m c 0).trans (V_main_arg1 m c))),
       ((h.1 c).1 6).trans (((dats m 0 c).arrAt_in 6 rfl _).trans ((A_eq m c 6).trans (V_main_arg2 m c)))⟩, h.2⟩) (run_main m ρ)

end Cert.KernelIdeal.Hand

end
-- ==== Proof.Kernel.Frame.lean ====
/-
  The kernel's frame, out of the ideal program's: that one's frame is proved for any float values and any reading of
  the named mask constant, and the kernel is that program with the constant read as the printed literal.
-/
module

public import proofs.«01_k».proof.Proof.Gen.Kernel
public import proofs.«01_k».proof.Proof.KernelIdeal.Frame
public import Idealize.ShloMosaic.Lib.Tactic

@[expose] public section

set_option maxRecDepth 65536
set_option maxHeartbeats 0

noncomputable section

namespace Cert.Kernel.Hand

open Cert.Kernel Idealize.ShloMosaic Idealize.ShloMosaic.TcCoe Idealize.SL.Sem

variable {F : FTy → Type} [FloatOps F]

/-- The mask constant read as the literal. -/
@[reducible] def literal : Named F := ⟨fun _ _ {φ} bits => Scalar.ofBits φ bits⟩

/-- The host programs are the same. -/
theorem main_eq : Cert.KernelIdeal.main (F := F) = main (F := F) := by sl_kernel_rfl
/-- The two bodies are the same once the mask constant is read as the literal. -/
theorem kernels_eq : @Cert.KernelIdeal.defs₀ F _ literal _ = defs₀ (F := F) := by
  sl_kernel_rfl
/-- And so are the tables of the launches. -/
theorem defs_eq : @Cert.KernelIdeal.defs F _ literal _ = defs (F := F) :=
  congrArg (Pipeline.defs pcfgs) kernels_eq

variable (m : (ℓ : Loc nD τ sig) → Buf (Elt F) ℓ) (ρ : Dev nD → PrngReg)

/-- The frame: every run ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [← defs_eq, ← main_eq]
  exact @Cert.KernelIdeal.Hand.frame F _ literal m ρ

end Cert.Kernel.Hand

end
-- ==== Proof.KernelIdeal.Tile.lean ====
/- What one tile of the attention's gradient computes, operation by operation: 256 queries against 256 keys, for one sequence
   and one head of the pair. The printed program writes these operations out four times per tile; here each has one name. -/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F] [Named F]

/-! ## The vectors' names -/

abbrev VA (F : FTy → Type) := FVec F S256x128 .f32
abbrev VB (F : FTy → Type) := FVec F S256x256 .f32
abbrev V1 (F : FTy → Type) := FVec F S256x1 .f32

/-- A tile of zeros. -/
def zB : VB F := broadcast S256x256 (Scalar.ofBits .f32 0x00000000#32 : F .f32)
def zA : VA F := broadcast S256x128 (Scalar.ofBits .f32 0x00000000#32 : F .f32)

/-! ## Products -/

/-- Rows against rows: `x yᵀ`, both of 128 lanes. -/
def tNT (x y : VA F) : VB F :=
  matmul dot_S256x128_S256x128_S256x256_1_1_0_0_n_n none (truncf .bf16 x bitsLt_bf16_f32) (truncf .bf16 y bitsLt_bf16_f32)
    (constant S256x256 .f32 0x00000000#32)

/-- A tile of weights times its keys. -/
def tNN (x : VB F) (y : VA F) : VA F :=
  matmul dot_S256x256_S256x128_S256x128_1_0_0_1_n_n none (truncf .bf16 x bitsLt_bf16_f32) (truncf .bf16 y bitsLt_bf16_f32)
    (constant S256x128 .f32 0x00000000#32)

/-- A tile of weights, transposed, times its queries. -/
def tTN (x : VB F) (y : VA F) : VA F :=
  matmul dot_S256x256_S256x128_S256x128_0_0_1_1_n_n none (truncf .bf16 x bitsLt_bf16_f32) (truncf .bf16 y bitsLt_bf16_f32)
    (constant S256x128 .f32 0x00000000#32)

/-! ## Lanes of the two heads -/

/-- Which lanes belong to the first head of the pair. -/
def tLo : IVec S256x128 1 :=
  broadcastTo S256x128 (shapeCast S1x128 (k0_pay1) shapeCasts_S1x128_S1x128) broadcasts_S1x128_S256x128

/-- The first head's lanes of a block, the second head's set to zero. -/
def tL (x : VA F) : VA F := select tLo x zA
/-- The second head's lanes of a block, the first head's set to zero. -/
def tH (x : VA F) : VA F := select tLo zA x

/-! ## A tile's steps -/

/-- `−max(z, 0) − log (1 + exp (−|z|))`: the log of the share a query does not give to a key. -/
def tLK (z : VB F) : VB F :=
  subf (subf zB (maximumf z zB))
    (log (addf (broadcast S256x256 (Scalar.ofBits .f32 0x3F800000#32 : F .f32)) (exp (subf zB (absf z)))))

/-- The row sums of a tile. -/
def tSum (x : VB F) : V1 F :=
  shapeCast S256x1 (multiReduction .add [1] S256 x 0x00000000#32 reduces_S256x256_S256 (.inl rfl) rfl) shapeCasts_S256_S256x1

/-- In each row the sum of the entries from a column on: a product with the triangle, in two parts. -/
def tTail (x : VB F) : VB F :=
  addf
    (matmul dot_S256x256_S256x256_S256x256_1_0_0_1_n_n none (truncf .bf16 x bitsLt_bf16_f32)
      (truncf .bf16 (k0_pay14 : VB F) bitsLt_bf16_f32) (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32)
      (truncf .bf16 (k0_pay14 : VB F) bitsLt_bf16_f32) (constant S256x256 .f32 0x00000000#32))

/-- The log of the attention weight: the score, the tile's tail, and what the keys after the tile keep. -/
def tLogA (z lk : VB F) (rem : V1 F) : VB F :=
  addf (addf z (tTail lk))
    (broadcastTo S256x256 (addf (subf rem (tSum lk)) (k0_pay159 : V1 F)) broadcasts_S256x1_S256x256)

/-- In each row the sum of the entries up to a column, and the row's carry. -/
def tG (d : VB F) (g : V1 F) : VB F :=
  addf
    (matmul dot_S256x256_S256x256_S256x256_1_1_0_0_n_n none (truncf .bf16 d bitsLt_bf16_f32)
      (truncf .bf16 (k0_pay14 : VB F) bitsLt_bf16_f32) (constant S256x256 .f32 0x00000000#32))
    (broadcastTo S256x256
      (shapeCast S256x1 (multiReduction .add [1] S256 g 0x00000000#32 reduces_S256x1_S256 (.inl rfl) rfl) shapeCasts_S256_S256x1)
      broadcasts_S256x1_S256x256)

/-- The gradient of the score. -/
def tDz (z lk d g : VB F) : VB F := addf d (mulf (subf zB g) (exp (addf z lk)))

/-! ## Below the diagonal tile -/

/-- The attention weights of a tile before the diagonal. -/
def fAtt (q k : VA F) (rem : V1 F) : VB F := exp (tLogA (tNT q k) (tLK (tNT q k)) rem)
/-- The gradient of the log weights. -/
def fDl (q k v d : VA F) (rem : V1 F) : VB F := mulf (tNT d v) (fAtt q k rem)
/-- The gradient of the scores. -/
def fDz (q k v d : VA F) (rem g : V1 F) : VB F :=
  tDz (tNT q k) (tLK (tNT q k)) (fDl q k v d rem) (tG (fDl q k v d rem) g)

/-! ## The diagonal tile -/

/-- Keep the entries strictly below the diagonal. -/
def tBelow (x : VB F) : VB F := select k0_pay215 x zB

/-- The attention weights of the diagonal tile. -/
def dAtt (q k : VA F) (rem : V1 F) : VB F :=
  exp (select k0_pay215 (tLogA (tNT q k) (tBelow (tLK (tNT q k))) rem)
    (broadcast S256x256 (Named.named κ "mask" 0xF149F2CA#32 : F .f32)))
def dDl (q k v d : VA F) (rem : V1 F) : VB F := tBelow (mulf (tNT d v) (dAtt q k rem))
def dDz (q k v d : VA F) (rem g : V1 F) : VB F :=
  tDz (tNT q k) (tLK (tNT q k)) (dDl q k v d rem) (tBelow (tG (dDl q k v d rem) g))

/-! ## Both heads of a pair -/

/-- A tile's part of the query gradient, each head's in its own lanes. -/
def fDq (ql qh k v d : VA F) (rl rh gl gh : V1 F) : VA F :=
  select tLo (tNN (fDz ql k v (tL d) rl gl) k) (tNN (fDz qh k v (tH d) rh gh) k)
/-- A tile's part of the key gradient. -/
def fDk (ql qh k v d : VA F) (rl rh gl gh : V1 F) : VA F :=
  addf (tTN (fDz qh k v (tH d) rh gh) qh) (tTN (fDz ql k v (tL d) rl gl) ql)
/-- A tile's part of the value gradient. -/
def fDv (ql qh k d : VA F) (rl rh : V1 F) : VA F :=
  addf (tTN (fAtt qh k rh) (tH d)) (tTN (fAtt ql k rl) (tL d))
/-- What the keys after a tile keep. -/
def fRem (q k : VA F) (r : V1 F) : V1 F := subf r (tSum (tLK (tNT q k)))
/-- The row's carry after a tile. -/
def fCar (q k v d : VA F) (r g : V1 F) : V1 F := addf g (tSum (fDl q k v d r))

def dDq (ql qh k v d : VA F) (rl rh gl gh : V1 F) : VA F :=
  select tLo (tNN (dDz ql k v (tL d) rl gl) k) (tNN (dDz qh k v (tH d) rh gh) k)
def dDk (ql qh k v d : VA F) (rl rh gl gh : V1 F) : VA F :=
  addf (tTN (dDz qh k v (tH d) rh gh) qh) (tTN (dDz ql k v (tL d) rl gl) ql)
def dDv (ql qh k d : VA F) (rl rh : V1 F) : VA F :=
  addf (tTN (dAtt qh k rh) (tH d)) (tTN (dAtt ql k rl) (tL d))

/-! ## Blocks of an array -/

/-- A loaded block without its leading axis. -/
def tIn (x : Vec F S1x256x128 .f32) : VA F := shapeCast S256x128 x shapeCasts_S1x256x128_S256x128
/-- A block with a leading axis, as it is stored. -/
def tOut (x : VA F) : FVec F S1x256x128 .f32 := shapeCast S1x256x128 x shapeCasts_S256x128_S1x256x128

end Cert.KernelIdeal.Hand

end
-- ==== Proof.KernelIdeal.TileReal.lean ====
/- The tile's operations over the reals: each takes vectors of real numbers to the real formula it names. -/
module

public import proofs.«01_k».proof.Proof.KernelIdeal.Tile
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.SL.Sem
open Finset (range)

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the entries of a row, as a sum over their numbers. -/
theorem coe_sum_fin {n : ℕ} (f : ℕ → ℝ) : (∑ i : Fin n, ((f i.val : ℝ) : EReal)) = ((∑ i ∈ range n, f i : ℝ) : EReal) := by
  rw [Finset.sum_range, coe_sum]

/-! ## Real vectors -/

def ca (f : ℕ → ℕ → ℝ) : FVec Ideal S256x128 .f32 := fun x => ((f (x 0).val (x 1).val : ℝ) : EReal)
def cb (f : ℕ → ℕ → ℝ) : FVec Ideal S256x256 .f32 := fun x => ((f (x 0).val (x 1).val : ℝ) : EReal)
def c1 (f : ℕ → ℝ) : FVec Ideal S256x1 .f32 := fun x => ((f (x 0).val : ℝ) : EReal)

theorem ca_apply (f : ℕ → ℕ → ℝ) (i : Fin 256) (j : Fin 128) : ca f (ix2 i j) = ((f i.val j.val : ℝ) : EReal) := rfl
theorem cb_apply (f : ℕ → ℕ → ℝ) (i : Fin 256) (j : Fin 256) : cb f (ix2 i j) = ((f i.val j.val : ℝ) : EReal) := rfl
theorem c1_apply (f : ℕ → ℝ) (i : Fin 256) (j : Fin 1) : c1 f (ix2 i j) = ((f i.val : ℝ) : EReal) := rfl

theorem ca_congr {f g : ℕ → ℕ → ℝ} (h : ∀ r < 256, ∀ l < 128, f r l = g r l) : ca f = ca g :=
  funext fun x => congrArg _ (h _ (x 0).isLt _ (x 1).isLt)
theorem cb_congr {f g : ℕ → ℕ → ℝ} (h : ∀ r < 256, ∀ l < 256, f r l = g r l) : cb f = cb g :=
  funext fun x => congrArg _ (h _ (x 0).isLt _ (x 1).isLt)
theorem c1_congr {f g : ℕ → ℝ} (h : ∀ r < 256, f r = g r) : c1 f = c1 g :=
  funext fun x => congrArg _ (h _ (x 0).isLt)

/-- The log of the share not given: `−max(z, 0) − log (1 + exp (−|z|))`. -/
def lkf (z : ℝ) : ℝ := - max z 0 - Real.log (1 + Real.exp (-|z|))

/-- A choice by a decided bit. -/
theorem sel_bool {α : Type} (p : Prop) [Decidable p] (a b : α) : Scalar.select (BitVec.ofBool (decide p)) a b = if p then a else b := by
  by_cases h : p <;> simp [Scalar.select, h]

theorem coe_max (a b : ℝ) : max (a : EReal) (b : EReal) = ((max a b : ℝ) : EReal) :=
  (EReal.coe_strictMono.monotone.map_max (a := a) (b := b)).symm

theorem absf_coe (a : ℝ) : (FloatOps.absf (F := Ideal) (φ := .f32) (a : EReal) : EReal) = ((|a| : ℝ) : EReal) := by
  show max (a : EReal) (-(a : EReal)) = _
  rw [← EReal.coe_neg, coe_max, abs_eq_max_neg]

/-- The log of the share not given, in the kernel's operations. -/
theorem lkf_coe (z : ℝ) :
    (0 : EReal) - max (z : EReal) 0 - Ideal.log (1 + Ideal.exp (0 - FloatOps.absf (F := Ideal) (φ := .f32) (z : EReal))) = ((lkf z : ℝ) : EReal) := by
  rw [absf_coe]
  have h0 : (0 : EReal) = ((0 : ℝ) : EReal) := rfl
  have h1 : (1 : EReal) = ((1 : ℝ) : EReal) := rfl
  have hp : ¬ (1 + Real.exp (0 - |z|) ≤ 0) := by have := Real.exp_pos (0 - |z|); linarith
  rw [h0, h1, ← EReal.coe_sub, Ideal.exp_coe, ← EReal.coe_add, Ideal.log_coe, if_neg hp, coe_max, ← EReal.coe_sub, ← EReal.coe_sub]
  congr 1
  simp [lkf]

/-! ## Products -/

theorem tNT_co (q k : ℕ → ℕ → ℝ) : tNT (ca q) (ca k) = cb fun r c => ∑ l ∈ range 128, q r l * k c l := by
  funext x
  idx_vars x
  pointwise [tNT]
  simp only [ca_apply, cb_apply, ← EReal.coe_mul]
  exact coe_sum_fin fun l => q _ l * k _ l

theorem tNN_co (p k : ℕ → ℕ → ℝ) : tNN (cb p) (ca k) = ca fun r l => ∑ c ∈ range 256, p r c * k c l := by
  funext x
  idx_vars x
  pointwise [tNN]
  simp only [ca_apply, cb_apply, ← EReal.coe_mul]
  exact coe_sum_fin fun c => p _ c * k c _

theorem tTN_co (p q : ℕ → ℕ → ℝ) : tTN (cb p) (ca q) = ca fun c l => ∑ r ∈ range 256, p r c * q r l := by
  funext x
  idx_vars x
  pointwise [tTN]
  simp only [ca_apply, cb_apply, ← EReal.coe_mul]
  exact coe_sum_fin fun c => p c _ * q c _

theorem tLK_co (z : ℕ → ℕ → ℝ) : tLK (cb z) = cb fun r c => lkf (z r c) := by
  funext x
  idx_vars x
  pointwise [tLK, zB]
  simp only [cb_apply]
  exact lkf_coe _

theorem tSum_co (x : ℕ → ℕ → ℝ) : tSum (cb x) = c1 fun r => ∑ c ∈ range 256, x r c := by
  funext y
  idx_vars y
  pointwise [tSum]
  simp only [cb_apply, c1_apply]
  exact coe_sum_fin fun c => x _ c

theorem tri_co : (k0_pay14 : FVec Ideal S256x256 .f32) = cb fun r c => if c ≤ r then 1 else 0 := by
  funext y
  idx_vars y
  pointwise [k0_pay14]
  rw [WordCmp.cmpi_sge_ofNat (by omega) (by omega), cb_apply]
  show (((BitVec.setWidth 32 (BitVec.ofBool (decide (y1.val ≤ y0.val)))).toInt : ℝ) : EReal) = _
  by_cases h : y1.val ≤ y0.val <;> simp [h]

theorem below_co (x y : FVec Ideal S256x256 .f32) (a b : Fin 256) :
   select k0_pay215 x y (ix2 a b) = if b.val < a.val then x (ix2 a b) else y (ix2 a b) := by
  pointwise [k0_pay215]
  rw [WordCmp.cmpi_sgt_ofNat (by omega) (by omega), sel_bool]

theorem lo_co (x y : FVec Ideal S256x128 .f32) (a : Fin 256) (b : Fin 128) :
   select tLo x y (ix2 a b) = if b.val < 64 then x (ix2 a b) else y (ix2 a b) := by
  pointwise [tLo, k0_pay1]
  rw [WordCmp.cmpi_slt_ofNat (by omega) (by omega), sel_bool]

theorem tG_co (d : ℕ → ℕ → ℝ) (g : ℕ → ℝ) :
   tG (cb d) (c1 g) = cb fun r c => (∑ s ∈ range 256, d r s * if s ≤ c then 1 else 0) + g r := by
  funext y
  idx_vars y
  unfold tG
  rw [tri_co]
  pointwise [tG]
  simp only [cb_apply, c1_apply, ← EReal.coe_mul, Fin.sum_univ_one]
  rw [coe_sum_fin fun s => d _ s * if s ≤ y1.val then 1 else 0, ← EReal.coe_add]

theorem tLogA_co (z lk : ℕ → ℕ → ℝ) (g : ℕ → ℝ) :
   tLogA (cb z) (cb lk) (c1 g) = cb fun r c => z r c + (∑ s ∈ range 256, lk r s * if c ≤ s then 1 else 0) + (g r - ∑ s ∈ range 256, lk r s) := by
  funext y
  idx_vars y
  unfold tLogA tTail
  rw [tSum_co, tri_co]
  pointwise [k0_pay159]
  simp only [cb_apply, c1_apply, ← EReal.coe_mul, ← EReal.coe_sub, sub_self, zero_mul, EReal.coe_zero, Finset.sum_const_zero, add_zero]
  rw [coe_sum_fin fun s => lk _ s * if y1.val ≤ s then 1 else 0, ← EReal.coe_add, ← EReal.coe_add]

theorem tDz_co (z lk d g : ℕ → ℕ → ℝ) :
   tDz (cb z) (cb lk) (cb d) (cb g) = cb fun r c => d r c - g r c * Real.exp (z r c + lk r c) := by
  funext y
  idx_vars y
  pointwise [tDz, zB]
  simp only [cb_apply, c1_apply, ← EReal.coe_mul, ← EReal.coe_add, Ideal.exp_coe, zero_sub, ← EReal.coe_neg]
  congr 1
  ring

/-- A product with the triangle is a sum over the first entries. -/
theorem sum_tri (f : ℕ → ℝ) {c : ℕ} (hc : c < 256) : (∑ s ∈ range 256, f s * if s ≤ c then 1 else 0) = ∑ s ∈ range (c + 1), f s := by
  rw [← Finset.sum_subset (s₁ := range (c + 1)) (s₂ := range 256)]
  · exact Finset.sum_congr rfl fun s hs => by rw [if_pos (by simp at hs; omega), mul_one]
  · intro s hs; simp at hs ⊢; omega
  · intro s _ hs; rw [if_neg (by simp at hs; omega), mul_zero]

/-- A product with the other triangle is what remains of the row's sum. -/
theorem sum_tri' (f : ℕ → ℝ) {c : ℕ} (hc : c < 256) :
    (∑ s ∈ range 256, f s * if c ≤ s then 1 else 0) = (∑ s ∈ range 256, f s) - ∑ s ∈ range c, f s := by
  have h : ∀ s, (f s * if c ≤ s then 1 else 0) = f s - (f s * if s < c then 1 else 0) := fun s => by
    by_cases h : c ≤ s
    · rw [if_pos h, if_neg (by omega)]; ring
    · rw [if_neg h, if_pos (by omega)]; ring
  rw [Finset.sum_congr rfl fun s _ => h s, Finset.sum_sub_distrib]
  congr 1
  rw [← Finset.sum_subset (s₁ := range c) (s₂ := range 256)]
  · exact Finset.sum_congr rfl fun s hs => by rw [if_pos (by simpa using hs), mul_one]
  · intro s hs; simp at hs ⊢; omega
  · intro s _ hs; rw [if_neg (by simpa using hs), mul_zero]

theorem exp_co (x : ℕ → ℕ → ℝ) : exp (cb x) = cb fun r c => Real.exp (x r c) := by
  funext y
  idx_vars y
  pointwise []
  simp only [cb_apply, Ideal.exp_coe]

theorem mul_co (x y : ℕ → ℕ → ℝ) : mulf (cb x) (cb y) = cb fun r c => x r c * y r c := by
  funext i
  idx_vars i
  pointwise []
  simp only [cb_apply, ← EReal.coe_mul]

theorem tBelow_co (x : ℕ → ℕ → ℝ) : tBelow (cb x) = cb fun r c => if c < r then x r c else 0 := by
  funext i
  idx_vars i
  unfold tBelow
  rw [below_co, cb_apply, cb_apply]
  pointwise [zB]
  split_ifs <;> simp

/-- The exponential of a tile with the masked entries sent to `−∞`. -/
theorem expMask_co (x : ℕ → ℕ → ℝ) :
    exp (select k0_pay215 (cb x) (broadcast S256x256 (Named.named κ "mask" 0xF149F2CA#32 : Ideal .f32)))
      = cb fun r c => if c < r then Real.exp (x r c) else 0 := by
  funext i
  idx_vars i
  show FloatOps.exp (select k0_pay215 (cb x) (broadcast S256x256 (Named.named κ "mask" 0xF149F2CA#32 : Ideal .f32)) (ix2 i0 i1)) = _
  rw [below_co, cb_apply, cb_apply]
  split_ifs with h
  · rfl
  · show FloatOps.exp (Named.named κ "mask" 0xF149F2CA#32 : Ideal .f32) = _
    rw [show (Named.named κ "mask" 0xF149F2CA#32 : Ideal .f32) = (⊥ : EReal) from IdealRules.named_const.ideal_named_scalar _ _ _ _ rfl]
    simp

theorem tL_co (x : ℕ → ℕ → ℝ) : tL (ca x) = ca fun r l => if l < 64 then x r l else 0 := by
  funext i
  idx_vars i
  unfold tL
  rw [lo_co, ca_apply, ca_apply]
  pointwise [zA]
  split_ifs <;> simp

theorem tH_co (x : ℕ → ℕ → ℝ) : tH (ca x) = ca fun r l => if l < 64 then 0 else x r l := by
  funext i
  idx_vars i
  unfold tH
  rw [lo_co, ca_apply, ca_apply]
  pointwise [zA]
  split_ifs <;> simp

theorem addA_co (x y : ℕ → ℕ → ℝ) : addf (ca x) (ca y) = ca fun r l => x r l + y r l := by
  funext i
  idx_vars i
  pointwise []
  simp only [ca_apply, ← EReal.coe_add]

theorem selA_co (x y : ℕ → ℕ → ℝ) : select tLo (ca x) (ca y) = ca fun r l => if l < 64 then x r l else y r l := by
  funext i
  idx_vars i
  rw [lo_co, ca_apply, ca_apply, ca_apply]
  split_ifs <;> rfl

theorem sub1_co (x y : ℕ → ℝ) : subf (c1 x) (c1 y) = c1 fun r => x r - y r := by
  funext i
  idx_vars i
  pointwise []
  simp only [c1_apply, ← EReal.coe_sub]

theorem add1_co (x y : ℕ → ℝ) : addf (c1 x) (c1 y) = c1 fun r => x r + y r := by
  funext i
  idx_vars i
  pointwise []
  simp only [c1_apply, ← EReal.coe_add]

end Cert.KernelIdeal.Hand

end
-- ==== Proof.KernelIdeal.TileSum.lean ====
/- The tiles as parts of sums over keys: with the scores and products of a query block against a key block, what the keys after
   the tile keep and the row's carry, a tile is a block of one function of query and key. -/
module

public import proofs.«01_k».proof.Proof.KernelIdeal.TileReal

@[expose] public section

set_option maxRecDepth 16384

noncomputable section

namespace Cert.KernelIdeal.Hand

open Cert.KernelIdeal Cert.KernelIdeal.Gen
open Idealize.ShloMosaic Idealize.SL.Sem
open Finset (range)

/-! ## The attention's gradient, over the reals -/

/-- Rows against rows. -/
def dotf (q k : ℕ → ℕ → ℝ) (t s : ℕ) : ℝ := ∑ l ∈ range 128, q t l * k s l
/-- The log of the share query `t` does not give to key `s`; no key from `t` on is looked at. -/
def Lf (Z : ℕ → ℕ → ℝ) (t s : ℕ) : ℝ := if s < t then lkf (Z t s) else 0
/-- What the keys from `j` on keep. -/
def Rem (Z : ℕ → ℕ → ℝ) (t j : ℕ) : ℝ := (∑ s ∈ range 2048, Lf Z t s) - ∑ s ∈ range j, Lf Z t s
/-- The attention weight. -/
def At (Z : ℕ → ℕ → ℝ) (t s : ℕ) : ℝ := if s < t then Real.exp (Z t s + Rem Z t s) else 0
/-- The gradient of the log weight. -/
def Dl (Z W : ℕ → ℕ → ℝ) (t s : ℕ) : ℝ := W t s * At Z t s
/-- Its sum over the keys before `j`. -/
def Car (Z W : ℕ → ℕ → ℝ) (t j : ℕ) : ℝ := ∑ s ∈ range j, Dl Z W t s
/-- The gradient of the score. -/
def Dz (Z W : ℕ → ℕ → ℝ) (t s : ℕ) : ℝ :=
  if s < t then Dl Z W t s - Car Z W t (s + 1) * Real.exp (Z t s + lkf (Z t s)) else 0

theorem Rem_add (Z : ℕ → ℕ → ℝ) (t j n : ℕ) : Rem Z t (j + n) = Rem Z t j - ∑ c ∈ range n, Lf Z t (j + c) := by
  unfold Rem; rw [Finset.sum_range_add]; ring

theorem Car_add (Z W : ℕ → ℕ → ℝ) (t j n : ℕ) : Car Z W t (j + n) = Car Z W t j + ∑ c ∈ range n, Dl Z W t (j + c) := by
  unfold Car; rw [Finset.sum_range_add]

theorem Rem_zero (Z : ℕ → ℕ → ℝ) (t : ℕ) : Rem Z t 0 = ∑ s ∈ range 2048, Lf Z t s := by simp [Rem]
theorem Car_zero (Z W : ℕ → ℕ → ℝ) (t : ℕ) : Car Z W t 0 = 0 := by simp [Car]

/-- Rows from `b` on. -/
def rows (f : ℕ → ℕ → ℝ) (b r l : ℕ) : ℝ := f (b + r) l
/-- A tile of a function of query and key. -/
def tile (f : ℕ → ℕ → ℝ) (a b r c : ℕ) : ℝ := f (a + r) (b + c)

theorem tNT_rows (q k : ℕ → ℕ → ℝ) (a b : ℕ) : tNT (ca (rows q a)) (ca (rows k b)) = cb (tile (dotf q k) a b) := by
  rw [tNT_co]; rfl

section
variable (q k v d : ℕ → ℕ → ℝ) (a b : ℕ)

/-! ## Before the diagonal -/

theorem fAtt_sum (h : b + 256 ≤ a) :
    fAtt (ca (rows q a)) (ca (rows k b)) (c1 fun r => Rem (dotf q k) (a + r) b) = cb (tile (At (dotf q k)) a b) := by
  unfold fAtt
  rw [tNT_rows, tLK_co, tLogA_co, exp_co]
  refine cb_congr fun r hr c hc => ?_
  show _ = At (dotf q k) (a + r) (b + c)
  rw [sum_tri' _ hc, At, if_pos (by omega), Rem_add]
  have e : ∀ n, n ≤ 256 → ∑ s ∈ range n, Lf (dotf q k) (a + r) (b + s) = ∑ s ∈ range n, lkf (tile (dotf q k) a b r s) := fun n hn =>
    Finset.sum_congr rfl fun s hs => by rw [Lf, if_pos (by simp at hs; omega)]; rfl
  rw [e c (by omega)]
  congr 1
  unfold tile
  ring

theorem fDl_sum (h : b + 256 ≤ a) :
    fDl (ca (rows q a)) (ca (rows k b)) (ca (rows v b)) (ca (rows d a)) (c1 fun r => Rem (dotf q k) (a + r) b)
      = cb (tile (Dl (dotf q k) (dotf d v)) a b) := by
  unfold fDl
  rw [fAtt_sum q k a b h, tNT_rows, mul_co]; rfl

theorem fDz_sum (h : b + 256 ≤ a) :
    fDz (ca (rows q a)) (ca (rows k b)) (ca (rows v b)) (ca (rows d a)) (c1 fun r => Rem (dotf q k) (a + r) b)
        (c1 fun r => Car (dotf q k) (dotf d v) (a + r) b)
      = cb (tile (Dz (dotf q k) (dotf d v)) a b) := by
  unfold fDz
  rw [fDl_sum q k v d a b h, tNT_rows, tLK_co, tG_co, tDz_co]
  refine cb_congr fun r hr c hc => ?_
  show _ = Dz (dotf q k) (dotf d v) (a + r) (b + c)
  rw [sum_tri _ hc, Dz, if_pos (by omega), add_assoc, Car_add]
  unfold tile
  ring

theorem fRem_sum (h : b + 256 ≤ a) :
    fRem (ca (rows q a)) (ca (rows k b)) (c1 fun r => Rem (dotf q k) (a + r) b) = c1 fun r => Rem (dotf q k) (a + r) (b + 256) := by
  unfold fRem
  rw [tNT_rows, tLK_co, tSum_co, sub1_co]
  refine c1_congr fun r hr => ?_
  rw [Rem_add]
  congr 1
  exact Finset.sum_congr rfl fun s hs => by rw [Lf, if_pos (by simp at hs; omega)]; rfl

theorem fCar_sum (h : b + 256 ≤ a) :
    fCar (ca (rows q a)) (ca (rows k b)) (ca (rows v b)) (ca (rows d a)) (c1 fun r => Rem (dotf q k) (a + r) b)
        (c1 fun r => Car (dotf q k) (dotf d v) (a + r) b)
      = c1 fun r => Car (dotf q k) (dotf d v) (a + r) (b + 256) := by
  unfold fCar
  rw [fDl_sum q k v d a b h, tSum_co, add1_co]
  refine c1_congr fun r hr => ?_
  rw [Car_add]; rfl

/-! ## On the diagonal -/

theorem dAtt_sum :
    dAtt (ca (rows q a)) (ca (rows k a)) (c1 fun r => Rem (dotf q k) (a + r) a) = cb (tile (At (dotf q k)) a a) := by
  unfold dAtt
  rw [tNT_rows, tLK_co, tBelow_co, tLogA_co, expMask_co]
  refine cb_congr fun r hr c hc => ?_
  show _ = At (dotf q k) (a + r) (a + c)
  rw [sum_tri' _ hc, At, Rem_add]
  have e : ∀ n, ∑ s ∈ range n, Lf (dotf q k) (a + r) (a + s) = ∑ s ∈ range n, if s < r then lkf (tile (dotf q k) a a r s) else 0 := fun n =>
    Finset.sum_congr rfl fun s hs => by simp only [Lf, Nat.add_lt_add_iff_left]; rfl
  rw [e c]
  simp only [Nat.add_lt_add_iff_left]
  congr 2
  unfold tile
  ring

theorem dDl_sum :
    dDl (ca (rows q a)) (ca (rows k a)) (ca (rows v a)) (ca (rows d a)) (c1 fun r => Rem (dotf q k) (a + r) a)
      = cb (tile (Dl (dotf q k) (dotf d v)) a a) := by
  unfold dDl
  rw [dAtt_sum q k a, tNT_rows, mul_co, tBelow_co]
  refine cb_congr fun r hr c hc => ?_
  simp only [tile, Dl, At, Nat.add_lt_add_iff_left]
  split_ifs <;> simp

theorem dDz_sum :
    dDz (ca (rows q a)) (ca (rows k a)) (ca (rows v a)) (ca (rows d a)) (c1 fun r => Rem (dotf q k) (a + r) a)
        (c1 fun r => Car (dotf q k) (dotf d v) (a + r) a)
      = cb (tile (Dz (dotf q k) (dotf d v)) a a) := by
  unfold dDz
  rw [dDl_sum q k v d a, tNT_rows, tLK_co, tG_co, tBelow_co, tDz_co]
  refine cb_congr fun r hr c hc => ?_
  rw [sum_tri _ hc]
  simp only [tile, Dz, Nat.add_lt_add_iff_left]
  split_ifs with h
  · rw [add_assoc, Car_add]; ring
  · simp [Dl, At, h]

end

/-! ## Both heads of a pair -/

/-- The first head's lanes, the rest zero; and the second's. -/
def loF (f : ℕ → ℕ → ℝ) (t l : ℕ) : ℝ := if l < 64 then f t l else 0
def hiF (f : ℕ → ℕ → ℝ) (t l : ℕ) : ℝ := if l < 64 then 0 else f t l

/-- What a query and a key add to the query gradient, the key gradient and the value gradient. -/
def pQ (Q K V D : ℕ → ℕ → ℝ) (t s l : ℕ) : ℝ :=
  (if l < 64 then Dz (dotf (loF Q) K) (dotf (loF D) V) t s else Dz (dotf (hiF Q) K) (dotf (hiF D) V) t s) * K s l
def pK (Q K V D : ℕ → ℕ → ℝ) (t s l : ℕ) : ℝ :=
  Dz (dotf (hiF Q) K) (dotf (hiF D) V) t s * hiF Q t l + Dz (dotf (loF Q) K) (dotf (loF D) V) t s * loF Q t l
def pV (Q K D : ℕ → ℕ → ℝ) (t s l : ℕ) : ℝ := At (dotf (hiF Q) K) t s * hiF D t l + At (dotf (loF Q) K) t s * loF D t l

theorem pK_zero (Q K V D : ℕ → ℕ → ℝ) {t s : ℕ} (l : ℕ) (h : t ≤ s) : pK Q K V D t s l = 0 := by
  simp [pK, Dz, Nat.not_lt.mpr h]
theorem pV_zero (Q K D : ℕ → ℕ → ℝ) {t s : ℕ} (l : ℕ) (h : t ≤ s) : pV Q K D t s l = 0 := by
  simp [pV, At, Nat.not_lt.mpr h]
theorem pQ_zero (Q K V D : ℕ → ℕ → ℝ) {t s : ℕ} (l : ℕ) (h : t ≤ s) : pQ Q K V D t s l = 0 := by
  simp [pQ, Dz, Nat.not_lt.mpr h]

theorem tL_rows (f : ℕ → ℕ → ℝ) (a : ℕ) : tL (ca (rows f a)) = ca (rows (loF f) a) := by rw [tL_co]; rfl
theorem tH_rows (f : ℕ → ℕ → ℝ) (a : ℕ) : tH (ca (rows f a)) = ca (rows (hiF f) a) := by rw [tH_co]; rfl

section
variable (Q K V D : ℕ → ℕ → ℝ) (a b : ℕ)

/-- The carries of the two heads' rows before key `b`. -/
abbrev rl : V1 Ideal := c1 fun r => Rem (dotf (loF Q) K) (a + r) b
abbrev rh : V1 Ideal := c1 fun r => Rem (dotf (hiF Q) K) (a + r) b
abbrev gl : V1 Ideal := c1 fun r => Car (dotf (loF Q) K) (dotf (loF D) V) (a + r) b
abbrev gh : V1 Ideal := c1 fun r => Car (dotf (hiF Q) K) (dotf (hiF D) V) (a + r) b

theorem fDq_sum (h : b + 256 ≤ a) :
    fDq (ca (rows (loF Q) a)) (ca (rows (hiF Q) a)) (ca (rows K b)) (ca (rows V b)) (ca (rows D a)) (rl Q K a b) (rh Q K a b) (gl Q K V D a b) (gh Q K V D a b)
      = ca fun r l => ∑ c ∈ range 256, pQ Q K V D (a + r) (b + c) l := by
  unfold fDq
  rw [tL_rows, tH_rows, fDz_sum _ _ _ _ a b h, fDz_sum _ _ _ _ a b h, tNN_co, tNN_co, selA_co]
  refine ca_congr fun r hr l hl => ?_
  unfold pQ
  split_ifs <;> rfl

theorem fDk_sum (h : b + 256 ≤ a) :
    fDk (ca (rows (loF Q) a)) (ca (rows (hiF Q) a)) (ca (rows K b)) (ca (rows V b)) (ca (rows D a)) (rl Q K a b) (rh Q K a b) (gl Q K V D a b) (gh Q K V D a b)
      = ca fun c l => ∑ r ∈ range 256, pK Q K V D (a + r) (b + c) l := by
  unfold fDk
  rw [tL_rows, tH_rows, fDz_sum _ _ _ _ a b h, fDz_sum _ _ _ _ a b h, tTN_co, tTN_co, addA_co]
  refine ca_congr fun r hr l hl => ?_
  rw [← Finset.sum_add_distrib]; rfl

theorem fDv_sum (h : b + 256 ≤ a) :
    fDv (ca (rows (loF Q) a)) (ca (rows (hiF Q) a)) (ca (rows K b)) (ca (rows D a)) (rl Q K a b) (rh Q K a b)
      = ca fun c l => ∑ r ∈ range 256, pV Q K D (a + r) (b + c) l := by
  unfold fDv
  rw [tL_rows, tH_rows, fAtt_sum _ _ a b h, fAtt_sum _ _ a b h, tTN_co, tTN_co, addA_co]
  refine ca_congr fun r hr l hl => ?_
  rw [← Finset.sum_add_distrib]; rfl

theorem dDq_sum :
    dDq (ca (rows (loF Q) a)) (ca (rows (hiF Q) a)) (ca (rows K a)) (ca (rows V a)) (ca (rows D a)) (rl Q K a a) (rh Q K a a) (gl Q K V D a a) (gh Q K V D a a)
      = ca fun r l => ∑ c ∈ range 256, pQ Q K V D (a + r) (a + c) l := by
  unfold dDq
  rw [tL_rows, tH_rows, dDz_sum, dDz_sum, tNN_co, tNN_co, selA_co]
  refine ca_congr fun r hr l hl => ?_
  unfold pQ
  split_ifs <;> rfl

theorem dDk_sum :
    dDk (ca (rows (loF Q) a)) (ca (rows (hiF Q) a)) (ca (rows K a)) (ca (rows V a)) (ca (rows D a)) (rl Q K a a) (rh Q K a a) (gl Q K V D a a) (gh Q K V D a a)
      = ca fun c l => ∑ r ∈ range 256, pK Q K V D (a + r) (a + c) l := by
  unfold dDk
  rw [tL_rows, tH_rows, dDz_sum, dDz_sum, tTN_co, tTN_co, addA_co]
  refine ca_congr fun r hr l hl => ?_
  rw [← Finset.sum_add_distrib]; rfl

theorem dDv_sum :
    dDv (ca (rows (loF Q) a)) (ca (rows (hiF Q) a)) (ca (rows K a)) (ca (rows D a)) (rl Q K a a) (rh Q K a a)
      = ca fun c l => ∑ r ∈ range 256, pV Q K D (a + r) (a + c) l := by
  unfold dDv
  rw [tL_rows, tH_rows, dAtt_sum, dAtt_sum, tTN_co, tTN_co, addA_co]
  refine ca_congr fun r hr l hl => ?_
  rw [← Finset.sum_add_distrib]; rfl

end

end Cert.KernelIdeal.Hand

end
-- ==== Proof.KernelIdeal.Inner.lean ====
/- One trip of the loop over the key blocks before the diagonal, as the tile's named operations: what it carries on, and what it
   stores into the key and value gradients. -/
module

public import proofs.«01_k».proof.Proof.KernelIdeal.Tile
public import proofs.«01_k».proof.Proof.KernelIdeal.Trip

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- A block of 256 rows of an array, loaded at an offset. -/
def ldBlk (arg : Memref sig .tc .vmem S2x2048x128 .f32) (o : Fin 3 → ℕ) (ho : ∀ a, o a + S1x256x128.size a ≤ S2x2048x128.size a)
    (X : BufTy.Contents (Elt F) arg.view.ty) : VA F :=
  tIn (arg.view.readAt (Elt F) (Rect.unit (s := S2x2048x128) o S1x256x128.size ho).toLoadRect X)

section
variable
 (𝒱 : Variants) (c : Dev nD) (bd : Option 𝒱.V) (i : grid0.Coords) (arg2 : Memref sig .tc .vmem S1x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S2x2048x128 .f32) (harg5 : arg5.IsWhole) (arg6 : Memref sig .tc .vmem S2x2048x128 .f32) (harg6 : arg6.IsWhole) (arg7 : Memref sig .tc .vmem S2x2048x128 .f32) (harg7 : arg7.IsWhole) (arg8 : Memref sig .tc .vmem S2x2048x128 .f32) (harg8 : arg8.IsWhole) (arg9 : Memref sig .tc .smem S2x4x8 .i32) (harg9 : arg9.IsWhole) (arg10 : Memref sig .tc .vmem S2x2048x128 .f32) (harg10 : arg10.IsWhole) (arg11 : Memref sig .tc .vmem S2x2048x128 .f32) (harg11 : arg11.IsWhole) (arg12 : Memref sig .tc .vmem S2x2048x128 .f32) (harg12 : arg12.IsWhole) (arg13 : Memref sig .tc .vmem S1x128 .f32) (harg13 : arg13.IsWhole) (arg0 : BitVec 32) (arg1 : BitVec 32) (k0_t1 : Fin k0_t1_loop.trips) (arg14 : BitVec 32) (v18 : BitVec 32) (v31 : FVec F S256x128 .f32) (v35 : FVec F S256x128 .f32) (v99 : FVec F S256x128 .f32) (v100 : FVec F S1x128 .f32) (v109 : FVec F S256x1 .f32) (v115 : FVec F S256x1 .f32) (v127 : FVec F S256x128 .f32) (v131 : FVec F S256x128 .f32) (v134 : FVec F S256x128 .f32) (v166 : FVec F S1x128 .f32) (v191 : FVec F S256x128 .f32) (v193 : FVec F S256x128 .f32) (v216 : Elt F .i32) (k0_hw1 : k0_chk1 k0_t1 v216) (X_arg4 : BufTy.Contents (Elt F) arg4.view.ty) (X_arg5 : BufTy.Contents (Elt F) arg5.view.ty) (k : Fin (k0_t2_loop k0_t1 v216).trips)

/-- What a trip carries on: the query gradients, what the later keys keep, and the rows' carries. -/
theorem trip2_R (a : VA F × VA F × V1 F × V1 F × V1 F × V1 F × V1 F × V1 F × V1 F × V1 F) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay1 k0_t1 arg14 v18 k0_pay159 v31 v35 v99 v100 v109 v115 v127 v131 v134 v166 v191 v193 v216 k0_hw1 X_arg4 X_arg5 k).1 a f11 f12
      = (addf a.1 (fDq v31 v35 (ldBlk arg4 (k0_off4 k0_t1 v216 k) (k0_off4_inb k0_t1 v216 k0_hw1 k) X_arg4) (ldBlk arg5 (k0_off4 k0_t1 v216 k) (k0_off4_inb k0_t1 v216 k0_hw1 k) X_arg5) v99 a.2.2.1 a.2.2.2.2.1 a.2.2.2.2.2.2.1 a.2.2.2.2.2.2.2.2.1),
       addf a.2.1 (fDq v127 v131 (ldBlk arg4 (k0_off5 k0_t1 v216 k) (k0_off5_inb k0_t1 v216 k0_hw1 k) X_arg4) (ldBlk arg5 (k0_off5 k0_t1 v216 k) (k0_off5_inb k0_t1 v216 k0_hw1 k) X_arg5) (k0_pay192 v134 v191 v193) a.2.2.2.1 a.2.2.2.2.2.1 a.2.2.2.2.2.2.2.1 a.2.2.2.2.2.2.2.2.2),
       fRem v31 (ldBlk arg4 (k0_off4 k0_t1 v216 k) (k0_off4_inb k0_t1 v216 k0_hw1 k) X_arg4) a.2.2.1, fRem v127 (ldBlk arg4 (k0_off5 k0_t1 v216 k) (k0_off5_inb k0_t1 v216 k0_hw1 k) X_arg4) a.2.2.2.1, fRem v35 (ldBlk arg4 (k0_off4 k0_t1 v216 k) (k0_off4_inb k0_t1 v216 k0_hw1 k) X_arg4) a.2.2.2.2.1, fRem v131 (ldBlk arg4 (k0_off5 k0_t1 v216 k) (k0_off5_inb k0_t1 v216 k0_hw1 k) X_arg4) a.2.2.2.2.2.1,
       fCar v31 (ldBlk arg4 (k0_off4 k0_t1 v216 k) (k0_off4_inb k0_t1 v216 k0_hw1 k) X_arg4) (ldBlk arg5 (k0_off4 k0_t1 v216 k) (k0_off4_inb k0_t1 v216 k0_hw1 k) X_arg5) (tL v99) a.2.2.1 a.2.2.2.2.2.2.1,
       fCar v127 (ldBlk arg4 (k0_off5 k0_t1 v216 k) (k0_off5_inb k0_t1 v216 k0_hw1 k) X_arg4) (ldBlk arg5 (k0_off5 k0_t1 v216 k) (k0_off5_inb k0_t1 v216 k0_hw1 k) X_arg5) (tL (k0_pay192 v134 v191 v193)) a.2.2.2.1 a.2.2.2.2.2.2.2.1,
       fCar v35 (ldBlk arg4 (k0_off4 k0_t1 v216 k) (k0_off4_inb k0_t1 v216 k0_hw1 k) X_arg4) (ldBlk arg5 (k0_off4 k0_t1 v216 k) (k0_off4_inb k0_t1 v216 k0_hw1 k) X_arg5) (tH v99) a.2.2.2.2.1 a.2.2.2.2.2.2.2.2.1,
       fCar v131 (ldBlk arg4 (k0_off5 k0_t1 v216 k) (k0_off5_inb k0_t1 v216 k0_hw1 k) X_arg4) (ldBlk arg5 (k0_off5 k0_t1 v216 k) (k0_off5_inb k0_t1 v216 k0_hw1 k) X_arg5) (tH (k0_pay192 v134 v191 v193)) a.2.2.2.2.2.1 a.2.2.2.2.2.2.2.2.2) := by
  unfold trip_k0_t2
  rfl

/-- What a trip stores into the key gradient: one block per sequence, the old block plus the tile's part. -/
theorem trip2_K (a : VA F × VA F × V1 F × V1 F × V1 F × V1 F × V1 F × V1 F × V1 F × V1 F) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay1 k0_t1 arg14 v18 k0_pay159 v31 v35 v99 v100 v109 v115 v127 v131 v134 v166 v191 v193 v216 k0_hw1 X_arg4 X_arg5 k).2.1 a f11 f12
      = [⟨Rect.unit (s := S2x2048x128) (k0_off5 k0_t1 v216 k) S1x256x128.size (k0_off5_inb k0_t1 v216 k0_hw1 k),
         tOut (addf (ldBlk arg11 (k0_off5 k0_t1 v216 k) (k0_off5_inb k0_t1 v216 k0_hw1 k) (arg11.view.writes (Elt F) f11 [(⟨Rect.unit (s := S2x2048x128) (k0_off4 k0_t1 v216 k) S1x256x128.size (k0_off4_inb k0_t1 v216 k0_hw1 k),
         tOut (addf (ldBlk arg11 (k0_off4 k0_t1 v216 k) (k0_off4_inb k0_t1 v216 k0_hw1 k) f11)
           (fDk v31 v35 (ldBlk arg4 (k0_off4 k0_t1 v216 k) (k0_off4_inb k0_t1 v216 k0_hw1 k) X_arg4) (ldBlk arg5 (k0_off4 k0_t1 v216 k) (k0_off4_inb k0_t1 v216 k0_hw1 k) X_arg5) v99 a.2.2.1 a.2.2.2.2.1 a.2.2.2.2.2.2.1 a.2.2.2.2.2.2.2.2.1))⟩ : View.Piece (Elt F) S2x2048x128 .f32)]))
           (fDk v127 v131 (ldBlk arg4 (k0_off5 k0_t1 v216 k) (k0_off5_inb k0_t1 v216 k0_hw1 k) X_arg4) (ldBlk arg5 (k0_off5 k0_t1 v216 k) (k0_off5_inb k0_t1 v216 k0_hw1 k) X_arg5) (k0_pay192 v134 v191 v193) a.2.2.2.1 a.2.2.2.2.2.1 a.2.2.2.2.2.2.2.1 a.2.2.2.2.2.2.2.2.2))⟩,
        (⟨Rect.unit (s := S2x2048x128) (k0_off4 k0_t1 v216 k) S1x256x128.size (k0_off4_inb k0_t1 v216 k0_hw1 k),
         tOut (addf (ldBlk arg11 (k0_off4 k0_t1 v216 k) (k0_off4_inb k0_t1 v216 k0_hw1 k) f11)
           (fDk v31 v35 (ldBlk arg4 (k0_off4 k0_t1 v216 k) (k0_off4_inb k0_t1 v216 k0_hw1 k) X_arg4) (ldBlk arg5 (k0_off4 k0_t1 v216 k) (k0_off4_inb k0_t1 v216 k0_hw1 k) X_arg5) v99 a.2.2.1 a.2.2.2.2.1 a.2.2.2.2.2.2.1 a.2.2.2.2.2.2.2.2.1))⟩ : View.Piece (Elt F) S2x2048x128 .f32)] := by
  unfold trip_k0_t2
  rfl

/-- What a trip stores into the value gradient. -/
theorem trip2_V (a : VA F × VA F × V1 F × V1 F × V1 F × V1 F × V1 F × V1 F × V1 F × V1 F) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay1 k0_t1 arg14 v18 k0_pay159 v31 v35 v99 v100 v109 v115 v127 v131 v134 v166 v191 v193 v216 k0_hw1 X_arg4 X_arg5 k).2.2.1 a f11 f12
      = [⟨Rect.unit (s := S2x2048x128) (k0_off5 k0_t1 v216 k) S1x256x128.size (k0_off5_inb k0_t1 v216 k0_hw1 k),
         tOut (addf (ldBlk arg12 (k0_off5 k0_t1 v216 k) (k0_off5_inb k0_t1 v216 k0_hw1 k) (arg12.view.writes (Elt F) f12 [(⟨Rect.unit (s := S2x2048x128) (k0_off4 k0_t1 v216 k) S1x256x128.size (k0_off4_inb k0_t1 v216 k0_hw1 k),
         tOut (addf (ldBlk arg12 (k0_off4 k0_t1 v216 k) (k0_off4_inb k0_t1 v216 k0_hw1 k) f12)
           (fDv v31 v35 (ldBlk arg4 (k0_off4 k0_t1 v216 k) (k0_off4_inb k0_t1 v216 k0_hw1 k) X_arg4) v99 a.2.2.1 a.2.2.2.2.1))⟩ : View.Piece (Elt F) S2x2048x128 .f32)]))
           (fDv v127 v131 (ldBlk arg4 (k0_off5 k0_t1 v216 k) (k0_off5_inb k0_t1 v216 k0_hw1 k) X_arg4) (k0_pay192 v134 v191 v193) a.2.2.2.1 a.2.2.2.2.2.1))⟩,
        (⟨Rect.unit (s := S2x2048x128) (k0_off4 k0_t1 v216 k) S1x256x128.size (k0_off4_inb k0_t1 v216 k0_hw1 k),
         tOut (addf (ldBlk arg12 (k0_off4 k0_t1 v216 k) (k0_off4_inb k0_t1 v216 k0_hw1 k) f12)
           (fDv v31 v35 (ldBlk arg4 (k0_off4 k0_t1 v216 k) (k0_off4_inb k0_t1 v216 k0_hw1 k) X_arg4) v99 a.2.2.1 a.2.2.2.2.1))⟩ : View.Piece (Elt F) S2x2048x128 .f32)] := by
  unfold trip_k0_t2
  rfl

end

end Cert.KernelIdeal.Hand

end
-- ==== Proof.KernelIdeal.Outer.lean ====
/- One query block's trip, as the named operations of the tile: the block's preparation (scaled queries, the gradient of the
   normalised output, the row totals), the loop over the key blocks before the diagonal, and the diagonal tile. -/
module

public import proofs.«01_k».proof.Proof.KernelIdeal.Inner

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! ## The block's preparation -/

/-- A constant on every entry of a block. -/
def cA (b : BitVec 32) : VA F := broadcast S256x128 (Scalar.ofBits .f32 b : F .f32)
/-- The scaled queries. -/
def hQ (x : VA F) : VA F := mulf x (cA 0x3E000000#32)
/-- Which entries lie in the first head's lanes. -/
def hLo : IVec S256x128 1 := k0_pay165
/-- Row sums of a block, and of a column. -/
def hSum (x : VA F) : V1 F :=
  shapeCast S256x1 (multiReduction .add [1] S256 x 0x00000000#32 reduces_S256x128_S256 (.inl rfl) rfl) shapeCasts_S256_S256x1
def hSum1 (x : V1 F) : V1 F :=
  shapeCast S256x1 (multiReduction .add [1] S256 x 0x00000000#32 reduces_S256x1_S256 (.inl rfl) rfl) shapeCasts_S256_S256x1
/-- A column on every lane. -/
def hBc (x : V1 F) : VA F := broadcastTo S256x128 x broadcasts_S256x1_S256x128
/-- The mean square of each head's part of a row, with the small constant added. -/
def hMs (o : VA F) : VA F :=
  addf (mulf (select hLo (hBc (shapeCast S256x1 (hSum (select hLo (mulf o o) zA)) shapeCasts_S256x1_S256x1))
      (hBc (shapeCast S256x1 (hSum (select hLo zA (mulf o o))) shapeCasts_S256x1_S256x1))) (cA 0x3C800000#32)) (cA 0x3727C5AC#32)
/-- The normaliser. -/
def hR (o : VA F) : VA F := rsqrt (hMs o)
/-- The incoming gradient times the gain. -/
def hY (gain : Vec F S1x128 .f32) (dy : VA F) : VA F := mulf dy (broadcastTo S256x128 gain broadcasts_S1x128_S256x128)
/-- The summand of the normaliser's own gradient. -/
def hW (gain : Vec F S1x128 .f32) (o dy : VA F) : VA F :=
  mulf (mulf (mulf o (hY gain dy)) (mulf (cA 0xBF000000#32) (divf (hR o) (hMs o)))) (cA 0x3C800000#32)
/-- Its sum over the head's lanes, on the head's lanes. -/
def hC (gain : Vec F S1x128 .f32) (o dy : VA F) : VA F :=
  addf (select hLo zA (hBc (hSum1 (hSum (select hLo zA (hW gain o dy))))))
    (select hLo (hBc (hSum1 (hSum (select hLo (hW gain o dy) zA)))) zA)
/-- The gradient of the attention's output. -/
def hDo (gain : Vec F S1x128 .f32) (o dy : VA F) : VA F :=
  addf (addf (mulf (hY gain dy) (hR o)) (mulf o (hC gain o dy))) (mulf (hC gain o dy) o)
/-- The block's part of the gain's gradient. -/
def hGn (o dy : VA F) : FVec F S1x128 .f32 :=
  shapeCast S1x128 (multiReduction .add [0] S128 (mulf (mulf o (hR o)) dy) 0x00000000#32 reduces_S256x128_S128 (.inl rfl) rfl) shapeCasts_S128_S1x128
/-- A row's maximum. -/
def hMax (x : VA F) : V1 F :=
  shapeCast S256x1 (multiReduction .maximumf [1] S256 x 0xFF800000#32 reduces_S256x128_S256 (.inl rfl) rfl) shapeCasts_S256_S256x1
/-- The row total of the first head, and of the second, read off the head's lanes. -/
def hTotL (x : VA F) : V1 F := hMax (select tLo x (cA 0xFF800000#32))
def hTotH (x : VA F) : V1 F := hMax (select tLo (cA 0xFF800000#32) x)
/-- The query gradient as it is stored. -/
def hOut (x : VA F) : FVec F S1x256x128 .f32 := tOut (mulf x (cA 0x3E000000#32))

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 : BitVec 32) (arg1 : BitVec 32) (v0 : Vec F S1x128 .f32)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty) (X8 : BufTy.Contents (Elt F) arg8.view.ty)
  (X9 : BufTy.Contents (Elt F) arg9.view.ty)
  (hX : ∀ y, arg9.view.read (Elt F) X9 y = (0#32 : BitVec 32))

/-- The word a block reads: how many key blocks it leaves out. -/
def wd (k : Fin k0_t1_loop.trips) : Elt F .i32 := trip1.sl.r i arg9 X9 k

include hX in
theorem wd_zero (k : Fin k0_t1_loop.trips) : wd i arg9 X9 k = (0#32 : BitVec 32) := by
  unfold wd trip1.sl.r; rw [View.readAt_apply, hX]

theorem v31_eq (k : Fin k0_t1_loop.trips) : (trip1.sl.v31 arg3 X3 k) = (tL (hQ (ldBlk arg3 (k0_off1 k) (k0_off1_inb k) X3))) := rfl
theorem v35_eq (k : Fin k0_t1_loop.trips) : (trip1.sl.v35 arg3 X3 k) = (tH (hQ (ldBlk arg3 (k0_off1 k) (k0_off1_inb k) X3))) := rfl
theorem v127_eq (k : Fin k0_t1_loop.trips) : (trip1.sl.v127 arg3 X3 k) = (tL (hQ (ldBlk arg3 (k0_off2 k) (k0_off2_inb k) X3))) := rfl
theorem v131_eq (k : Fin k0_t1_loop.trips) : (trip1.sl.v131 arg3 X3 k) = (tH (hQ (ldBlk arg3 (k0_off2 k) (k0_off2_inb k) X3))) := rfl
theorem v99_eq (k : Fin k0_t1_loop.trips) : (trip1.sl.v99 arg6 arg8 v0 X6 X8 k) = (hDo v0 (ldBlk arg6 (k0_off1 k) (k0_off1_inb k) X6) (ldBlk arg8 (k0_off1 k) (k0_off1_inb k) X8)) := rfl
theorem v195_eq (k : Fin k0_t1_loop.trips) : k0_pay192 (trip1.sl.v134 arg6 X6 k) (trip1.sl.v191 arg6 arg8 v0 X6 X8 k) (trip1.sl.v193 arg6 arg8 v0 X6 X8 k) = (hDo v0 (ldBlk arg6 (k0_off2 k) (k0_off2_inb k) X6) (ldBlk arg8 (k0_off2 k) (k0_off2_inb k) X8)) := rfl

/-- The carried values before the key loop: no gradient yet, the row totals, no carry. -/
def init2 (k : Fin k0_t1_loop.trips) : VA F × VA F × V1 F × V1 F × V1 F × V1 F × V1 F × V1 F × V1 F × V1 F :=
  (zA, zA, hTotL (ldBlk arg7 (k0_off1 k) (k0_off1_inb k) X7), hTotL (ldBlk arg7 (k0_off2 k) (k0_off2_inb k) X7), hTotH (ldBlk arg7 (k0_off1 k) (k0_off1_inb k) X7), hTotH (ldBlk arg7 (k0_off2 k) (k0_off2_inb k) X7), k0_pay159, k0_pay159, k0_pay159, k0_pay159)

/-- The state of the key loop before trip `n`. -/
def s2 (k : Fin k0_t1_loop.trips) (acc : FVec F S1x128 .f32) (f11 : BufTy.Contents (Elt F) arg11.view.ty) (f12 : BufTy.Contents (Elt F) arg12.view.ty) (n : ℕ) :=
  st_k0_t2 (F := F) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 f11 f12 (init2 arg7 X7 k) n

/-- The state after the loop over the key blocks before the diagonal, under its two names in the program. -/
def s3 (k : Fin k0_t1_loop.trips) (acc : FVec F S1x128 .f32) (f11 : BufTy.Contents (Elt F) arg11.view.ty) (f12 : BufTy.Contents (Elt F) arg12.view.ty) :=
  let S := s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 (Scf.trips (k0_t2_loop k (trip1.sl.r i arg9 X9 k)).lb (k0_t2_loop k (trip1.sl.r i arg9 X9 k)).ub (k0_t2_loop k (trip1.sl.r i arg9 X9 k)).st)
  let T := st_k0_t3 (F := F) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) (trip1.sl.v221 i arg9 X9 k) X4 X5 (arg11.view.writes (Elt F) f11 S.2.1) (arg12.view.writes (Elt F) f12 S.2.2) S.1
    (Scf.trips (k0_t3_loop k (trip1.sl.r i arg9 X9 k)).lb (k0_t3_loop k (trip1.sl.r i arg9 X9 k)).ub (k0_t3_loop k (trip1.sl.r i arg9 X9 k)).st)
  (T.1, T.2.1 ++ S.2.1, T.2.2 ++ S.2.2)

/-- The carried gain sum after a block: both sequences' parts added. -/
theorem trip1_R (k : Fin k0_t1_loop.trips) (acc : FVec F S1x128 .f32) (f11 : BufTy.Contents (Elt F) arg11.view.ty) (f12 : BufTy.Contents (Elt F) arg12.view.ty) :
    (trip1 (F := F) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).1 acc f11 f12 = addf (addf acc (hGn (ldBlk arg6 (k0_off1 k) (k0_off1_inb k) X6) (ldBlk arg8 (k0_off1 k) (k0_off1_inb k) X8))) (hGn (ldBlk arg6 (k0_off2 k) (k0_off2_inb k) X6) (ldBlk arg8 (k0_off2 k) (k0_off2_inb k) X8)) := by
  unfold trip1; rfl

/-- What a block stores into the query gradient. -/
theorem trip1_Q (k : Fin k0_t1_loop.trips) (acc : FVec F S1x128 .f32) (f11 : BufTy.Contents (Elt F) arg11.view.ty) (f12 : BufTy.Contents (Elt F) arg12.view.ty) :
    (trip1 (F := F) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.1 acc f11 f12 = [(⟨Rect.unit (s := S2x2048x128) (k0_off9 k) S1x256x128.size (k0_off9_inb k), hOut (addf (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.1 (dDq (tL (hQ (ldBlk arg3 (k0_off2 k) (k0_off2_inb k) X3))) (tH (hQ (ldBlk arg3 (k0_off2 k) (k0_off2_inb k) X3))) (ldBlk arg4 (k0_off9 k) (k0_off9_inb k) X4) (ldBlk arg5 (k0_off9 k) (k0_off9_inb k) X5) (hDo v0 (ldBlk arg6 (k0_off2 k) (k0_off2_inb k) X6) (ldBlk arg8 (k0_off2 k) (k0_off2_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.2.2))⟩ : View.Piece (Elt F) S2x2048x128 .f32),
      (⟨Rect.unit (s := S2x2048x128) (k0_off8 k) S1x256x128.size (k0_off8_inb k), hOut (addf (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.1 (dDq (tL (hQ (ldBlk arg3 (k0_off1 k) (k0_off1_inb k) X3))) (tH (hQ (ldBlk arg3 (k0_off1 k) (k0_off1_inb k) X3))) (ldBlk arg4 (k0_off8 k) (k0_off8_inb k) X4) (ldBlk arg5 (k0_off8 k) (k0_off8_inb k) X5) (hDo v0 (ldBlk arg6 (k0_off1 k) (k0_off1_inb k) X6) (ldBlk arg8 (k0_off1 k) (k0_off1_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.2.1))⟩ : View.Piece (Elt F) S2x2048x128 .f32)] := by
  unfold trip1; rfl

/-- What a block stores into the key gradient: the key loop's pieces, then one block per sequence. -/
theorem trip1_K (k : Fin k0_t1_loop.trips) (acc : FVec F S1x128 .f32) (f11 : BufTy.Contents (Elt F) arg11.view.ty) (f12 : BufTy.Contents (Elt F) arg12.view.ty) :
    (trip1 (F := F) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.1 acc f11 f12 = (⟨Rect.unit (s := S2x2048x128) (k0_off9 k) S1x256x128.size (k0_off9_inb k), tOut (addf (ldBlk arg11 (k0_off9 k) (k0_off9_inb k) (arg11.view.writes (Elt F) f11 ((⟨Rect.unit (s := S2x2048x128) (k0_off8 k) S1x256x128.size (k0_off8_inb k), tOut (addf (ldBlk arg11 (k0_off8 k) (k0_off8_inb k) (arg11.view.writes (Elt F) f11 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.1)) (dDk (tL (hQ (ldBlk arg3 (k0_off1 k) (k0_off1_inb k) X3))) (tH (hQ (ldBlk arg3 (k0_off1 k) (k0_off1_inb k) X3))) (ldBlk arg4 (k0_off8 k) (k0_off8_inb k) X4) (ldBlk arg5 (k0_off8 k) (k0_off8_inb k) X5) (hDo v0 (ldBlk arg6 (k0_off1 k) (k0_off1_inb k) X6) (ldBlk arg8 (k0_off1 k) (k0_off1_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.2.1))⟩ : View.Piece (Elt F) S2x2048x128 .f32) :: (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.1))) (dDk (tL (hQ (ldBlk arg3 (k0_off2 k) (k0_off2_inb k) X3))) (tH (hQ (ldBlk arg3 (k0_off2 k) (k0_off2_inb k) X3))) (ldBlk arg4 (k0_off9 k) (k0_off9_inb k) X4) (ldBlk arg5 (k0_off9 k) (k0_off9_inb k) X5) (hDo v0 (ldBlk arg6 (k0_off2 k) (k0_off2_inb k) X6) (ldBlk arg8 (k0_off2 k) (k0_off2_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.2.2))⟩ : View.Piece (Elt F) S2x2048x128 .f32) :: (⟨Rect.unit (s := S2x2048x128) (k0_off8 k) S1x256x128.size (k0_off8_inb k), tOut (addf (ldBlk arg11 (k0_off8 k) (k0_off8_inb k) (arg11.view.writes (Elt F) f11 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.1)) (dDk (tL (hQ (ldBlk arg3 (k0_off1 k) (k0_off1_inb k) X3))) (tH (hQ (ldBlk arg3 (k0_off1 k) (k0_off1_inb k) X3))) (ldBlk arg4 (k0_off8 k) (k0_off8_inb k) X4) (ldBlk arg5 (k0_off8 k) (k0_off8_inb k) X5) (hDo v0 (ldBlk arg6 (k0_off1 k) (k0_off1_inb k) X6) (ldBlk arg8 (k0_off1 k) (k0_off1_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.2.2.2.1))⟩ : View.Piece (Elt F) S2x2048x128 .f32) :: (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.1 := by
  unfold trip1; rfl

/-- What a block stores into the value gradient: the key loop's pieces, then one block per sequence. -/
theorem trip1_V (k : Fin k0_t1_loop.trips) (acc : FVec F S1x128 .f32) (f11 : BufTy.Contents (Elt F) arg11.view.ty) (f12 : BufTy.Contents (Elt F) arg12.view.ty) :
    (trip1 (F := F) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.2.1 acc f11 f12 = (⟨Rect.unit (s := S2x2048x128) (k0_off9 k) S1x256x128.size (k0_off9_inb k), tOut (addf (ldBlk arg12 (k0_off9 k) (k0_off9_inb k) (arg12.view.writes (Elt F) f12 ((⟨Rect.unit (s := S2x2048x128) (k0_off8 k) S1x256x128.size (k0_off8_inb k), tOut (addf (ldBlk arg12 (k0_off8 k) (k0_off8_inb k) (arg12.view.writes (Elt F) f12 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.2)) (dDv (tL (hQ (ldBlk arg3 (k0_off1 k) (k0_off1_inb k) X3))) (tH (hQ (ldBlk arg3 (k0_off1 k) (k0_off1_inb k) X3))) (ldBlk arg4 (k0_off8 k) (k0_off8_inb k) X4) (hDo v0 (ldBlk arg6 (k0_off1 k) (k0_off1_inb k) X6) (ldBlk arg8 (k0_off1 k) (k0_off1_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.1))⟩ : View.Piece (Elt F) S2x2048x128 .f32) :: (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.2))) (dDv (tL (hQ (ldBlk arg3 (k0_off2 k) (k0_off2_inb k) X3))) (tH (hQ (ldBlk arg3 (k0_off2 k) (k0_off2_inb k) X3))) (ldBlk arg4 (k0_off9 k) (k0_off9_inb k) X4) (hDo v0 (ldBlk arg6 (k0_off2 k) (k0_off2_inb k) X6) (ldBlk arg8 (k0_off2 k) (k0_off2_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.2.1))⟩ : View.Piece (Elt F) S2x2048x128 .f32) :: (⟨Rect.unit (s := S2x2048x128) (k0_off8 k) S1x256x128.size (k0_off8_inb k), tOut (addf (ldBlk arg12 (k0_off8 k) (k0_off8_inb k) (arg12.view.writes (Elt F) f12 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.2)) (dDv (tL (hQ (ldBlk arg3 (k0_off1 k) (k0_off1_inb k) X3))) (tH (hQ (ldBlk arg3 (k0_off1 k) (k0_off1_inb k) X3))) (ldBlk arg4 (k0_off8 k) (k0_off8_inb k) X4) (hDo v0 (ldBlk arg6 (k0_off1 k) (k0_off1_inb k) X6) (ldBlk arg8 (k0_off1 k) (k0_off1_inb k) X8)) (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.1 (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).1.2.2.2.2.1))⟩ : View.Piece (Elt F) S2x2048x128 .f32) :: (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).2.2 := by
  unfold trip1; rfl

end

end Cert.KernelIdeal.Hand

end
-- ==== Proof.KernelIdeal.HeadReal.lean ====
/- A query block's preparation over the reals: the scaled queries, the gradient of the normalised output, the block's part of the
   gain's gradient, and the row totals. -/
module

public import proofs.«01_k».proof.Proof.KernelIdeal.TileSum
public import proofs.«01_k».proof.Proof.KernelIdeal.Outer

@[expose] public section

set_option maxRecDepth 16384

noncomputable section

namespace Cert.KernelIdeal.Hand

open Cert.KernelIdeal Cert.KernelIdeal.Gen
open Idealize.ShloMosaic Idealize.SL.Sem
open Finset (range)

/-! ## The constants -/

/-- The small constant added to the mean square. -/
def epsR : ℝ := 10995116 / 1099511627776

theorem bits_eps : (Ideal.ofBits .f32 0x3727C5AC#32 : EReal) = ((epsR : ℝ) : EReal) := by
  simp [Ideal.ofBits, Ideal.ieee, -EReal.coe_mul, epsR]; norm_num
theorem bits_64th : (Ideal.ofBits .f32 0x3C800000#32 : EReal) = ((1 / 64 : ℝ) : EReal) := by
  simp [Ideal.ofBits, Ideal.ieee, -EReal.coe_mul]; norm_num
theorem bits_8th : (Ideal.ofBits .f32 0x3E000000#32 : EReal) = ((1 / 8 : ℝ) : EReal) := by
  simp [Ideal.ofBits, Ideal.ieee, -EReal.coe_mul]; norm_num
theorem bits_mhalf : (Ideal.ofBits .f32 0xBF000000#32 : EReal) = ((-1 / 2 : ℝ) : EReal) := by
  simp [Ideal.ofBits, Ideal.ieee, -EReal.coe_mul]; norm_num
theorem bits_minf : (Ideal.ofBits .f32 0xFF800000#32 : EReal) = ⊥ := by
  simp [Ideal.ofBits, Ideal.ieee]

theorem cA_apply (b : BitVec 32) (x : S256x128.Idx) : cA (F := Ideal) b x = Ideal.ofBits .f32 b := rfl

/-! ## The steps -/

/-- The sum over the head's lanes that lane `l` lies in. -/
def halfF (f : ℕ → ℝ) (l : ℕ) : ℝ :=
  if l < 64 then ∑ j ∈ range 128, (if j < 64 then f j else 0) else ∑ j ∈ range 128, if j < 64 then 0 else f j

theorem hLo_co (x y : FVec Ideal S256x128 .f32) (a : Fin 256) (b : Fin 128) :
   select hLo x y (ix2 a b) = if b.val < 64 then x (ix2 a b) else y (ix2 a b) := by
  pointwise [hLo, k0_pay165]
  rw [WordCmp.cmpi_slt_ofNat (by omega) (by omega), sel_bool]

theorem mulA_co (x y : ℕ → ℕ → ℝ) : mulf (ca x) (ca y) = ca fun r l => x r l * y r l := by
  funext i
  idx_vars i
  pointwise []
  simp only [ca_apply, ← EReal.coe_mul]

theorem hLoZ_co (x : ℕ → ℕ → ℝ) : select hLo (ca x) zA = ca fun r l => if l < 64 then x r l else 0 := by
  funext i
  idx_vars i
  rw [hLo_co, ca_apply, ca_apply]
  pointwise [zA]
  split_ifs <;> simp

theorem hHiZ_co (x : ℕ → ℕ → ℝ) : select hLo zA (ca x) = ca fun r l => if l < 64 then 0 else x r l := by
  funext i
  idx_vars i
  rw [hLo_co, ca_apply, ca_apply]
  pointwise [zA]
  split_ifs <;> simp

theorem hSelA_co (x y : ℕ → ℕ → ℝ) : select hLo (ca x) (ca y) = ca fun r l => if l < 64 then x r l else y r l := by
  funext i
  idx_vars i
  rw [hLo_co, ca_apply, ca_apply, ca_apply]
  split_ifs <;> rfl

theorem hSum_co (x : ℕ → ℕ → ℝ) : hSum (ca x) = c1 fun r => ∑ l ∈ range 128, x r l := by
  funext y
  idx_vars y
  pointwise [hSum]
  simp only [ca_apply, c1_apply]
  exact coe_sum_fin fun c => x _ c

theorem hSum1_co (x : ℕ → ℝ) : hSum1 (c1 x) = c1 x := by
  funext y
  idx_vars y
  pointwise [hSum1]
  simp only [c1_apply, Fin.sum_univ_one]

theorem hBc_co (x : ℕ → ℝ) : hBc (c1 x) = ca fun r l => x r := by
  funext y
  idx_vars y
  pointwise [hBc]
  rfl

theorem cast1_co (x : V1 Ideal) : shapeCast S256x1 x shapeCasts_S256x1_S256x1 = x := by
  funext y
  idx_vars y
  pointwise []

theorem cA_co (b : BitVec 32) (v : ℝ) (h : (Ideal.ofBits .f32 b : EReal) = (v : EReal)) : cA (F := Ideal) b = ca fun _ _ => v :=
  funext fun x => h

theorem hQ_co (x : ℕ → ℕ → ℝ) : hQ (ca x) = ca fun r l => x r l * (1 / 8) := by
  unfold hQ
  rw [cA_co _ _ bits_8th, mulA_co]

/-- The mean square with the small constant. -/
def msF (o : ℕ → ℕ → ℝ) (t l : ℕ) : ℝ := halfF (fun j => o t j * o t j) l * (1 / 64) + epsR

theorem msF_pos (o : ℕ → ℕ → ℝ) (t l : ℕ) : 0 < msF o t l := by
  have h : 0 ≤ halfF (fun j => o t j * o t j) l := by
    unfold halfF
    split_ifs <;> exact Finset.sum_nonneg fun j _ => by split_ifs <;> first | exact mul_self_nonneg _ | exact le_rfl
  unfold msF epsR
  positivity

theorem hMs_co (o : ℕ → ℕ → ℝ) : hMs (ca o) = ca (msF o) := by
  unfold hMs
  rw [mulA_co, hLoZ_co, hHiZ_co, hSum_co, hSum_co, cast1_co, cast1_co, hBc_co, hBc_co, hSelA_co, cA_co _ _ bits_64th, cA_co _ _ bits_eps, mulA_co, addA_co]
  rfl

/-- The normaliser. -/
def rF (o : ℕ → ℕ → ℝ) (t l : ℕ) : ℝ := (√(msF o t l))⁻¹

theorem rsqrt_pos {x : ℝ} (h : 0 < x) : Ideal.rsqrt (x : EReal) = (((√x)⁻¹ : ℝ) : EReal) := by
  rw [Ideal.rsqrt_coe, if_neg (by linarith), if_neg (by linarith)]

theorem hR_co (o : ℕ → ℕ → ℝ) : hR (ca o) = ca (rF o) := by
  unfold hR
  rw [hMs_co]
  funext y
  exact rsqrt_pos (msF_pos o _ _)

theorem divA_co (x y : ℕ → ℕ → ℝ) (h : ∀ r l, y r l ≠ 0) : divf (ca x) (ca y) = ca fun r l => x r l / y r l := by
  funext i
  show Ideal.div ((x (i 0).val (i 1).val : ℝ) : EReal) ((y (i 0).val (i 1).val : ℝ) : EReal) = ((x (i 0).val (i 1).val / y (i 0).val (i 1).val : ℝ) : EReal)
  rw [Ideal.div_coe (h _ _), ← EReal.coe_mul, mul_one_div]

/-- A row of lanes. -/
def cg (g : ℕ → ℝ) : FVec Ideal S1x128 .f32 := fun x => ((g (x 1).val : ℝ) : EReal)

theorem cg_apply (g : ℕ → ℝ) (z : Fin 1) (l : Fin 128) : cg g (ix2 z l) = ((g l.val : ℝ) : EReal) := rfl

theorem hY_co (g : ℕ → ℝ) (dy : ℕ → ℕ → ℝ) : hY (cg g) (ca dy) = ca fun r l => dy r l * g l := by
  unfold hY
  have h : broadcastTo S256x128 (cg g) broadcasts_S1x128_S256x128 = ca fun r l => g l := by
    funext i
    idx_vars i
    pointwise []
    rfl
  rw [h, mulA_co]

/-- The summand of the normaliser's gradient, and the gradient of the attention's output. -/
def wF (g : ℕ → ℝ) (o dy : ℕ → ℕ → ℝ) (t l : ℕ) : ℝ :=
  o t l * (dy t l * g l) * (-1 / 2 * (rF o t l / msF o t l)) * (1 / 64)
def doF (g : ℕ → ℝ) (o dy : ℕ → ℕ → ℝ) (t l : ℕ) : ℝ :=
  dy t l * g l * rF o t l + o t l * halfF (wF g o dy t) l + halfF (wF g o dy t) l * o t l

theorem hW_co (g : ℕ → ℝ) (o dy : ℕ → ℕ → ℝ) : hW (cg g) (ca o) (ca dy) = ca (wF g o dy) := by
  unfold hW
  rw [hY_co, hR_co, hMs_co, divA_co _ _ (fun r l => (msF_pos o r l).ne'), cA_co _ _ bits_mhalf, cA_co _ _ bits_64th, mulA_co, mulA_co, mulA_co, mulA_co]
  rfl

theorem hC_co (g : ℕ → ℝ) (o dy : ℕ → ℕ → ℝ) : hC (cg g) (ca o) (ca dy) = ca fun r l => halfF (wF g o dy r) l := by
  unfold hC
  rw [hW_co, hLoZ_co, hHiZ_co, hSum_co, hSum_co, hSum1_co, hSum1_co, hBc_co, hBc_co, hLoZ_co, hHiZ_co, addA_co]
  refine ca_congr fun r hr l hl => ?_
  unfold halfF
  split_ifs <;> simp

theorem hDo_co (g : ℕ → ℝ) (o dy : ℕ → ℕ → ℝ) : hDo (cg g) (ca o) (ca dy) = ca (doF g o dy) := by
  unfold hDo
  rw [hY_co, hR_co, hC_co, mulA_co, mulA_co, mulA_co, addA_co, addA_co]
  rfl

theorem hGn_co (o dy : ℕ → ℕ → ℝ) : hGn (ca o) (ca dy) = cg fun l => ∑ r ∈ range 256, o r l * rF o r l * dy r l := by
  unfold hGn
  rw [hR_co, mulA_co, mulA_co]
  funext y
  idx_vars y
  pointwise []
  simp only [ca_apply, cg_apply]
  exact coe_sum_fin fun c => o c _ * rF o c _ * dy c _

theorem addG_co (x y : ℕ → ℝ) : addf (cg x) (cg y) = cg fun l => x l + y l := by
  funext i
  idx_vars i
  pointwise []
  simp only [cg_apply, ← EReal.coe_add]

/-- The maximum of a row that is one value on some lanes and `−∞` on the others. -/
theorem fold_max_const {n : ℕ} (f : Fin n → EReal) (v : EReal) (i : Fin n) (hi : f i = v) (h : ∀ j, f j = v ∨ f j = ⊥) :
    Finset.univ.fold max ⊥ f = v := by
  apply le_antisymm
  · exact Finset.fold_max_le (c := v) |>.mpr ⟨bot_le, fun j _ => by rcases h j with e | e <;> simp [e]⟩
  · exact Finset.le_fold_max (c := v) |>.mpr (Or.inr ⟨i, Finset.mem_univ _, hi.ge⟩)

theorem hTotL_co (x : ℕ → ℕ → ℝ) (v : ℕ → ℝ) (h : ∀ r < 256, ∀ l < 64, x r l = v r) : hTotL (ca x) = c1 v := by
  funext y
  idx_vars y
  unfold hTotL hMax
  pointwise [hMax]
  rw [c1_apply]
  have e : ∀ j : Fin 128, Scalar.select (tLo (ix2 y0 j)) (ca x (ix2 y0 j)) (cA (F := Ideal) 0xFF800000#32 (ix2 y0 j)) = if j.val < 64 then ((v y0.val : ℝ) : EReal) else ⊥ := fun j => by
    refine (lo_co (ca x) (cA (F := Ideal) 0xFF800000#32) y0 j).trans ?_
    split_ifs with hj
    · rw [ca_apply, h _ y0.isLt _ hj]
    · exact bits_minf
  simp only [e, bits_minf]
  exact fold_max_const _ _ ⟨0, by omega⟩ (by simp) fun j => by
    by_cases hj : j.val < 64
    · exact Or.inl (if_pos hj)
    · exact Or.inr (if_neg hj)

theorem hTotH_co (x : ℕ → ℕ → ℝ) (v : ℕ → ℝ) (h : ∀ r < 256, ∀ l < 128, 64 ≤ l → x r l = v r) : hTotH (ca x) = c1 v := by
  funext y
  idx_vars y
  unfold hTotH hMax
  pointwise [hMax]
  rw [c1_apply]
  have e : ∀ j : Fin 128, Scalar.select (tLo (ix2 y0 j)) (cA (F := Ideal) 0xFF800000#32 (ix2 y0 j)) (ca x (ix2 y0 j)) = if j.val < 64 then ⊥ else ((v y0.val : ℝ) : EReal) := fun j => by
    refine (lo_co (cA (F := Ideal) 0xFF800000#32) (ca x) y0 j).trans ?_
    split_ifs with hj
    · exact bits_minf
    · rw [ca_apply, h _ y0.isLt _ j.isLt (by omega)]
  simp only [e, bits_minf]
  exact fold_max_const _ _ ⟨64, by omega⟩ (by simp) fun j => by
    by_cases hj : j.val < 64
    · exact Or.inr (if_pos hj)
    · exact Or.inl (if_neg hj)

theorem hOut_co (x : ℕ → ℕ → ℝ) : hOut (ca x) = tOut (ca fun r l => x r l * (1 / 8)) := by
  unfold hOut
  rw [cA_co _ _ bits_8th, mulA_co]

theorem zA_co : (zA : VA Ideal) = ca fun _ _ => 0 := funext fun x => Ideal.ofBits_zero_f32
theorem z1_co : (k0_pay159 : V1 Ideal) = c1 fun _ => 0 := funext fun x => Ideal.ofBits_zero_f32

end Cert.KernelIdeal.Hand

end
-- ==== Proof.KernelIdeal.Blocks.lean ====
/- Blocks of 256 rows of an array of real numbers: what a load reads, what a store leaves, and what the two stores of a block into
   an accumulated array add. -/
module

public import proofs.«01_k».proof.Proof.KernelIdeal.TileSum
public import proofs.«01_k».proof.Proof.KernelIdeal.Inner
public import Idealize.ShloMosaic.Lib.WritesUnit

@[expose] public section

set_option maxRecDepth 16384

noncomputable section

namespace Cert.KernelIdeal.Hand

open Cert.KernelIdeal Cert.KernelIdeal.Gen
open Idealize.ShloMosaic Idealize.SL.Sem
open Finset (range)

/-- An array of real numbers: sequence, position, lane. -/
def c3 (f : ℕ → ℕ → ℕ → ℝ) : FVec Ideal S2x2048x128 .f32 := fun x => ((f (x 0).val (x 1).val (x 2).val : ℝ) : EReal)

theorem c3_congr {f g : ℕ → ℕ → ℕ → ℝ} (h : ∀ s < 2, ∀ t < 2048, ∀ l < 128, f s t l = g s t l) : c3 f = c3 g :=
  funext fun x => congrArg _ (h _ (x 0).isLt _ (x 1).isLt _ (x 2).isLt)

variable (arg : Memref sig .tc .vmem S2x2048x128 .f32)

theorem tIn_apply (x : Vec Ideal S1x256x128 .f32) (r : Fin 256) (l : Fin 128) : tIn x (ix2 r l) = x (ix3 0 r l) := by
  pointwise [tIn]

theorem tOut_apply (x : VA Ideal) (z : Fin 1) (r : Fin 256) (l : Fin 128) : tOut x (ix3 z r l) = x (ix2 r l) := by
  pointwise [tOut]

/-- A load of a block reads its rows. -/
theorem ldBlk_co (o : Fin 3 → ℕ) (ho : ∀ a, o a + S1x256x128.size a ≤ S2x2048x128.size a) (s b : ℕ) (e : o = ![s, b, 0])
    (X : BufTy.Contents (Elt Ideal) arg.view.ty) (f : ℕ → ℕ → ℕ → ℝ) (hX : arg.view.read (Elt Ideal) X = c3 f) :
    ldBlk (F := Ideal) arg o ho X = ca (rows (f s) b) := by
  funext x
  idx_vars x
  subst e
  unfold ldBlk
  rw [tIn_apply, View.readAt_apply, hX]
  show ((f (s + 1 * 0) (b + 1 * x0.val) (0 + 1 * x1.val) : ℝ) : EReal) = ((f s (b + x0.val) x1.val : ℝ) : EReal)
  simp

/-- A store of a block replaces its rows. -/
theorem wrBlk_apply (o : Fin 3 → ℕ) (ho : ∀ a, o a + S1x256x128.size a ≤ S2x2048x128.size a) (s b : ℕ) (e : o = ![s, b, 0])
    (G : BufTy.Contents (Elt Ideal) arg.view.ty) (L : List (View.Piece (Elt Ideal) S2x2048x128 .f32)) (u : ℕ → ℕ → ℝ) (y : S2x2048x128.Idx) :
    arg.view.read (Elt Ideal) (arg.view.writes (Elt Ideal) G ((⟨Rect.unit (s := S2x2048x128) o S1x256x128.size ho, tOut (ca u)⟩ : View.Piece (Elt Ideal) S2x2048x128 .f32) :: L)) y
      = if (y 0).val = s ∧ b ≤ (y 1).val ∧ (y 1).val < b + 256 then ((u ((y 1).val - b) (y 2).val : ℝ) : EReal)
        else arg.view.read (Elt Ideal) (arg.view.writes (Elt Ideal) G L) y := by
  rw [View.read_writes_cons_unit _ _ ho _ L y e]
  have h2 : (y 2).val < 128 := (y 2).isLt
  by_cases h : (y 0).val = s ∧ b ≤ (y 1).val ∧ (y 1).val < b + 256
  · have hm : ∀ a : Fin 3, (![s, b, 0] : Fin 3 → ℕ) a ≤ (y a).val ∧ (y a).val < (![s, b, 0] : Fin 3 → ℕ) a + S1x256x128.size a := by
      intro a
      fin_cases a
      · exact ⟨h.1.ge, by show (y 0).val < s + 1; omega⟩
      · exact h.2
      · exact ⟨Nat.zero_le _, by show (y 2).val < 0 + 128; omega⟩
    rw [dif_pos hm, if_pos h]
    have hl : (Rect.unitLocal (s := S2x2048x128) (off := ![s, b, 0]) (size := S1x256x128.size) y hm)
        = (ix3 (0 : Fin 1) ⟨(y 1).val - b, by omega⟩ ⟨(y 2).val, h2⟩ : S1x256x128.Idx) := by
      funext a
      apply Fin.ext
      fin_cases a
      · show (y 0).val - s = 0; omega
      · show (y 1).val - b = (y 1).val - b; rfl
      · show (y 2).val - 0 = (y 2).val; omega
    rw [hl, tOut_apply, ca_apply]
  · have hm : ¬ ∀ a : Fin 3, (![s, b, 0] : Fin 3 → ℕ) a ≤ (y a).val ∧ (y a).val < (![s, b, 0] : Fin 3 → ℕ) a + S1x256x128.size a := by
      intro hm
      have h0 := hm 0
      have h1 := hm 1
      change s ≤ (y 0).val ∧ (y 0).val < s + 1 at h0
      change b ≤ (y 1).val ∧ (y 1).val < b + 256 at h1
      exact h ⟨by omega, h1⟩
    rw [dif_neg hm, if_neg h]

theorem wrBlk_co (o : Fin 3 → ℕ) (ho : ∀ a, o a + S1x256x128.size a ≤ S2x2048x128.size a) (s b : ℕ) (e : o = ![s, b, 0])
    (G : BufTy.Contents (Elt Ideal) arg.view.ty) (L : List (View.Piece (Elt Ideal) S2x2048x128 .f32)) (f : ℕ → ℕ → ℕ → ℝ)
    (hX : arg.view.read (Elt Ideal) (arg.view.writes (Elt Ideal) G L) = c3 f) (u : ℕ → ℕ → ℝ) :
    arg.view.read (Elt Ideal) (arg.view.writes (Elt Ideal) G ((⟨Rect.unit (s := S2x2048x128) o S1x256x128.size ho, tOut (ca u)⟩ : View.Piece (Elt Ideal) S2x2048x128 .f32) :: L))
      = c3 fun s' t l => if s' = s ∧ b ≤ t ∧ t < b + 256 then u (t - b) l else f s' t l := by
  funext y
  rw [wrBlk_apply arg o ho s b e, hX]
  show _ = (((if _ then _ else _ : ℝ)) : EReal)
  split_ifs <;> rfl

/-- The two stores of a block, one per sequence, each the old rows plus a part. -/
theorem accBlk_co (o o' : Fin 3 → ℕ) (ho : ∀ a, o a + S1x256x128.size a ≤ S2x2048x128.size a)
    (ho' : ∀ a, o' a + S1x256x128.size a ≤ S2x2048x128.size a) (b : ℕ) (e : o = ![0, b, 0]) (e' : o' = ![1, b, 0])
    (G : BufTy.Contents (Elt Ideal) arg.view.ty) (L : List (View.Piece (Elt Ideal) S2x2048x128 .f32)) (f : ℕ → ℕ → ℕ → ℝ)
    (hX : arg.view.read (Elt Ideal) (arg.view.writes (Elt Ideal) G L) = c3 f) (w w' : ℕ → ℕ → ℝ) (x x' : VA Ideal) (hx : x = ca w) (hx' : x' = ca w')
    (p : View.Piece (Elt Ideal) S2x2048x128 .f32)
    (hp : p = ⟨Rect.unit (s := S2x2048x128) o S1x256x128.size ho, tOut (addf (ldBlk arg o ho (arg.view.writes (Elt Ideal) G L)) x)⟩) :
    arg.view.read (Elt Ideal) (arg.view.writes (Elt Ideal) G
        ((⟨Rect.unit (s := S2x2048x128) o' S1x256x128.size ho', tOut (addf (ldBlk arg o' ho' (arg.view.writes (Elt Ideal) G (p :: L))) x')⟩ : View.Piece (Elt Ideal) S2x2048x128 .f32) :: p :: L))
      = c3 fun s t l => f s t l + if b ≤ t ∧ t < b + 256 then (if s = 0 then w (t - b) l else w' (t - b) l) else 0 := by
  subst hx; subst hx'; subst hp
  rw [ldBlk_co arg o ho 0 b e _ f hX, addA_co]
  have h1 := wrBlk_co arg o ho 0 b e G L f hX (fun r l => rows (f 0) b r l + w r l)
  rw [ldBlk_co arg o' ho' 1 b e' _ _ h1, addA_co, wrBlk_co arg o' ho' 1 b e' G _ _ h1]
  refine c3_congr fun s hs t ht l hl => ?_
  by_cases h : b ≤ t ∧ t < b + 256
  · have : b + (t - b) = t := by omega
    rcases (by omega : s = 0 ∨ s = 1) with rfl | rfl <;> simp [h, rows, this]
  · rw [if_neg h, if_neg (fun hh => h hh.2), if_neg (fun hh => h hh.2), add_zero]

end Cert.KernelIdeal.Hand

end
-- ==== Proof.KernelIdeal.Loop.lean ====
/- The key loop of a query block over the reals: before key block `n` the carried query gradients are the sums over the keys of the
   earlier blocks, the carries are what the later keys keep and the sums so far, and the key and value gradients hold this query
   block's part on those keys; the diagonal tile completes the query block. -/
module

public import proofs.«01_k».proof.Proof.KernelIdeal.HeadReal
public import proofs.«01_k».proof.Proof.KernelIdeal.Blocks
public import proofs.«01_k».proof.Proof.KernelIdeal.Frame

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Finset (range)

/-! ## Where the blocks lie -/

theorem off1_eq : ∀ k : Fin k0_t1_loop.trips, k0_off1 k = ![0, 256 * k.val, 0] := by decide +kernel
theorem off2_eq : ∀ k : Fin k0_t1_loop.trips, k0_off2 k = ![1, 256 * k.val, 0] := by decide +kernel
theorem off4_eq (k : Fin k0_t1_loop.trips) (w : BitVec 32) (hw : w = 0#32) (n : Fin (k0_t2_loop k w).trips) : k0_off4 k w n = ![0, 256 * n.val, 0] := by
  subst hw; revert n; revert k; decide +kernel
theorem off5_eq (k : Fin k0_t1_loop.trips) (w : BitVec 32) (hw : w = 0#32) (n : Fin (k0_t2_loop k w).trips) : k0_off5 k w n = ![1, 256 * n.val, 0] := by
  subst hw; revert n; revert k; decide +kernel
theorem trips2 (k : Fin k0_t1_loop.trips) (w : BitVec 32) (hw : w = 0#32) : (k0_t2_loop k w).trips = k.val := by
  subst hw; revert k; decide +kernel
theorem trips3 (k : Fin k0_t1_loop.trips) (w : BitVec 32) (hw : w = 0#32) : (k0_t3_loop k w).trips = 0 := by
  subst hw; revert k; decide +kernel

/-! ## The arrays a grid point reads -/

/-- The scaled queries of sequence `b`. -/
def Qs (q : ℕ → ℕ → ℕ → ℝ) (b t l : ℕ) : ℝ := q b t l * (1 / 8)
/-- The gradient of the attention's output of sequence `b`. -/
def Ds (g : ℕ → ℝ) (o dy : ℕ → ℕ → ℕ → ℝ) (b : ℕ) : ℕ → ℕ → ℝ := doF g (o b) (dy b)

/-- The buffers a grid point reads hold the real arrays `q`, `k`, `v`, `o`, `T`, `dy` and the gain `g`, and the totals `T` are those of
    the scores. -/
structure Ins (arg3 arg4 arg5 arg6 arg7 arg8 : Memref sig .tc .vmem S2x2048x128 .f32) (v0 : Vec Ideal S1x128 .f32)
    (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty)
    (X7 : BufTy.Contents (Elt Ideal) arg7.view.ty) (X8 : BufTy.Contents (Elt Ideal) arg8.view.ty)
    (q k v o T dy : ℕ → ℕ → ℕ → ℝ) (g : ℕ → ℝ) : Prop where
  hq : arg3.view.read (Elt Ideal) X3 = c3 q
  hk : arg4.view.read (Elt Ideal) X4 = c3 k
  hv : arg5.view.read (Elt Ideal) X5 = c3 v
  ho : arg6.view.read (Elt Ideal) X6 = c3 o
  hT : arg7.view.read (Elt Ideal) X7 = c3 T
  hy : arg8.view.read (Elt Ideal) X8 = c3 dy
  hg : v0 = cg g
  tl : ∀ b < 2, ∀ t < 2048, ∀ l < 64, T b t l = Rem (dotf (loF (Qs q b)) (k b)) t 0
  th : ∀ b < 2, ∀ t < 2048, ∀ l < 128, 64 ≤ l → T b t l = Rem (dotf (hiF (Qs q b)) (k b)) t 0

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 : BitVec 32) (arg1 : BitVec 32) (v0 : Vec Ideal S1x128 .f32)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (X9 : BufTy.Contents (Elt Ideal) arg9.view.ty)
  (hX : ∀ y, arg9.view.read (Elt Ideal) X9 y = (0#32 : BitVec 32))

variable (q kk v o T dy : ℕ → ℕ → ℕ → ℝ) (g : ℕ → ℝ)
  (H : Ins arg3 arg4 arg5 arg6 arg7 arg8 v0 X3 X4 X5 X6 X7 X8 q kk v o T dy g)

include H in
theorem v31_co (k : Fin k0_t1_loop.trips) : (trip1.sl.v31 arg3 X3 k) = ca (rows (loF (Qs q 0)) (256 * k.val)) := by
  rw [v31_eq, ldBlk_co arg3 _ _ 0 _ (off1_eq k) X3 q H.hq, hQ_co]
  exact tL_rows (Qs q 0) _

include H in
theorem v35_co (k : Fin k0_t1_loop.trips) : (trip1.sl.v35 arg3 X3 k) = ca (rows (hiF (Qs q 0)) (256 * k.val)) := by
  rw [v35_eq, ldBlk_co arg3 _ _ 0 _ (off1_eq k) X3 q H.hq, hQ_co]
  exact tH_rows (Qs q 0) _

include H in
theorem v127_co (k : Fin k0_t1_loop.trips) : (trip1.sl.v127 arg3 X3 k) = ca (rows (loF (Qs q 1)) (256 * k.val)) := by
  rw [v127_eq, ldBlk_co arg3 _ _ 1 _ (off2_eq k) X3 q H.hq, hQ_co]
  exact tL_rows (Qs q 1) _

include H in
theorem v131_co (k : Fin k0_t1_loop.trips) : (trip1.sl.v131 arg3 X3 k) = ca (rows (hiF (Qs q 1)) (256 * k.val)) := by
  rw [v131_eq, ldBlk_co arg3 _ _ 1 _ (off2_eq k) X3 q H.hq, hQ_co]
  exact tH_rows (Qs q 1) _

include H in
theorem v99_co (k : Fin k0_t1_loop.trips) : (trip1.sl.v99 arg6 arg8 v0 X6 X8 k) = ca (rows (Ds g o dy 0) (256 * k.val)) := by
  rw [v99_eq, ldBlk_co arg6 _ _ 0 _ (off1_eq k) X6 o H.ho, ldBlk_co arg8 _ _ 0 _ (off1_eq k) X8 dy H.hy, H.hg, hDo_co]
  rfl

include H in
theorem v195_co (k : Fin k0_t1_loop.trips) : k0_pay192 (trip1.sl.v134 arg6 X6 k) (trip1.sl.v191 arg6 arg8 v0 X6 X8 k) (trip1.sl.v193 arg6 arg8 v0 X6 X8 k) = ca (rows (Ds g o dy 1) (256 * k.val)) := by
  rw [v195_eq, ldBlk_co arg6 _ _ 1 _ (off2_eq k) X6 o H.ho, ldBlk_co arg8 _ _ 1 _ (off2_eq k) X8 dy H.hy, H.hg, hDo_co]
  rfl

include H in
theorem init2_co (k : Fin k0_t1_loop.trips) :
    init2 arg7 X7 k = (ca fun _ _ => 0, ca fun _ _ => 0,
      rl (Qs q 0) (kk 0) (256 * k.val) 0, rl (Qs q 1) (kk 1) (256 * k.val) 0, rh (Qs q 0) (kk 0) (256 * k.val) 0, rh (Qs q 1) (kk 1) (256 * k.val) 0,
      c1 fun _ => 0, c1 fun _ => 0, c1 fun _ => 0, c1 fun _ => 0) := by
  have hk : k.val < 8 := lt_of_lt_of_eq k.isLt trips1
  unfold init2
  rw [ldBlk_co arg7 _ _ 0 _ (off1_eq k) X7 T H.hT, ldBlk_co arg7 _ _ 1 _ (off2_eq k) X7 T H.hT, z1_co, zA_co,
    hTotL_co (rows (T 0) (256 * k.val)) (fun r => Rem (dotf (loF (Qs q 0)) (kk 0)) (256 * k.val + r) 0) (fun r hr l hl => H.tl 0 (by omega) _ (by omega) l hl),
    hTotL_co (rows (T 1) (256 * k.val)) (fun r => Rem (dotf (loF (Qs q 1)) (kk 1)) (256 * k.val + r) 0) (fun r hr l hl => H.tl 1 (by omega) _ (by omega) l hl),
    hTotH_co (rows (T 0) (256 * k.val)) (fun r => Rem (dotf (hiF (Qs q 0)) (kk 0)) (256 * k.val + r) 0) (fun r hr l hl h6 => H.th 0 (by omega) _ (by omega) l hl h6),
    hTotH_co (rows (T 1) (256 * k.val)) (fun r => Rem (dotf (hiF (Qs q 1)) (kk 1)) (256 * k.val + r) 0) (fun r hr l hl h6 => H.th 1 (by omega) _ (by omega) l hl h6)]

/-- One more trip of the key loop, by the trip. -/
theorem s2_next (k : Fin k0_t1_loop.trips) (acc : FVec Ideal S1x128 .f32) (f11 : BufTy.Contents (Elt Ideal) arg11.view.ty) (f12 : BufTy.Contents (Elt Ideal) arg12.view.ty) (n : ℕ) (h : n < (k0_t2_loop k (trip1.sl.r i arg9 X9 k)).trips) :
    (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 (n + 1)) = ((trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2),
      (trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).2.1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1,
      (trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).2.2.1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) := by
  unfold s2
  exact st_k0_t2_succ (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 f11 f12 (init2 arg7 X7 k) ⟨n, h⟩

/-- What an accumulated array holds, split at a block. -/
theorem part_split (f : ℕ → ℕ → ℕ → ℝ) (p : ℕ → ℕ → ℕ → ℕ → ℝ) (n : ℕ) :
    (c3 fun s t l => (f s t l + if t < 256 * n then ∑ r ∈ range 256, p s r t l else 0)
        + if 256 * n ≤ t ∧ t < 256 * n + 256 then (if s = 0 then ∑ r ∈ range 256, p 0 r (256 * n + (t - 256 * n)) l else ∑ r ∈ range 256, p 1 r (256 * n + (t - 256 * n)) l) else 0)
      = c3 fun s t l => f s t l + if t < 256 * (n + 1) then ∑ r ∈ range 256, p s r t l else 0 := by
  refine c3_congr fun s hs t ht l hl => ?_
  by_cases h1 : t < 256 * n
  · rw [if_pos h1, if_pos (show t < 256 * (n + 1) by omega), if_neg (show ¬(256 * n ≤ t ∧ t < 256 * n + 256) by omega), add_zero]
  · by_cases h2 : t < 256 * (n + 1)
    · rw [if_neg h1, if_pos (show 256 * n ≤ t ∧ t < 256 * n + 256 by omega), if_pos h2, add_zero, show 256 * n + (t - 256 * n) = t by omega]
      rcases (by omega : s = 0 ∨ s = 1) with rfl | rfl <;> simp
    · rw [if_neg h1, if_neg (show ¬(256 * n ≤ t ∧ t < 256 * n + 256) by omega), if_neg h2, add_zero]

include H in
/-- The state before key block `n`. -/
theorem s2_co (k : Fin k0_t1_loop.trips) (acc : FVec Ideal S1x128 .f32) (f11 : BufTy.Contents (Elt Ideal) arg11.view.ty) (f12 : BufTy.Contents (Elt Ideal) arg12.view.ty) (fK fV : ℕ → ℕ → ℕ → ℝ)
    (h11 : arg11.view.read (Elt Ideal) f11 = c3 fK) (h12 : arg12.view.read (Elt Ideal) f12 = c3 fV) :
    ∀ n ≤ k.val,
      (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 = ((ca fun r l => ∑ s ∈ range (256 * n), pQ (Qs q 0) (kk 0) (v 0) (Ds g o dy 0) (256 * k.val + r) s l),
      (ca fun r l => ∑ s ∈ range (256 * n), pQ (Qs q 1) (kk 1) (v 1) (Ds g o dy 1) (256 * k.val + r) s l),
      rl (Qs q 0) (kk 0) (256 * k.val) (256 * n), rl (Qs q 1) (kk 1) (256 * k.val) (256 * n), rh (Qs q 0) (kk 0) (256 * k.val) (256 * n), rh (Qs q 1) (kk 1) (256 * k.val) (256 * n),
      gl (Qs q 0) (kk 0) (v 0) (Ds g o dy 0) (256 * k.val) (256 * n), gl (Qs q 1) (kk 1) (v 1) (Ds g o dy 1) (256 * k.val) (256 * n), gh (Qs q 0) (kk 0) (v 0) (Ds g o dy 0) (256 * k.val) (256 * n), gh (Qs q 1) (kk 1) (v 1) (Ds g o dy 1) (256 * k.val) (256 * n))
      ∧ arg11.view.read (Elt Ideal) (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) = (c3 fun b s l => fK b s l + if s < (256 * n) then ∑ r ∈ range 256, pK (Qs q b) (kk b) (v b) (Ds g o dy b) (256 * k.val + r) s l else 0)
      ∧ arg12.view.read (Elt Ideal) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) = (c3 fun b s l => fV b s l + if s < (256 * n) then ∑ r ∈ range 256, pV (Qs q b) (kk b) (Ds g o dy b) (256 * k.val + r) s l else 0) := by
  intro n
  induction n with
  | zero =>
    intro _
    refine ⟨?_, ?_, ?_⟩
    · show init2 arg7 X7 k = _
      rw [init2_co arg3 arg4 arg5 arg6 arg7 arg8 v0 X3 X4 X5 X6 X7 X8 q kk v o T dy g H k]
      unfold gl gh
      simp only [Nat.mul_zero, Finset.range_zero, Finset.sum_empty, Car_zero]
    · show arg11.view.read (Elt Ideal) f11 = _
      rw [h11]; refine c3_congr fun s hs t ht l hl => ?_
      simp
    · show arg12.view.read (Elt Ideal) f12 = _
      rw [h12]; refine c3_congr fun s hs t ht l hl => ?_
      simp
  | succ n ih =>
    intro hn
    obtain ⟨i1, i2, i3⟩ := ih (by omega)
    have hw := wd_zero i arg9 X9 hX k
    unfold wd at hw
    have h : n < (k0_t2_loop k (trip1.sl.r i arg9 X9 k)).trips := by rw [trips2 k _ hw]; omega
    have hle : 256 * n + 256 ≤ 256 * k.val := by omega
    have o4 := off4_eq k (trip1.sl.r i arg9 X9 k) hw ⟨n, h⟩
    have o5 := off5_eq k (trip1.sl.r i arg9 X9 k) hw ⟨n, h⟩
    have e31 := v31_co arg3 arg4 arg5 arg6 arg7 arg8 v0 X3 X4 X5 X6 X7 X8 q kk v o T dy g H k
    have e35 := v35_co arg3 arg4 arg5 arg6 arg7 arg8 v0 X3 X4 X5 X6 X7 X8 q kk v o T dy g H k
    have e127 := v127_co arg3 arg4 arg5 arg6 arg7 arg8 v0 X3 X4 X5 X6 X7 X8 q kk v o T dy g H k
    have e131 := v131_co arg3 arg4 arg5 arg6 arg7 arg8 v0 X3 X4 X5 X6 X7 X8 q kk v o T dy g H k
    have e99 := v99_co arg3 arg4 arg5 arg6 arg7 arg8 v0 X3 X4 X5 X6 X7 X8 q kk v o T dy g H k
    have e195 := v195_co arg3 arg4 arg5 arg6 arg7 arg8 v0 X3 X4 X5 X6 X7 X8 q kk v o T dy g H k
    rw [s2_next c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n h]
    refine ⟨?_, ?_, ?_⟩
    · show (trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) = _
      refine (trip2_R ..).trans ?_
      rw [i1]
      dsimp only
      rw [e31, e35, e127, e131, e99, e195, ldBlk_co arg4 _ _ 0 _ o4 X4 kk H.hk, ldBlk_co arg4 _ _ 1 _ o5 X4 kk H.hk,
        ldBlk_co arg5 _ _ 0 _ o4 X5 v H.hv, ldBlk_co arg5 _ _ 1 _ o5 X5 v H.hv]
      dsimp only
      rw [fDq_sum _ _ _ _ _ _ hle, fDq_sum _ _ _ _ _ _ hle, tL_rows, tH_rows, tL_rows, tH_rows, addA_co, addA_co]
      unfold rl rh gl gh
      rw [fRem_sum _ _ _ _ hle, fRem_sum _ _ _ _ hle, fRem_sum _ _ _ _ hle, fRem_sum _ _ _ _ hle,
        fCar_sum _ _ _ _ _ _ hle, fCar_sum _ _ _ _ _ _ hle, fCar_sum _ _ _ _ _ _ hle, fCar_sum _ _ _ _ _ _ hle]
      simp only [Nat.mul_succ, Finset.sum_range_add]
    · show arg11.view.read (Elt Ideal) (arg11.view.writes (Elt Ideal) f11 ((trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).2.1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1)) = _
      refine (congrArg (fun L => arg11.view.read (Elt Ideal) (arg11.view.writes (Elt Ideal) f11 (L ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1))) (trip2_K ..)).trans ?_
      dsimp only
      rw [View.writes_append]
      refine (accBlk_co arg11 _ _ _ _ _ o4 o5 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) [] _ i2 (fun c l => ∑ r ∈ range 256, pK (Qs q 0) (kk 0) (v 0) (Ds g o dy 0) (256 * k.val + r) (256 * n + c) l) (fun c l => ∑ r ∈ range 256, pK (Qs q 1) (kk 1) (v 1) (Ds g o dy 1) (256 * k.val + r) (256 * n + c) l) _ _ ?_ ?_ _ rfl).trans ?_
      · rw [i1]
        dsimp only
        rw [e31, e35, e99, ldBlk_co arg4 _ _ 0 _ o4 X4 kk H.hk, ldBlk_co arg5 _ _ 0 _ o4 X5 v H.hv]
        exact fDk_sum _ _ _ _ _ _ hle
      · rw [i1]
        dsimp only
        rw [e127, e131, e195, ldBlk_co arg4 _ _ 1 _ o5 X4 kk H.hk, ldBlk_co arg5 _ _ 1 _ o5 X5 v H.hv]
        exact fDk_sum _ _ _ _ _ _ hle
      · exact part_split fK (fun b r s l => pK (Qs q b) (kk b) (v b) (Ds g o dy b) (256 * k.val + r) s l) n
    · show arg12.view.read (Elt Ideal) (arg12.view.writes (Elt Ideal) f12 ((trip_k0_t2 (F := Ideal) Variants.none c none i arg2 harg2 arg3 harg3 arg4 harg4 arg5 harg5 arg6 harg6 arg7 harg7 arg8 harg8 arg9 harg9 arg10 harg10 arg11 harg11 arg12 harg12 arg13 harg13 arg0 arg1 k0_pay1 k (trip1.sl.arg14 k) (trip1.sl.v17 k) k0_pay159 (trip1.sl.v31 arg3 X3 k) (trip1.sl.v35 arg3 X3 k) (trip1.sl.v99 arg6 arg8 v0 X6 X8 k) (trip1.sl.v100 arg6 arg8 X6 X8 k acc) (trip1.sl.v109 arg7 X7 k) (trip1.sl.v115 arg7 X7 k) (trip1.sl.v127 arg3 X3 k) (trip1.sl.v131 arg3 X3 k) (trip1.sl.v134 arg6 X6 k) (trip1.sl.v166 arg6 arg8 X6 X8 k) (trip1.sl.v191 arg6 arg8 v0 X6 X8 k) (trip1.sl.v193 arg6 arg8 v0 X6 X8 k) (trip1.sl.r i arg9 X9 k) (chk_word hX i k) X4 X5 ⟨n, h⟩).2.2.1 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).1 (arg11.view.writes (Elt Ideal) f11 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.1) (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2)) = _
      refine (congrArg (fun L => arg12.view.read (Elt Ideal) (arg12.view.writes (Elt Ideal) f12 (L ++ (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2))) (trip2_V ..)).trans ?_
      dsimp only
      rw [View.writes_append]
      refine (accBlk_co arg12 _ _ _ _ _ o4 o5 (arg12.view.writes (Elt Ideal) f12 (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 n).2.2) [] _ i3 (fun c l => ∑ r ∈ range 256, pV (Qs q 0) (kk 0) (Ds g o dy 0) (256 * k.val + r) (256 * n + c) l) (fun c l => ∑ r ∈ range 256, pV (Qs q 1) (kk 1) (Ds g o dy 1) (256 * k.val + r) (256 * n + c) l) _ _ ?_ ?_ _ rfl).trans ?_
      · rw [i1]
        dsimp only
        rw [e31, e35, e99, ldBlk_co arg4 _ _ 0 _ o4 X4 kk H.hk]
        exact fDv_sum _ _ _ _ _ hle
      · rw [i1]
        dsimp only
        rw [e127, e131, e195, ldBlk_co arg4 _ _ 1 _ o5 X4 kk H.hk]
        exact fDv_sum _ _ _ _ _ hle
      · exact part_split fV (fun b r s l => pV (Qs q b) (kk b) (Ds g o dy b) (256 * k.val + r) s l) n

end

end Cert.KernelIdeal.Hand

end
-- ==== Proof.KernelIdeal.Block.lean ====
/- A query block, and the loop over the query blocks, over the reals: the query gradient's rows, the key and value gradients'
   additions and the gain's partial sum. -/
module

public import proofs.«01_k».proof.Proof.KernelIdeal.Loop

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

open Finset (range)

/-- The two stores of a block's query gradient, one per sequence. -/
theorem outBlk_co (arg : Memref sig .tc .vmem S2x2048x128 .f32) (o o' : Fin 3 → ℕ) (ho : ∀ a, o a + S1x256x128.size a ≤ S2x2048x128.size a)
    (ho' : ∀ a, o' a + S1x256x128.size a ≤ S2x2048x128.size a) (b : ℕ) (e : o = ![0, b, 0]) (e' : o' = ![1, b, 0])
    (G : BufTy.Contents (Elt Ideal) arg.view.ty) (w w' : ℕ → ℕ → ℝ) (x x' : VA Ideal) (hx : x = ca w) (hx' : x' = ca w') (y : S2x2048x128.Idx) :
    arg.view.read (Elt Ideal) (arg.view.writes (Elt Ideal) G
        [(⟨Rect.unit (s := S2x2048x128) o' S1x256x128.size ho', hOut x'⟩ : View.Piece (Elt Ideal) S2x2048x128 .f32), ⟨Rect.unit (s := S2x2048x128) o S1x256x128.size ho, hOut x⟩]) y
      = if b ≤ (y 1).val ∧ (y 1).val < b + 256 then
          (((if (y 0).val = 0 then w ((y 1).val - b) (y 2).val else w' ((y 1).val - b) (y 2).val) * (1 / 8) : ℝ) : EReal)
        else arg.view.read (Elt Ideal) G y := by
  subst hx; subst hx'
  rw [hOut_co, hOut_co, wrBlk_apply arg o' ho' 1 b e', wrBlk_apply arg o ho 0 b e]
  have hy0 : (y 0).val < 2 := (y 0).isLt
  by_cases h : b ≤ (y 1).val ∧ (y 1).val < b + 256
  · rcases (by omega : (y 0).val = 0 ∨ (y 0).val = 1) with e | e
    · rw [if_neg (by omega), if_pos ⟨e, h⟩, if_pos h, if_pos e]
    · rw [if_pos ⟨e, h⟩, if_pos h, if_neg (by omega)]
  · rw [if_neg (fun q => h q.2), if_neg (fun q => h q.2), if_neg h]
    rfl

/-- The gain's part at one element. -/
def gnF (o dy : ℕ → ℕ → ℕ → ℝ) (b t l : ℕ) : ℝ := o b t l * rF (o b) t l * dy b t l

/-- A row's query gradient needs only the keys of its own block and before. -/
theorem pQ_full (Q K V D : ℕ → ℕ → ℝ) (k : ℕ) (hk : k < 8) (r l : ℕ) (hr : r < 256) :
    (∑ s ∈ range (256 * k), pQ Q K V D (256 * k + r) s l) + ∑ c ∈ range 256, pQ Q K V D (256 * k + r) (256 * k + c) l
      = ∑ s ∈ range 2048, pQ Q K V D (256 * k + r) s l := by
  rw [← Finset.sum_range_add (fun s => pQ Q K V D (256 * k + r) s l)]
  refine Finset.sum_subset (fun x hx => ?_) (fun x _ hx => ?_)
  · rw [Finset.mem_range] at *; omega
  · rw [Finset.mem_range] at hx; exact pQ_zero _ _ _ _ _ (by omega)

/-- Adding a block's part of an accumulated array, for the keys before and in the block; there is none after. -/
theorem part_diag (f : ℕ → ℕ → ℕ → ℝ) (p : ℕ → ℕ → ℕ → ℕ → ℝ) (k : ℕ) (hp : ∀ b t s l, t ≤ s → p b t s l = 0) :
    (c3 fun s t l => (f s t l + if t < 256 * k then ∑ r ∈ range 256, p s (256 * k + r) t l else 0)
        + if 256 * k ≤ t ∧ t < 256 * k + 256 then (if s = 0 then ∑ r ∈ range 256, p 0 (256 * k + r) (256 * k + (t - 256 * k)) l
            else ∑ r ∈ range 256, p 1 (256 * k + r) (256 * k + (t - 256 * k)) l) else 0)
      = c3 fun s t l => f s t l + ∑ r ∈ range 256, p s (256 * k + r) t l := by
  refine c3_congr fun s hs t ht l hl => ?_
  by_cases h1 : t < 256 * k
  · rw [if_pos h1, if_neg (show ¬(256 * k ≤ t ∧ t < 256 * k + 256) by omega), add_zero]
  · by_cases h2 : t < 256 * k + 256
    · rw [if_neg h1, if_pos (show 256 * k ≤ t ∧ t < 256 * k + 256 by omega), add_zero, show 256 * k + (t - 256 * k) = t by omega]
      rcases (by omega : s = 0 ∨ s = 1) with rfl | rfl <;> simp
    · rw [if_neg h1, if_neg (show ¬(256 * k ≤ t ∧ t < 256 * k + 256) by omega), add_zero,
        Finset.sum_eq_zero fun r hr => hp s (256 * k + r) t l (by rw [Finset.mem_range] at hr; omega)]

section
variable (c : Dev nD) (i : grid0.Coords)
  (arg2 : Memref sig .tc .vmem S1x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S2x2048x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 : BitVec 32) (arg1 : BitVec 32) (v0 : Vec Ideal S1x128 .f32)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (X7 : BufTy.Contents (Elt Ideal) arg7.view.ty) (X8 : BufTy.Contents (Elt Ideal) arg8.view.ty)
  (X9 : BufTy.Contents (Elt Ideal) arg9.view.ty)
  (hX : ∀ y, arg9.view.read (Elt Ideal) X9 y = (0#32 : BitVec 32))

variable (q kk v o T dy : ℕ → ℕ → ℕ → ℝ) (g : ℕ → ℝ)
  (H : Ins arg3 arg4 arg5 arg6 arg7 arg8 v0 X3 X4 X5 X6 X7 X8 q kk v o T dy g)

/-- The loop after the diagonal's is never entered, so the state is the key loop's. -/
theorem s3_eq (k : Fin k0_t1_loop.trips) (acc : FVec Ideal S1x128 .f32) (f11 : BufTy.Contents (Elt Ideal) arg11.view.ty) (f12 : BufTy.Contents (Elt Ideal) arg12.view.ty) : (s3 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12) = (s2 c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12 k.val) := by
  have hw := wd_zero i arg9 X9 hX k
  unfold wd at hw
  unfold s3
  have e2 : Scf.trips (k0_t2_loop k (trip1.sl.r i arg9 X9 k)).lb (k0_t2_loop k (trip1.sl.r i arg9 X9 k)).ub (k0_t2_loop k (trip1.sl.r i arg9 X9 k)).st = k.val := trips2 k _ hw
  have e3 : Scf.trips (k0_t3_loop k (trip1.sl.r i arg9 X9 k)).lb (k0_t3_loop k (trip1.sl.r i arg9 X9 k)).ub (k0_t3_loop k (trip1.sl.r i arg9 X9 k)).st = 0 := trips3 k _ hw
  rw [e2, e3]
  rfl

include H in
/-- The gain's sum after a block. -/
theorem blk_R (k : Fin k0_t1_loop.trips) (acc : FVec Ideal S1x128 .f32) (f11 : BufTy.Contents (Elt Ideal) arg11.view.ty) (f12 : BufTy.Contents (Elt Ideal) arg12.view.ty) (A : ℕ → ℝ) (hA : acc = cg A) :
    (trip1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).1 acc f11 f12 = cg fun l => A l + ∑ r ∈ range 256, (gnF o dy 0 (256 * k.val + r) l + gnF o dy 1 (256 * k.val + r) l) := by
  refine (trip1_R c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12).trans ?_
  rw [hA, ldBlk_co arg6 _ _ 0 _ (off1_eq k) X6 o H.ho, ldBlk_co arg8 _ _ 0 _ (off1_eq k) X8 dy H.hy,
    ldBlk_co arg6 _ _ 1 _ (off2_eq k) X6 o H.ho, ldBlk_co arg8 _ _ 1 _ (off2_eq k) X8 dy H.hy, hGn_co, hGn_co, addG_co, addG_co]
  congr 1
  funext l
  rw [Finset.sum_add_distrib, add_assoc]
  rfl

include H in
/-- What a block leaves in the query gradient. -/
theorem blk_Q (k : Fin k0_t1_loop.trips) (acc : FVec Ideal S1x128 .f32) (f11 : BufTy.Contents (Elt Ideal) arg11.view.ty) (f12 : BufTy.Contents (Elt Ideal) arg12.view.ty) (fK fV : ℕ → ℕ → ℕ → ℝ)
    (h11 : arg11.view.read (Elt Ideal) f11 = c3 fK) (h12 : arg12.view.read (Elt Ideal) f12 = c3 fV)
    (G : BufTy.Contents (Elt Ideal) arg10.view.ty) (y : S2x2048x128.Idx) :
    arg10.view.read (Elt Ideal) (arg10.view.writes (Elt Ideal) G ((trip1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.1 acc f11 f12)) y
      = if 256 * k.val ≤ (y 1).val ∧ (y 1).val < 256 * k.val + 256 then
          (((∑ s ∈ range 2048, pQ (Qs q (y 0).val) (kk (y 0).val) (v (y 0).val) (Ds g o dy (y 0).val) (y 1).val s (y 2).val) * (1 / 8) : ℝ) : EReal)
        else arg10.view.read (Elt Ideal) G y := by
  have hw := wd_zero i arg9 X9 hX k
  unfold wd at hw
  have hk8 : k.val < 8 := lt_of_lt_of_eq k.isLt trips1
  obtain ⟨i1, i2, i3⟩ := s2_co c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H k acc f11 f12 fK fV h11 h12 k.val le_rfl
  refine (congrArg (fun L => arg10.view.read (Elt Ideal) (arg10.view.writes (Elt Ideal) G L) y) (trip1_Q c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12)).trans ?_
  rw [s3_eq c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12, i1]
  refine (outBlk_co arg10 _ _ _ _ _ (off8_eq k) (off9_eq k) G (fun r l => ∑ s ∈ range 2048, pQ (Qs q 0) (kk 0) (v 0) (Ds g o dy 0) (256 * k.val + r) s l) (fun r l => ∑ s ∈ range 2048, pQ (Qs q 1) (kk 1) (v 1) (Ds g o dy 1) (256 * k.val + r) s l) _ _ ?_ ?_ y).trans ?_
  · dsimp only
    rw [ldBlk_co arg3 _ _ 0 _ (off1_eq k) X3 q H.hq, ldBlk_co arg4 _ _ 0 _ (off8_eq k) X4 kk H.hk, ldBlk_co arg5 _ _ 0 _ (off8_eq k) X5 v H.hv, ldBlk_co arg6 _ _ 0 _ (off1_eq k) X6 o H.ho, ldBlk_co arg8 _ _ 0 _ (off1_eq k) X8 dy H.hy, H.hg, hQ_co, hDo_co]
    change addf _ (dDq (tL (ca (rows (Qs q 0) (256 * k.val)))) (tH (ca (rows (Qs q 0) (256 * k.val)))) _ _ (ca (rows (Ds g o dy 0) (256 * k.val))) _ _ _ _) = _
    rw [tL_rows, tH_rows, dDq_sum, addA_co]
    exact ca_congr fun r hr l hl => pQ_full _ _ _ _ k.val hk8 r l hr
  · dsimp only
    rw [ldBlk_co arg3 _ _ 1 _ (off2_eq k) X3 q H.hq, ldBlk_co arg4 _ _ 1 _ (off9_eq k) X4 kk H.hk, ldBlk_co arg5 _ _ 1 _ (off9_eq k) X5 v H.hv, ldBlk_co arg6 _ _ 1 _ (off2_eq k) X6 o H.ho, ldBlk_co arg8 _ _ 1 _ (off2_eq k) X8 dy H.hy, H.hg, hQ_co, hDo_co]
    change addf _ (dDq (tL (ca (rows (Qs q 1) (256 * k.val)))) (tH (ca (rows (Qs q 1) (256 * k.val)))) _ _ (ca (rows (Ds g o dy 1) (256 * k.val))) _ _ _ _) = _
    rw [tL_rows, tH_rows, dDq_sum, addA_co]
    exact ca_congr fun r hr l hl => pQ_full _ _ _ _ k.val hk8 r l hr
  · have hy0 : (y 0).val < 2 := (y 0).isLt
    by_cases h : 256 * k.val ≤ (y 1).val ∧ (y 1).val < 256 * k.val + 256
    · rw [if_pos h, if_pos h]
      have ht : 256 * k.val + ((y 1).val - 256 * k.val) = (y 1).val := by omega
      rcases (by omega : (y 0).val = 0 ∨ (y 0).val = 1) with e | e
      · rw [if_pos e, ht, e]
      · rw [if_neg (by omega), ht, e]
    · rw [if_neg h, if_neg h]

include H in
/-- What a block adds to the key gradient. -/
theorem blk_K (k : Fin k0_t1_loop.trips) (acc : FVec Ideal S1x128 .f32) (f11 : BufTy.Contents (Elt Ideal) arg11.view.ty) (f12 : BufTy.Contents (Elt Ideal) arg12.view.ty) (fK fV : ℕ → ℕ → ℕ → ℝ)
    (h11 : arg11.view.read (Elt Ideal) f11 = c3 fK) (h12 : arg12.view.read (Elt Ideal) f12 = c3 fV) :
    arg11.view.read (Elt Ideal) (arg11.view.writes (Elt Ideal) f11 ((trip1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.1 acc f11 f12))
      = c3 fun b s l => fK b s l + ∑ r ∈ range 256, pK (Qs q b) (kk b) (v b) (Ds g o dy b) (256 * k.val + r) s l := by
  have hw := wd_zero i arg9 X9 hX k
  unfold wd at hw
  have hk8 : k.val < 8 := lt_of_lt_of_eq k.isLt trips1
  obtain ⟨i1, i2, i3⟩ := s2_co c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H k acc f11 f12 fK fV h11 h12 k.val le_rfl
  refine (congrArg (fun L => arg11.view.read (Elt Ideal) (arg11.view.writes (Elt Ideal) f11 L)) (trip1_K c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12)).trans ?_
  rw [s3_eq c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12, i1]
  refine (accBlk_co arg11 _ _ _ _ _ (off8_eq k) (off9_eq k) f11 _ _ i2 (fun c l => ∑ r ∈ range 256, pK (Qs q 0) (kk 0) (v 0) (Ds g o dy 0) (256 * k.val + r) (256 * k.val + c) l) (fun c l => ∑ r ∈ range 256, pK (Qs q 1) (kk 1) (v 1) (Ds g o dy 1) (256 * k.val + r) (256 * k.val + c) l) _ _ ?_ ?_ _ rfl).trans ?_
  · dsimp only
    rw [ldBlk_co arg3 _ _ 0 _ (off1_eq k) X3 q H.hq, ldBlk_co arg4 _ _ 0 _ (off8_eq k) X4 kk H.hk, ldBlk_co arg5 _ _ 0 _ (off8_eq k) X5 v H.hv, ldBlk_co arg6 _ _ 0 _ (off1_eq k) X6 o H.ho, ldBlk_co arg8 _ _ 0 _ (off1_eq k) X8 dy H.hy, H.hg, hQ_co, hDo_co]
    change dDk (tL (ca (rows (Qs q 0) (256 * k.val)))) (tH (ca (rows (Qs q 0) (256 * k.val)))) _ _ (ca (rows (Ds g o dy 0) (256 * k.val))) _ _ _ _ = _
    rw [tL_rows, tH_rows]
    exact dDk_sum _ _ _ _ _
  · dsimp only
    rw [ldBlk_co arg3 _ _ 1 _ (off2_eq k) X3 q H.hq, ldBlk_co arg4 _ _ 1 _ (off9_eq k) X4 kk H.hk, ldBlk_co arg5 _ _ 1 _ (off9_eq k) X5 v H.hv, ldBlk_co arg6 _ _ 1 _ (off2_eq k) X6 o H.ho, ldBlk_co arg8 _ _ 1 _ (off2_eq k) X8 dy H.hy, H.hg, hQ_co, hDo_co]
    change dDk (tL (ca (rows (Qs q 1) (256 * k.val)))) (tH (ca (rows (Qs q 1) (256 * k.val)))) _ _ (ca (rows (Ds g o dy 1) (256 * k.val))) _ _ _ _ = _
    rw [tL_rows, tH_rows]
    exact dDk_sum _ _ _ _ _
  · exact part_diag fK (fun b t s l => pK (Qs q b) (kk b) (v b) (Ds g o dy b) t s l) k.val (fun b t s l h => pK_zero (Qs q b) (kk b) (v b) (Ds g o dy b) l h)

include H in
/-- What a block adds to the value gradient. -/
theorem blk_V (k : Fin k0_t1_loop.trips) (acc : FVec Ideal S1x128 .f32) (f11 : BufTy.Contents (Elt Ideal) arg11.view.ty) (f12 : BufTy.Contents (Elt Ideal) arg12.view.ty) (fK fV : ℕ → ℕ → ℕ → ℝ)
    (h11 : arg11.view.read (Elt Ideal) f11 = c3 fK) (h12 : arg12.view.read (Elt Ideal) f12 = c3 fV) :
    arg12.view.read (Elt Ideal) (arg12.view.writes (Elt Ideal) f12 ((trip1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k).2.2.2.1 acc f11 f12))
      = c3 fun b s l => fV b s l + ∑ r ∈ range 256, pV (Qs q b) (kk b) (Ds g o dy b) (256 * k.val + r) s l := by
  have hw := wd_zero i arg9 X9 hX k
  unfold wd at hw
  have hk8 : k.val < 8 := lt_of_lt_of_eq k.isLt trips1
  obtain ⟨i1, i2, i3⟩ := s2_co c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H k acc f11 f12 fK fV h11 h12 k.val le_rfl
  refine (congrArg (fun L => arg12.view.read (Elt Ideal) (arg12.view.writes (Elt Ideal) f12 L)) (trip1_V c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12)).trans ?_
  rw [s3_eq c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX k acc f11 f12, i1]
  refine (accBlk_co arg12 _ _ _ _ _ (off8_eq k) (off9_eq k) f12 _ _ i3 (fun c l => ∑ r ∈ range 256, pV (Qs q 0) (kk 0) (Ds g o dy 0) (256 * k.val + r) (256 * k.val + c) l) (fun c l => ∑ r ∈ range 256, pV (Qs q 1) (kk 1) (Ds g o dy 1) (256 * k.val + r) (256 * k.val + c) l) _ _ ?_ ?_ _ rfl).trans ?_
  · dsimp only
    rw [ldBlk_co arg3 _ _ 0 _ (off1_eq k) X3 q H.hq, ldBlk_co arg4 _ _ 0 _ (off8_eq k) X4 kk H.hk, ldBlk_co arg6 _ _ 0 _ (off1_eq k) X6 o H.ho, ldBlk_co arg8 _ _ 0 _ (off1_eq k) X8 dy H.hy, H.hg, hQ_co, hDo_co]
    change dDv (tL (ca (rows (Qs q 0) (256 * k.val)))) (tH (ca (rows (Qs q 0) (256 * k.val)))) _ (ca (rows (Ds g o dy 0) (256 * k.val))) _ _ = _
    rw [tL_rows, tH_rows]
    exact dDv_sum _ _ _ _
  · dsimp only
    rw [ldBlk_co arg3 _ _ 1 _ (off2_eq k) X3 q H.hq, ldBlk_co arg4 _ _ 1 _ (off9_eq k) X4 kk H.hk, ldBlk_co arg6 _ _ 1 _ (off2_eq k) X6 o H.ho, ldBlk_co arg8 _ _ 1 _ (off2_eq k) X8 dy H.hy, H.hg, hQ_co, hDo_co]
    change dDv (tL (ca (rows (Qs q 1) (256 * k.val)))) (tH (ca (rows (Qs q 1) (256 * k.val)))) _ (ca (rows (Ds g o dy 1) (256 * k.val))) _ _ = _
    rw [tL_rows, tH_rows]
    exact dDv_sum _ _ _ _
  · exact part_diag fV (fun b t s l => pV (Qs q b) (kk b) (Ds g o dy b) t s l) k.val (fun b t s l h => pV_zero (Qs q b) (kk b) (Ds g o dy b) l h)

include H in
/-- The state before block `n`: the rows of the blocks before are in the query gradient, their parts in the key and value gradients and in the
    gain's sum. -/
theorem st1_co (G10 : BufTy.Contents (Elt Ideal) arg10.view.ty) (G11 : BufTy.Contents (Elt Ideal) arg11.view.ty) (G12 : BufTy.Contents (Elt Ideal) arg12.view.ty) (init : FVec Ideal S1x128 .f32)
    (h11 : arg11.view.read (Elt Ideal) G11 = c3 fun _ _ _ => 0) (h12 : arg12.view.read (Elt Ideal) G12 = c3 fun _ _ _ => 0) (hi : init = cg fun _ => 0) :
    ∀ n ≤ 8, (st1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).1 = (cg fun l => ∑ t ∈ range (256 * n), (gnF o dy 0 t l + gnF o dy 1 t l))
      ∧ (∀ y : S2x2048x128.Idx, (y 1).val < 256 * n → arg10.view.read (Elt Ideal) (arg10.view.writes (Elt Ideal) G10 (st1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.1) y
          = (((∑ s ∈ range 2048, pQ (Qs q (y 0).val) (kk (y 0).val) (v (y 0).val) (Ds g o dy (y 0).val) (y 1).val s (y 2).val) * (1 / 8) : ℝ) : EReal))
      ∧ arg11.view.read (Elt Ideal) (arg11.view.writes (Elt Ideal) G11 (st1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.2.1) = (c3 fun b s l => ∑ t ∈ range (256 * n), pK (Qs q b) (kk b) (v b) (Ds g o dy b) t s l)
      ∧ arg12.view.read (Elt Ideal) (arg12.view.writes (Elt Ideal) G12 (st1 (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init n).2.2.2) = (c3 fun b s l => ∑ t ∈ range (256 * n), pV (Qs q b) (kk b) (Ds g o dy b) t s l) := by
  intro n
  induction n with
  | zero =>
    intro _
    refine ⟨?_, fun y hy => absurd hy (by omega), ?_, ?_⟩
    · show init = _
      rw [hi]; simp
    · show arg11.view.read (Elt Ideal) G11 = _
      rw [h11]; simp
    · show arg12.view.read (Elt Ideal) G12 = _
      rw [h12]; simp
  | succ n ih =>
    intro hn
    obtain ⟨i1, i2, i3, i4⟩ := ih (by omega)
    have hs := st1_succ (F := Ideal) c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX G11 G12 init ⟨n, lt_of_lt_of_eq (by omega : n < 8) trips1.symm⟩
    dsimp only at hs
    rw [hs]
    dsimp only
    refine ⟨?_, fun y hy => ?_, ?_, ?_⟩
    · refine (blk_R c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H _ _ _ _ _ i1).trans ?_
      congr 1
      funext l
      rw [Nat.mul_succ, Finset.sum_range_add]
    · rw [View.writes_append]
      refine (blk_Q c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H _ _ _ _ _ _ i3 i4 _ y).trans ?_
      dsimp only
      by_cases h : 256 * n ≤ (y 1).val ∧ (y 1).val < 256 * n + 256
      · rw [if_pos h]
      · rw [if_neg h]; exact i2 y (by omega)
    · rw [View.writes_append]
      refine (blk_K c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H _ _ _ _ _ _ i3 i4).trans ?_
      refine c3_congr fun b hb s hs l hl => ?_
      rw [Nat.mul_succ, Finset.sum_range_add]
    · rw [View.writes_append]
      refine (blk_V c i arg2 harg2 arg3 harg3 arg4 harg4 arg5 harg5 arg6 harg6 arg7 harg7 arg8 harg8 arg9 harg9 arg10 harg10 arg11 harg11 arg12 harg12 arg13 harg13 arg0 arg1 v0 X3 X4 X5 X6 X7 X8 X9 hX q kk v o T dy g H _ _ _ _ _ _ i3 i4).trans ?_
      refine c3_congr fun b hb s hs l hl => ?_
      rw [Nat.mul_succ, Finset.sum_range_add]

end

end Cert.KernelIdeal.Hand

end
-- ==== Proof.KernelIdeal.Arrays.lean ====
/- The blocks a grid point reads, off arrays that hold real numbers, and what the result arrays hold after the last point. -/
module

public import proofs.«01_k».proof.Proof.KernelIdeal.Block
public import Idealize.ShloMosaic.Lib.Pipeline.ValueKit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Finset (range)

variable (m : (ℓ : Loc nD τ sig) → Buf (Elt Ideal) ℓ) (c : Dev nD)

/-! ## Where each window's block lies -/

theorem idx0 : ∀ t : Fin cfg0.N, win0_0.index t = ![0, t.val / 2] :=
  (by decide +kernel : ∀ t : Fin grid0.N, win0_0.index t = ![0, t.val / 2])
theorem idx1 : ∀ t : Fin cfg0.N, win0_1.index t = ![t.val % 2, 0, 14 + t.val / 2] :=
  (by decide +kernel : ∀ t : Fin grid0.N, win0_1.index t = ![t.val % 2, 0, 14 + t.val / 2])
theorem idx2 : ∀ t : Fin cfg0.N, win0_2.index t = ![t.val % 2, 0, 18 + t.val / 2] :=
  (by decide +kernel : ∀ t : Fin grid0.N, win0_2.index t = ![t.val % 2, 0, 18 + t.val / 2])
theorem idx3 : ∀ t : Fin cfg0.N, win0_3.index t = ![t.val % 2, 0, 22 + t.val / 2] :=
  (by decide +kernel : ∀ t : Fin grid0.N, win0_3.index t = ![t.val % 2, 0, 22 + t.val / 2])
theorem idx4 : ∀ t : Fin cfg0.N, win0_4.index t = ![t.val % 2, 0, t.val / 2] :=
  (by decide +kernel : ∀ t : Fin grid0.N, win0_4.index t = ![t.val % 2, 0, t.val / 2])
theorem idx5 : ∀ t : Fin cfg0.N, win0_5.index t = ![t.val % 2, 0, t.val / 2] :=
  (by decide +kernel : ∀ t : Fin grid0.N, win0_5.index t = ![t.val % 2, 0, t.val / 2])
theorem idx6 : ∀ t : Fin cfg0.N, win0_6.index t = ![t.val % 2, 0, 4 + t.val / 2] :=
  (by decide +kernel : ∀ t : Fin grid0.N, win0_6.index t = ![t.val % 2, 0, 4 + t.val / 2])
theorem idx8 : ∀ t : Fin cfg0.N, win0_8.index t = ![t.val % 2, 0, t.val / 2] :=
  (by decide +kernel : ∀ t : Fin grid0.N, win0_8.index t = ![t.val % 2, 0, t.val / 2])
theorem idx9 : ∀ t : Fin cfg0.N, win0_9.index t = ![t.val % 2, 0, t.val / 2] :=
  (by decide +kernel : ∀ t : Fin grid0.N, win0_9.index t = ![t.val % 2, 0, t.val / 2])
theorem idx10 : ∀ t : Fin cfg0.N, win0_10.index t = ![t.val % 2, 0, t.val / 2] :=
  (by decide +kernel : ∀ t : Fin grid0.N, win0_10.index t = ![t.val % 2, 0, t.val / 2])
theorem idx11 : ∀ t : Fin cfg0.N, win0_11.index t = ![0, t.val / 2] :=
  (by decide +kernel : ∀ t : Fin grid0.N, win0_11.index t = ![0, t.val / 2])

/-- The block of an array at a point: two sequences from `2 * (n % 2)`, 128 columns from `o + 128 * (n / 2)`. -/
def bl (f : ℕ → ℕ → ℕ → ℝ) (o n : ℕ) (b s l : ℕ) : ℝ := f (2 * (n % 2) + b) s (o + (128 * (n / 2) + l))
/-- The gain's block at a point. -/
def blg (g : ℕ → ℝ) (n : ℕ) (l : ℕ) : ℝ := g (128 * (n / 2) + l)

/-- The arrays the call reads hold the real arrays `P`, `g`, `O`, `TT`, `DY`, and `TT` is the rows' sum of the kept scores. -/
structure Reals (P : ℕ → ℕ → ℕ → ℝ) (g : ℕ → ℝ) (O TT DY : ℕ → ℕ → ℕ → ℝ) : Prop where
  hP : ∀ y : S4x2048x3328.Idx, (V m c main_arg0 : BufTy.Contents (Elt Ideal) ⟨S4x2048x3328, .f32⟩) y = ((P (y 0).val (y 1).val (y 2).val : ℝ) : EReal)
  hg : ∀ y : S1x512.Idx, (V m c main_arg1 : BufTy.Contents (Elt Ideal) ⟨S1x512, .f32⟩) y = ((g (y 1).val : ℝ) : EReal)
  hO : ∀ y : S4x2048x512.Idx, (V m c main_v30 : BufTy.Contents (Elt Ideal) ⟨S4x2048x512, .f32⟩) y = ((O (y 0).val (y 1).val (y 2).val : ℝ) : EReal)
  hT : ∀ y : S4x2048x512.Idx, (V m c main_v34 : BufTy.Contents (Elt Ideal) ⟨S4x2048x512, .f32⟩) y = ((TT (y 0).val (y 1).val (y 2).val : ℝ) : EReal)
  hY : ∀ y : S4x2048x1024.Idx, (V m c main_arg2 : BufTy.Contents (Elt Ideal) ⟨S4x2048x1024, .f32⟩) y = ((DY (y 0).val (y 1).val (y 2).val : ℝ) : EReal)
  tl : ∀ n < 8, ∀ b < 2, ∀ t < 2048, ∀ l < 64, bl TT 0 n b t l = Rem (dotf (loF (Qs (bl P 1792 n) b)) (bl P 2304 n b)) t 0
  th : ∀ n < 8, ∀ b < 2, ∀ t < 2048, ∀ l < 128, 64 ≤ l → bl TT 0 n b t l = Rem (dotf (hiF (Qs (bl P 1792 n) b)) (bl P 2304 n b)) t 0

/-- The query gradient of point `n`. -/
def dQf (P : ℕ → ℕ → ℕ → ℝ) (g : ℕ → ℝ) (O DY : ℕ → ℕ → ℕ → ℝ) (n b t l : ℕ) : ℝ :=
  (∑ s ∈ range 2048, pQ (Qs (bl P 1792 n) b) (bl P 2304 n b) (bl P 2816 n b) (Ds (blg g n) (bl O 0 n) (bl DY 512 n) b) t s l) * (1 / 8)
/-- The key gradient of point `n`. -/
def dKf (P : ℕ → ℕ → ℕ → ℝ) (g : ℕ → ℝ) (O DY : ℕ → ℕ → ℕ → ℝ) (n b s l : ℕ) : ℝ :=
  ∑ t ∈ range 2048, pK (Qs (bl P 1792 n) b) (bl P 2304 n b) (bl P 2816 n b) (Ds (blg g n) (bl O 0 n) (bl DY 512 n) b) t s l
/-- The value gradient of point `n`. -/
def dVf (P : ℕ → ℕ → ℕ → ℝ) (g : ℕ → ℝ) (O DY : ℕ → ℕ → ℕ → ℝ) (n b s l : ℕ) : ℝ :=
  ∑ t ∈ range 2048, pV (Qs (bl P 1792 n) b) (bl P 2304 n b) (Ds (blg g n) (bl O 0 n) (bl DY 512 n) b) t s l
/-- The gain's partial gradient of point `n`. -/
def dGf (O DY : ℕ → ℕ → ℕ → ℝ) (n l : ℕ) : ℝ :=
  ∑ t ∈ range 2048, (gnF (bl O 0 n) (bl DY 512 n) 0 t l + gnF (bl O 0 n) (bl DY 512 n) 1 t l)

/-- The zero block the key and value gradients start from. -/
theorem zero_block (a : Memref sig .tc .vmem S2x2048x128 .f32) (x : FVec Ideal S2x2048x128 .f32) (hx : x = c3 fun _ _ _ => 0)
    (G : BufTy.Contents (Elt Ideal) a.view.ty) :
    a.view.read (Elt Ideal) (a.view.writes (Elt Ideal) G [(⟨Rect.unit (s := S2x2048x128) ![0, 0, 0] S2x2048x128.size inb_S2x2048x128_S2x2048x128_0_0_0, x⟩ : View.Piece (Elt Ideal) S2x2048x128 .f32)])
      = c3 fun _ _ _ => 0 := by
  subst hx
  funext y
  refine View.read_writes_cons_hit_of_coords a.view G (Rect.unit (s := S2x2048x128) ![0, 0, 0] S2x2048x128.size inb_S2x2048x128_S2x2048x128_0_0_0) _ [] y y ?_
  intro d
  fin_cases d <;> simp [Rect.unit]

theorem pay2_co : k0_pay2 (F := Ideal) = c3 fun _ _ _ => 0 := by
  funext y; unfold k0_pay2 c3; idx_vars y; pointwise []; simp [Ideal.ofBits, Ideal.ieee]
theorem pay3_co : k0_pay3 (F := Ideal) = c3 fun _ _ _ => 0 := by
  funext y; unfold k0_pay3 c3; idx_vars y; pointwise []; simp [Ideal.ofBits, Ideal.ieee]
theorem pay4_co : k0_pay4 (F := Ideal) = cg fun _ => 0 := by
  funext y; unfold k0_pay4 cg; idx_vars y; pointwise []; simp [Ideal.ofBits, Ideal.ieee]
theorem pay8_co (x y : FVec Ideal S1x128 .f32) (a b : ℕ → ℝ) (hx : x = cg a) (hy : y = cg b) : k0_pay8 x y = cg fun l => b l + a l := by
  subst hx; subst hy
  unfold k0_pay8
  first | exact addG_co _ _ | (rw [shapeCast_self]; exact addG_co _ _)

variable {P : ℕ → ℕ → ℕ → ℝ} {g : ℕ → ℝ} {O TT DY : ℕ → ℕ → ℕ → ℝ} (H : Reals m c P g O TT DY) (t : Fin cfg0.N)

section
include H
/-- Window 1's block at a point. -/
theorem iblk1 : iblk m c 1 t = c3 (bl P 1792 t.val) := by
  funext y
  refine (H.hP _).trans ?_
  unfold c3 bl
  blk_simp
  rw [idx1 t]
  have e1 : t.val % 2 * 2 + (y 0).val = 2 * (t.val % 2) + (y 0).val := by omega
  have e2 : 0 * 2048 + (y 1).val = (y 1).val := by omega
  have e3 : (14 + t.val / 2) * 128 + (y 2).val = 1792 + (128 * (t.val / 2) + (y 2).val) := by omega

  show ((P (t.val % 2 * 2 + (y 0).val) (0 * 2048 + (y 1).val) ((14 + t.val / 2) * 128 + (y 2).val) : ℝ) : EReal) = _
  rw [e1, e2, e3]

/-- Window 2's block at a point. -/
theorem iblk2 : iblk m c 2 t = c3 (bl P 2304 t.val) := by
  funext y
  refine (H.hP _).trans ?_
  unfold c3 bl
  blk_simp
  rw [idx2 t]
  have e1 : t.val % 2 * 2 + (y 0).val = 2 * (t.val % 2) + (y 0).val := by omega
  have e2 : 0 * 2048 + (y 1).val = (y 1).val := by omega
  have e3 : (18 + t.val / 2) * 128 + (y 2).val = 2304 + (128 * (t.val / 2) + (y 2).val) := by omega

  show ((P (t.val % 2 * 2 + (y 0).val) (0 * 2048 + (y 1).val) ((18 + t.val / 2) * 128 + (y 2).val) : ℝ) : EReal) = _
  rw [e1, e2, e3]

/-- Window 3's block at a point. -/
theorem iblk3 : iblk m c 3 t = c3 (bl P 2816 t.val) := by
  funext y
  refine (H.hP _).trans ?_
  unfold c3 bl
  blk_simp
  rw [idx3 t]
  have e1 : t.val % 2 * 2 + (y 0).val = 2 * (t.val % 2) + (y 0).val := by omega
  have e2 : 0 * 2048 + (y 1).val = (y 1).val := by omega
  have e3 : (22 + t.val / 2) * 128 + (y 2).val = 2816 + (128 * (t.val / 2) + (y 2).val) := by omega

  show ((P (t.val % 2 * 2 + (y 0).val) (0 * 2048 + (y 1).val) ((22 + t.val / 2) * 128 + (y 2).val) : ℝ) : EReal) = _
  rw [e1, e2, e3]

/-- Window 4's block at a point. -/
theorem iblk4 : iblk m c 4 t = c3 (bl O 0 t.val) := by
  funext y
  refine (H.hO _).trans ?_
  unfold c3 bl
  blk_simp
  rw [idx4 t]
  have e1 : t.val % 2 * 2 + (y 0).val = 2 * (t.val % 2) + (y 0).val := by omega
  have e2 : 0 * 2048 + (y 1).val = (y 1).val := by omega
  have e3 : (0 + t.val / 2) * 128 + (y 2).val = 0 + (128 * (t.val / 2) + (y 2).val) := by omega
  have e4 : (t.val / 2) * 128 + (y 2).val = 128 * (t.val / 2) + (y 2).val := by omega
  show ((O (t.val % 2 * 2 + (y 0).val) (0 * 2048 + (y 1).val) ((t.val / 2) * 128 + (y 2).val) : ℝ) : EReal) = _
  rw [e1, e2, e4]

/-- Window 5's block at a point. -/
theorem iblk5 : iblk m c 5 t = c3 (bl TT 0 t.val) := by
  funext y
  refine (H.hT _).trans ?_
  unfold c3 bl
  blk_simp
  rw [idx5 t]
  have e1 : t.val % 2 * 2 + (y 0).val = 2 * (t.val % 2) + (y 0).val := by omega
  have e2 : 0 * 2048 + (y 1).val = (y 1).val := by omega
  have e3 : (0 + t.val / 2) * 128 + (y 2).val = 0 + (128 * (t.val / 2) + (y 2).val) := by omega
  have e4 : (t.val / 2) * 128 + (y 2).val = 128 * (t.val / 2) + (y 2).val := by omega
  show ((TT (t.val % 2 * 2 + (y 0).val) (0 * 2048 + (y 1).val) ((t.val / 2) * 128 + (y 2).val) : ℝ) : EReal) = _
  rw [e1, e2, e4]

/-- Window 6's block at a point. -/
theorem iblk6 : iblk m c 6 t = c3 (bl DY 512 t.val) := by
  funext y
  refine (H.hY _).trans ?_
  unfold c3 bl
  blk_simp
  rw [idx6 t]
  have e1 : t.val % 2 * 2 + (y 0).val = 2 * (t.val % 2) + (y 0).val := by omega
  have e2 : 0 * 2048 + (y 1).val = (y 1).val := by omega
  have e3 : (4 + t.val / 2) * 128 + (y 2).val = 512 + (128 * (t.val / 2) + (y 2).val) := by omega

  show ((DY (t.val % 2 * 2 + (y 0).val) (0 * 2048 + (y 1).val) ((4 + t.val / 2) * 128 + (y 2).val) : ℝ) : EReal) = _
  rw [e1, e2, e3]

/-- The gain's block at a point. -/
theorem iblk0 : iblk m c 0 t = cg (blg g t.val) := by
  funext y
  refine (H.hg _).trans ?_
  unfold cg blg
  blk_simp
  rw [idx0 t]
  have e3 : (t.val / 2) * 128 + (y 1).val = 128 * (t.val / 2) + (y 1).val := by omega
  show ((g ((t.val / 2) * 128 + (y 1).val) : ℝ) : EReal) = _
  rw [e3]

/-- What the point reads. -/
theorem ins_pt : Ins (st0_1 t) (st0_2 t) (st0_3 t) (st0_4 t) (st0_5 t) (st0_6 t) (gainRow (st0_0 t) (X2 m c t))
    (X3 m c t) (X4 m c t) (X5 m c t) (X6 m c t) (X7 m c t) (X8 m c t)
    (bl P 1792 t.val) (bl P 2304 t.val) (bl P 2816 t.val) (bl O 0 t.val) (bl TT 0 t.val) (bl DY 512 t.val) (blg g t.val) where
  hq := ((hst1 t).read_unread _).trans (iblk1 m c H t)
  hk := ((hst2 t).read_unread _).trans (iblk2 m c H t)
  hv := ((hst3 t).read_unread _).trans (iblk3 m c H t)
  ho := ((hst4 t).read_unread _).trans (iblk4 m c H t)
  hT := ((hst5 t).read_unread _).trans (iblk5 m c H t)
  hy := ((hst6 t).read_unread _).trans (iblk6 m c H t)
  hg := by
    unfold gainRow
    rw [load_row]
    exact ((hst0 t).read_unread _).trans (iblk0 m c H t)
  tl := H.tl t.val (lt_of_lt_of_eq t.isLt N_0)
  th := H.th t.val (lt_of_lt_of_eq t.isLt N_0)

end

end Cert.KernelIdeal.Hand

end
-- ==== Proof.KernelIdeal.Point.lean ====
/- What a grid point leaves in its result blocks. -/
module

public import proofs.«01_k».proof.Proof.KernelIdeal.Arrays

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Finset (range)

variable (m : (ℓ : Loc nD τ sig) → Buf (Elt Ideal) ℓ) (c : Dev nD)

variable {P : ℕ → ℕ → ℕ → ℝ} {g : ℕ → ℝ} {O TT DY : ℕ → ℕ → ℕ → ℝ} (H : Reals m c P g O TT DY) (t : Fin cfg0.N)

section
include H
/-- The state after a point's eight blocks. -/
theorem pt_co :
    (ptSt m c t nblk).1 = cg (dGf O DY t.val)
    ∧ out8 m c t = c3 (dQf P g O DY t.val)
    ∧ out9 m c t = c3 (dKf P g O DY t.val)
    ∧ out10 m c t = c3 (dVf P g O DY t.val) := by
  have e8 : nblk = 8 := trips1
  have h := st1_co c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t)
    (BitVec.ofNat 32 (grid0.coords t 0).val) (BitVec.ofNat 32 (grid0.coords t 1).val) (gainRow (st0_0 t) (X2 m c t)) (X3 m c t) (X4 m c t) (X5 m c t) (X6 m c t) (X7 m c t) (X8 m c t) (X9 m c t) (table_zero m c t)
    _ _ _ _ _ _ _ (ins_pt m c H t) (st0_8 t).view.junk _ _ _ (zero_block (st0_9 t) _ pay2_co (st0_9 t).view.junk) (zero_block (st0_10 t) _ pay3_co (st0_10 t).view.junk) pay4_co 8 le_rfl
  obtain ⟨h1, h2, h3, h4⟩ := h
  refine ⟨?_, ?_, ?_, ?_⟩
  · rw [e8]; exact h1
  · unfold out8
    rw [e8]
    funext y
    exact h2 y (lt_of_lt_of_eq (y 1).isLt rfl)
  · unfold out9
    rw [e8, View.writes_append]
    exact h3
  · unfold out10
    rw [e8, View.writes_append]
    exact h4

/-- The gain's gradient after a pair of points. -/
theorem gain_co (h : ¬ t.val % 2 = 0) : gainSum m c t.val t.isLt = cg fun l => dGf O DY (t.val - 1) l + dGf O DY t.val l := by
  rw [gainSum_odd m c t h]
  have hp := gainSum_even m c ⟨t.val - 1, Nat.lt_of_le_of_lt (Nat.sub_le _ _) t.isLt⟩ (by show (t.val - 1) % 2 = 0; omega)
  exact pay8_co _ _ _ _ (pt_co m c H t).1 (hp.trans (pt_co m c H _).1)

end

end Cert.KernelIdeal.Hand

end
-- ==== Proof.KernelIdeal.Final.lean ====
/- The result arrays after the last point. -/
module

public import proofs.«01_k».proof.Proof.KernelIdeal.Point

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Finset (range)

variable (m : (ℓ : Loc nD τ sig) → Buf (Elt Ideal) ℓ) (c : Dev nD)

variable {P : ℕ → ℕ → ℕ → ℝ} {g : ℕ → ℝ} {O TT DY : ℕ → ℕ → ℕ → ℝ} (H : Reals m c P g O TT DY) (t : Fin cfg0.N)

/-! ## The result arrays -/

/-- A result array of 512 columns, from the points' blocks. -/
def arr (f : ℕ → ℕ → ℕ → ℕ → ℝ) : FVec Ideal S4x2048x512 .f32 := fun y =>
  ((f (2 * ((y 2).val / 128) + (y 0).val / 2) ((y 0).val % 2) (y 1).val ((y 2).val % 128) : ℝ) : EReal)

section
include H
/-- The query gradient after the last point. -/
theorem final8 : (dats m 0 c).arrAt 8 cfg0.N = arr (dQf P g O DY) := by
  refine (dats m 0 c).arrAt_eq_of_covers 8 _ (by decide +kernel) fun t _ y => ?_
  show (dats m 0 c).after 8 t _ = _
  rw [after0_8, (pt_co m c H t).2.1]
  have ht : t.val < 8 := lt_of_lt_of_eq t.isLt N_0
  have h0 : (y 0).val < 2 := (y 0).isLt
  have h2 : (y 2).val < 128 := (y 2).isLt
  unfold c3 arr
  blk_simp
  rw [idx8 t]
  show ((dQf P g O DY t.val (y 0).val (y 1).val (y 2).val : ℝ) : EReal)
    = ((dQf P g O DY (2 * ((t.val / 2 * 128 + (y 2).val) / 128) + (t.val % 2 * 2 + (y 0).val) / 2) ((t.val % 2 * 2 + (y 0).val) % 2) (0 * 2048 + (y 1).val) ((t.val / 2 * 128 + (y 2).val) % 128) : ℝ) : EReal)
  have e1 : 2 * ((t.val / 2 * 128 + (y 2).val) / 128) + (t.val % 2 * 2 + (y 0).val) / 2 = t.val := by omega
  have e2 : (t.val % 2 * 2 + (y 0).val) % 2 = (y 0).val := by omega
  have e3 : 0 * 2048 + (y 1).val = (y 1).val := by omega
  have e4 : (t.val / 2 * 128 + (y 2).val) % 128 = (y 2).val := by omega
  rw [e1, e2, e3, e4]

/-- The key gradient after the last point. -/
theorem final9 : (dats m 0 c).arrAt 9 cfg0.N = arr (dKf P g O DY) := by
  refine (dats m 0 c).arrAt_eq_of_covers 9 _ (by decide +kernel) fun t _ y => ?_
  show (dats m 0 c).after 9 t _ = _
  rw [after0_9, (pt_co m c H t).2.2.1]
  have ht : t.val < 8 := lt_of_lt_of_eq t.isLt N_0
  have h0 : (y 0).val < 2 := (y 0).isLt
  have h2 : (y 2).val < 128 := (y 2).isLt
  unfold c3 arr
  blk_simp
  rw [idx9 t]
  show ((dKf P g O DY t.val (y 0).val (y 1).val (y 2).val : ℝ) : EReal)
    = ((dKf P g O DY (2 * ((t.val / 2 * 128 + (y 2).val) / 128) + (t.val % 2 * 2 + (y 0).val) / 2) ((t.val % 2 * 2 + (y 0).val) % 2) (0 * 2048 + (y 1).val) ((t.val / 2 * 128 + (y 2).val) % 128) : ℝ) : EReal)
  have e1 : 2 * ((t.val / 2 * 128 + (y 2).val) / 128) + (t.val % 2 * 2 + (y 0).val) / 2 = t.val := by omega
  have e2 : (t.val % 2 * 2 + (y 0).val) % 2 = (y 0).val := by omega
  have e3 : 0 * 2048 + (y 1).val = (y 1).val := by omega
  have e4 : (t.val / 2 * 128 + (y 2).val) % 128 = (y 2).val := by omega
  rw [e1, e2, e3, e4]

/-- The value gradient after the last point. -/
theorem final10 : (dats m 0 c).arrAt 10 cfg0.N = arr (dVf P g O DY) := by
  refine (dats m 0 c).arrAt_eq_of_covers 10 _ (by decide +kernel) fun t _ y => ?_
  show (dats m 0 c).after 10 t _ = _
  rw [after0_10, (pt_co m c H t).2.2.2]
  have ht : t.val < 8 := lt_of_lt_of_eq t.isLt N_0
  have h0 : (y 0).val < 2 := (y 0).isLt
  have h2 : (y 2).val < 128 := (y 2).isLt
  unfold c3 arr
  blk_simp
  rw [idx10 t]
  show ((dVf P g O DY t.val (y 0).val (y 1).val (y 2).val : ℝ) : EReal)
    = ((dVf P g O DY (2 * ((t.val / 2 * 128 + (y 2).val) / 128) + (t.val % 2 * 2 + (y 0).val) / 2) ((t.val % 2 * 2 + (y 0).val) % 2) (0 * 2048 + (y 1).val) ((t.val / 2 * 128 + (y 2).val) % 128) : ℝ) : EReal)
  have e1 : 2 * ((t.val / 2 * 128 + (y 2).val) / 128) + (t.val % 2 * 2 + (y 0).val) / 2 = t.val := by omega
  have e2 : (t.val % 2 * 2 + (y 0).val) % 2 = (y 0).val := by omega
  have e3 : 0 * 2048 + (y 1).val = (y 1).val := by omega
  have e4 : (t.val / 2 * 128 + (y 2).val) % 128 = (y 2).val := by omega
  rw [e1, e2, e3, e4]

/-- The gain's gradient after the last point. -/
theorem final11 : (dats m 0 c).arrAt 11 cfg0.N = (fun y : S1x512.Idx =>
    ((dGf O DY (2 * ((y 1).val / 128)) ((y 1).val % 128) + dGf O DY (2 * ((y 1).val / 128) + 1) ((y 1).val % 128) : ℝ) : EReal)) := by
  refine (dats m 0 c).arrAt_eq_of_covers 11 _ (by decide +kernel) fun t hf y => ?_
  have hm := (flush0_11 t).mp hf
  show (dats m 0 c).after 11 t _ = _
  rw [after0_11, gain_co m c H t (by omega)]
  have ht : t.val < 8 := lt_of_lt_of_eq t.isLt N_0
  have h1 : (y 1).val < 128 := (y 1).isLt
  unfold cg
  blk_simp
  rw [idx11 t]
  show ((dGf O DY (t.val - 1) (y 1).val + dGf O DY t.val (y 1).val : ℝ) : EReal)
    = ((dGf O DY (2 * ((t.val / 2 * 128 + (y 1).val) / 128)) ((t.val / 2 * 128 + (y 1).val) % 128)
        + dGf O DY (2 * ((t.val / 2 * 128 + (y 1).val) / 128) + 1) ((t.val / 2 * 128 + (y 1).val) % 128) : ℝ) : EReal)
  have e1 : 2 * ((t.val / 2 * 128 + (y 1).val) / 128) = t.val - 1 := by omega
  have e2 : (t.val / 2 * 128 + (y 1).val) % 128 = (y 1).val := by omega
  have e3 : t.val - 1 + 1 = t.val := by omega
  rw [e1, e2, e3]

end

end Cert.KernelIdeal.Hand

end
-- ==== Proof.ReferenceIdeal.Window.lean ====
/- The two running sums of the reference, read as sums of real numbers. -/
module

public import proofs.«01_k».proof.Proof.Gen.ReferenceIdeal.Read
public import Idealize.ShloMosaic.Lib.Pointwise

@[expose] public section

set_option maxRecDepth 16384
set_option maxHeartbeats 4000000

noncomputable section

namespace Cert.ReferenceIdeal.Hand

open Cert.ReferenceIdeal Cert.ReferenceIdeal.Gen
open Idealize.ShloMosaic
open Finset (range)

/-- An array over batch, head, query and key, of real numbers. -/
def r4 (f : ℕ → ℕ → ℕ → ℕ → ℝ) : FVec Ideal S4x8x2048x2048 .f32 := fun y =>
  ((f (y 0).val (y 1).val (y 2).val (y 3).val : ℝ) : EReal)

/-- A fold that adds is the start plus the sum. -/
theorem foldl_add {n : ℕ} (v : EReal) (f : Fin n → EReal) :
    (List.finRange n).foldl (fun r i => r + f i) v = v + ∑ i : Fin n, f i := by
  rw [← List.foldl_map (f := f) (g := fun r x => r + x)]
  have h : ∀ (l : List EReal) (v : EReal), l.foldl (fun r x => r + x) v = v + l.sum := by
    intro l
    induction l with
    | nil => intro v; simp
    | cons a l ih => intro v; simp [ih, add_assoc]
  rw [h, ← List.ofFn_eq_map, List.sum_ofFn]

/-- The window's position `n`. -/
def wp (n : Fin (⟨4, ![1, 1, 1, 2048]⟩ : Shape).numel) : (⟨4, ![1, 1, 1, 2048]⟩ : Shape).Idx :=
  (⟨4, ![1, 1, 1, 2048]⟩ : Shape).rowMajor.symm n

/-- The last coordinate of the window's position `n`. -/
theorem win_pos (n : Fin (⟨4, ![1, 1, 1, 2048]⟩ : Shape).numel) :
    (wp n 0).val = 0 ∧ (wp n 1).val = 0
      ∧ (wp n 2).val = 0 ∧ (wp n 3).val = n.val := by
  have h := Shape.rowMajor_val_four ((⟨4, ![1, 1, 1, 2048]⟩ : Shape).rowMajor.symm n)
  rw [Equiv.apply_symm_apply] at h
  change n.val = (((wp n 0).val * 1 + (wp n 1).val) * 1 + (wp n 2).val) * 2048 + (wp n 3).val at h
  have h0 : (wp n 0).val < 1 := (wp n 0).isLt
  have h1 : (wp n 1).val < 1 := (wp n 1).isLt
  have h2 : (wp n 2).val < 1 := (wp n 2).isLt
  refine ⟨by omega, by omega, by omega, by omega⟩

theorem win_numel : (⟨4, ![1, 1, 1, 2048]⟩ : Shape).numel = 2048 := by decide +kernel

/-- A sum of real numbers over the window's positions. -/
theorem win_sum (g : ℕ → ℝ) :
    (∑ n : Fin (⟨4, ![1, 1, 1, 2048]⟩ : Shape).numel, ((g n.val : ℝ) : EReal)) = ((∑ n ∈ range 2048, g n : ℝ) : EReal) := by
  rw [Fin.sum_univ_eq_sum_range (fun n => ((g n : ℝ) : EReal)), win_numel]
  induction (range 2048) using Finset.induction_on with
  | empty => simp
  | insert a t ha ih => rw [Finset.sum_insert ha, Finset.sum_insert ha, ih, EReal.coe_add]

/-- The sum from a key on. -/
theorem window_from (f : ℕ → ℕ → ℕ → ℕ → ℝ) (init : FVec Ideal S_ .f32) (hi : ∀ y, init y = 0) :
    Host.reduceWindowAdd ![1, 1, 1, 2048] ![1, 1, 1, 1] ![0, 0, 0, 0] ![0, 0, 0, 2047] (r4 f) init
        reduceWindows_S4x8x2048x2048_S4x8x2048x2048_w1s1p0_0_w1s1p0_0_w1s1p0_0_w2048s1p0_2047 h_S_
      = r4 fun b h t s => ∑ n ∈ range 2048, if s + n < 2048 then f b h t (s + n) else 0 := by
  funext y
  unfold Host.reduceWindowAdd
  rw [Ideal.hostReduceWindowAdd_def, hi]
  unfold Ideal.hostReduceWindowAdd Host.reduceWindow
  dsimp only
  refine (foldl_add _ _).trans ?_
  rw [zero_add]
  refine Eq.trans (Finset.sum_congr rfl fun n _ => ?_) (win_sum fun n => if (y 3).val + n < 2048 then f (y 0).val (y 1).val (y 2).val ((y 3).val + n) else 0)
  obtain ⟨p0, p1, p2, p3⟩ := win_pos n
  have b0 : (y 0).val < 4 := (y 0).isLt
  have b1 : (y 1).val < 8 := (y 1).isLt
  have b2 : (y 2).val < 2048 := (y 2).isLt
  by_cases hc : (y 3).val + n.val < 2048
  · rw [dif_pos, if_pos hc]
    · unfold r4
      congr 1
      show f ((y 0).val * 1 + (wp n 0).val - 0) ((y 1).val * 1 + (wp n 1).val - 0) ((y 2).val * 1 + (wp n 2).val - 0) ((y 3).val * 1 + (wp n 3).val - 0) = _
      rw [p0, p1, p2, p3]
      simp
    · intro a
      fin_cases a
      · show 0 ≤ (y 0).val * 1 + (wp n 0).val ∧ (y 0).val * 1 + (wp n 0).val - 0 < 4; omega
      · show 0 ≤ (y 1).val * 1 + (wp n 1).val ∧ (y 1).val * 1 + (wp n 1).val - 0 < 8; omega
      · show 0 ≤ (y 2).val * 1 + (wp n 2).val ∧ (y 2).val * 1 + (wp n 2).val - 0 < 2048; omega
      · show 0 ≤ (y 3).val * 1 + (wp n 3).val ∧ (y 3).val * 1 + (wp n 3).val - 0 < 2048; omega
  · rw [dif_neg, if_neg hc]
    · rfl
    · intro h
      have h3 := (h 3).2
      change (y 3).val * 1 + (wp n 3).val - 0 < 2048 at h3
      omega

/-- The sum up to a key. -/
theorem window_upto (f : ℕ → ℕ → ℕ → ℕ → ℝ) (init : FVec Ideal S_ .f32) (hi : ∀ y, init y = 0) :
    Host.reduceWindowAdd ![1, 1, 1, 2048] ![1, 1, 1, 1] ![0, 0, 0, 2047] ![0, 0, 0, 0] (r4 f) init
        reduceWindows_S4x8x2048x2048_S4x8x2048x2048_w1s1p0_0_w1s1p0_0_w1s1p0_0_w2048s1p2047_0 h_S_
      = r4 fun b h t s => ∑ n ∈ range 2048, if 2047 ≤ s + n then f b h t (s + n - 2047) else 0 := by
  funext y
  unfold Host.reduceWindowAdd
  rw [Ideal.hostReduceWindowAdd_def, hi]
  unfold Ideal.hostReduceWindowAdd Host.reduceWindow
  dsimp only
  refine (foldl_add _ _).trans ?_
  rw [zero_add]
  refine Eq.trans (Finset.sum_congr rfl fun n _ => ?_) (win_sum fun n => if 2047 ≤ (y 3).val + n then f (y 0).val (y 1).val (y 2).val ((y 3).val + n - 2047) else 0)
  obtain ⟨p0, p1, p2, p3⟩ := win_pos n
  have b0 : (y 0).val < 4 := (y 0).isLt
  have b1 : (y 1).val < 8 := (y 1).isLt
  have b2 : (y 2).val < 2048 := (y 2).isLt
  have b3 : (y 3).val < 2048 := (y 3).isLt
  have bn : n.val < 2048 := lt_of_lt_of_eq n.isLt win_numel
  by_cases hc : 2047 ≤ (y 3).val + n.val
  · rw [dif_pos, if_pos hc]
    · unfold r4
      congr 1
      show f ((y 0).val * 1 + (wp n 0).val - 0) ((y 1).val * 1 + (wp n 1).val - 0) ((y 2).val * 1 + (wp n 2).val - 0) ((y 3).val * 1 + (wp n 3).val - 2047) = _
      rw [p0, p1, p2, p3]
      simp
    · intro a
      fin_cases a
      · show 0 ≤ (y 0).val * 1 + (wp n 0).val ∧ (y 0).val * 1 + (wp n 0).val - 0 < 4; omega
      · show 0 ≤ (y 1).val * 1 + (wp n 1).val ∧ (y 1).val * 1 + (wp n 1).val - 0 < 8; omega
      · show 0 ≤ (y 2).val * 1 + (wp n 2).val ∧ (y 2).val * 1 + (wp n 2).val - 0 < 2048; omega
      · show 2047 ≤ (y 3).val * 1 + (wp n 3).val ∧ (y 3).val * 1 + (wp n 3).val - 2047 < 2048; omega
  · rw [dif_neg, if_neg hc]
    · rfl
    · intro h
      have h3 := (h 3).1
      change 2047 ≤ (y 3).val * 1 + (wp n 3).val at h3
      omega

/-- Shifted to the key itself: what the keys from `s` on hold. -/
theorem from_eq (g : ℕ → ℝ) (s : ℕ) (hs : s ≤ 2048) :
    (∑ n ∈ range 2048, if s + n < 2048 then g (s + n) else 0) = (∑ n ∈ range 2048, g n) - ∑ n ∈ range s, g n := by
  have h : (∑ n ∈ range 2048, if s + n < 2048 then g (s + n) else 0) = ∑ n ∈ range (2048 - s), g (s + n) := by
    rw [← Finset.sum_subset (Finset.range_mono (Nat.sub_le 2048 s))]
    · exact Finset.sum_congr rfl fun n hn => if_pos (by have := Finset.mem_range.mp hn; omega)
    · intro n _ hn
      exact if_neg fun h => hn (Finset.mem_range.mpr (by omega))
  have h2 := Finset.sum_range_add g s (2048 - s)
  rw [Nat.add_sub_cancel' hs] at h2
  rw [h, h2]; ring

/-- Shifted to the key itself: what the keys up to `s` hold. -/
theorem upto_eq (g : ℕ → ℝ) (s : ℕ) (hs : s < 2048) :
    (∑ n ∈ range 2048, if 2047 ≤ s + n then g (s + n - 2047) else 0) = ∑ n ∈ range (s + 1), g n := by
  have h2 := Finset.sum_range_add (fun n => if 2047 ≤ s + n then g (s + n - 2047) else 0) (2047 - s) (s + 1)
  rw [show 2047 - s + (s + 1) = 2048 by omega] at h2
  rw [h2, Finset.sum_eq_zero, zero_add]
  · refine Finset.sum_congr rfl fun n _ => ?_
    rw [if_pos (by omega)]; congr 1; omega
  · intro n hn
    exact if_neg (by have := Finset.mem_range.mp hn; omega)

end Cert.ReferenceIdeal.Hand

end
-- ==== Proof.ReferenceIdeal.Forward.lean ====
/- The reference's forward lines, read as real numbers: the scores, the attention weights and the attention's output. -/
module

public import proofs.«01_k».proof.Proof.ReferenceIdeal.Window
public import proofs.«01_k».proof.Proof.KernelIdeal.HeadReal
public import proofs.«01_k».proof.Proof.KernelIdeal.TileSum

@[expose] public section

set_option maxRecDepth 16384
set_option maxHeartbeats 4000000

noncomputable section

namespace Cert.ReferenceIdeal.Hand

open Cert.ReferenceIdeal Cert.ReferenceIdeal.Gen Cert.ReferenceIdeal.Read
open Cert.KernelIdeal.Hand (lkf Lf Rem At Dl Car Dz coe_sum_fin coe_sum sel_bool coe_max absf_coe bits_8th)
open Idealize.ShloMosaic
open Finset (range)

/-- Head `h` of a slab of an array's columns. -/
def hd (P : ℕ → ℕ → ℕ → ℝ) (o b h t d : ℕ) : ℝ := P b t (o + (64 * h + d))
/-- The score of a query and a key in a head. -/
def hz (P : ℕ → ℕ → ℕ → ℝ) (b h t s : ℕ) : ℝ := (∑ d ∈ range 64, hd P 1792 b h t d * hd P 2304 b h s d) * (1 / 8)
/-- The attention's output in a head. -/
def ho (P : ℕ → ℕ → ℕ → ℝ) (b h t d : ℕ) : ℝ := ∑ s ∈ range 2048, At (hz P b h) t s * hd P 2816 b h s d

/-- The log of the share given. -/
def lbf (z : ℝ) : ℝ := -(max (-z) 0 + Real.log (1 + Real.exp (-|(-z)|)))

theorem lbf_sub (z : ℝ) : lbf z - z = lkf z := by
  unfold lbf lkf
  rw [abs_neg]
  have h : max (-z) 0 + z = max z 0 := by
    rcases le_total z 0 with h | h
    · rw [max_eq_left (by linarith), max_eq_right h]; ring
    · rw [max_eq_right (by linarith), max_eq_left h]; ring
  linarith

theorem bits_zero : (FloatOps.ofBits (F := Ideal) .f32 0x00000000#32 : EReal) = ((0 : ℝ) : EReal) := by
  show Ideal.ofBits .f32 0x00000000#32 = _
  simp [Ideal.ofBits, Ideal.ieee]
theorem bits_inf : (FloatOps.ofBits (F := Ideal) .f32 0x7F800000#32 : EReal) = ⊤ := by
  show Ideal.ofBits .f32 0x7F800000#32 = _
  simp [Ideal.ofBits, Ideal.ieee]

theorem negf_coe (a : ℝ) : (FloatOps.hostNegf (F := Ideal) (φ := .f32) (a : EReal) : EReal) = ((-a : ℝ) : EReal) := by
  show -(a : EReal) = _
  rw [EReal.coe_neg]
theorem une_self (a : EReal) : (FloatOps.cmpf (F := Ideal) (φ := .f32) .une a a : BitVec 1) = 0#1 := by
  show Ideal.cmp .une a a = _
  simp [Ideal.cmp]
theorem eq_inf (a : ℝ) : (FloatOps.cmpf (F := Ideal) (φ := .f32) .oeq (a : EReal) (⊤ : EReal) : BitVec 1) = 0#1 := by
  show Ideal.cmp .oeq (a : EReal) ⊤ = _
  simp [Ideal.cmp]
theorem sel_zero {α : Type} (a b : α) : Scalar.select (0#1) a b = b := rfl
theorem exp_coe (a : ℝ) : (FloatOps.hostUnary (F := Ideal) (φ := .f32) .exp (a : EReal) : EReal) = ((Real.exp a : ℝ) : EReal) := Ideal.exp_coe a
theorem log1p_coe (a : ℝ) (h : 0 < a) : (FloatOps.hostUnary (F := Ideal) (φ := .f32) .log1p (a : EReal) : EReal) = ((Real.log (1 + a) : ℝ) : EReal) := by
  show Ideal.log (1 + (a : EReal)) = _
  rw [show (1 : EReal) = ((1 : ℝ) : EReal) from rfl, ← EReal.coe_add, Ideal.log_coe, if_neg (by linarith)]
theorem absf_coe' (a : ℝ) : (FloatOps.hostAbsf (F := Ideal) (φ := .f32) (a : EReal) : EReal) = ((|a| : ℝ) : EReal) := absf_coe a
theorem add_coe (a b : ℝ) : (FloatOps.addf (F := Ideal) (φ := .f32) (a : EReal) (b : EReal) : EReal) = ((a + b : ℝ) : EReal) := (EReal.coe_add a b).symm
theorem sub_coe (a b : ℝ) : (FloatOps.subf (F := Ideal) (φ := .f32) (a : EReal) (b : EReal) : EReal) = ((a - b : ℝ) : EReal) := (EReal.coe_sub a b).symm
theorem mul_coe (a b : ℝ) : (FloatOps.mulf (F := Ideal) (φ := .f32) (a : EReal) (b : EReal) : EReal) = ((a * b : ℝ) : EReal) := (EReal.coe_mul a b).symm
theorem max_coe (a b : ℝ) : (FloatOps.maximumf (F := Ideal) (φ := .f32) (a : EReal) (b : EReal) : EReal) = ((max a b : ℝ) : EReal) := coe_max a b
theorem dot_coe {n : ℕ} (f g : ℕ → ℝ) : (∑ k : Fin n, ((f k.val : ℝ) : EReal) * ((g k.val : ℝ) : EReal)) = ((∑ k ∈ range n, f k * g k : ℝ) : EReal) := by
  rw [← coe_sum_fin]
  exact Finset.sum_congr rfl fun k _ => (EReal.coe_mul _ _).symm

section
variable (x0 : (⟨S4x2048x3328, .f32⟩ : BufTy).Contents (Elt Ideal)) (P : ℕ → ℕ → ℕ → ℝ)
  (h0 : ∀ y : S4x2048x3328.Idx, x0 y = ((P (y 0).val (y 1).val (y 2).val : ℝ) : EReal))
include h0

/-- The queries of the heads. -/
theorem v5_co (y : S4x8x2048x64.Idx) : val_main_v5 (F := Ideal) x0 y = ((hd P 1792 (y 0).val (y 1).val (y 2).val (y 3).val : ℝ) : EReal) := by
  rw [val_main_v5_apply, val_main_v4_apply, val_main_v1_apply, val_main_v0_apply, h0]
  have b1 : (y 1).val < 8 := (y 1).isLt
  have b2 : (y 2).val < 2048 := (y 2).isLt
  have b3 : (y 3).val < 64 := (y 3).isLt
  have e0 : ((((y 0).val * 2048 + (y 2).val) * 8 + (y 1).val) * 64 + (y 3).val) / 1048576 = (y 0).val := by omega
  have e1 : ((((y 0).val * 2048 + (y 2).val) * 8 + (y 1).val) * 64 + (y 3).val) / 512 % 2048 = (y 2).val := by omega
  have e2 : 1792 + (((((y 0).val * 2048 + (y 2).val) * 8 + (y 1).val) * 64 + (y 3).val) % 512) = 1792 + (64 * (y 1).val + (y 3).val) := by omega
  show ((P (((((y 0).val * 2048 + (y 2).val) * 8 + (y 1).val) * 64 + (y 3).val) / 1048576) (((((y 0).val * 2048 + (y 2).val) * 8 + (y 1).val) * 64 + (y 3).val) / 512 % 2048)
    (1792 + (((((y 0).val * 2048 + (y 2).val) * 8 + (y 1).val) * 64 + (y 3).val) % 512)) : ℝ) : EReal) = _
  rw [e0, e1, e2]
  rfl

/-- The keys of the heads. -/
theorem v7_co (y : S4x8x2048x64.Idx) : val_main_v7 (F := Ideal) x0 y = ((hd P 2304 (y 0).val (y 1).val (y 2).val (y 3).val : ℝ) : EReal) := by
  rw [val_main_v7_apply, val_main_v6_apply, val_main_v2_apply, val_main_v0_apply, h0]
  have b1 : (y 1).val < 8 := (y 1).isLt
  have b2 : (y 2).val < 2048 := (y 2).isLt
  have b3 : (y 3).val < 64 := (y 3).isLt
  have e0 : ((((y 0).val * 2048 + (y 2).val) * 8 + (y 1).val) * 64 + (y 3).val) / 1048576 = (y 0).val := by omega
  have e1 : ((((y 0).val * 2048 + (y 2).val) * 8 + (y 1).val) * 64 + (y 3).val) / 512 % 2048 = (y 2).val := by omega
  have e2 : 1792 + (512 + ((((y 0).val * 2048 + (y 2).val) * 8 + (y 1).val) * 64 + (y 3).val) % 512) = 2304 + (64 * (y 1).val + (y 3).val) := by omega
  show ((P (((((y 0).val * 2048 + (y 2).val) * 8 + (y 1).val) * 64 + (y 3).val) / 1048576) (((((y 0).val * 2048 + (y 2).val) * 8 + (y 1).val) * 64 + (y 3).val) / 512 % 2048)
    (1792 + (512 + ((((y 0).val * 2048 + (y 2).val) * 8 + (y 1).val) * 64 + (y 3).val) % 512)) : ℝ) : EReal) = _
  rw [e0, e1, e2]
  rfl

/-- The values of the heads. -/
theorem v9_co (y : S4x8x2048x64.Idx) : val_main_v9 (F := Ideal) x0 y = ((hd P 2816 (y 0).val (y 1).val (y 2).val (y 3).val : ℝ) : EReal) := by
  rw [val_main_v9_apply, val_main_v8_apply, val_main_v3_apply, val_main_v0_apply, h0]
  have b1 : (y 1).val < 8 := (y 1).isLt
  have b2 : (y 2).val < 2048 := (y 2).isLt
  have b3 : (y 3).val < 64 := (y 3).isLt
  have e0 : ((((y 0).val * 2048 + (y 2).val) * 8 + (y 1).val) * 64 + (y 3).val) / 1048576 = (y 0).val := by omega
  have e1 : ((((y 0).val * 2048 + (y 2).val) * 8 + (y 1).val) * 64 + (y 3).val) / 512 % 2048 = (y 2).val := by omega
  have e2 : 1792 + (1024 + ((((y 0).val * 2048 + (y 2).val) * 8 + (y 1).val) * 64 + (y 3).val) % 512) = 2816 + (64 * (y 1).val + (y 3).val) := by omega
  show ((P (((((y 0).val * 2048 + (y 2).val) * 8 + (y 1).val) * 64 + (y 3).val) / 1048576) (((((y 0).val * 2048 + (y 2).val) * 8 + (y 1).val) * 64 + (y 3).val) / 512 % 2048)
    (1792 + (1024 + ((((y 0).val * 2048 + (y 2).val) * 8 + (y 1).val) * 64 + (y 3).val) % 512)) : ℝ) : EReal) = _
  rw [e0, e1, e2]
  rfl

/-- The scores. -/
theorem v12_co (y : S4x8x2048x2048.Idx) : val_main_v12 (F := Ideal) x0 y = ((hz P (y 0).val (y 1).val (y 2).val (y 3).val : ℝ) : EReal) := by
  rw [val_main_v12_apply, val_main_v11_apply, val_main_cst_apply, val_main_v10_apply]
  have hs : (∑ k : Fin 64, (val_main_v5 (F := Ideal) x0) (lidx_main_v10 y k) * (val_main_v7 (F := Ideal) x0) (ridx_main_v10 y k))
      = ((∑ d ∈ range 64, hd P 1792 (y 0).val (y 1).val (y 2).val d * hd P 2304 (y 0).val (y 1).val (y 3).val d : ℝ) : EReal) := by
    refine Eq.trans (Finset.sum_congr rfl fun k _ => ?_) (dot_coe _ _)
    rw [v5_co x0 P h0, v7_co x0 P h0]
  rw [hs, show (FloatOps.ofBits (F := Ideal) .f32 0x3E000000#32 : EReal) = ((1 / 8 : ℝ) : EReal) from bits_8th, mul_coe]
  rfl

omit h0 in
/-- The mask: the keys before the query. -/
theorem mask_co (y : S2048x2048.Idx) : val_main_v19 (F := Ideal) y = BitVec.ofBool (decide ((y 1).val < (y 0).val)) := by
  rw [val_main_v19_apply, val_main_v17_apply, val_main_v14_apply, val_main_v13_apply, val_main_v18_apply, val_main_v16_apply, val_main_v15_apply]
  have b0 : (y 0).val < 2048 := (y 0).isLt
  have b1 : (y 1).val < 2048 := (y 1).isLt
  exact WordCmp.cmpi_slt_ofNat (show (y 1).val < 2 ^ 31 by omega) (show (y 0).val < 2 ^ 31 by omega)

omit h0 in
theorem v22m_co (y : S4x8x2048x2048.Idx) : val_main_v22_1 (F := Ideal) y = BitVec.ofBool (decide ((y 3).val < (y 2).val)) := by
  rw [val_main_v22_1_apply, mask_co]

omit h0 in
theorem v27m_co (y : S4x8x2048x2048.Idx) : val_main_v27_1 (F := Ideal) y = BitVec.ofBool (decide ((y 3).val < (y 2).val)) := by
  rw [val_main_v27_1_apply, mask_co]

/-- The soft plus of the negated score. -/
theorem sp_co (y : S4x8x2048x2048.Idx) :
    val_main_call0_v1_0 (F := Ideal) x0 y = ((-lbf (hz P (y 0).val (y 1).val (y 2).val (y 3).val) : ℝ) : EReal) := by
  rw [val_main_call0_v1_0_apply, val_main_call0_call0_v4_apply, une_self, sel_zero, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_cst_apply, val_main_call0_v0_apply,
    v12_co x0 P h0, bits_zero, negf_coe, max_coe, sub_coe, absf_coe', negf_coe, exp_coe, log1p_coe _ (Real.exp_pos _), add_coe]
  unfold lbf
  rw [neg_neg, sub_zero]

/-- The log of the share given. -/
theorem v20_co (y : S4x8x2048x2048.Idx) : val_main_v20_0 (F := Ideal) x0 y = ((lbf (hz P (y 0).val (y 1).val (y 2).val (y 3).val) : ℝ) : EReal) := by
  rw [val_main_v20_0_apply, sp_co x0 P h0, negf_coe, neg_neg]

/-- The share not given. -/
theorem v20s_co (y : S4x8x2048x2048.Idx) : val_main_v20_1 (F := Ideal) x0 y = ((Real.exp (lkf (hz P (y 0).val (y 1).val (y 2).val (y 3).val)) : ℝ) : EReal) := by
  rw [val_main_v20_1_apply, val_main_call0_call0_v21_apply, val_main_call0_call0_v16_apply, val_main_call0_call0_v20_apply, val_main_call0_call0_v14_apply,
    val_main_call0_call0_v18_apply, val_main_call0_call0_v13_apply, val_main_call0_call0_v17_apply, val_main_call0_call0_cst_0_apply, val_main_call0_call0_cst_2_apply,
    val_main_call0_v0_apply, v12_co x0 P h0, sp_co x0 P h0, bits_inf, negf_coe, eq_inf, eq_inf, sel_zero, sel_zero, sub_coe, exp_coe, ← lbf_sub]
  congr 2
  ring

/-- The kept scores. -/
theorem v22_co : val_main_v22_0 (F := Ideal) x0 = r4 fun b h t s => Lf (hz P b h) t s := by
  funext y
  rw [val_main_v22_0_apply, v22m_co, sel_bool, val_main_v21_apply, v20_co x0 P h0, v12_co x0 P h0, val_main_call1_v2_apply, val_main_call1_v0_apply, val_main_cst_0_apply,
    bits_zero, sub_coe, lbf_sub]
  show _ = ((Lf (hz P (y 0).val (y 1).val) (y 2).val (y 3).val : ℝ) : EReal)
  unfold Lf
  split <;> rfl

/-- What the keys from `s` on keep. -/
theorem v23_co (y : S4x8x2048x2048.Idx) : val_main_v23 (F := Ideal) x0 y = ((Rem (hz P (y 0).val (y 1).val) (y 2).val (y 3).val : ℝ) : EReal) := by
  unfold val_main_v23
  have h3 : (y 3).val < 2048 := (y 3).isLt
  rw [v22_co x0 P h0, window_from _ _ (fun z => by rw [val_main_call2_v0_apply, val_main_call2_cst_apply, bits_zero]; rfl)]
  unfold r4 Rem
  exact congrArg _ (from_eq (fun s => Lf (hz P (y 0).val (y 1).val) (y 2).val s) _ h3.le)

/-- The attention weights, below the diagonal; above, a finite number. -/
theorem v26_co (y : S4x8x2048x2048.Idx) : val_main_v26 (F := Ideal) x0 y
    = ((Real.exp (lbf (hz P (y 0).val (y 1).val (y 2).val (y 3).val) + Rem (hz P (y 0).val (y 1).val) (y 2).val (y 3).val
        - Lf (hz P (y 0).val (y 1).val) (y 2).val (y 3).val) : ℝ) : EReal) := by
  rw [val_main_v26_apply, val_main_v25_apply, val_main_v24_apply, v20_co x0 P h0, v23_co x0 P h0, v22_co x0 P h0]
  unfold r4
  rw [add_coe, sub_coe, exp_coe]

omit h0 in
/-- Below the diagonal the weight is the attention's. -/
theorem att_eq (Z : ℕ → ℕ → ℝ) (t s : ℕ) (h : s < t) : Real.exp (lbf (Z t s) + Rem Z t s - Lf Z t s) = At Z t s := by
  unfold At Lf
  rw [if_pos h, if_pos h, ← lbf_sub]
  congr 1
  ring

/-- The masked attention weights. -/
theorem v27_co (y : S4x8x2048x2048.Idx) : val_main_v27_0 (F := Ideal) x0 y = ((At (hz P (y 0).val (y 1).val) (y 2).val (y 3).val : ℝ) : EReal) := by
  rw [val_main_v27_0_apply, v27m_co, sel_bool, v26_co x0 P h0, val_main_call3_v2_apply, val_main_call3_v0_apply, val_main_cst_1_apply, bits_zero]
  split
  · next h => rw [att_eq _ _ _ h]
  · next h => unfold At; rw [if_neg h]

/-- The attention's output. -/
theorem v28_co (y : S4x8x2048x64.Idx) : val_main_v28 (F := Ideal) x0 y = ((ho P (y 0).val (y 1).val (y 2).val (y 3).val : ℝ) : EReal) := by
  rw [val_main_v28_apply]
  refine Eq.trans (Finset.sum_congr rfl fun k _ => ?_) (dot_coe (fun s => At (hz P (y 0).val (y 1).val) (y 2).val s) fun s => hd P 2816 (y 0).val (y 1).val s (y 3).val)
  rw [v27_co x0 P h0, v9_co x0 P h0]

/-- The attention's output, heads behind positions. -/
theorem v29_co (y : S4x2048x8x64.Idx) : val_main_v29 (F := Ideal) x0 y = ((ho P (y 0).val (y 2).val (y 1).val (y 3).val : ℝ) : EReal) := by
  rw [val_main_v29_apply, v28_co x0 P h0]

end

end Cert.ReferenceIdeal.Hand

end
-- ==== Proof.KernelIdeal.Host.lean ====
/- What the host hands to the kernel: the attention's output and the rows' totals, by the same lines as the reference's. -/
module

public import proofs.«01_k».proof.Proof.KernelIdeal.Frame
public import proofs.«01_k».proof.Proof.ReferenceIdeal.Forward

@[expose] public section

set_option maxRecDepth 16384
set_option maxHeartbeats 4000000

noncomputable section

namespace Cert.KernelIdeal.Hand

open Cert.KernelIdeal Cert.KernelIdeal.Gen
open Cert.ReferenceIdeal.Read
open Cert.ReferenceIdeal.Hand (hd hz ho v22_co v29_co r4 bits_zero)
open Finset (range)
open Idealize.ShloMosaic Idealize.ShloMosaic.TcCoe

section
variable (W : Valuation τ sig (Elt Ideal)) (x0 : (⟨S4x2048x3328, .f32⟩ : BufTy).Contents (Elt Ideal))

/-- A segment of the host's lines: the scores, the values and the mask. -/
theorem seg0 (h : W main_arg0 = x0) :
    StableHlo.after hostOps0 W main_v12 = val_main_v12 (F := Ideal) x0 ∧ StableHlo.after hostOps0 W main_v9 = val_main_v9 (F := Ideal) x0 ∧ StableHlo.after hostOps0 W main_v19 = val_main_v19 (F := Ideal) := by
  subst h
  unfold hostOps0
  refine ⟨?_, ?_, ?_⟩
  · after_results
    rfl
  · after_results
    rfl
  · after_results
    rfl

/-- A segment of the host's lines: the log of the share given. -/
theorem seg1 (hv12 : W main_v12 = val_main_v12 (F := Ideal) x0) (hv9 : W main_v9 = val_main_v9 (F := Ideal) x0) (hv19 : W main_v19 = val_main_v19 (F := Ideal)) :
    StableHlo.after hostOps0_1 W main_v20 = val_main_v20_0 (F := Ideal) x0 ∧ StableHlo.after hostOps0_1 W main_v12 = val_main_v12 (F := Ideal) x0 ∧ StableHlo.after hostOps0_1 W main_v9 = val_main_v9 (F := Ideal) x0 ∧ StableHlo.after hostOps0_1 W main_v19 = val_main_v19 (F := Ideal) := by
  unfold hostOps0_1
  refine ⟨?_, ?_, ?_, ?_⟩
  · after_results
    simp only [hv12, hv9, hv19, StableHlo.TRef.ofBuf_toBuf]
    try rfl
  · after_results
    exact hv12
  · after_results
    exact hv9
  · after_results
    exact hv19

/-- A segment of the host's lines: the log of the share not given. -/
theorem seg2 (hv20 : W main_v20 = val_main_v20_0 (F := Ideal) x0) (hv12 : W main_v12 = val_main_v12 (F := Ideal) x0) (hv9 : W main_v9 = val_main_v9 (F := Ideal) x0) (hv19 : W main_v19 = val_main_v19 (F := Ideal)) :
    StableHlo.after hostOps0_2 W main_v21 = val_main_v21 (F := Ideal) x0 ∧ StableHlo.after hostOps0_2 W main_cst_0 = val_main_cst_0 (F := Ideal) ∧ StableHlo.after hostOps0_2 W main_v20 = val_main_v20_0 (F := Ideal) x0 ∧ StableHlo.after hostOps0_2 W main_v9 = val_main_v9 (F := Ideal) x0 ∧ StableHlo.after hostOps0_2 W main_v19 = val_main_v19 (F := Ideal) := by
  unfold hostOps0_2
  refine ⟨?_, ?_, ?_, ?_, ?_⟩
  · after_results
    simp only [hv20, hv12]
    try rfl
  · after_results
    rfl
  · after_results
    exact hv20
  · after_results
    exact hv9
  · after_results
    exact hv19

/-- A segment of the host's lines: the kept scores. -/
theorem seg3 (hv21 : W main_v21 = val_main_v21 (F := Ideal) x0) (hcst_0 : W main_cst_0 = val_main_cst_0 (F := Ideal)) (hv20 : W main_v20 = val_main_v20_0 (F := Ideal) x0) (hv9 : W main_v9 = val_main_v9 (F := Ideal) x0) (hv19 : W main_v19 = val_main_v19 (F := Ideal)) :
    StableHlo.after hostOps0_3 W main_v22 = val_main_v22_0 (F := Ideal) x0 ∧ StableHlo.after hostOps0_3 W main_v20 = val_main_v20_0 (F := Ideal) x0 ∧ StableHlo.after hostOps0_3 W main_v9 = val_main_v9 (F := Ideal) x0 ∧ StableHlo.after hostOps0_3 W main_v19 = val_main_v19 (F := Ideal) := by
  unfold hostOps0_3
  refine ⟨?_, ?_, ?_, ?_⟩
  · after_results
    simp only [hv21, hcst_0, hv20, hv9, hv19, StableHlo.TRef.ofBuf_toBuf]
    try rfl
  · after_results
    exact hv20
  · after_results
    exact hv9
  · after_results
    exact hv19

/-- A segment of the host's lines: what the keys from one on keep. -/
theorem seg4 (hv22 : W main_v22 = val_main_v22_0 (F := Ideal) x0) (hv20 : W main_v20 = val_main_v20_0 (F := Ideal) x0) (hv9 : W main_v9 = val_main_v9 (F := Ideal) x0) (hv19 : W main_v19 = val_main_v19 (F := Ideal)) :
    StableHlo.after hostOps0_4 W main_v23 = val_main_v23 (F := Ideal) x0 ∧ StableHlo.after hostOps0_4 W main_v22 = val_main_v22_0 (F := Ideal) x0 ∧ StableHlo.after hostOps0_4 W main_v20 = val_main_v20_0 (F := Ideal) x0 ∧ StableHlo.after hostOps0_4 W main_v9 = val_main_v9 (F := Ideal) x0 ∧ StableHlo.after hostOps0_4 W main_v19 = val_main_v19 (F := Ideal) := by
  unfold hostOps0_4
  refine ⟨?_, ?_, ?_, ?_, ?_⟩
  · after_results
    simp only [hv22, hv20, hv9, hv19, StableHlo.TRef.ofBuf_toBuf]
    try rfl
  · after_results
    exact hv22
  · after_results
    exact hv20
  · after_results
    exact hv9
  · after_results
    exact hv19

/-- A segment of the host's lines: the attention weights. -/
theorem seg5 (hv23 : W main_v23 = val_main_v23 (F := Ideal) x0) (hv22 : W main_v22 = val_main_v22_0 (F := Ideal) x0) (hv20 : W main_v20 = val_main_v20_0 (F := Ideal) x0) (hv9 : W main_v9 = val_main_v9 (F := Ideal) x0) (hv19 : W main_v19 = val_main_v19 (F := Ideal)) :
    StableHlo.after hostOps0_5 W main_v26 = val_main_v26 (F := Ideal) x0 ∧ StableHlo.after hostOps0_5 W main_cst_1 = val_main_cst_1 (F := Ideal) ∧ StableHlo.after hostOps0_5 W main_v22 = val_main_v22_0 (F := Ideal) x0 ∧ StableHlo.after hostOps0_5 W main_v9 = val_main_v9 (F := Ideal) x0 ∧ StableHlo.after hostOps0_5 W main_v19 = val_main_v19 (F := Ideal) := by
  unfold hostOps0_5
  refine ⟨?_, ?_, ?_, ?_, ?_⟩
  · after_results
    simp only [hv23, hv22, hv20]
    try rfl
  · after_results
    rfl
  · after_results
    exact hv22
  · after_results
    exact hv9
  · after_results
    exact hv19

/-- A segment of the host's lines: the masked attention weights. -/
theorem seg6 (hv26 : W main_v26 = val_main_v26 (F := Ideal) x0) (hcst_1 : W main_cst_1 = val_main_cst_1 (F := Ideal)) (hv22 : W main_v22 = val_main_v22_0 (F := Ideal) x0) (hv9 : W main_v9 = val_main_v9 (F := Ideal) x0) (hv19 : W main_v19 = val_main_v19 (F := Ideal)) :
    StableHlo.after hostOps0_6 W main_v27 = val_main_v27_0 (F := Ideal) x0 ∧ StableHlo.after hostOps0_6 W main_v22 = val_main_v22_0 (F := Ideal) x0 ∧ StableHlo.after hostOps0_6 W main_v9 = val_main_v9 (F := Ideal) x0 := by
  unfold hostOps0_6
  refine ⟨?_, ?_, ?_⟩
  · after_results
    simp only [hv26, hcst_1, hv22, hv9, hv19, StableHlo.TRef.ofBuf_toBuf]
    try rfl
  · after_results
    exact hv22
  · after_results
    exact hv9

/-- A lane-minor array's coordinates as positions, heads and head dimensions. -/
abbrev hix (y : S4x2048x512.Idx) : S4x2048x8x64.Idx := idx_main_v90 y

theorem hix_0 (y : S4x2048x512.Idx) : (hix y 0).val = (y 0).val := by
  have b1 : (y 1).val < 2048 := (y 1).isLt
  have b2 : (y 2).val < 512 := (y 2).isLt
  show (((y 0).val * 2048 + (y 1).val) * 512 + (y 2).val) / 1048576 = _
  omega
theorem hix_1 (y : S4x2048x512.Idx) : (hix y 1).val = (y 1).val := by
  have b1 : (y 1).val < 2048 := (y 1).isLt
  have b2 : (y 2).val < 512 := (y 2).isLt
  show (((y 0).val * 2048 + (y 1).val) * 512 + (y 2).val) / 512 % 2048 = _
  omega
theorem hix_2 (y : S4x2048x512.Idx) : (hix y 2).val = (y 2).val / 64 := by
  have b1 : (y 1).val < 2048 := (y 1).isLt
  have b2 : (y 2).val < 512 := (y 2).isLt
  show (((y 0).val * 2048 + (y 1).val) * 512 + (y 2).val) / 64 % 8 = _
  omega
theorem hix_3 (y : S4x2048x512.Idx) : (hix y 3).val = (y 2).val % 64 := by
  have b1 : (y 1).val < 2048 := (y 1).isLt
  have b2 : (y 2).val < 512 := (y 2).isLt
  show (((y 0).val * 2048 + (y 1).val) * 512 + (y 2).val) % 64 = _
  omega

/-- A reshape of heads to lanes, read at a position. -/
theorem lanes_apply (x : (⟨S4x2048x8x64, .f32⟩ : BufTy).Contents (Elt Ideal)) (y : S4x2048x512.Idx) :
    shapeCast S4x2048x512 x shapeCasts_S4x2048x8x64_S4x2048x512 y = x (hix y) :=
  shapeCast_apply x shapeCasts_S4x2048x8x64_S4x2048x512 y (hix y) (by
    rewrite [Shape.rowMajor_val_four, Shape.rowMajor_val_three, hix_0, hix_1, hix_2, hix_3]
    show (((y 0).val * 2048 + (y 1).val) * 8 + (y 2).val / 64) * 64 + (y 2).val % 64 = ((y 0).val * 2048 + (y 1).val) * 512 + (y 2).val
    omega)

/-- The last segment: the attention's output, heads side by side. -/
theorem seg7_o (hv27 : W main_v27 = val_main_v27_0 (F := Ideal) x0) (hv9 : W main_v9 = val_main_v9 (F := Ideal) x0) :
    StableHlo.after hostOps0_7 W main_v30 = shapeCast S4x2048x512 (val_main_v29 (F := Ideal) x0) shapeCasts_S4x2048x8x64_S4x2048x512 := by
  unfold hostOps0_7
  after_results
  simp only [hv27, hv9]
  rfl

/-- The rows' totals, the head repeated over its lanes. -/
def rowTot (x : (⟨S4x8x2048x2048, .f32⟩ : BufTy).Contents (Elt Ideal)) : (⟨S4x2048x512, .f32⟩ : BufTy).Contents (Elt Ideal) :=
  shapeCast S4x2048x512 (broadcastInDim S4x2048x8x64 ![0, 1, 2] bcast_S4x2048x8_S4x2048x8x64_0_1_2
    (transpose S4x2048x8 [0, 2, 1] (Host.reduceAdd x (constant (F := Ideal) S_ .f32 0x00000000#32) reducesTo_S4x8x2048x2048_S4x8x2048_d3 h_S_)
      transposes_S4x8x2048_S4x2048x8_0_2_1)) shapeCasts_S4x2048x8x64_S4x2048x512

/-- The last segment: the rows' totals. -/
theorem seg7_t (hv22 : W main_v22 = val_main_v22_0 (F := Ideal) x0) :
    StableHlo.after hostOps0_7 W main_v34 = rowTot (val_main_v22_0 (F := Ideal) x0) := by
  unfold hostOps0_7
  after_results
  simp only [hv22]
  rfl

/-- A row's total is the sum over its keys. -/
theorem rowTot_apply (x : (⟨S4x8x2048x2048, .f32⟩ : BufTy).Contents (Elt Ideal)) (y : S4x2048x512.Idx) :
    rowTot x y = Ideal.ofBits .f32 0x00000000#32 + ∑ k : Fin 2048, x (ix4 (n0 := 4) (n1 := 8) (n2 := 2048) (n3 := 2048) (hix y 0) (hix y 2) (hix y 1) k) := by
  unfold rowTot
  rw [lanes_apply]
  generalize hw : (Host.reduceAdd x (constant (F := Ideal) S_ .f32 0x00000000#32) reducesTo_S4x8x2048x2048_S4x8x2048_d3 h_S_) = w
  have h1 := broadcastInDim_apply _ bcast_S4x2048x8_S4x2048x8x64_0_1_2 (transpose S4x2048x8 [0, 2, 1] w transposes_S4x8x2048_S4x2048x8_0_2_1) (hix y)
    (ix3 (n0 := 4) (n1 := 2048) (n2 := 8) (hix y 0) (hix y 1) (hix y 2)) (fun a => match a with
    | ⟨0, _⟩ => by show (hix y 0).val = if (4 : Nat) = 1 then 0 else (hix y 0).val; rw [if_neg (by decide)]
    | ⟨1, _⟩ => by show (hix y 1).val = if (2048 : Nat) = 1 then 0 else (hix y 1).val; rw [if_neg (by decide)]
    | ⟨2, _⟩ => by show (hix y 2).val = if (8 : Nat) = 1 then 0 else (hix y 2).val; rw [if_neg (by decide)])
  have h2 := transpose_apply [0, 2, 1] w transposes_S4x8x2048_S4x2048x8_0_2_1 (ix3 (n0 := 4) (n1 := 2048) (n2 := 8) (hix y 0) (hix y 1) (hix y 2))
    (ix3 (n0 := 4) (n1 := 8) (n2 := 2048) (hix y 0) (hix y 2) (hix y 1)) (fun b => match b with
    | ⟨0, _⟩ => rfl
    | ⟨1, _⟩ => rfl
    | ⟨2, _⟩ => rfl)
  refine h1.trans (h2.trans ?_)
  rw [← hw]
  show Ideal.hostReduceAdd reducesTo_S4x8x2048x2048_S4x8x2048_d3 x _ _ = _
  rw [Ideal.hostReduceAdd_single reducesTo_S4x8x2048x2048_S4x8x2048_d3 (by decide)]
  refine congrArg (_ + ·) (Finset.sum_congr rfl fun k _ => ?_)
  exact congrArg x (funext fun a => Fin.ext (by match a with | ⟨0, _⟩ => rfl | ⟨1, _⟩ => rfl | ⟨2, _⟩ => rfl | ⟨3, _⟩ => rfl))

end

section
variable (m : (ℓ : Loc nD τ sig) → Buf (Elt Ideal) ℓ) (c : Dev nD)

/-- The host's lines, segment by segment. -/
theorem V_split (b : Ref sig .tc) : V m c b = StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (c, b))))))))) b := by
  unfold V
  simp only [← StableHlo.after_append]
  rfl

variable (P : ℕ → ℕ → ℕ → ℝ) (h0 : ∀ y : S4x2048x3328.Idx, (m (c, Proc.devRef .tc main_arg0) : (⟨S4x2048x3328, .f32⟩ : BufTy).Contents (Elt Ideal)) y = ((P (y 0).val (y 1).val (y 2).val : ℝ) : EReal))
/-- The attention's output and the rows' totals as the kernel gets them. -/
theorem V_host : (V m c main_v30 : (⟨S4x2048x512, .f32⟩ : BufTy).Contents (Elt Ideal))
      = shapeCast S4x2048x512 (val_main_v29 (F := Ideal) (m (c, Proc.devRef .tc main_arg0))) shapeCasts_S4x2048x8x64_S4x2048x512
    ∧ (V m c main_v34 : (⟨S4x2048x512, .f32⟩ : BufTy).Contents (Elt Ideal)) = rowTot (val_main_v22_0 (F := Ideal) (m (c, Proc.devRef .tc main_arg0))) := by
  rw [V_split, V_split]
  obtain ⟨a1, a2, a3⟩ := seg0 (fun b => m (c, b)) _ rfl
  obtain ⟨b1, a1', b2, b3⟩ := seg1 _ _ a1 a2 a3
  obtain ⟨c1, c2, c3, c4, c5⟩ := seg2 _ _ b1 a1' b2 b3
  obtain ⟨d1, d2, d3, d4⟩ := seg3 _ _ c1 c2 c3 c4 c5
  obtain ⟨e1, e2, e3, e4, e5⟩ := seg4 _ _ d1 d2 d3 d4
  obtain ⟨f1, f2, f3, f4, f5⟩ := seg5 _ _ e1 e2 e3 e4 e5
  obtain ⟨g1, g2, g3⟩ := seg6 _ _ f1 f2 f3 f4 f5
  exact ⟨seg7_o _ _ g1 g3, seg7_t _ _ g2⟩

include h0

/-- The attention's output as the kernel gets it, a real number. -/
theorem V30_co (y : S4x2048x512.Idx) : (V m c main_v30 : (⟨S4x2048x512, .f32⟩ : BufTy).Contents (Elt Ideal)) y
    = ((ho P (y 0).val ((y 2).val / 64) (y 1).val ((y 2).val % 64) : ℝ) : EReal) := by
  rw [(V_host m c).1, lanes_apply, v29_co _ P h0, hix_0, hix_1, hix_2, hix_3]

/-- The rows' totals as the kernel gets them, real numbers. -/
theorem V34_co (y : S4x2048x512.Idx) : (V m c main_v34 : (⟨S4x2048x512, .f32⟩ : BufTy).Contents (Elt Ideal)) y
    = ((Rem (hz P (y 0).val ((y 2).val / 64)) (y 1).val 0 : ℝ) : EReal) := by
  rw [(V_host m c).2, rowTot_apply, v22_co _ P h0, show (Ideal.ofBits .f32 0x00000000#32 : EReal) = ((0 : ℝ) : EReal) from bits_zero]
  have hs : (∑ k : Fin 2048, r4 (fun b h t s => Lf (hz P b h) t s) (ix4 (n0 := 4) (n1 := 8) (n2 := 2048) (n3 := 2048) (hix y 0) (hix y 2) (hix y 1) k) : EReal)
      = ((∑ s ∈ range 2048, Lf (hz P (y 0).val ((y 2).val / 64)) (y 1).val s : ℝ) : EReal) := by
    rw [← coe_sum_fin]
    refine Finset.sum_congr rfl fun k _ => ?_
    show ((Lf (hz P (hix y 0).val (hix y 2).val) (hix y 1).val k.val : ℝ) : EReal) = _
    rw [hix_0, hix_1, hix_2]
  rw [hs, ← EReal.coe_add, zero_add]
  unfold Rem
  rw [Finset.sum_range_zero, sub_zero]

end

end Cert.KernelIdeal.Hand

end
-- ==== Proof.ReferenceIdeal.Norm.lean ====
/- The reference's norm and its gradient, read as real numbers: what reaches the attention's output, and the gain's gradient. -/
module

public import proofs.«01_k».proof.Proof.ReferenceIdeal.Forward

@[expose] public section

set_option maxRecDepth 16384
set_option maxHeartbeats 4000000

noncomputable section

namespace Cert.ReferenceIdeal.Hand

open Cert.ReferenceIdeal Cert.ReferenceIdeal.Gen Cert.ReferenceIdeal.Read
open Cert.KernelIdeal.Hand (lkf Lf Rem At Dl Car Dz coe_sum_fin coe_sum sel_bool coe_max absf_coe bits_8th epsR bits_eps bits_mhalf rsqrt_pos)
open Idealize.ShloMosaic Idealize.ShloMosaic.ValueIdx
open Finset (range)

/-- The mean square of a position's head, with the small number. -/
def hms (o : ℕ → ℕ → ℝ) (t : ℕ) : ℝ := (∑ d ∈ range 64, o t d * o t d) * (1 / 64) + epsR
/-- One over its root. -/
def hr (o : ℕ → ℕ → ℝ) (t : ℕ) : ℝ := (√(hms o t))⁻¹
/-- What the mean square gets. -/
def hw (g : ℕ → ℝ) (o dy : ℕ → ℕ → ℝ) (t : ℕ) : ℝ := (∑ d ∈ range 64, o t d * (dy t d * g d)) * (-1 / 2 * (hr o t * (1 / hms o t))) * (1 / 64)
/-- What the attention's output gets. -/
def hdo (g : ℕ → ℝ) (o dy : ℕ → ℕ → ℝ) (t d : ℕ) : ℝ := dy t d * g d * hr o t + o t d * hw g o dy t + hw g o dy t * o t d

theorem hms_pos (o : ℕ → ℕ → ℝ) (t : ℕ) : 0 < hms o t := by
  have h : 0 ≤ ∑ d ∈ range 64, o t d * o t d := Finset.sum_nonneg fun d _ => mul_self_nonneg _
  have e : (0 : ℝ) < epsR := by unfold epsR; norm_num
  unfold hms
  positivity

theorem bits_64 : (FloatOps.ofBits (F := Ideal) .f32 0x42800000#32 : EReal) = ((64 : ℝ) : EReal) := by
  show Ideal.ofBits .f32 0x42800000#32 = _
  simp [Ideal.ofBits, Ideal.ieee, -EReal.coe_mul]; norm_num
theorem div_coe (a b : ℝ) (h : b ≠ 0) : (FloatOps.hostDivf (F := Ideal) (φ := .f32) (a : EReal) (b : EReal) : EReal) = ((a * (1 / b) : ℝ) : EReal) := by
  show Ideal.div (a : EReal) (b : EReal) = _
  rw [Ideal.div_coe h, ← EReal.coe_mul]
theorem rsqrt_coe {a : ℝ} (h : 0 < a) : (FloatOps.hostUnary (F := Ideal) (φ := .f32) .rsqrt (a : EReal) : EReal) = (((√a)⁻¹ : ℝ) : EReal) := rsqrt_pos h
theorem zero_add' (a : ℝ) : (((0 : ℝ) : EReal) + (a : EReal) : EReal) = (a : EReal) := by rw [← EReal.coe_add, zero_add]

section
variable (x0 : (⟨S4x2048x3328, .f32⟩ : BufTy).Contents (Elt Ideal)) (P : ℕ → ℕ → ℕ → ℝ)
  (h0 : ∀ y : S4x2048x3328.Idx, x0 y = ((P (y 0).val (y 1).val (y 2).val : ℝ) : EReal))
include h0

/-- The mean square. -/
theorem v36_co (y : S4x2048x8x1.Idx) : val_main_v36 (F := Ideal) x0 y = ((hms (ho P (y 0).val (y 2).val) (y 1).val : ℝ) : EReal) := by
  have hs : (∑ k : Fin 64, (val_main_v30 (F := Ideal) x0) (idx_main_v31 (idx_main_v32 y) k))
      = ((∑ d ∈ range 64, ho P (y 0).val (y 2).val (y 1).val d * ho P (y 0).val (y 2).val (y 1).val d : ℝ) : EReal) := by
    refine Eq.trans (Finset.sum_congr rfl fun k _ => ?_) (dot_coe _ _)
    rw [val_main_v30_apply, v29_co x0 P h0]
    rfl
  rw [val_main_v36_apply, val_main_v34_apply, val_main_v32_apply, val_main_v31_apply, hs, val_main_v33_apply, val_main_v35_apply, val_main_cst_2_apply,
    val_main_cst_3_apply, val_main_cst_4_apply, bits_zero, zero_add', bits_64, show (FloatOps.ofBits (F := Ideal) .f32 0x3727C5AC#32 : EReal) = ((epsR : ℝ) : EReal) from bits_eps,
    div_coe _ _ (by norm_num), add_coe]
  rfl

/-- One over its root. -/
theorem v37_co (y : S4x2048x8x1.Idx) : val_main_v37 (F := Ideal) x0 y = ((hr (ho P (y 0).val (y 2).val) (y 1).val : ℝ) : EReal) := by
  rw [val_main_v37_apply, v36_co x0 P h0, rsqrt_coe (hms_pos _ _)]
  rfl

/-- Its derivative. -/
theorem v40_co (y : S4x2048x8x1.Idx) : val_main_v40 (F := Ideal) x0 y
    = ((-1 / 2 * (hr (ho P (y 0).val (y 2).val) (y 1).val * (1 / hms (ho P (y 0).val (y 2).val) (y 1).val)) : ℝ) : EReal) := by
  rw [val_main_v40_apply, val_main_v39_apply, val_main_cst_5_apply, val_main_v38_apply, v37_co x0 P h0, v36_co x0 P h0, div_coe _ _ (hms_pos _ _).ne',
    show (FloatOps.ofBits (F := Ideal) .f32 0xBF000000#32 : EReal) = ((-1 / 2 : ℝ) : EReal) from bits_mhalf, mul_coe]

/-- The normed output. -/
theorem v42_co (y : S4x2048x8x64.Idx) : val_main_v42 (F := Ideal) x0 y
    = ((ho P (y 0).val (y 2).val (y 1).val (y 3).val * hr (ho P (y 0).val (y 2).val) (y 1).val : ℝ) : EReal) := by
  rw [val_main_v42_apply, v29_co x0 P h0, val_main_v41_apply, v37_co x0 P h0, mul_coe]

variable (x1 : (⟨S1x512, .f32⟩ : BufTy).Contents (Elt Ideal)) (g : ℕ → ℝ) (h1 : ∀ y : S1x512.Idx, x1 y = ((g (y 1).val : ℝ) : EReal))
variable (x2 : (⟨S4x2048x1024, .f32⟩ : BufTy).Contents (Elt Ideal)) (DY : ℕ → ℕ → ℕ → ℝ)
  (h2 : ∀ y : S4x2048x1024.Idx, x2 y = ((DY (y 0).val (y 1).val (y 2).val : ℝ) : EReal))

omit h0 in
include h1 in
/-- The gain of the heads. -/
theorem v44_co (y : S1x1x8x64.Idx) : val_main_v44 (F := Ideal) x1 y = ((g (64 * (y 2).val + (y 3).val) : ℝ) : EReal) := by
  rw [val_main_v44_apply, val_main_v43_apply, h1]
  have b2 : (y 2).val < 8 := (y 2).isLt
  have b3 : (y 3).val < 64 := (y 3).isLt
  have e : ((y 2).val * 64 + (y 3).val) % 512 = 64 * (y 2).val + (y 3).val := by omega
  show ((g (((y 2).val * 64 + (y 3).val) % 512) : ℝ) : EReal) = _
  rw [e]

omit h0 in
include h2 in
/-- The incoming gradient of the heads. -/
theorem v49_co (y : S4x2048x8x64.Idx) : val_main_v49 (F := Ideal) x2 y = ((hd DY 512 (y 0).val (y 2).val (y 1).val (y 3).val : ℝ) : EReal) := by
  rw [val_main_v49_apply, val_main_v48_apply, h2]
  have b1 : (y 1).val < 2048 := (y 1).isLt
  have b2 : (y 2).val < 8 := (y 2).isLt
  have b3 : (y 3).val < 64 := (y 3).isLt
  have e0 : ((((y 0).val * 2048 + (y 1).val) * 8 + (y 2).val) * 64 + (y 3).val) / 1048576 = (y 0).val := by omega
  have e1 : ((((y 0).val * 2048 + (y 1).val) * 8 + (y 2).val) * 64 + (y 3).val) / 512 % 2048 = (y 1).val := by omega
  have e2 : 512 + ((((y 0).val * 2048 + (y 1).val) * 8 + (y 2).val) * 64 + (y 3).val) % 512 = 512 + (64 * (y 2).val + (y 3).val) := by omega
  show ((DY (((((y 0).val * 2048 + (y 1).val) * 8 + (y 2).val) * 64 + (y 3).val) / 1048576) (((((y 0).val * 2048 + (y 1).val) * 8 + (y 2).val) * 64 + (y 3).val) / 512 % 2048)
    (512 + ((((y 0).val * 2048 + (y 1).val) * 8 + (y 2).val) * 64 + (y 3).val) % 512) : ℝ) : EReal) = _
  rw [e0, e1, e2]
  rfl

omit h0 in
include h1 h2 in
/-- The gradient behind the gain. -/
theorem v54_co (y : S4x2048x8x64.Idx) : val_main_v54 (F := Ideal) x1 x2 y
    = ((hd DY 512 (y 0).val (y 2).val (y 1).val (y 3).val * g (64 * (y 2).val + (y 3).val) : ℝ) : EReal) := by
  rw [val_main_v54_apply, v49_co x2 DY h2, val_main_v53_apply, v44_co x1 g h1, mul_coe]

include h2 in
/-- What a position adds to the gain's gradient. -/
theorem v50_co (y : S4x2048x8x64.Idx) : val_main_v50 (F := Ideal) x0 x2 y
    = ((ho P (y 0).val (y 2).val (y 1).val (y 3).val * hr (ho P (y 0).val (y 2).val) (y 1).val * hd DY 512 (y 0).val (y 2).val (y 1).val (y 3).val : ℝ) : EReal) := by
  rw [val_main_v50_apply, v42_co x0 P h0, v49_co x2 DY h2, mul_coe]

include h1 h2 in
/-- What the mean square gets. -/
theorem v66_co (y : S4x2048x8x64.Idx) : val_main_v66 (F := Ideal) x0 x1 x2 y
    = ((hw (fun d => g (64 * (y 2).val + d)) (ho P (y 0).val (y 2).val) (hd DY 512 (y 0).val (y 2).val) (y 1).val : ℝ) : EReal) := by
  have b1 : (y 1).val < 2048 := (y 1).isLt
  have b2 : (y 2).val < 8 := (y 2).isLt
  have hs : (∑ k : Fin 64, (val_main_v57 (F := Ideal) x0 x1 x2) (idx_main_v58 (idx_main_v59 (idx_main_v65 (idx_main_v66 y) (0 : Fin 1))) k))
      = ((∑ d ∈ range 64, ho P (y 0).val (y 2).val (y 1).val d * (hd DY 512 (y 0).val (y 2).val (y 1).val d * g (64 * (y 2).val + d)) : ℝ) : EReal) := by
    refine Eq.trans (Finset.sum_congr rfl fun k _ => ?_)
      (dot_coe (fun d => ho P (y 0).val (y 2).val (y 1).val d) fun d => hd DY 512 (y 0).val (y 2).val (y 1).val d * g (64 * (y 2).val + d))
    rw [val_main_v57_apply, v29_co x0 P h0, v54_co x1 g h1 x2 DY h2]
    have e0 : ((((y 0).val * 2048 + (y 1).val) * 8 + (y 2).val) * 1 + 0) / 16384 = (y 0).val := by omega
    have e1 : ((((y 0).val * 2048 + (y 1).val) * 8 + (y 2).val) * 1 + 0) / 8 % 2048 = (y 1).val := by omega
    have e2 : ((((y 0).val * 2048 + (y 1).val) * 8 + (y 2).val) * 1 + 0) % 8 = (y 2).val := by omega
    show ((ho P (((((y 0).val * 2048 + (y 1).val) * 8 + (y 2).val) * 1 + 0) / 16384) (((((y 0).val * 2048 + (y 1).val) * 8 + (y 2).val) * 1 + 0) % 8)
        (((((y 0).val * 2048 + (y 1).val) * 8 + (y 2).val) * 1 + 0) / 8 % 2048) k.val : ℝ) : EReal)
      * ((hd DY 512 (((((y 0).val * 2048 + (y 1).val) * 8 + (y 2).val) * 1 + 0) / 16384) (((((y 0).val * 2048 + (y 1).val) * 8 + (y 2).val) * 1 + 0) % 8)
        (((((y 0).val * 2048 + (y 1).val) * 8 + (y 2).val) * 1 + 0) / 8 % 2048) k.val * g (64 * (((((y 0).val * 2048 + (y 1).val) * 8 + (y 2).val) * 1 + 0) % 8) + k.val) : ℝ) : EReal) = _
    rw [e0, e1, e2]
  rw [val_main_v66_apply, val_main_v65_apply, Fin.sum_univ_one, val_main_cst_10_apply, bits_zero, val_main_v64_apply, val_main_v62_apply, val_main_v59_apply, val_main_v58_apply,
    hs, val_main_cst_8_apply, bits_zero, zero_add', v40_co x0 P h0, val_main_v63_apply, val_main_cst_9_apply, bits_64, mul_coe, div_coe _ _ (by norm_num), zero_add']
  rfl

include h1 h2 in
/-- What the attention's output gets. -/
theorem v71_co (y : S4x8x2048x64.Idx) : val_main_v71 (F := Ideal) x0 x1 x2 y
    = ((hdo (fun d => g (64 * (y 1).val + d)) (ho P (y 0).val (y 1).val) (hd DY 512 (y 0).val (y 1).val) (y 2).val (y 3).val : ℝ) : EReal) := by
  rw [val_main_v71_apply, val_main_v70_apply, val_main_v68_apply, val_main_v69_apply, val_main_v61_apply, val_main_v67_apply, val_main_v60_apply,
    v54_co x1 g h1 x2 DY h2, v37_co x0 P h0, v66_co x0 P h0 x1 g h1 x2 DY h2, v29_co x0 P h0, mul_coe, mul_coe, mul_coe, add_coe, add_coe]
  rfl

end

end Cert.ReferenceIdeal.Hand

end
-- ==== Proof.ReferenceIdeal.Backward.lean ====
/- The reference's gradient of the attention, read as real numbers. -/
module

public import proofs.«01_k».proof.Proof.ReferenceIdeal.Norm

@[expose] public section

set_option maxRecDepth 16384
set_option maxHeartbeats 4000000

noncomputable section

namespace Cert.ReferenceIdeal.Hand

open Cert.ReferenceIdeal Cert.ReferenceIdeal.Gen Cert.ReferenceIdeal.Read
open Cert.KernelIdeal.Hand (lkf Lf Rem At Dl Car Dz coe_sum_fin coe_sum sel_bool coe_max absf_coe bits_8th epsR bits_eps bits_mhalf rsqrt_pos)
open Idealize.ShloMosaic Idealize.ShloMosaic.ValueIdx
open Finset (range)

/-- The gain of a head. -/
def hg (g : ℕ → ℝ) (h d : ℕ) : ℝ := g (64 * h + d)
/-- What the attention's output of a head gets. -/
def rDo (P DY : ℕ → ℕ → ℕ → ℝ) (g : ℕ → ℝ) (b h : ℕ) : ℕ → ℕ → ℝ := hdo (hg g h) (ho P b h) (hd DY 512 b h)
/-- What an attention weight gets. -/
def rW (P DY : ℕ → ℕ → ℕ → ℝ) (g : ℕ → ℝ) (b h t s : ℕ) : ℝ := ∑ d ∈ range 64, rDo P DY g b h t d * hd P 2816 b h s d
/-- What a score gets. -/
def rDz (P DY : ℕ → ℕ → ℕ → ℝ) (g : ℕ → ℝ) (b h : ℕ) : ℕ → ℕ → ℝ := Dz (hz P b h) (rW P DY g b h)
/-- The queries' gradient. -/
def rDq (P DY : ℕ → ℕ → ℕ → ℝ) (g : ℕ → ℝ) (b h t d : ℕ) : ℝ := ∑ s ∈ range 2048, rDz P DY g b h t s * (1 / 8) * hd P 2304 b h s d
/-- The keys' gradient. -/
def rDk (P DY : ℕ → ℕ → ℕ → ℝ) (g : ℕ → ℝ) (b h s d : ℕ) : ℝ := ∑ t ∈ range 2048, rDz P DY g b h t s * (1 / 8) * hd P 1792 b h t d
/-- The values' gradient. -/
def rDv (P DY : ℕ → ℕ → ℕ → ℝ) (g : ℕ → ℝ) (b h s d : ℕ) : ℝ := ∑ t ∈ range 2048, rDo P DY g b h t d * At (hz P b h) t s
/-- The gain's gradient. -/
def rDg (P DY : ℕ → ℕ → ℕ → ℝ) (h d : ℕ) : ℝ := ∑ b ∈ range 4, ∑ t ∈ range 2048, ho P b h t d * hr (ho P b h) t * hd DY 512 b h t d

/-- The share given and the share not given make one. -/
theorem share (z : ℝ) : Real.exp (lkf z) + Real.exp (z + lkf z) = 1 := by
  have h : Real.exp (lkf z) = Real.exp (-max z 0) * (1 + Real.exp (-|z|))⁻¹ := by
    unfold lkf
    rw [sub_eq_add_neg, Real.exp_add, Real.exp_neg (Real.log _), Real.exp_log (by positivity)]
  rw [Real.exp_add, h, ← one_add_mul, ← mul_assoc]
  have e : (1 + Real.exp z) * Real.exp (-max z 0) = 1 + Real.exp (-|z|) := by
    rcases le_total z 0 with hz | hz
    · rw [max_eq_right hz, abs_of_nonpos hz, neg_neg, neg_zero, Real.exp_zero, mul_one]
    · rw [max_eq_left hz, abs_of_nonneg hz, one_add_mul, ← Real.exp_add, add_neg_cancel, Real.exp_zero, add_comm]
  rw [e]
  exact mul_inv_cancel₀ (by positivity)

section
variable (x0 : (⟨S4x2048x3328, .f32⟩ : BufTy).Contents (Elt Ideal)) (P : ℕ → ℕ → ℕ → ℝ)
  (h0 : ∀ y : S4x2048x3328.Idx, x0 y = ((P (y 0).val (y 1).val (y 2).val : ℝ) : EReal))
  (x1 : (⟨S1x512, .f32⟩ : BufTy).Contents (Elt Ideal)) (g : ℕ → ℝ) (h1 : ∀ y : S1x512.Idx, x1 y = ((g (y 1).val : ℝ) : EReal))
  (x2 : (⟨S4x2048x1024, .f32⟩ : BufTy).Contents (Elt Ideal)) (DY : ℕ → ℕ → ℕ → ℝ)
  (h2 : ∀ y : S4x2048x1024.Idx, x2 y = ((DY (y 0).val (y 1).val (y 2).val : ℝ) : EReal))
include h0 h1 h2

/-- What an attention weight gets. -/
theorem v74_co (y : S4x8x2048x2048.Idx) : val_main_v74 (F := Ideal) x0 x1 x2 y = ((rW P DY g (y 0).val (y 1).val (y 2).val (y 3).val : ℝ) : EReal) := by
  rw [val_main_v74_apply]
  refine Eq.trans (Finset.sum_congr rfl fun k _ => ?_)
    (dot_coe (fun d => rDo P DY g (y 0).val (y 1).val (y 2).val d) fun d => hd P 2816 (y 0).val (y 1).val (y 3).val d)
  rw [v71_co x0 P h0 x1 g h1 x2 DY h2, v9_co x0 P h0]
  rfl

/-- What a log weight gets. -/
theorem v76_co : val_main_v76 (F := Ideal) x0 x1 x2 = r4 fun b h t s => Dl (hz P b h) (rW P DY g b h) t s := by
  funext y
  rw [val_main_v76_apply, val_main_v75_apply, v27m_co, sel_bool, v74_co x0 P h0 x1 g h1 x2 DY h2, val_main_call4_v0_apply, val_main_call4_cst_apply, bits_zero, v26_co x0 P h0]
  show _ = ((Dl (hz P (y 0).val (y 1).val) (rW P DY g (y 0).val (y 1).val) (y 2).val (y 3).val : ℝ) : EReal)
  unfold Dl
  split
  · next h => rw [mul_coe, att_eq _ _ _ h]
  · next h => rw [mul_coe, At, if_neg h, zero_mul, mul_zero]

/-- Its sum over the keys up to `s`. -/
theorem v78_co (y : S4x8x2048x2048.Idx) : val_main_v78 (F := Ideal) x0 x1 x2 y
    = ((Car (hz P (y 0).val (y 1).val) (rW P DY g (y 0).val (y 1).val) (y 2).val ((y 3).val + 1) : ℝ) : EReal) := by
  unfold val_main_v78
  have h3 : (y 3).val < 2048 := (y 3).isLt
  rw [v76_co x0 P h0 x1 g h1 x2 DY h2, window_upto _ _ (fun z => by rw [val_main_call5_v0_apply, val_main_call5_cst_apply, bits_zero]; rfl)]
  unfold r4 Car
  exact congrArg _ (upto_eq (fun s => Dl (hz P (y 0).val (y 1).val) (rW P DY g (y 0).val (y 1).val) (y 2).val s) _ h3)

/-- What a score gets. -/
theorem v84_co (y : S4x8x2048x2048.Idx) : val_main_v84 (F := Ideal) x0 x1 x2 y = ((rDz P DY g (y 0).val (y 1).val (y 2).val (y 3).val : ℝ) : EReal) := by
  rw [val_main_v84_apply, val_main_v81_apply, val_main_v83_apply, val_main_call7_v1_apply, val_main_call7_v0_apply, val_main_v82_apply, val_main_v80_apply, v22m_co, sel_bool,
    val_main_v79_apply, val_main_v77_apply, v78_co x0 P h0 x1 g h1 x2 DY h2, v76_co x0 P h0 x1 g h1 x2 DY h2, val_main_call6_v0_apply, val_main_call6_cst_apply, bits_zero, v20s_co x0 P h0]
  unfold r4 rDz Dz
  beta_reduce
  rw [negf_coe, add_coe]
  have hs := share (hz P (y 0).val (y 1).val (y 2).val (y 3).val)
  have he : Real.exp (lkf (hz P (y 0).val (y 1).val (y 2).val (y 3).val)) = 1 - Real.exp (hz P (y 0).val (y 1).val (y 2).val (y 3).val + lkf (hz P (y 0).val (y 1).val (y 2).val (y 3).val)) := by
    linarith
  split
  · next h =>
    rw [add_coe, negf_coe, negf_coe, mul_coe, negf_coe, add_coe, he]
    congr 1
    ring
  · next h =>
    have hD : Dl (hz P (y 0).val (y 1).val) (rW P DY g (y 0).val (y 1).val) (y 2).val (y 3).val = 0 := by
      unfold Dl At
      rw [if_neg h, mul_zero]
    rw [hD, add_coe, negf_coe, negf_coe, mul_coe, negf_coe, add_coe]
    congr 1
    ring

/-- What a scaled score gets. -/
theorem v86_co (y : S4x8x2048x2048.Idx) : val_main_v86 (F := Ideal) x0 x1 x2 y
    = ((rDz P DY g (y 0).val (y 1).val (y 2).val (y 3).val * (1 / 8) : ℝ) : EReal) := by
  rw [val_main_v86_apply, v84_co x0 P h0 x1 g h1 x2 DY h2, val_main_v85_apply, val_main_cst_11_apply,
    show (FloatOps.ofBits (F := Ideal) .f32 0x3E000000#32 : EReal) = ((1 / 8 : ℝ) : EReal) from bits_8th, mul_coe]

/-- The values' gradient. -/
theorem v73_co (y : S4x8x2048x64.Idx) : val_main_v73 (F := Ideal) x0 x1 x2 y = ((rDv P DY g (y 0).val (y 1).val (y 2).val (y 3).val : ℝ) : EReal) := by
  rw [val_main_v73_apply, val_main_v72_apply]
  refine Eq.trans (Finset.sum_congr rfl fun k _ => ?_)
    (dot_coe (fun t => rDo P DY g (y 0).val (y 1).val t (y 3).val) fun t => At (hz P (y 0).val (y 1).val) t (y 2).val)
  rw [v71_co x0 P h0 x1 g h1 x2 DY h2, v27_co x0 P h0]
  rfl

/-- The keys' gradient. -/
theorem v87_co (y : S4x8x2048x64.Idx) : val_main_v87 (F := Ideal) x0 x1 x2 y = ((rDk P DY g (y 0).val (y 1).val (y 2).val (y 3).val : ℝ) : EReal) := by
  rw [val_main_v87_apply]
  refine Eq.trans (Finset.sum_congr rfl fun k _ => ?_)
    (dot_coe (fun t => rDz P DY g (y 0).val (y 1).val t (y 2).val * (1 / 8)) fun t => hd P 1792 (y 0).val (y 1).val t (y 3).val)
  rw [v86_co x0 P h0 x1 g h1 x2 DY h2, v5_co x0 P h0]

/-- The queries' gradient. -/
theorem v88_co (y : S4x8x2048x64.Idx) : val_main_v88 (F := Ideal) x0 x1 x2 y = ((rDq P DY g (y 0).val (y 1).val (y 2).val (y 3).val : ℝ) : EReal) := by
  rw [val_main_v88_apply]
  refine Eq.trans (Finset.sum_congr rfl fun k _ => ?_)
    (dot_coe (fun s => rDz P DY g (y 0).val (y 1).val (y 2).val s * (1 / 8)) fun s => hd P 2304 (y 0).val (y 1).val s (y 3).val)
  rw [v86_co x0 P h0 x1 g h1 x2 DY h2, v7_co x0 P h0]

end

end Cert.ReferenceIdeal.Hand

end
-- ==== Proof.ReferenceIdeal.Results.lean ====
/- The reference's four results, read as real numbers: a column is a head and a place in it. -/
module

public import proofs.«01_k».proof.Proof.ReferenceIdeal.Backward
public import Idealize.ShloMosaic.Lib.KernelVsHost

@[expose] public section

set_option maxRecDepth 16384
set_option maxHeartbeats 4000000

noncomputable section

namespace Cert.ReferenceIdeal.Hand

open Cert.ReferenceIdeal Cert.ReferenceIdeal.Gen Cert.ReferenceIdeal.Read
open Cert.KernelIdeal.Hand (lkf Lf Rem At Dl Car Dz coe_sum_fin coe_sum sel_bool coe_max absf_coe bits_8th epsR bits_eps bits_mhalf rsqrt_pos)
open Idealize.ShloMosaic Idealize.ShloMosaic.ValueIdx
open Finset (range)

/-! ## The gain's gradient: sums over the batch and the positions -/

/-- The place a batch entry and a position have for a head's column. -/
def gix (j : S8x64.Idx) (k : Fin 4 × Fin 2048) : S4x2048x8x64.Idx := fun a => match a with
  | ⟨0, _⟩ => k.1
  | ⟨1, _⟩ => k.2
  | ⟨2, _⟩ => ⟨(j 0).val, (j 0).isLt⟩
  | ⟨3, _⟩ => ⟨(j 1).val, (j 1).isLt⟩

/-- The sum over the batch and the positions. -/
theorem sum_bt (x : (⟨S4x2048x8x64, .f32⟩ : BufTy).Contents (Elt Ideal)) (e : EReal) (j : S8x64.Idx) :
    Ideal.hostReduceAdd reducesTo_S4x2048x8x64_S8x64_d0_1 x e j = e + ∑ b : Fin 4, ∑ t : Fin 2048, x (gix j (b, t)) := by
  have h2 : ∀ i : S4x2048x8x64.Idx, ((reducesTo_S4x2048x8x64_S8x64_d0_1.drop i) 0).val = (i 2).val := fun i => rfl
  have h3 : ∀ i : S4x2048x8x64.Idx, ((reducesTo_S4x2048x8x64_S8x64_d0_1.drop i) 1).val = (i 3).val := fun i => rfl
  refine congrArg (e + ·) ?_
  rw [← Fintype.sum_prod_type (f := fun k : Fin 4 × Fin 2048 => x (gix j k))]
  refine (Finset.sum_nbij' (fun k => gix j k) (fun i => (⟨(i 0).val, (i 0).isLt⟩, ⟨(i 1).val, (i 1).isLt⟩)) ?_ ?_ ?_ ?_ ?_).symm
  · intro k _
    refine Finset.mem_filter.mpr ⟨Finset.mem_univ _, funext fun a => Fin.ext ?_⟩
    match a with
    | ⟨0, _⟩ => exact h2 _
    | ⟨1, _⟩ => exact h3 _
  · intro i _; exact Finset.mem_univ _
  · intro k _; rfl
  · intro i hi
    have hd := (Finset.mem_filter.mp hi).2
    refine funext fun a => Fin.ext ?_
    match a with
    | ⟨0, _⟩ => rfl
    | ⟨1, _⟩ => rfl
    | ⟨2, _⟩ => exact (congrArg (fun q : S8x64.Idx => (q 0).val) hd).symm.trans (h2 i)
    | ⟨3, _⟩ => exact (congrArg (fun q : S8x64.Idx => (q 1).val) hd).symm.trans (h3 i)
  · intro k _; rfl

/-- The one place a head's column has with the unit axes. -/
def uix (j : S8x64.Idx) : S1x1x8x64.Idx := fun a => match a with
  | ⟨0, _⟩ => ⟨0, Nat.one_pos⟩
  | ⟨1, _⟩ => ⟨0, Nat.one_pos⟩
  | ⟨2, _⟩ => ⟨(j 0).val, (j 0).isLt⟩
  | ⟨3, _⟩ => ⟨(j 1).val, (j 1).isLt⟩

/-- The sum over the unit axes. -/
theorem sum_unit (x : (⟨S1x1x8x64, .f32⟩ : BufTy).Contents (Elt Ideal)) (e : EReal) (j : S8x64.Idx) :
    Ideal.hostReduceAdd reducesTo_S1x1x8x64_S8x64_d0_1 x e j = e + x (uix j) := by
  have h2 : ∀ i : S1x1x8x64.Idx, ((reducesTo_S1x1x8x64_S8x64_d0_1.drop i) 0).val = (i 2).val := fun i => rfl
  have h3 : ∀ i : S1x1x8x64.Idx, ((reducesTo_S1x1x8x64_S8x64_d0_1.drop i) 1).val = (i 3).val := fun i => rfl
  refine congrArg (e + ·) ?_
  have hf : (Finset.univ.filter fun i => reducesTo_S1x1x8x64_S8x64_d0_1.drop i = j) = {uix j} := by
    ext i
    rw [Finset.mem_filter, Finset.mem_singleton]
    constructor
    · rintro ⟨_, hd⟩
      refine funext fun a => Fin.ext ?_
      match a with
      | ⟨0, _⟩ => exact Nat.lt_one_iff.mp (i 0).isLt
      | ⟨1, _⟩ => exact Nat.lt_one_iff.mp (i 1).isLt
      | ⟨2, _⟩ => exact (h2 i).symm.trans (congrArg (fun q : S8x64.Idx => (q 0).val) hd)
      | ⟨3, _⟩ => exact (h3 i).symm.trans (congrArg (fun q : S8x64.Idx => (q 1).val) hd)
    · rintro rfl
      refine ⟨Finset.mem_univ _, funext fun a => Fin.ext ?_⟩
      match a with
      | ⟨0, _⟩ => exact h2 _
      | ⟨1, _⟩ => exact h3 _
  exact (congrArg (fun S => ∑ i ∈ S, x i) hf).trans (Finset.sum_singleton _ _)

section
variable (x0 : (⟨S4x2048x3328, .f32⟩ : BufTy).Contents (Elt Ideal)) (P : ℕ → ℕ → ℕ → ℝ)
  (h0 : ∀ y : S4x2048x3328.Idx, x0 y = ((P (y 0).val (y 1).val (y 2).val : ℝ) : EReal))
  (x1 : (⟨S1x512, .f32⟩ : BufTy).Contents (Elt Ideal)) (g : ℕ → ℝ) (h1 : ∀ y : S1x512.Idx, x1 y = ((g (y 1).val : ℝ) : EReal))
  (x2 : (⟨S4x2048x1024, .f32⟩ : BufTy).Contents (Elt Ideal)) (DY : ℕ → ℕ → ℕ → ℝ)
  (h2 : ∀ y : S4x2048x1024.Idx, x2 y = ((DY (y 0).val (y 1).val (y 2).val : ℝ) : EReal))
include h0 h2

/-- The gain's gradient of a head. -/
theorem v51_co (j : S8x64.Idx) : val_main_v51 (F := Ideal) x0 x2 j = ((rDg P DY (j 0).val (j 1).val : ℝ) : EReal) := by
  show Ideal.hostReduceAdd reducesTo_S4x2048x8x64_S8x64_d0_1 (val_main_v50 (F := Ideal) x0 x2) _ j = _
  rw [sum_bt, val_main_cst_6_apply, bits_zero]
  have hs : ∀ b : Fin 4, (∑ t : Fin 2048, val_main_v50 (F := Ideal) x0 x2 (gix j (b, t)))
      = ((∑ t ∈ range 2048, ho P b.val (j 0).val t (j 1).val * hr (ho P b.val (j 0).val) t * hd DY 512 b.val (j 0).val t (j 1).val : ℝ) : EReal) := fun b => by
    rw [← coe_sum_fin]
    refine Finset.sum_congr rfl fun t _ => ?_
    rw [v50_co x0 P h0 x2 DY h2]
    rfl
  rw [Finset.sum_congr rfl fun b _ => hs b, coe_sum_fin (fun b => ∑ t ∈ range 2048, ho P b (j 0).val t (j 1).val * hr (ho P b (j 0).val) t * hd DY 512 b (j 0).val t (j 1).val), zero_add']
  rfl

/-- The gain's gradient. -/
theorem v56_co (y : S1x512.Idx) : val_main_v56 (F := Ideal) x0 x2 y = ((rDg P DY ((y 1).val / 64) ((y 1).val % 64) : ℝ) : EReal) := by
  rw [val_main_v56_apply]
  show Ideal.hostReduceAdd reducesTo_S1x1x8x64_S8x64_d0_1 (val_main_v52 (F := Ideal) x0 x2) _ _ = _
  rw [sum_unit, val_main_cst_7_apply, bits_zero, val_main_v52_apply, v51_co x0 P h0 x2 DY h2, zero_add']
  have b0 : (y 0).val < 1 := (y 0).isLt
  have b1 : (y 1).val < 512 := (y 1).isLt
  have e0 : (((0 * 1 + 0) * 8 + ((y 0).val * 512 + (y 1).val) / 64) * 64 + ((y 0).val * 512 + (y 1).val) % 64) / 64 = (y 1).val / 64 := by omega
  have e1 : (((0 * 1 + 0) * 8 + ((y 0).val * 512 + (y 1).val) / 64) * 64 + ((y 0).val * 512 + (y 1).val) % 64) % 64 = (y 1).val % 64 := by omega
  show ((rDg P DY ((((0 * 1 + 0) * 8 + ((y 0).val * 512 + (y 1).val) / 64) * 64 + ((y 0).val * 512 + (y 1).val) % 64) / 64)
    ((((0 * 1 + 0) * 8 + ((y 0).val * 512 + (y 1).val) / 64) * 64 + ((y 0).val * 512 + (y 1).val) % 64) % 64) : ℝ) : EReal) = _
  rw [e0, e1]

omit h0 h2 in
/-- The padding in front and the slice behind it cancel. -/
theorem v97_eq (i : S4x2048x1536.Idx) : val_main_v97 (F := Ideal) x0 x1 x2 i = val_main_v95 (F := Ideal) x0 x1 x2 i := by
  rw [val_main_v97_apply]
  unfold val_main_v96
  exact pad_apply_of_inside ![0, 0, 1792] ![0, 0, 0] ![0, 0, 0] (val_main_v95 (F := Ideal) x0 x1 x2) (val_main_cst_12 (F := Ideal)) pads_S4x2048x1536_S4x2048x3328_000_000_179200 h_S_ (idx_main_v97 i) i
    (fun a => match a with
      | ⟨0, _⟩ => by show (i 0).val = 0 + (i 0).val * (0 + 1); omega
      | ⟨1, _⟩ => by show (i 1).val = 0 + (i 1).val * (0 + 1); omega
      | ⟨2, _⟩ => by show 1792 + (i 2).val = 1792 + (i 2).val * (0 + 1); omega)

omit h0 h2 in
theorem v98_eq (y : S4x2048x512.Idx) : val_main_v98 (F := Ideal) x0 x1 x2 y = val_main_v94 (F := Ideal) x0 x1 x2 y := by
  rw [val_main_v98_apply, v97_eq]
  unfold val_main_v95
  exact concatenate_apply_piece (2 : Fin 3) _ _ (idx_main_v98 y) 0 (by show 0 < 3; omega) S4x2048x512 (val_main_v94 (F := Ideal) x0 x1 x2) rfl rfl 0 rfl y
    (fun b hb => match b with
      | ⟨0, _⟩ => rfl
      | ⟨1, _⟩ => rfl
      | ⟨2, _⟩ => absurd rfl hb)
    (by show 0 + (y 2).val = (y 2).val; omega)

include h1 in
/-- The queries' gradient. -/
theorem v98_co (y : S4x2048x512.Idx) : val_main_v98 (F := Ideal) x0 x1 x2 y = ((rDq P DY g (y 0).val ((y 2).val / 64) (y 1).val ((y 2).val % 64) : ℝ) : EReal) := by
  rw [v98_eq, val_main_v94_apply, val_main_v93_apply, v88_co x0 P h0 x1 g h1 x2 DY h2]
  have b1 : (y 1).val < 2048 := (y 1).isLt
  have b2 : (y 2).val < 512 := (y 2).isLt
  have e0 : (((y 0).val * 2048 + (y 1).val) * 512 + (y 2).val) / 1048576 = (y 0).val := by omega
  have e1 : (((y 0).val * 2048 + (y 1).val) * 512 + (y 2).val) / 512 % 2048 = (y 1).val := by omega
  have e2 : (((y 0).val * 2048 + (y 1).val) * 512 + (y 2).val) / 64 % 8 = (y 2).val / 64 := by omega
  have e3 : (((y 0).val * 2048 + (y 1).val) * 512 + (y 2).val) % 64 = (y 2).val % 64 := by omega
  show ((rDq P DY g ((((y 0).val * 2048 + (y 1).val) * 512 + (y 2).val) / 1048576) ((((y 0).val * 2048 + (y 1).val) * 512 + (y 2).val) / 64 % 8)
    ((((y 0).val * 2048 + (y 1).val) * 512 + (y 2).val) / 512 % 2048) ((((y 0).val * 2048 + (y 1).val) * 512 + (y 2).val) % 64) : ℝ) : EReal) = _
  rw [e0, e1, e2, e3]

omit h0 h2 in
theorem v99_eq (y : S4x2048x512.Idx) : val_main_v99 (F := Ideal) x0 x1 x2 y = val_main_v92 (F := Ideal) x0 x1 x2 y := by
  rw [val_main_v99_apply, v97_eq]
  unfold val_main_v95
  exact concatenate_apply_piece (2 : Fin 3) _ _ (idx_main_v99 y) 1 (by show 1 < 3; omega) S4x2048x512 (val_main_v92 (F := Ideal) x0 x1 x2) rfl rfl 512 rfl y
    (fun b hb => match b with
      | ⟨0, _⟩ => rfl
      | ⟨1, _⟩ => rfl
      | ⟨2, _⟩ => absurd rfl hb)
    (by show 512 + (y 2).val = 512 + (y 2).val; omega)

include h1 in
/-- The keys' gradient. -/
theorem v99_co (y : S4x2048x512.Idx) : val_main_v99 (F := Ideal) x0 x1 x2 y = ((rDk P DY g (y 0).val ((y 2).val / 64) (y 1).val ((y 2).val % 64) : ℝ) : EReal) := by
  rw [v99_eq, val_main_v92_apply, val_main_v91_apply, v87_co x0 P h0 x1 g h1 x2 DY h2]
  have b1 : (y 1).val < 2048 := (y 1).isLt
  have b2 : (y 2).val < 512 := (y 2).isLt
  have e0 : (((y 0).val * 2048 + (y 1).val) * 512 + (y 2).val) / 1048576 = (y 0).val := by omega
  have e1 : (((y 0).val * 2048 + (y 1).val) * 512 + (y 2).val) / 512 % 2048 = (y 1).val := by omega
  have e2 : (((y 0).val * 2048 + (y 1).val) * 512 + (y 2).val) / 64 % 8 = (y 2).val / 64 := by omega
  have e3 : (((y 0).val * 2048 + (y 1).val) * 512 + (y 2).val) % 64 = (y 2).val % 64 := by omega
  show ((rDk P DY g ((((y 0).val * 2048 + (y 1).val) * 512 + (y 2).val) / 1048576) ((((y 0).val * 2048 + (y 1).val) * 512 + (y 2).val) / 64 % 8)
    ((((y 0).val * 2048 + (y 1).val) * 512 + (y 2).val) / 512 % 2048) ((((y 0).val * 2048 + (y 1).val) * 512 + (y 2).val) % 64) : ℝ) : EReal) = _
  rw [e0, e1, e2, e3]

omit h0 h2 in
theorem v100_eq (y : S4x2048x512.Idx) : val_main_v100 (F := Ideal) x0 x1 x2 y = val_main_v90 (F := Ideal) x0 x1 x2 y := by
  rw [val_main_v100_apply, v97_eq]
  unfold val_main_v95
  exact concatenate_apply_piece (2 : Fin 3) _ _ (idx_main_v100 y) 2 (by show 2 < 3; omega) S4x2048x512 (val_main_v90 (F := Ideal) x0 x1 x2) rfl rfl 1024 rfl y
    (fun b hb => match b with
      | ⟨0, _⟩ => rfl
      | ⟨1, _⟩ => rfl
      | ⟨2, _⟩ => absurd rfl hb)
    (by show 1024 + (y 2).val = 1024 + (y 2).val; omega)

include h1 in
/-- The values' gradient. -/
theorem v100_co (y : S4x2048x512.Idx) : val_main_v100 (F := Ideal) x0 x1 x2 y = ((rDv P DY g (y 0).val ((y 2).val / 64) (y 1).val ((y 2).val % 64) : ℝ) : EReal) := by
  rw [v100_eq, val_main_v90_apply, val_main_v89_apply, v73_co x0 P h0 x1 g h1 x2 DY h2]
  have b1 : (y 1).val < 2048 := (y 1).isLt
  have b2 : (y 2).val < 512 := (y 2).isLt
  have e0 : (((y 0).val * 2048 + (y 1).val) * 512 + (y 2).val) / 1048576 = (y 0).val := by omega
  have e1 : (((y 0).val * 2048 + (y 1).val) * 512 + (y 2).val) / 512 % 2048 = (y 1).val := by omega
  have e2 : (((y 0).val * 2048 + (y 1).val) * 512 + (y 2).val) / 64 % 8 = (y 2).val / 64 := by omega
  have e3 : (((y 0).val * 2048 + (y 1).val) * 512 + (y 2).val) % 64 = (y 2).val % 64 := by omega
  show ((rDv P DY g ((((y 0).val * 2048 + (y 1).val) * 512 + (y 2).val) / 1048576) ((((y 0).val * 2048 + (y 1).val) * 512 + (y 2).val) / 64 % 8)
    ((((y 0).val * 2048 + (y 1).val) * 512 + (y 2).val) / 512 % 2048) ((((y 0).val * 2048 + (y 1).val) * 512 + (y 2).val) % 64) : ℝ) : EReal) = _
  rw [e0, e1, e2, e3]

end
end Cert.ReferenceIdeal.Hand

end
-- ==== Proof.Equation.lean ====
/- The kernel's real functions over pairs of heads are the reference's over single heads. -/
module

public import proofs.«01_k».proof.Proof.KernelIdeal.Arrays
public import proofs.«01_k».proof.Proof.ReferenceIdeal.Backward

@[expose] public section

set_option maxRecDepth 16384

noncomputable section

namespace Cert.Equation

open Cert.KernelIdeal.Hand Cert.ReferenceIdeal.Hand
open Finset (range)

/-! ## Sums over half of the lanes -/

theorem lo_sum (f : ℕ → ℝ) : (∑ l ∈ range 128, if l < 64 then f l else 0) = ∑ d ∈ range 64, f d := by
  have h := Finset.sum_range_add (fun l => if l < 64 then f l else 0) 64 64
  rw [show 64 + 64 = 128 from rfl] at h
  rw [h, Finset.sum_congr rfl fun d hd => if_pos (Finset.mem_range.mp hd), Finset.sum_eq_zero fun d _ => if_neg (by omega), add_zero]
theorem hi_sum (f : ℕ → ℝ) : (∑ l ∈ range 128, if l < 64 then 0 else f l) = ∑ d ∈ range 64, f (64 + d) := by
  have h := Finset.sum_range_add (fun l => if l < 64 then 0 else f l) 64 64
  rw [show 64 + 64 = 128 from rfl] at h
  rw [h, Finset.sum_eq_zero fun d hd => if_pos (Finset.mem_range.mp hd), zero_add]
  exact Finset.sum_congr rfl fun d _ => if_neg (by omega)

/-- The product of two rows over half `e` of the lanes. -/
def half (e : ℕ) (q k : ℕ → ℕ → ℝ) (t s : ℕ) : ℝ := ∑ d ∈ range 64, q t (64 * e + d) * k s (64 * e + d)

theorem dot_lo (q k : ℕ → ℕ → ℝ) : dotf (loF q) k = half 0 q k := by
  funext t s
  unfold dotf loF half
  simp only [ite_mul, zero_mul, mul_zero, zero_add]
  exact lo_sum fun l => q t l * k s l
theorem dot_hi (q k : ℕ → ℕ → ℝ) : dotf (hiF q) k = half 1 q k := by
  funext t s
  unfold dotf hiF half
  simp only [ite_mul, zero_mul, mul_one]
  exact hi_sum fun l => q t l * k s l

theorem halfF_eq (f : ℕ → ℝ) {e d : ℕ} (he : e < 2) (hd : d < 64) : halfF f (64 * e + d) = ∑ j ∈ range 64, f (64 * e + j) := by
  unfold halfF
  obtain rfl | rfl : e = 0 ∨ e = 1 := by omega
  · rw [if_pos (by omega), lo_sum]
    simp only [mul_zero, zero_add]
  · rw [if_neg (by omega), hi_sum]

theorem pQ_half (Q K V D : ℕ → ℕ → ℝ) (t s : ℕ) {e d : ℕ} (he : e < 2) (hd : d < 64) :
    pQ Q K V D t s (64 * e + d) = Dz (half e Q K) (half e D V) t s * K s (64 * e + d) := by
  unfold pQ
  rw [dot_lo, dot_lo, dot_hi, dot_hi]
  obtain rfl | rfl : e = 0 ∨ e = 1 := by omega
  · rw [if_pos (by omega)]
  · rw [if_neg (by omega)]
theorem pK_half (Q K V D : ℕ → ℕ → ℝ) (t s : ℕ) {e d : ℕ} (he : e < 2) (hd : d < 64) :
    pK Q K V D t s (64 * e + d) = Dz (half e Q K) (half e D V) t s * Q t (64 * e + d) := by
  unfold pK
  rw [dot_lo, dot_lo, dot_hi, dot_hi]
  unfold hiF loF
  obtain rfl | rfl : e = 0 ∨ e = 1 := by omega
  · rw [if_pos (by omega), if_pos (by omega), mul_zero, zero_add]
  · rw [if_neg (by omega), if_neg (by omega), mul_zero, add_zero]
theorem pV_half (Q K D : ℕ → ℕ → ℝ) (t s : ℕ) {e d : ℕ} (he : e < 2) (hd : d < 64) :
    pV Q K D t s (64 * e + d) = At (half e Q K) t s * D t (64 * e + d) := by
  unfold pV
  rw [dot_lo, dot_hi]
  unfold hiF loF
  obtain rfl | rfl : e = 0 ∨ e = 1 := by omega
  · rw [if_pos (by omega), if_pos (by omega), mul_zero, zero_add]
  · rw [if_neg (by omega), if_neg (by omega), mul_zero, add_zero]

/-! ## The norm over half of the lanes -/

section
variable (o o' : ℕ → ℕ → ℝ) (e : ℕ) (he : e < 2) (ho' : ∀ t d, d < 64 → o t (64 * e + d) = o' t d)
include he ho'

theorem ms_half (t : ℕ) {d : ℕ} (hd : d < 64) : msF o t (64 * e + d) = hms o' t := by
  unfold msF hms
  rw [halfF_eq _ he hd, Finset.sum_congr rfl fun j hj => by rw [ho' t j (Finset.mem_range.mp hj)]]
theorem r_half (t : ℕ) {d : ℕ} (hd : d < 64) : rF o t (64 * e + d) = hr o' t := by
  unfold rF hr
  rw [ms_half o o' e he ho' t hd]

variable (dy dy' : ℕ → ℕ → ℝ) (hdy : ∀ t d, d < 64 → dy t (64 * e + d) = dy' t d) (g g' : ℕ → ℝ) (hg' : ∀ d, d < 64 → g (64 * e + d) = g' d)
include hdy hg'

theorem w_half (t : ℕ) {d : ℕ} (hd : d < 64) : halfF (wF g o dy t) (64 * e + d) = hw g' o' dy' t := by
  rw [halfF_eq _ he hd]
  unfold wF hw
  rw [Finset.sum_mul, Finset.sum_mul]
  refine Finset.sum_congr rfl fun j hj => ?_
  have hj' := Finset.mem_range.mp hj
  rw [ms_half o o' e he ho' t hj', r_half o o' e he ho' t hj', ho' t j hj', hdy t j hj', hg' j hj']
  ring
theorem do_half (t : ℕ) {d : ℕ} (hd : d < 64) : doF g o dy t (64 * e + d) = hdo g' o' dy' t d := by
  unfold doF hdo
  rw [w_half o o' e he ho' dy dy' hdy g g' hg' t hd, r_half o o' e he ho' t hd, ho' t d hd, hdy t d hd, hg' d hd]

end

/-! ## The blocks of the arrays -/

/-- The attention's output, heads side by side. -/
def Oc (P : ℕ → ℕ → ℕ → ℝ) (b t c : ℕ) : ℝ := ho P b (c / 64) t (c % 64)
/-- The rows' totals, a head's repeated over its columns. -/
def Tc (P : ℕ → ℕ → ℕ → ℝ) (b t c : ℕ) : ℝ := Rem (hz P b (c / 64)) t 0

theorem bl_half (f : ℕ → ℕ → ℕ → ℝ) (o n b s e d : ℕ) : bl f o n b s (64 * e + d) = hd f o (2 * (n % 2) + b) (2 * (n / 2) + e) s d := by
  unfold bl hd
  congr 1
  ring
theorem blg_half (g : ℕ → ℝ) (n e d : ℕ) : blg g n (64 * e + d) = hg g (2 * (n / 2) + e) d := by
  unfold blg hg
  congr 1
  ring
theorem blO_half (P : ℕ → ℕ → ℕ → ℝ) (n b s e d : ℕ) (hd' : d < 64) : bl (Oc P) 0 n b s (64 * e + d) = ho P (2 * (n % 2) + b) (2 * (n / 2) + e) s d := by
  rw [bl_half]
  unfold hd Oc
  rw [show (0 + (64 * (2 * (n / 2) + e) + d)) / 64 = 2 * (n / 2) + e by omega, show (0 + (64 * (2 * (n / 2) + e) + d)) % 64 = d by omega]

theorem z_half (P : ℕ → ℕ → ℕ → ℝ) (n b e : ℕ) : half e (Qs (bl P 1792 n) b) (bl P 2304 n b) = hz P (2 * (n % 2) + b) (2 * (n / 2) + e) := by
  funext t s
  unfold half hz Qs
  rw [Finset.sum_mul]
  refine Finset.sum_congr rfl fun d _ => ?_
  rw [bl_half, bl_half]
  ring

section
variable (P : ℕ → ℕ → ℕ → ℝ) (g : ℕ → ℝ) (DY : ℕ → ℕ → ℕ → ℝ) (n b : ℕ)

theorem D_half (t : ℕ) {e d : ℕ} (he : e < 2) (hd' : d < 64) :
    Ds (blg g n) (bl (Oc P) 0 n) (bl DY 512 n) b t (64 * e + d) = rDo P DY g (2 * (n % 2) + b) (2 * (n / 2) + e) t d :=
  do_half _ _ e he (fun t d h => blO_half P n b t e d h) _ _ (fun t d _ => bl_half DY 512 n b t e d) _ _ (fun d _ => blg_half g n e d) t hd'

theorem W_half {e : ℕ} (he : e < 2) :
    half e (Ds (blg g n) (bl (Oc P) 0 n) (bl DY 512 n) b) (bl P 2816 n b) = rW P DY g (2 * (n % 2) + b) (2 * (n / 2) + e) := by
  funext t s
  unfold half rW
  refine Finset.sum_congr rfl fun d hd' => ?_
  rw [D_half P g DY n b t he (Finset.mem_range.mp hd'), bl_half]

/-- The queries' gradient. -/
theorem dQ_eq (t : ℕ) {e d : ℕ} (he : e < 2) (hd' : d < 64) :
    dQf P g (Oc P) DY n b t (64 * e + d) = rDq P DY g (2 * (n % 2) + b) (2 * (n / 2) + e) t d := by
  unfold dQf rDq
  rw [Finset.sum_mul]
  refine Finset.sum_congr rfl fun s _ => ?_
  rw [pQ_half _ _ _ _ _ _ he hd', z_half, W_half P g DY n b he, bl_half]
  unfold rDz
  ring
/-- The keys' gradient. -/
theorem dK_eq (s : ℕ) {e d : ℕ} (he : e < 2) (hd' : d < 64) :
    dKf P g (Oc P) DY n b s (64 * e + d) = rDk P DY g (2 * (n % 2) + b) (2 * (n / 2) + e) s d := by
  unfold dKf rDk
  refine Finset.sum_congr rfl fun t _ => ?_
  rw [pK_half _ _ _ _ _ _ he hd', z_half, W_half P g DY n b he]
  unfold rDz Qs
  rw [bl_half]
  ring
/-- The values' gradient. -/
theorem dV_eq (s : ℕ) {e d : ℕ} (he : e < 2) (hd' : d < 64) :
    dVf P g (Oc P) DY n b s (64 * e + d) = rDv P DY g (2 * (n % 2) + b) (2 * (n / 2) + e) s d := by
  unfold dVf rDv
  refine Finset.sum_congr rfl fun t _ => ?_
  rw [pV_half _ _ _ _ _ he hd', z_half, D_half P g DY n b t he hd']
  ring

/-- What a position adds to the gain's gradient. -/
theorem gn_eq (t : ℕ) {e d : ℕ} (he : e < 2) (hd' : d < 64) : gnF (bl (Oc P) 0 n) (bl DY 512 n) b t (64 * e + d)
    = ho P (2 * (n % 2) + b) (2 * (n / 2) + e) t d * hr (ho P (2 * (n % 2) + b) (2 * (n / 2) + e)) t * hd DY 512 (2 * (n % 2) + b) (2 * (n / 2) + e) t d := by
  unfold gnF
  rw [r_half _ (ho P (2 * (n % 2) + b) (2 * (n / 2) + e)) e he (fun t d h => blO_half P n b t e d h) t hd', blO_half P n b t e d hd', bl_half]

end

/-- The gain's gradient: the two points of a pair of heads. -/
theorem dG_eq (P : ℕ → ℕ → ℕ → ℝ) (DY : ℕ → ℕ → ℕ → ℝ) (j : ℕ) {e d : ℕ} (he : e < 2) (hd' : d < 64) :
    dGf (Oc P) DY (2 * j) (64 * e + d) + dGf (Oc P) DY (2 * j + 1) (64 * e + d) = rDg P DY (2 * j + e) d := by
  unfold dGf rDg
  rw [Finset.sum_add_distrib, Finset.sum_add_distrib]
  simp only [gn_eq P DY _ _ _ he hd']
  rw [show 2 * j % 2 = 0 by omega, show 2 * j / 2 = j by omega, show (2 * j + 1) % 2 = 1 by omega, show (2 * j + 1) / 2 = j by omega]
  simp only [Finset.sum_range_succ (n := 3), Finset.sum_range_succ (n := 2), Finset.sum_range_succ (n := 1), Finset.sum_range_one]
  ring

/-- The totals the host hands over are those of the scores. -/
theorem tot_half (P : ℕ → ℕ → ℕ → ℝ) (n b t : ℕ) {e d : ℕ} (hd' : d < 64) :
    bl (Tc P) 0 n b t (64 * e + d) = Rem (half e (Qs (bl P 1792 n) b) (bl P 2304 n b)) t 0 := by
  rw [z_half, bl_half]
  unfold hd Tc
  rw [show (0 + (64 * (2 * (n / 2) + e) + d)) / 64 = 2 * (n / 2) + e by omega]

end Cert.Equation

end
-- ==== Proof.Finite.lean ====
/- The precondition says of each argument array that it holds real numbers. -/
module

public import proofs.«01_k».proof.Defs
public import Idealize.ShloMosaic.Lib.Pointwise

@[expose] public section

set_option maxRecDepth 16384

noncomputable section

namespace Cert.Finite

open Idealize.ShloMosaic

/-- The precondition's shape relations. -/
theorem facts : Cert.Pre_finite_inputs.Facts where
  bcast_S_S4x2048x3328 := by decide
  bcast_S_S1x512 := by decide
  bcast_S_S4x2048x1024 := by decide

/-- A number whose size is below infinity is real. -/
theorem real_of_lt (a : EReal) (h : Ideal.cmp .olt (FloatOps.hostAbsf (F := Ideal) (φ := .f32) a) (Ideal.ofBits .f32 0x7F800000#32) = 1#1) :
    a = ((a.toReal : ℝ) : EReal) := by
  have ht : (Ideal.ofBits .f32 0x7F800000#32 : EReal) = ⊤ := by simp [Ideal.ofBits, Ideal.ieee]
  rw [ht] at h
  have hl : (FloatOps.hostAbsf (F := Ideal) (φ := .f32) a : EReal) < ⊤ := (Ideal.cmp_olt_eq_one _ _).1 h
  induction a with
  | bot => exact absurd hl (by show ¬ ((max ⊥ (-⊥) : EReal) < ⊤); simp)
  | top => exact absurd hl (by show ¬ ((max ⊤ (-⊤) : EReal) < ⊤); simp)
  | coe r => rfl

/-- An array of real numbers over three axes is a function of three numbers. -/
theorem exists3 {a b c : ℕ} (x : (⟨3, ![a, b, c]⟩ : Shape).Idx → EReal) (h : ∀ y, x y = ((x y).toReal : EReal)) :
    ∃ P : ℕ → ℕ → ℕ → ℝ, ∀ y, x y = ((P (y 0).val (y 1).val (y 2).val : ℝ) : EReal) := by
  refine ⟨fun i j k => if hi : i < a then if hj : j < b then if hk : k < c then (x (ix3 ⟨i, hi⟩ ⟨j, hj⟩ ⟨k, hk⟩)).toReal else 0 else 0 else 0, fun y => ?_⟩
  have h0 : (y 0).val < a := (y 0).isLt
  have h1 : (y 1).val < b := (y 1).isLt
  have h2 : (y 2).val < c := (y 2).isLt
  show x y = ((if hi : (y 0).val < a then _ else _ : ℝ) : EReal)
  rw [dif_pos h0, dif_pos h1, dif_pos h2]
  have e : ix3 (n0 := a) (n1 := b) (n2 := c) ⟨(y 0).val, h0⟩ ⟨(y 1).val, h1⟩ ⟨(y 2).val, h2⟩ = y :=
    funext fun d => Fin.ext (by match d with | ⟨0, _⟩ => rfl | ⟨1, _⟩ => rfl | ⟨2, _⟩ => rfl)
  rw [e]
  exact h y

/-- A row of real numbers is a function of one number. -/
theorem exists1 {b : ℕ} (x : (⟨2, ![1, b]⟩ : Shape).Idx → EReal) (h : ∀ y, x y = ((x y).toReal : EReal)) :
    ∃ g : ℕ → ℝ, ∀ y, x y = ((g (y 1).val : ℝ) : EReal) := by
  refine ⟨fun j => if hj : j < b then (x (ix2 ⟨0, Nat.one_pos⟩ ⟨j, hj⟩)).toReal else 0, fun y => ?_⟩
  have h0 : (y 0).val < 1 := (y 0).isLt
  have h1 : (y 1).val < b := (y 1).isLt
  show x y = ((if hj : (y 1).val < b then _ else _ : ℝ) : EReal)
  rw [dif_pos h1]
  have e : ix2 (n0 := 1) (n1 := b) ⟨0, Nat.one_pos⟩ ⟨(y 1).val, h1⟩ = y :=
    funext fun d => Fin.ext (by match d with | ⟨0, _⟩ => exact (Nat.lt_one_iff.mp h0).symm | ⟨1, _⟩ => rfl)
  rw [e]
  exact h y

section
attribute [local instance] facts

/-- What the precondition says of the three arrays. -/
theorem reals (x0 : FVec Ideal Cert.Pre_finite_inputs.S4x2048x3328 .f32) (x1 : FVec Ideal Cert.Pre_finite_inputs.S1x512 .f32) (x2 : FVec Ideal Cert.Pre_finite_inputs.S4x2048x1024 .f32)
    (h0 : (Cert.Pre_finite_inputs.fn (F := Ideal) x0 x1 x2).1 = fun _ => 1#1) (h1 : (Cert.Pre_finite_inputs.fn (F := Ideal) x0 x1 x2).2.1 = fun _ => 1#1)
    (h2 : (Cert.Pre_finite_inputs.fn (F := Ideal) x0 x1 x2).2.2 = fun _ => 1#1) :
    (∃ P : ℕ → ℕ → ℕ → ℝ, ∀ y, x0 y = ((P (y 0).val (y 1).val (y 2).val : ℝ) : EReal)) ∧ (∃ g : ℕ → ℝ, ∀ y, x1 y = ((g (y 1).val : ℝ) : EReal))
      ∧ ∃ DY : ℕ → ℕ → ℕ → ℝ, ∀ y, x2 y = ((DY (y 0).val (y 1).val (y 2).val : ℝ) : EReal) :=
  ⟨exists3 x0 fun y => real_of_lt _ (congrFun h0 y), exists1 x1 fun y => real_of_lt _ (congrFun h1 y), exists3 x2 fun y => real_of_lt _ (congrFun h2 y)⟩
end

end Cert.Finite

end
-- ==== Proof.Value.lean ====
/- The value claim: from equal finite arguments the kernel's call and the reference end with equal results. -/
module

public import proofs.«01_k».proof.Defs
public import proofs.«01_k».proof.Proof.Gen.ReferenceIdeal.Run
public import proofs.«01_k».proof.Proof.Gen.ReferenceIdeal.Read
public import proofs.«01_k».proof.Proof.KernelIdeal.Frame
public import proofs.«01_k».proof.Proof.KernelIdeal.Final
public import proofs.«01_k».proof.Proof.KernelIdeal.Host
public import proofs.«01_k».proof.Proof.ReferenceIdeal.Results
public import proofs.«01_k».proof.Proof.Equation
public import proofs.«01_k».proof.Proof.Finite

@[expose] public section

set_option maxRecDepth 16384

noncomputable section

namespace Cert.Value

open Idealize.ShloMosaic Idealize.ShloMosaic.TcCoe
open Idealize.SL Idealize.SL.Sem
open Cert.Equation

/-! ## The kernel's arrays -/

section Kernel
open Cert.KernelIdeal Cert.KernelIdeal.Gen Cert.KernelIdeal.Hand

variable (m : (ℓ : Loc nD τ sig) → Buf (Elt Ideal) ℓ) (c : Dev nD)
variable (P : ℕ → ℕ → ℕ → ℝ) (h0 : ∀ y : S4x2048x3328.Idx, (m (c, Proc.devRef .tc main_arg0) : (⟨S4x2048x3328, .f32⟩ : BufTy).Contents (Elt Ideal)) y = ((P (y 0).val (y 1).val (y 2).val : ℝ) : EReal))
variable (g : ℕ → ℝ) (h1 : ∀ y : S1x512.Idx, (m (c, Proc.devRef .tc main_arg1) : (⟨S1x512, .f32⟩ : BufTy).Contents (Elt Ideal)) y = ((g (y 1).val : ℝ) : EReal))
variable (DY : ℕ → ℕ → ℕ → ℝ) (h2 : ∀ y : S4x2048x1024.Idx, (m (c, Proc.devRef .tc main_arg2) : (⟨S4x2048x1024, .f32⟩ : BufTy).Contents (Elt Ideal)) y = ((DY (y 0).val (y 1).val (y 2).val : ℝ) : EReal))
include h0 h1 h2

/-- On finite arguments the arrays the call reads are the real ones the blocks are computed from. -/
theorem reals : Reals m c P g (Oc P) (Tc P) DY where
  hP := fun y => (congrFun (V_main_arg0 m c) y).trans (h0 y)
  hg := fun y => (congrFun (V_main_arg1 m c) y).trans (h1 y)
  hO := V30_co m c P h0
  hT := V34_co m c P h0
  hY := fun y => (congrFun (V_main_arg2 m c) y).trans (h2 y)
  tl := fun n _ b _ t _ l hl => by
    have h := tot_half P n b t (e := 0) (d := l) hl
    rw [dot_lo]
    simpa only [mul_zero, zero_add] using h
  th := fun n _ b _ t _ l hl hl' => by
    have h := tot_half P n b t (e := 1) (d := l - 64) (by omega)
    rw [dot_hi]
    rw [show 64 * 1 + (l - 64) = l by omega] at h
    exact h
end Kernel

/-! ## The results -/

section Results
open Cert.ReferenceIdeal Cert.ReferenceIdeal.Gen Cert.ReferenceIdeal.Read Cert.ReferenceIdeal.Hand

variable (x0 : (⟨S4x2048x3328, .f32⟩ : BufTy).Contents (Elt Ideal)) (P : ℕ → ℕ → ℕ → ℝ) (h0 : ∀ y : S4x2048x3328.Idx, x0 y = ((P (y 0).val (y 1).val (y 2).val : ℝ) : EReal))
variable (x1 : (⟨S1x512, .f32⟩ : BufTy).Contents (Elt Ideal)) (g : ℕ → ℝ) (h1 : ∀ y : S1x512.Idx, x1 y = ((g (y 1).val : ℝ) : EReal))
variable (x2 : (⟨S4x2048x1024, .f32⟩ : BufTy).Contents (Elt Ideal)) (DY : ℕ → ℕ → ℕ → ℝ) (h2 : ∀ y : S4x2048x1024.Idx, x2 y = ((DY (y 0).val (y 1).val (y 2).val : ℝ) : EReal))

/-- A column of a point's block, as a head and a lane. -/
theorem lane (z y : ℕ) (hz : z < 4) (hy : y < 512) : y % 128 = 64 * (y % 128 / 64) + y % 64 ∧ y % 128 / 64 < 2 ∧ y % 64 < 64
    ∧ 2 * ((2 * (y / 128) + z / 2) % 2) + z % 2 = z ∧ 2 * ((2 * (y / 128) + z / 2) / 2) + y % 128 / 64 = y / 64 := by omega

include h0 h1 h2

/-- The query's gradient. -/
theorem dq : (Cert.KernelIdeal.Hand.arr (Cert.KernelIdeal.Hand.dQf P g (Oc P) DY) : FVec Ideal S4x2048x512 .f32) = val_main_v98 (F := Ideal) x0 x1 x2 := by
  funext y
  have l := lane (y 0).val (y 2).val (y 0).isLt (y 2).isLt
  rw [v98_co x0 P h0 x1 g h1 x2 DY h2]
  show ((Cert.KernelIdeal.Hand.dQf P g (Oc P) DY _ _ _ _ : ℝ) : EReal) = _
  rw [l.1, dQ_eq P g DY _ _ _ l.2.1 l.2.2.1, l.2.2.2.1, l.2.2.2.2]
/-- The key's gradient. -/
theorem dk : (Cert.KernelIdeal.Hand.arr (Cert.KernelIdeal.Hand.dKf P g (Oc P) DY) : FVec Ideal S4x2048x512 .f32) = val_main_v99 (F := Ideal) x0 x1 x2 := by
  funext y
  have l := lane (y 0).val (y 2).val (y 0).isLt (y 2).isLt
  rw [v99_co x0 P h0 x1 g h1 x2 DY h2]
  show ((Cert.KernelIdeal.Hand.dKf P g (Oc P) DY _ _ _ _ : ℝ) : EReal) = _
  rw [l.1, dK_eq P g DY _ _ _ l.2.1 l.2.2.1, l.2.2.2.1, l.2.2.2.2]
/-- The value's gradient. -/
theorem dv : (Cert.KernelIdeal.Hand.arr (Cert.KernelIdeal.Hand.dVf P g (Oc P) DY) : FVec Ideal S4x2048x512 .f32) = val_main_v100 (F := Ideal) x0 x1 x2 := by
  funext y
  have l := lane (y 0).val (y 2).val (y 0).isLt (y 2).isLt
  rw [v100_co x0 P h0 x1 g h1 x2 DY h2]
  show ((Cert.KernelIdeal.Hand.dVf P g (Oc P) DY _ _ _ _ : ℝ) : EReal) = _
  rw [l.1, dV_eq P g DY _ _ _ l.2.1 l.2.2.1, l.2.2.2.1, l.2.2.2.2]
omit h1
/-- The gain's gradient. -/
theorem dgain : (fun y : S1x512.Idx => ((Cert.KernelIdeal.Hand.dGf (Oc P) DY (2 * ((y 1).val / 128)) ((y 1).val % 128)
      + Cert.KernelIdeal.Hand.dGf (Oc P) DY (2 * ((y 1).val / 128) + 1) ((y 1).val % 128) : ℝ) : EReal)) = val_main_v56 (F := Ideal) x0 x2 := by
  funext y
  have b1 : (y 1).val < 512 := (y 1).isLt
  rw [v56_co x0 P h0 x2 DY h2, show (y 1).val % 128 = 64 * ((y 1).val % 128 / 64) + (y 1).val % 64 by omega,
    dG_eq P DY _ (by omega) (by omega), show 2 * ((y 1).val / 128) + (y 1).val % 128 / 64 = (y 1).val / 64 by omega]
end Results

/-! ## The two runs -/

attribute [local instance] Cert.KernelIdeal.Gen.facts Cert.ReferenceIdeal.Gen.facts Cert.Finite.facts

/-- The four result arrays of the kernel's call, from finite arguments, are the reference's values of these arguments. -/
theorem key (m : (ℓ : Loc Cert.KernelIdeal.nD Cert.KernelIdeal.τ Cert.KernelIdeal.sig) → Buf (Elt Ideal) ℓ) (c : Dev Cert.KernelIdeal.nD)
    (x0 : FVec Ideal Cert.ReferenceIdeal.S4x2048x3328 .f32) (x1 : FVec Ideal Cert.ReferenceIdeal.S1x512 .f32) (x2 : FVec Ideal Cert.ReferenceIdeal.S4x2048x1024 .f32)
    (e0 : x0 = m (c, Proc.devRef .tc Cert.KernelIdeal.main_arg0)) (e1 : x1 = m (c, Proc.devRef .tc Cert.KernelIdeal.main_arg1)) (e2 : x2 = m (c, Proc.devRef .tc Cert.KernelIdeal.main_arg2))
    (p0 : (Cert.Pre_finite_inputs.fn (F := Ideal) x0 x1 x2).1 = fun _ => 1#1) (p1 : (Cert.Pre_finite_inputs.fn (F := Ideal) x0 x1 x2).2.1 = fun _ => 1#1)
    (p2 : (Cert.Pre_finite_inputs.fn (F := Ideal) x0 x1 x2).2.2 = fun _ => 1#1) :
    ((Cert.KernelIdeal.Hand.dats m 0 c).arrAt 8 Cert.KernelIdeal.cfg0.N : FVec Ideal Cert.ReferenceIdeal.S4x2048x512 .f32) = Cert.ReferenceIdeal.Read.val_main_v98 (F := Ideal) x0 x1 x2
      ∧ ((Cert.KernelIdeal.Hand.dats m 0 c).arrAt 9 Cert.KernelIdeal.cfg0.N : FVec Ideal Cert.ReferenceIdeal.S4x2048x512 .f32) = Cert.ReferenceIdeal.Read.val_main_v99 (F := Ideal) x0 x1 x2
      ∧ ((Cert.KernelIdeal.Hand.dats m 0 c).arrAt 10 Cert.KernelIdeal.cfg0.N : FVec Ideal Cert.ReferenceIdeal.S4x2048x512 .f32) = Cert.ReferenceIdeal.Read.val_main_v100 (F := Ideal) x0 x1 x2
      ∧ ((Cert.KernelIdeal.Hand.dats m 0 c).arrAt 11 Cert.KernelIdeal.cfg0.N : FVec Ideal Cert.ReferenceIdeal.S1x512 .f32) = Cert.ReferenceIdeal.Read.val_main_v56 (F := Ideal) x0 x2 := by
  obtain ⟨⟨P, h0⟩, ⟨g, h1⟩, ⟨DY, h2⟩⟩ := Cert.Finite.reals x0 x1 x2 p0 p1 p2
  have H := reals m c P (fun y => (congrFun e0.symm y).trans (h0 y)) g (fun y => (congrFun e1.symm y).trans (h1 y)) DY (fun y => (congrFun e2.symm y).trans (h2 y))
  exact ⟨(Cert.KernelIdeal.Hand.final8 m c H).trans (dq x0 P h0 x1 g h1 x2 DY h2), (Cert.KernelIdeal.Hand.final9 m c H).trans (dk x0 P h0 x1 g h1 x2 DY h2),
    (Cert.KernelIdeal.Hand.final10 m c H).trans (dv x0 P h0 x1 g h1 x2 DY h2), (Cert.KernelIdeal.Hand.final11 m c H).trans (dgain x0 P h0 x2 DY h2)⟩

/-- The kernel's run ends with its result arrays in place and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v36_0) = (Cert.KernelIdeal.Hand.dats m 0 c).arrAt 8 Cert.KernelIdeal.cfg0.N
      ∧ r.2.mem ((c.tc : Thread Cert.KernelIdeal.nD Cert.KernelIdeal.τ).loc Cert.KernelIdeal.main_v36_1) = (Cert.KernelIdeal.Hand.dats m 0 c).arrAt 9 Cert.KernelIdeal.cfg0.N
      ∧ r.2.mem ((c.tc : Thread Cert.KernelIdeal.nD Cert.KernelIdeal.τ).loc Cert.KernelIdeal.main_v36_2) = (Cert.KernelIdeal.Hand.dats m 0 c).arrAt 10 Cert.KernelIdeal.cfg0.N
      ∧ r.2.mem ((c.tc : Thread Cert.KernelIdeal.nD Cert.KernelIdeal.τ).loc Cert.KernelIdeal.main_v36_3) = (Cert.KernelIdeal.Hand.dats m 0 c).arrAt 11 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h.1 c).1 8, (h.1 c).1 9, (h.1 c).1 10, (h.1 c).1 11,
      ((h.1 c).1 3).trans (((Cert.KernelIdeal.Hand.dats m 0 c).arrAt_in 3 rfl _).trans ((Cert.KernelIdeal.Hand.A_eq m c 3).trans (Cert.KernelIdeal.Gen.V_main_arg0 m c))),
      ((h.1 c).1 0).trans (((Cert.KernelIdeal.Hand.dats m 0 c).arrAt_in 0 rfl _).trans ((Cert.KernelIdeal.Hand.A_eq m c 0).trans (Cert.KernelIdeal.Gen.V_main_arg1 m c))),
      ((h.1 c).1 6).trans (((Cert.KernelIdeal.Hand.dats m 0 c).arrAt_in 6 rfl _).trans ((Cert.KernelIdeal.Hand.A_eq m c 6).trans (Cert.KernelIdeal.Gen.V_main_arg2 m c)))⟩)
    (Cert.KernelIdeal.Hand.run_main m ρ)

/-- From equal finite arguments the kernel's four results are the reference's. -/
theorem value : Cert.algebraic_KernelIdeal_ReferenceIdeal_pre_finite_inputs := by
  intro m ρ m' ρ' hpre hag
  refine ⟨_, _, _, _, kernel_run m ρ, (θ_run Cert.ReferenceIdeal.defs _ _).mono (fun r h c => ?_) (Cert.ReferenceIdeal.Value.run m' ρ')⟩
  have k := key m c _ _ _ (hag c).1 (hag c).2.1 (hag c).2.2
    (by rw [(hag c).1, (hag c).2.1, (hag c).2.2]; exact (hpre c).1) (by rw [(hag c).1, (hag c).2.1, (hag c).2.2]; exact (hpre c).2.1)
    (by rw [(hag c).1, (hag c).2.1, (hag c).2.2]; exact (hpre c).2.2)
  obtain ⟨r98, r99, r100, r56, rest⟩ := h c
  exact ⟨r98.trans ((Cert.ReferenceIdeal.Read.val_main_v98_eq (StableHlo.launchContents m' c)).trans k.1.symm),
    r99.trans ((Cert.ReferenceIdeal.Read.val_main_v99_eq (StableHlo.launchContents m' c)).trans k.2.1.symm),
    r100.trans ((Cert.ReferenceIdeal.Read.val_main_v100_eq (StableHlo.launchContents m' c)).trans k.2.2.1.symm),
    r56.trans ((Cert.ReferenceIdeal.Read.val_main_v56_eq (StableHlo.launchContents m' c)).trans k.2.2.2.symm), rest⟩

end Cert.Value

end
-- ==== Proof.DAct.lean ====
/- The gradient through the down projection and its activation, block by block. -/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.DAct

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The gradient the reference computes: the product with the transposed weight, times the derivative of the square of
    the positive part where the argument is positive, and zero elsewhere. -/
abbrev REF (X : FVec Ideal S8192x1024 .f32) (W : FVec Ideal S4096x1024 .f32) (U : FVec Ideal S8192x4096 .f32) : FVec Ideal S8192x4096 .bf16 :=
  truncf .bf16 (select (cmpf .ogt U (broadcastInDim S8192x4096 ![] Cert.Reference2Ideal.Gen.bcast_S_S8192x4096 (constant Cert.Reference2Ideal.S_ .f32 0x00000000#32))) (mulf (Host.dotGeneral Cert.Reference2Ideal.dot_S8192x1024_S4096x1024_S8192x4096_1_1_0_0_n_n none X W) (mulf (broadcastInDim S8192x4096 ![] Cert.Reference2Ideal.Gen.bcast_S_S8192x4096 (constant Cert.Reference2Ideal.S_ .f32 0x40000000#32)) (maximumf U (broadcastInDim S8192x4096 ![] Cert.Reference2Ideal.Gen.bcast_S_S8192x4096 (constant Cert.Reference2Ideal.S_ .f32 0x00000000#32))))) (broadcastInDim S8192x4096 ![] Cert.Reference2Ideal.Gen.bcast_S_S8192x4096 (constant Cert.Reference2Ideal.S_ .f32 0x00000000#32))) Cert.Reference2Ideal.Gen.bitsLt_bf16_f32

/-- The same gradient with the choice left out. -/
abbrev REF' (X : FVec Ideal S8192x1024 .f32) (W : FVec Ideal S4096x1024 .f32) (U : FVec Ideal S8192x4096 .f32) : FVec Ideal S8192x4096 .bf16 :=
  truncf .bf16 (mulf (Host.dotGeneral Cert.Reference2Ideal.dot_S8192x1024_S4096x1024_S8192x4096_1_1_0_0_n_n none X W) (mulf (broadcastInDim S8192x4096 ![] Cert.Reference2Ideal.Gen.bcast_S_S8192x4096 (constant Cert.Reference2Ideal.S_ .f32 0x40000000#32)) (maximumf U (broadcastInDim S8192x4096 ![] Cert.Reference2Ideal.Gen.bcast_S_S8192x4096 (constant Cert.Reference2Ideal.S_ .f32 0x00000000#32))))) Cert.Reference2Ideal.Gen.bitsLt_bf16_f32

/-- The choice changes nothing: where the argument is not positive, its positive part is zero, and so is the product. -/
theorem ref_eq (X : FVec Ideal S8192x1024 .f32) (W : FVec Ideal S4096x1024 .f32) (U : FVec Ideal S8192x4096 .f32) : REF X W U = REF' X W U := by
  funext i
  pointwise [REF, REF']
  split_ifs with h
  · rfl
  · rw [max_eq_right (not_lt.mp h), mul_zero, mul_zero]

/-- Which blocks the windows take at each point. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- What the body stores at a place of its block is the gradient at that place of the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  rw [ref_eq]
  pointwise [k0_pay1, REF']
  blk_point [iblk, V, idx t]

/-- The result array after the run is the gradient. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Both programs run from launches that agree on the arguments, and leave the same result. -/
theorem value : Cert.algebraic_Kernel2Ideal_Reference2Ideal (hKernel2Ideal := Gen.facts) (hReference2Ideal := Cert.Reference2Ideal.Gen.facts) := by
  intro m ρ m' ρ' _ hag
  refine ⟨_, Cert.Kernel2Ideal.Value.run_blocks m ρ, (θ_run Cert.Reference2Ideal.defs _ _).mono (fun r h c => ?_) (Cert.Reference2Ideal.Value.run m' ρ')⟩
  obtain ⟨h0, rest⟩ := h c
  refine ⟨h0.trans ?_, rest⟩
  rw [(hag c).1, (hag c).2.1, (hag c).2.2]
  exact (final m c).symm

end Cert.DAct

end
-- ==== Proof.DwDown.lean ====
/- The gradient of the down projection's weight: two steps of a run add up one block. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.DwDown

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The gradient of the weight as the reference computes it: the product of the two arrays over all the rows. -/
abbrev REF (X : FVec Ideal S8192x4096 .f32) (W : FVec Ideal S8192x1024 .f32) : FVec Ideal S4096x1024 .bf16 :=
  truncf .bf16 (transpose S4096x1024 [1, 0] (Host.dotGeneral Cert.Reference3Ideal.dot_S8192x1024_S8192x4096_S1024x4096_0_0_1_1_n_n none W X) Cert.Reference3Ideal.Gen.transposes_S1024x4096_S4096x1024_1_0) Cert.Reference3Ideal.Gen.bitsLt_bf16_f32

/-- The reference's gradient at a place is a sum over all the rows. -/
theorem ref_at (X : FVec Ideal S8192x4096 .f32) (W : FVec Ideal S8192x1024 .f32) (i : S4096x1024.Idx) :
    REF X W i = ∑ l : Fin 8192, X (ix2 l (i 0)) * W (ix2 l (i 1)) := by
  pointwise [REF]
  exact Fintype.sum_congr _ _ fun l => mul_comm _ _

/-- The first step of a run stores the product of its two blocks. -/
theorem pay_first (x0 : FVec Ideal S4096x512 .bf16) (x1 : FVec Ideal S4096x1024 .bf16) (y : S512x1024.Idx) :
    @Eq EReal (k0_pay2 (F := Ideal) x0 x1 y) (∑ k : Fin 4096, x0 (ix2 k (y 0)) * x1 (ix2 k (y 1))) := by
  pointwise [k0_pay2, k0_pay1]

/-- The last step of a run adds the product of its two blocks and stores the sum as the result. -/
theorem pay_last (x0 : FVec Ideal S4096x512 .bf16) (x1 : FVec Ideal S4096x1024 .bf16) (a : FVec Ideal S512x1024 .f32) (y : S512x1024.Idx) :
    @Eq EReal (k0_pay4 (F := Ideal) x0 x1 a y) (a y + ∑ k : Fin 4096, x0 (ix2 k (y 0)) * x1 (ix2 k (y 1))) := by
  pointwise [k0_pay4, k0_pay1]

/-- Which blocks the windows take at each point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The sum so far after a point: in the result's block at the last step of a run, in the scratch before it. -/
def acc (c : Dev nD) (n : ℕ) (h : n < cfg0.N) (y : S512x1024.Idx) : EReal :=
  if n % 2 = 1 then (show FVec Ideal S512x1024 .bf16 from (outsAt0 m c n h).1) y else (show FVec Ideal S512x1024 .f32 from (outsAt0 m c n h).2) y

/-- At the last step of a run the sum is in the result's block. -/
theorem acc_last (c : Dev nD) (t : Fin cfg0.N) (h : t.val % 2 = 1) (y : S512x1024.Idx) :
    acc m c t.val t.isLt y = (outsAt0 m c t.val t.isLt).1 y := if_pos h

/-- Before the last step of a run the sum is in the scratch. -/
theorem acc_mid (c : Dev nD) (t : Fin cfg0.N) (h : ¬t.val % 2 = 1) (y : S512x1024.Idx) :
    acc m c t.val t.isLt y = (outsAt0 m c t.val t.isLt).2 y := if_neg h

/-- Before a later step of a run the sum is in the scratch. -/
theorem acc_before (c : Dev nD) (t : Fin cfg0.N) (h : ¬t.val % 2 = 0) (hb : t.val - 1 < cfg0.N) (y : S512x1024.Idx) :
    acc m c (t.val - 1) hb y = (outsAt0 m c (t.val - 1) (Nat.lt_of_le_of_lt (Nat.sub_le _ _) t.isLt)).2 y := if_neg (by omega)

/-- What a point adds to the sum: the product of its two blocks. -/
def term (c : Dev nD) (t : Fin cfg0.N) (y : S512x1024.Idx) : EReal :=
  ∑ k : Fin 4096, (show FVec Ideal S4096x512 .bf16 from iblk m c 0 t) (ix2 k (y 0)) * (show FVec Ideal S4096x1024 .bf16 from iblk m c 1 t) (ix2 k (y 1))

/-- At the last point of a run the sum has all the run's terms. -/
theorem acc_run (c : Dev nD) (t : Fin cfg0.N) (ht : t.val % 2 = 1) (y : S512x1024.Idx) :
    acc m c t.val t.isLt y = ∑ s : Fin 2, term m c ⟨2 * (t.val / 2) + s.val, Pipeline.run_point_lt_of_flush t ht s⟩ y := by
  rw [Pipeline.eq_sum_fin_of_reset_step_apply_of_flush (fun n h => acc m c n h) 2 (fun _ => (0 : EReal)) (term m c)
    (fun t h j => by
      rw [acc_mid m c t (by omega), outsAt0_A m c t h (by omega)]; frame_out; exact (pay_first _ _ j).trans (zero_add _).symm)
    (fun t h j => by
      rw [acc_last m c t (by omega), acc_before m c t h (by omega), outsAt0_B m c t h (by omega)]; frame_out; refine (pay_last _ _ _ j).trans ?_; rw [read_unread_whole]; rfl)
    t ht y, zero_add]

/-- The result array after the run is the gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  refine ((acc_last m c t ht y).symm.trans (acc_run m c t ht y)).trans ?_
  rw [ref_at]
  unfold term
  refine Fin.sum_mul_add_congr fun s k hl => ?_
  blk_point [iblk, V, idx t, idx ⟨_, Pipeline.run_point_lt_of_flush t ht s⟩]

/-- Both programs run from launches that agree on the arguments, and leave the same result. -/
theorem value : Cert.algebraic_Kernel3Ideal_Reference3Ideal (hKernel3Ideal := Gen.facts) (hReference3Ideal := Cert.Reference3Ideal.Gen.facts) := by
  intro m ρ m' ρ' _ hag
  refine ⟨_, Cert.Kernel3Ideal.Value.run_blocks m ρ, (θ_run Cert.Reference3Ideal.defs _ _).mono (fun r h c => ?_) (Cert.Reference3Ideal.Value.run m' ρ')⟩
  obtain ⟨h0, rest⟩ := h c
  refine ⟨h0.trans ?_, rest⟩
  rw [(hag c).1, (hag c).2.1]
  exact (final m c).symm

end Cert.DwDown

end
-- ==== Proof.DwUp.lean ====
/- The gradient of the up projection's weight: two steps of a run add up one block. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.DwUp

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The gradient of the weight as the reference computes it: the product of the two arrays over all the rows. -/
abbrev REF (X : FVec Ideal S8192x1024 .f32) (W : FVec Ideal S8192x4096 .f32) : FVec Ideal S1024x4096 .bf16 :=
  truncf .bf16 (transpose S1024x4096 [1, 0] (Host.dotGeneral Cert.Reference4Ideal.dot_S8192x4096_S8192x1024_S4096x1024_0_0_1_1_n_n none W X) Cert.Reference4Ideal.Gen.transposes_S4096x1024_S1024x4096_1_0) Cert.Reference4Ideal.Gen.bitsLt_bf16_f32

/-- The reference's gradient at a place is a sum over all the rows. -/
theorem ref_at (X : FVec Ideal S8192x1024 .f32) (W : FVec Ideal S8192x4096 .f32) (i : S1024x4096.Idx) :
    REF X W i = ∑ l : Fin 8192, X (ix2 l (i 0)) * W (ix2 l (i 1)) := by
  pointwise [REF]
  exact Fintype.sum_congr _ _ fun l => mul_comm _ _

/-- The first step of a run stores the product of its two blocks. -/
theorem pay_first (x0 : FVec Ideal S4096x1024 .bf16) (x1 : FVec Ideal S4096x512 .bf16) (y : S1024x512.Idx) :
    @Eq EReal (k0_pay2 (F := Ideal) x0 x1 y) (∑ k : Fin 4096, x0 (ix2 k (y 0)) * x1 (ix2 k (y 1))) := by
  pointwise [k0_pay2, k0_pay1]

/-- The last step of a run adds the product of its two blocks and stores the sum as the result. -/
theorem pay_last (x0 : FVec Ideal S4096x1024 .bf16) (x1 : FVec Ideal S4096x512 .bf16) (a : FVec Ideal S1024x512 .f32) (y : S1024x512.Idx) :
    @Eq EReal (k0_pay4 (F := Ideal) x0 x1 a y) (a y + ∑ k : Fin 4096, x0 (ix2 k (y 0)) * x1 (ix2 k (y 1))) := by
  pointwise [k0_pay4, k0_pay1]

/-- Which blocks the windows take at each point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The sum so far after a point: in the result's block at the last step of a run, in the scratch before it. -/
def acc (c : Dev nD) (n : ℕ) (h : n < cfg0.N) (y : S1024x512.Idx) : EReal :=
  if n % 2 = 1 then (show FVec Ideal S1024x512 .bf16 from (outsAt0 m c n h).1) y else (show FVec Ideal S1024x512 .f32 from (outsAt0 m c n h).2) y

/-- At the last step of a run the sum is in the result's block. -/
theorem acc_last (c : Dev nD) (t : Fin cfg0.N) (h : t.val % 2 = 1) (y : S1024x512.Idx) :
    acc m c t.val t.isLt y = (outsAt0 m c t.val t.isLt).1 y := if_pos h

/-- Before the last step of a run the sum is in the scratch. -/
theorem acc_mid (c : Dev nD) (t : Fin cfg0.N) (h : ¬t.val % 2 = 1) (y : S1024x512.Idx) :
    acc m c t.val t.isLt y = (outsAt0 m c t.val t.isLt).2 y := if_neg h

/-- Before a later step of a run the sum is in the scratch. -/
theorem acc_before (c : Dev nD) (t : Fin cfg0.N) (h : ¬t.val % 2 = 0) (hb : t.val - 1 < cfg0.N) (y : S1024x512.Idx) :
    acc m c (t.val - 1) hb y = (outsAt0 m c (t.val - 1) (Nat.lt_of_le_of_lt (Nat.sub_le _ _) t.isLt)).2 y := if_neg (by omega)

/-- What a point adds to the sum: the product of its two blocks. -/
def term (c : Dev nD) (t : Fin cfg0.N) (y : S1024x512.Idx) : EReal :=
  ∑ k : Fin 4096, (show FVec Ideal S4096x1024 .bf16 from iblk m c 0 t) (ix2 k (y 0)) * (show FVec Ideal S4096x512 .bf16 from iblk m c 1 t) (ix2 k (y 1))

/-- At the last point of a run the sum has all the run's terms. -/
theorem acc_run (c : Dev nD) (t : Fin cfg0.N) (ht : t.val % 2 = 1) (y : S1024x512.Idx) :
    acc m c t.val t.isLt y = ∑ s : Fin 2, term m c ⟨2 * (t.val / 2) + s.val, Pipeline.run_point_lt_of_flush t ht s⟩ y := by
  rw [Pipeline.eq_sum_fin_of_reset_step_apply_of_flush (fun n h => acc m c n h) 2 (fun _ => (0 : EReal)) (term m c)
    (fun t h j => by
      rw [acc_mid m c t (by omega), outsAt0_A m c t h (by omega)]; frame_out; exact (pay_first _ _ j).trans (zero_add _).symm)
    (fun t h j => by
      rw [acc_last m c t (by omega), acc_before m c t h (by omega), outsAt0_B m c t h (by omega)]; frame_out; refine (pay_last _ _ _ j).trans ?_; rw [read_unread_whole]; rfl)
    t ht y, zero_add]

/-- The result array after the run is the gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  refine ((acc_last m c t ht y).symm.trans (acc_run m c t ht y)).trans ?_
  rw [ref_at]
  unfold term
  refine Fin.sum_mul_add_congr fun s k hl => ?_
  blk_point [iblk, V, idx t, idx ⟨_, Pipeline.run_point_lt_of_flush t ht s⟩]

/-- Both programs run from launches that agree on the arguments, and leave the same result. -/
theorem value : Cert.algebraic_Kernel4Ideal_Reference4Ideal (hKernel4Ideal := Gen.facts) (hReference4Ideal := Cert.Reference4Ideal.Gen.facts) := by
  intro m ρ m' ρ' _ hag
  refine ⟨_, Cert.Kernel4Ideal.Value.run_blocks m ρ, (θ_run Cert.Reference4Ideal.defs _ _).mono (fun r h c => ?_) (Cert.Reference4Ideal.Value.run m' ρ')⟩
  obtain ⟨h0, rest⟩ := h c
  refine ⟨h0.trans ?_, rest⟩
  rw [(hag c).1, (hag c).2.1]
  exact (final m c).symm

end Cert.DwUp

end
-- ==== Proof.DH2.lean ====
/- The gradient through the up projection and the second norm: the product, the rows it is spread over, and the sum for the gain. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

namespace Cert.DH2

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- Four summands, the first of them moved to the end. -/
theorem sum_order (v p q r : EReal) : v + p + q + r = p + q + r + v := by
  rw [add_assoc, add_assoc, add_comm, ← add_assoc]

/-- The product the reference computes. -/
abbrev REFD (X : FVec Ideal S8192x4096 .f32) (W : FVec Ideal S1024x4096 .f32) : FVec Ideal S8192x1024 .f32 :=
  Host.dotGeneral Cert.Reference5Ideal.dot_S8192x4096_S1024x4096_S8192x1024_1_1_0_0_n_n none X W

/-- The mean square of each row, with the small constant added. -/
abbrev REFM (U : FVec Ideal S8192x1024 .f32) : FVec Ideal Cert.Reference5Ideal.S8192x1 .f32 :=
  addf (Host.divf (broadcastInDim Cert.Reference5Ideal.S8192x1 ![0] Cert.Reference5Ideal.Gen.bcast_S8192_S8192x1_0 (Host.reduceAdd (mulf U U) (constant Cert.Reference5Ideal.S_ .f32 0x00000000#32) Cert.Reference5Ideal.Gen.reducesTo_S8192x1024_S8192_d1 Cert.Reference5Ideal.Gen.h_S_)) (broadcastInDim Cert.Reference5Ideal.S8192x1 ![] Cert.Reference5Ideal.Gen.bcast_S_S8192x1 (constant Cert.Reference5Ideal.S_ .f32 0x44800000#32))) (broadcastInDim Cert.Reference5Ideal.S8192x1 ![] Cert.Reference5Ideal.Gen.bcast_S_S8192x1 (constant Cert.Reference5Ideal.S_ .f32 0x3727C5AC#32))

/-- The gradient that reaches the mean square of each row, spread over the row. -/
abbrev REFC (X : FVec Ideal S8192x4096 .f32) (W : FVec Ideal S1024x4096 .f32) (U : FVec Ideal S8192x1024 .f32) (Z : FVec Ideal S1x1024 .f32) : FVec Ideal S8192x1024 .f32 :=
  broadcastInDim S8192x1024 ![0] Cert.Reference5Ideal.Gen.bcast_S8192_S8192x1024_0 (Host.reduceAdd (Host.divf (mulf (shapeCast Cert.Reference5Ideal.S8192x1 (Host.reduceAdd (mulf U (mulf (REFD X W) (broadcastInDim S8192x1024 ![0, 1] Cert.Reference5Ideal.Gen.bcast_S1x1024_S8192x1024_0_1 Z))) (constant Cert.Reference5Ideal.S_ .f32 0x00000000#32) Cert.Reference5Ideal.Gen.reducesTo_S8192x1024_S8192_d1 Cert.Reference5Ideal.Gen.h_S_) Cert.Reference5Ideal.Gen.shapeCasts_S8192_S8192x1) (mulf (broadcastInDim Cert.Reference5Ideal.S8192x1 ![] Cert.Reference5Ideal.Gen.bcast_S_S8192x1 (constant Cert.Reference5Ideal.S_ .f32 0xBF000000#32)) (Host.divf (Host.rsqrt (REFM U)) (REFM U)))) (broadcastInDim Cert.Reference5Ideal.S8192x1 ![] Cert.Reference5Ideal.Gen.bcast_S_S8192x1 (constant Cert.Reference5Ideal.S_ .f32 0x44800000#32))) (constant Cert.Reference5Ideal.S_ .f32 0x00000000#32) Cert.Reference5Ideal.Gen.reducesTo_S8192x1_S8192_d1 Cert.Reference5Ideal.Gen.h_S_)

/-- The gradient of the residual stream as the reference computes it. -/
abbrev REFX (X : FVec Ideal S8192x4096 .f32) (W : FVec Ideal S1024x4096 .f32) (U : FVec Ideal S8192x1024 .f32) (V : FVec Ideal S8192x1024 .f32) (Z : FVec Ideal S1x1024 .f32) : FVec Ideal S8192x1024 .f32 :=
  addf (addf (addf V (mulf (mulf (REFD X W) (broadcastInDim S8192x1024 ![0, 1] Cert.Reference5Ideal.Gen.bcast_S1x1024_S8192x1024_0_1 Z)) (broadcastInDim S8192x1024 ![0, 1] Cert.Reference5Ideal.Gen.bcast_S8192x1_S8192x1024_0_1 (Host.rsqrt (REFM U))))) (mulf U (REFC X W U Z))) (mulf (REFC X W U Z) U)

/-- The same gradient with the two halves of the row's part next to each other and the incoming gradient last. -/
abbrev REFY (X : FVec Ideal S8192x4096 .f32) (W : FVec Ideal S1024x4096 .f32) (U : FVec Ideal S8192x1024 .f32) (V : FVec Ideal S8192x1024 .f32) (Z : FVec Ideal S1x1024 .f32) : FVec Ideal S8192x1024 .f32 :=
  addf (addf (addf (mulf (mulf (REFD X W) (broadcastInDim S8192x1024 ![0, 1] Cert.Reference5Ideal.Gen.bcast_S1x1024_S8192x1024_0_1 Z)) (broadcastInDim S8192x1024 ![0, 1] Cert.Reference5Ideal.Gen.bcast_S8192x1_S8192x1024_0_1 (Host.rsqrt (REFM U)))) (mulf U (REFC X W U Z))) (mulf (REFC X W U Z) U)) V

/-- The order of the four summands does not matter. -/
theorem ref_eq (X : FVec Ideal S8192x4096 .f32) (W : FVec Ideal S1024x4096 .f32) (U : FVec Ideal S8192x1024 .f32) (V : FVec Ideal S8192x1024 .f32) (Z : FVec Ideal S1x1024 .f32) : REFX X W U V Z = REFY X W U V Z :=
  funext fun i => sum_order (V i) _ _ _

/-- The gradient of the gain as the reference computes it. -/
abbrev REFG (X : FVec Ideal S8192x4096 .f32) (W : FVec Ideal S1024x4096 .f32) (U : FVec Ideal S8192x1024 .f32) : FVec Ideal S1x1024 .f32 :=
  shapeCast S1x1024 (Host.reduceAdd (mulf (mulf U (broadcastInDim S8192x1024 ![0, 1] Cert.Reference5Ideal.Gen.bcast_S8192x1_S8192x1024_0_1 (Host.rsqrt (REFM U)))) (REFD X W)) (constant Cert.Reference5Ideal.S_ .f32 0x00000000#32) Cert.Reference5Ideal.Gen.reducesTo_S8192x1024_S1024_d0 Cert.Reference5Ideal.Gen.h_S_) Cert.Reference5Ideal.Gen.shapeCasts_S1024_S1x1024

/-- Which blocks the windows take at each point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

/-- What a point stores of the stream's gradient, from its blocks. -/
abbrev PAYX (x0 : FVec Ideal S512x4096 .bf16) (x1 : FVec Ideal S1024x4096 .bf16) (x2 x3 : FVec Ideal S512x1024 .f32) (x4 : FVec Ideal S1x1024 .f32) : FVec Ideal S512x1024 .f32 :=
  k0_pay2 x2 x3 (k0_pay10 x0 x1 x2 x4) (k0_pay11 x0 x1 x2 x4) (k0_pay12 x0 x1 x2 x4)

/-- What a point stores of the stream's gradient, at a place of its block, is the reference's value at that place of the array. -/
theorem point_x (c : Dev nD) (t : Fin cfg0.N) (y) : PAYX (iblk m c 0 t) (iblk m c 1 t) (iblk m c 2 t) (iblk m c 3 t) (iblk m c 4 t) y
    = REFX (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [ref_eq]
  pointwise [PAYX, k0_pay2, k0_pay1, k0_pay12, k0_pay11, k0_pay10, k0_pay9, k0_pay7, k0_pay6, k0_pay5, REFY, REFC, REFM, REFD]
  blk_point [iblk, V, idx t]

/-- The same for the rounded copy, whose elements over the reals are the same. -/
theorem point_b (c : Dev nD) (t : Fin cfg0.N) (y) : truncf .bf16 (PAYX (iblk m c 0 t) (iblk m c 1 t) (iblk m c 2 t) (iblk m c 3 t) (iblk m c 4 t)) bitsLt_bf16_f32 y
    = truncf .bf16 (REFX (m ((c : Thread nD τ).loc main_arg0)) (m ((c : Thread nD τ).loc main_arg1)) (m ((c : Thread nD τ).loc main_arg2)) (m ((c : Thread nD τ).loc main_arg3)) (m ((c : Thread nD τ).loc main_arg4))) Cert.Reference5Ideal.Gen.bitsLt_bf16_f32 (((cfg0.win 6).blk t).view.emb y) := by
  rw [ref_eq]
  pointwise [PAYX, k0_pay2, k0_pay1, k0_pay12, k0_pay11, k0_pay10, k0_pay9, k0_pay7, k0_pay6, k0_pay5, REFY, REFC, REFM, REFD]
  blk_point [iblk, V, idx t]

/-- What a point adds to the gain's gradient, from its blocks. -/
abbrev PAYG (x0 : FVec Ideal S512x4096 .bf16) (x1 : FVec Ideal S1024x4096 .bf16) (x2 : FVec Ideal S512x1024 .f32) : FVec Ideal S1x1024 .f32 :=
  k0_pay8 x0 x1 x2

/-- A later point adds its part to what is there. -/
theorem pay_later (g a : FVec Ideal S1x1024 .f32) (y : S1x1024.Idx) : @Eq EReal (k0_pay4 (F := Ideal) g a y) (a y + g y) := by
  pointwise [k0_pay4]

/-- A point's three stored values. -/
theorem outs_x (c : Dev nD) (t : Fin cfg0.N) : (outsAt0 m c t.val t.isLt).1 = PAYX (iblk m c 0 t) (iblk m c 1 t) (iblk m c 2 t) (iblk m c 3 t) (iblk m c 4 t) := by
  have hN := lt_of_lt_of_eq t.isLt N_0
  by_cases h : t.val % 16 = 0
  · rw [outsAt0_A m c t h (by omega)]; frame_out
  · rw [outsAt0_B m c t h (by omega)]; frame_out

/-- The second of them is the first one's rounded copy. -/
theorem outs_b (c : Dev nD) (t : Fin cfg0.N) : (outsAt0 m c t.val t.isLt).2.1 = truncf .bf16 (PAYX (iblk m c 0 t) (iblk m c 1 t) (iblk m c 2 t) (iblk m c 3 t) (iblk m c 4 t)) bitsLt_bf16_f32 := by
  have hN := lt_of_lt_of_eq t.isLt N_0
  by_cases h : t.val % 16 = 0
  · rw [outsAt0_A m c t h (by omega)]; frame_out; rfl
  · rw [outsAt0_B m c t h (by omega)]; frame_out; rfl

/-- The first result array after the run is the gradient of the residual stream. -/
theorem final_x (c : Dev nD) : (dats m 0 c).arrAt 5 (cfgs 0).N
    = REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, outs_x]
  exact point_x m c t y

/-- The second result array after the run is its rounded copy. -/
theorem final_b (c : Dev nD) : (dats m 0 c).arrAt 6 (cfgs 0).N
    = truncf .bf16 (REFX (m ((c : Thread nD τ).loc main_arg0)) (m ((c : Thread nD τ).loc main_arg1)) (m ((c : Thread nD τ).loc main_arg2)) (m ((c : Thread nD τ).loc main_arg3)) (m ((c : Thread nD τ).loc main_arg4))) Cert.Reference5Ideal.Gen.bitsLt_bf16_f32 := by
  refine (dats m 0 c).arrAt_eq_of_covers 6 _ (by decide +kernel) fun t _ y => ?_
  blk_simp
  rw [after0_6, outs_b]
  exact point_b m c t y

/-- The sum so far is the gain's gradient of the points so far. -/
theorem acc_run (c : Dev nD) (t : Fin cfg0.N) (ht : t.val % 16 = 15) (y : S1x1024.Idx) :
    (show FVec Ideal S1x1024 .f32 from (outsAt0 m c t.val t.isLt).2.2) y = ∑ s : Fin 16, PAYG (iblk m c 0 ⟨16 * (t.val / 16) + s.val, Pipeline.run_point_lt_of_flush t ht s⟩) (iblk m c 1 ⟨16 * (t.val / 16) + s.val, Pipeline.run_point_lt_of_flush t ht s⟩) (iblk m c 2 ⟨16 * (t.val / 16) + s.val, Pipeline.run_point_lt_of_flush t ht s⟩) y := by
  rw [Pipeline.eq_sum_fin_of_reset_step_apply_of_flush (fun n h => (show FVec Ideal S1x1024 .f32 from (outsAt0 m c n h).2.2)) 16 (fun _ => (0 : EReal)) (fun t y => PAYG (iblk m c 0 t) (iblk m c 1 t) (iblk m c 2 t) y)
    (fun t h j => by
      have hN := lt_of_lt_of_eq t.isLt N_0
      rw [outsAt0_A m c t h (by omega)]; frame_out; exact (zero_add _).symm)
    (fun t h j => by
      rw [outsAt0_B m c t h (by omega)]; frame_out; exact pay_later _ _ j)
    t ht y, zero_add]

/-- The third result array after the run is the gradient of the gain. -/
theorem final_g (c : Dev nD) : (dats m 0 c).arrAt 7 (cfgs 0).N
    = REFG (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  have ht := (flush0_7 t).mp hf
  rw [after0_7]
  refine (acc_run m c t ht y).trans ?_
  pointwise [PAYG, k0_pay8, k0_pay7, k0_pay6, k0_pay5, REFG, REFM, REFD]
  refine Fin.sum_mul_add_congr fun s k hl => ?_
  blk_point [iblk, V, idx t, idx ⟨_, Pipeline.run_point_lt_of_flush t ht s⟩]

/-- Both programs run from launches that agree on the arguments, and leave the same three results. -/
theorem value : Cert.algebraic_Kernel5Ideal_Reference5Ideal (hKernel5Ideal := Gen.facts) (hReference5Ideal := Cert.Reference5Ideal.Gen.facts) := by
  intro m ρ m' ρ' _ hag
  refine ⟨_, _, _, Cert.Kernel5Ideal.Value.run_blocks m ρ, (θ_run Cert.Reference5Ideal.defs _ _).mono (fun r h c => ?_) (Cert.Reference5Ideal.Value.run m' ρ')⟩
  obtain ⟨h0, h1, h2, rest⟩ := h c
  refine ⟨h0.trans ?_, h1.trans ?_, h2.trans ?_, rest⟩
  · rw [Cert.Reference5Ideal.Value.res_main_v36, (hag c).1, (hag c).2.1, (hag c).2.2.1, (hag c).2.2.2.1, (hag c).2.2.2.2]
    exact (final_x m c).symm
  · rw [Cert.Reference5Ideal.Value.res_main_v37, (hag c).1, (hag c).2.1, (hag c).2.2.1, (hag c).2.2.2.1, (hag c).2.2.2.2]
    exact (final_b m c).symm
  · rw [(hag c).1, (hag c).2.1, (hag c).2.2.1]
    exact (final_g m c).symm

end Cert.DH2

end
-- ==== Proof.MlpUp.lean ====
/- The up projection of the feed-forward layer: the product, and the square of its positive part, block by block. -/
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.MlpUp

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The product the reference computes. -/
abbrev REFU (X : FVec Ideal S8192x1024 .f32) (W : FVec Ideal S1024x4096 .f32) : FVec Ideal S8192x4096 .f32 :=
  Host.dotGeneral Cert.Reference6Ideal.dot_S8192x1024_S1024x4096_S8192x4096_1_0_0_1_n_n none X W

/-- The activation the reference computes: the square of the positive part of the product. -/
abbrev REFA (X : FVec Ideal S8192x1024 .f32) (W : FVec Ideal S1024x4096 .f32) : FVec Ideal S8192x4096 .bf16 :=
  truncf .bf16 (mulf (maximumf (REFU X W) (broadcastInDim S8192x4096 ![] Cert.Reference6Ideal.Gen.bcast_S_S8192x4096 (constant Cert.Reference6Ideal.S_ .f32 0x00000000#32))) (maximumf (REFU X W) (broadcastInDim S8192x4096 ![] Cert.Reference6Ideal.Gen.bcast_S_S8192x4096 (constant Cert.Reference6Ideal.S_ .f32 0x00000000#32)))) Cert.Reference6Ideal.Gen.bitsLt_bf16_f32

/-- Which blocks the windows take at each point. -/
theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The first value stored at a place of a block is the product at that place of the array. -/
theorem point_u (c : Dev nD) (t : Fin cfg0.N) (y) : k0_pay1 (iblk m c 0 t) (iblk m c 1 t) y
    = REFU (m ((c : Thread nD τ).loc main_arg0)) (m ((c : Thread nD τ).loc main_arg1)) (((cfg0.win 2).blk t).view.emb y) := by
  pointwise [k0_pay1, REFU]
  blk_point [iblk, V, idx t]

/-- The second value stored at a place of a block is the activation at that place of the array. -/
theorem point_a (c : Dev nD) (t : Fin cfg0.N) (y) : k0_pay2 (iblk m c 0 t) (iblk m c 1 t) y
    = REFA (m ((c : Thread nD τ).loc main_arg0)) (m ((c : Thread nD τ).loc main_arg1)) (((cfg0.win 3).blk t).view.emb y) := by
  pointwise [k0_pay2, k0_pay1, REFA, REFU]
  blk_point [iblk, V, idx t]

/-- The first result array after the run is the product. -/
theorem final_u (c : Dev nD) : (dats m 0 c).arrAt 2 (cfgs 0).N
    = REFU (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_u m c t y

/-- The second result array after the run is the activation. -/
theorem final_a (c : Dev nD) : (dats m 0 c).arrAt 3 (cfgs 0).N
    = REFA (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_a m c t y

/-- Both programs run from launches that agree on the arguments, and leave the same two results. -/
theorem value : Cert.algebraic_Kernel6Ideal_Reference6Ideal (hKernel6Ideal := Gen.facts) (hReference6Ideal := Cert.Reference6Ideal.Gen.facts) := by
  intro m ρ m' ρ' _ hag
  refine ⟨_, _, Cert.Kernel6Ideal.Value.run_blocks m ρ, (θ_run Cert.Reference6Ideal.defs _ _).mono (fun r h c => ?_) (Cert.Reference6Ideal.Value.run m' ρ')⟩
  obtain ⟨h0, h1, rest⟩ := h c
  refine ⟨h0.trans ?_, h1.trans ?_, rest⟩
  · rw [(hag c).1, (hag c).2]
    exact (final_u m c).symm
  · rw [(hag c).1, (hag c).2]
    exact (final_a m c).symm

end Cert.MlpUp

end
-- ==== Proof.ProjIn.lean ====
/- The product of the input projection: the kernel's blocks are the blocks of the one product. -/
module

public import proofs.«01_k».proof.Proof.Gen.Kernel7Ideal.Value
public import proofs.«01_k».proof.Proof.Gen.Reference7Ideal.Run
public import Idealize.ShloMosaic.Lib.Pipeline.ValueKit
public import proofs.«01_k».proof.Defs

@[expose] public section

set_option maxRecDepth 16384

noncomputable section

namespace Cert.ProjIn

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The product the reference computes. -/
abbrev REF (X : FVec Ideal S8192x1024 .f32) (W : FVec Ideal S1024x3328 .f32) : FVec Ideal S8192x3328 .f32 :=
  Host.dotGeneral Cert.Reference7Ideal.dot_S8192x1024_S1024x3328_S8192x3328_1_0_0_1_n_n none X W

/-- Which blocks the windows take at each point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What the body stores at a place of its block is the product at that place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs run from launches that agree on the arguments, and leave the same result. -/
theorem value : Cert.algebraic_Kernel7Ideal_Reference7Ideal (hKernel7Ideal := Gen.facts) (hReference7Ideal := Cert.Reference7Ideal.Gen.facts) := by
  intro m ρ m' ρ' _ hag
  refine ⟨_, Cert.Kernel7Ideal.Value.run_blocks m ρ, (θ_run Cert.Reference7Ideal.defs _ _).mono (fun r h c => ?_) (Cert.Reference7Ideal.Value.run m' ρ')⟩
  obtain ⟨h0, rest⟩ := h c
  refine ⟨h0.trans ?_, rest⟩
  rw [(hag c).1, (hag c).2]
  exact (final m c).symm

end Cert.ProjIn

end
-- ==== Proof.DwIn.lean ====
/- The gradient of the input projection's weight: four steps of a run add up one block. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

namespace Cert.DwIn

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The gradient of the weight as the reference computes it: the product of the two arrays over all the rows. -/
abbrev REF (X : FVec Ideal S8192x1024 .f32) (W : FVec Ideal S8192x3328 .f32) : FVec Ideal S1024x3328 .bf16 :=
  truncf .bf16 (transpose S1024x3328 [1, 0] (Host.dotGeneral Cert.Reference8Ideal.dot_S8192x3328_S8192x1024_S3328x1024_0_0_1_1_n_n none W X) Cert.Reference8Ideal.Gen.transposes_S3328x1024_S1024x3328_1_0) Cert.Reference8Ideal.Gen.bitsLt_bf16_f32

/-- The reference's gradient at a place is a sum over all the rows. -/
theorem ref_at (X : FVec Ideal S8192x1024 .f32) (W : FVec Ideal S8192x3328 .f32) (i : S1024x3328.Idx) :
    REF X W i = ∑ l : Fin 8192, X (ix2 l (i 0)) * W (ix2 l (i 1)) := by
  pointwise [REF]
  exact Fintype.sum_congr _ _ fun l => mul_comm _ _

/-- The first step of a run stores the product of its two blocks. -/
theorem pay_first (x0 : FVec Ideal S2048x1024 .bf16) (x1 : FVec Ideal S2048x1664 .bf16) (y : S1024x1664.Idx) :
    @Eq EReal (k0_pay2 (F := Ideal) x0 x1 y) (∑ k : Fin 2048, x0 (ix2 k (y 0)) * x1 (ix2 k (y 1))) := by
  pointwise [k0_pay2, k0_pay1]

/-- A middle step adds the product of its two blocks. -/
theorem pay_middle (x0 : FVec Ideal S2048x1024 .bf16) (x1 : FVec Ideal S2048x1664 .bf16) (a : FVec Ideal S1024x1664 .f32) (y : S1024x1664.Idx) :
    @Eq EReal (k0_pay3 (F := Ideal) x0 x1 a y) (a y + ∑ k : Fin 2048, x0 (ix2 k (y 0)) * x1 (ix2 k (y 1))) := by
  pointwise [k0_pay3, k0_pay1]

/-- The last step of a run adds the product of its two blocks and stores the sum as the result. -/
theorem pay_last (x0 : FVec Ideal S2048x1024 .bf16) (x1 : FVec Ideal S2048x1664 .bf16) (a : FVec Ideal S1024x1664 .f32) (y : S1024x1664.Idx) :
    @Eq EReal (k0_pay4 (F := Ideal) x0 x1 a y) (a y + ∑ k : Fin 2048, x0 (ix2 k (y 0)) * x1 (ix2 k (y 1))) := by
  pointwise [k0_pay4, k0_pay1]

/-- Which blocks the windows take at each point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The sum so far after a point: in the result's block at the last step of a run, in the scratch before it. -/
def acc (c : Dev nD) (n : ℕ) (h : n < cfg0.N) (y : S1024x1664.Idx) : EReal :=
  if n % 4 = 3 then (show FVec Ideal S1024x1664 .bf16 from (outsAt0 m c n h).1) y else (show FVec Ideal S1024x1664 .f32 from (outsAt0 m c n h).2) y

/-- At the last step of a run the sum is in the result's block. -/
theorem acc_last (c : Dev nD) (t : Fin cfg0.N) (h : t.val % 4 = 3) (y : S1024x1664.Idx) :
    acc m c t.val t.isLt y = (outsAt0 m c t.val t.isLt).1 y := if_pos h

/-- Before the last step of a run the sum is in the scratch. -/
theorem acc_mid (c : Dev nD) (t : Fin cfg0.N) (h : ¬t.val % 4 = 3) (y : S1024x1664.Idx) :
    acc m c t.val t.isLt y = (outsAt0 m c t.val t.isLt).2 y := if_neg h

/-- Before a later step of a run the sum is in the scratch. -/
theorem acc_before (c : Dev nD) (t : Fin cfg0.N) (h : ¬t.val % 4 = 0) (hb : t.val - 1 < cfg0.N) (y : S1024x1664.Idx) :
    acc m c (t.val - 1) hb y = (outsAt0 m c (t.val - 1) (Nat.lt_of_le_of_lt (Nat.sub_le _ _) t.isLt)).2 y := if_neg (by omega)

/-- What a point adds to the sum: the product of its two blocks. -/
def term (c : Dev nD) (t : Fin cfg0.N) (y : S1024x1664.Idx) : EReal :=
  ∑ k : Fin 2048, (show FVec Ideal S2048x1024 .bf16 from iblk m c 0 t) (ix2 k (y 0)) * (show FVec Ideal S2048x1664 .bf16 from iblk m c 1 t) (ix2 k (y 1))

/-- At the last point of a run the sum has all the run's terms. -/
theorem acc_run (c : Dev nD) (t : Fin cfg0.N) (ht : t.val % 4 = 3) (y : S1024x1664.Idx) :
    acc m c t.val t.isLt y = ∑ s : Fin 4, term m c ⟨4 * (t.val / 4) + s.val, Pipeline.run_point_lt_of_flush t ht s⟩ y := by
  rw [Pipeline.eq_sum_fin_of_reset_step_apply_of_flush (fun n h => acc m c n h) 4 (fun _ => (0 : EReal)) (term m c)
    (fun t h j => by
      rw [acc_mid m c t (by omega), outsAt0_A m c t h (by omega) (by omega)]; frame_out; exact (pay_first _ _ j).trans (zero_add _).symm)
    (fun t h j => by
      rw [acc_before m c t h (by omega)]
      by_cases h3 : t.val % 4 = 3
      · rw [acc_last m c t h3, outsAt0_C m c t h (by omega) h3]; frame_out; refine (pay_last _ _ _ j).trans ?_; rw [read_unread_whole]; rfl
      · rw [acc_mid m c t h3, outsAt0_B m c t h (by omega) h3]; frame_out; refine (pay_middle _ _ _ j).trans ?_; rw [read_unread_whole]; rfl)
    t ht y, zero_add]

/-- The result array after the run is the gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  refine ((acc_last m c t ht y).symm.trans (acc_run m c t ht y)).trans ?_
  rw [ref_at]
  unfold term
  refine Fin.sum_mul_add_congr fun s k hl => ?_
  blk_point [iblk, V, idx t, idx ⟨_, Pipeline.run_point_lt_of_flush t ht s⟩]

/-- Both programs run from launches that agree on the arguments, and leave the same result. -/
theorem value : Cert.algebraic_Kernel8Ideal_Reference8Ideal (hKernel8Ideal := Gen.facts) (hReference8Ideal := Cert.Reference8Ideal.Gen.facts) := by
  intro m ρ m' ρ' _ hag
  refine ⟨_, Cert.Kernel8Ideal.Value.run_blocks m ρ, (θ_run Cert.Reference8Ideal.defs _ _).mono (fun r h c => ?_) (Cert.Reference8Ideal.Value.run m' ρ')⟩
  obtain ⟨h0, rest⟩ := h c
  refine ⟨h0.trans ?_, rest⟩
  rw [(hag c).1, (hag c).2.1]
  exact (final m c).symm

end Cert.DwIn

end
-- ==== Proof.ProjOut.lean ====
/- The output projection: the product added to the residual, and the normalised rows of the sum, block by block. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.ProjOut

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The residual stream after the projection, as the reference computes it. -/
abbrev REFX (X : FVec Ideal S8192x1024 .f32) (W : FVec Ideal S1024x1024 .f32) (U : FVec Ideal S8192x1024 .f32) : FVec Ideal S8192x1024 .f32 :=
  addf U (Host.dotGeneral Cert.Reference9Ideal.dot_S8192x1024_S1024x1024_S8192x1024_1_0_0_1_n_n none X W)

/-- Its rows normalised and scaled by the gain, as the reference computes them. -/
abbrev REFN (X : FVec Ideal S8192x1024 .f32) (W : FVec Ideal S1024x1024 .f32) (U : FVec Ideal S8192x1024 .f32) (V : FVec Ideal S1x1024 .f32) : FVec Ideal S8192x1024 .bf16 :=
  truncf .bf16 (mulf (mulf (REFX X W U) (broadcastInDim S8192x1024 ![0, 1] Cert.Reference9Ideal.Gen.bcast_S8192x1_S8192x1024_0_1 (Host.rsqrt (addf (Host.divf (broadcastInDim Cert.Reference9Ideal.S8192x1 ![0] Cert.Reference9Ideal.Gen.bcast_S8192_S8192x1_0 (Host.reduceAdd (mulf (REFX X W U) (REFX X W U)) (constant Cert.Reference9Ideal.S_ .f32 0x00000000#32) Cert.Reference9Ideal.Gen.reducesTo_S8192x1024_S8192_d1 Cert.Reference9Ideal.Gen.h_S_)) (broadcastInDim Cert.Reference9Ideal.S8192x1 ![] Cert.Reference9Ideal.Gen.bcast_S_S8192x1 (constant Cert.Reference9Ideal.S_ .f32 0x44800000#32))) (broadcastInDim Cert.Reference9Ideal.S8192x1 ![] Cert.Reference9Ideal.Gen.bcast_S_S8192x1 (constant Cert.Reference9Ideal.S_ .f32 0x3727C5AC#32)))))) (broadcastInDim S8192x1024 ![0, 1] Cert.Reference9Ideal.Gen.bcast_S1x1024_S8192x1024_0_1 V)) Cert.Reference9Ideal.Gen.bitsLt_bf16_f32

/-- Which blocks the windows take at each point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The first value stored at a place of a block is the sum at that place of the array. -/
theorem point_x (c : Dev nD) (t : Fin cfg0.N) (y) : k0_pay2 (iblk m c 0 t) (iblk m c 1 t) (iblk m c 2 t) y
    = REFX (m ((c : Thread nD τ).loc main_arg0)) (m ((c : Thread nD τ).loc main_arg1)) (m ((c : Thread nD τ).loc main_arg2)) (((cfg0.win 4).blk t).view.emb y) := by
  pointwise [k0_pay2, k0_pay1, REFX]
  blk_point [iblk, V, idx t]

/-- The second value stored at a place of a block is the normalised row at that place of the array. -/
theorem point_n (c : Dev nD) (t : Fin cfg0.N) (y) : k0_pay3 (iblk m c 0 t) (iblk m c 1 t) (iblk m c 2 t) (iblk m c 3 t) y
    = REFN (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay3, k0_pay1, REFN, REFX]
  blk_point [iblk, V, idx t]

/-- The first result array after the run is the residual stream. -/
theorem final_x (c : Dev nD) : (dats m 0 c).arrAt 4 (cfgs 0).N
    = REFX (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_x m c t y

/-- The second result array after the run is its normalised rows. -/
theorem final_n (c : Dev nD) : (dats m 0 c).arrAt 5 (cfgs 0).N
    = REFN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_n m c t y

/-- Both programs run from launches that agree on the arguments, and leave the same two results. -/
theorem value : Cert.algebraic_Kernel9Ideal_Reference9Ideal (hKernel9Ideal := Gen.facts) (hReference9Ideal := Cert.Reference9Ideal.Gen.facts) := by
  intro m ρ m' ρ' _ hag
  refine ⟨_, _, Cert.Kernel9Ideal.Value.run_blocks m ρ, (θ_run Cert.Reference9Ideal.defs _ _).mono (fun r h c => ?_) (Cert.Reference9Ideal.Value.run m' ρ')⟩
  obtain ⟨h0, h1, rest⟩ := h c
  refine ⟨h0.trans ?_, h1.trans ?_, rest⟩
  · rw [(hag c).1, (hag c).2.1, (hag c).2.2.1]
    exact (final_x m c).symm
  · rw [(hag c).1, (hag c).2.1, (hag c).2.2.1, (hag c).2.2.2]
    exact (final_n m c).symm

end Cert.ProjOut

end
-- ==== Proof.MlpDown.lean ====
/- The down projection with the loss: the residual stream, the loss and its gradients, block by block and added up over the blocks. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

namespace Cert.MlpDown

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The residual stream after the down projection. -/
abbrev REFH (X : FVec Ideal S8192x4096 .f32) (W : FVec Ideal S4096x1024 .f32) (U : FVec Ideal S8192x1024 .f32) : FVec Ideal S8192x1024 .f32 :=
  addf U (Host.dotGeneral Cert.Reference10Ideal.dot_S8192x4096_S4096x1024_S8192x1024_1_0_0_1_n_n none X W)

/-- The mean square of each of its rows, with the small constant added. -/
abbrev REFM (X : FVec Ideal S8192x4096 .f32) (W : FVec Ideal S4096x1024 .f32) (U : FVec Ideal S8192x1024 .f32) : FVec Ideal Cert.Reference10Ideal.S8192x1 .f32 :=
  addf (Host.divf (broadcastInDim Cert.Reference10Ideal.S8192x1 ![0] Cert.Reference10Ideal.Gen.bcast_S8192_S8192x1_0 (Host.reduceAdd (mulf (REFH X W U) (REFH X W U)) (constant Cert.Reference10Ideal.S_ .f32 0x00000000#32) Cert.Reference10Ideal.Gen.reducesTo_S8192x1024_S8192_d1 Cert.Reference10Ideal.Gen.h_S_)) (broadcastInDim Cert.Reference10Ideal.S8192x1 ![] Cert.Reference10Ideal.Gen.bcast_S_S8192x1 (constant Cert.Reference10Ideal.S_ .f32 0x44800000#32))) (broadcastInDim Cert.Reference10Ideal.S8192x1 ![] Cert.Reference10Ideal.Gen.bcast_S_S8192x1 (constant Cert.Reference10Ideal.S_ .f32 0x3727C5AC#32))

/-- The normalised rows less the target. -/
abbrev REFS (X : FVec Ideal S8192x4096 .f32) (W : FVec Ideal S4096x1024 .f32) (U : FVec Ideal S8192x1024 .f32) (V : FVec Ideal S8192x1024 .f32) (Z : FVec Ideal S1x1024 .f32) : FVec Ideal S8192x1024 .f32 :=
  subf (mulf (mulf (REFH X W U) (broadcastInDim S8192x1024 ![0, 1] Cert.Reference10Ideal.Gen.bcast_S8192x1_S8192x1024_0_1 (Host.rsqrt (REFM X W U)))) (broadcastInDim S8192x1024 ![0, 1] Cert.Reference10Ideal.Gen.bcast_S1x1024_S8192x1024_0_1 Z)) V

/-- The loss's gradient in the normalised rows, as the reference computes it. -/
abbrev REFE (X : FVec Ideal S8192x4096 .f32) (W : FVec Ideal S4096x1024 .f32) (U : FVec Ideal S8192x1024 .f32) (V : FVec Ideal S8192x1024 .f32) (Z : FVec Ideal S1x1024 .f32) : FVec Ideal S8192x1024 .f32 :=
  mulf (broadcastInDim S8192x1024 ![0] Cert.Reference10Ideal.Gen.bcast_S8192_S8192x1024_0 (Host.divf (broadcastInDim Cert.Reference10Ideal.S8192 ![] Cert.Reference10Ideal.Gen.bcast_S_S8192 (mulf (constant Cert.Reference10Ideal.S_ .f32 0x3F000000#32) (constant Cert.Reference10Ideal.S_ .f32 0x3F800000#32))) (broadcastInDim Cert.Reference10Ideal.S8192 ![] Cert.Reference10Ideal.Gen.bcast_S_S8192 (constant Cert.Reference10Ideal.S_ .f32 0x44800000#32)))) (mulf (broadcastInDim S8192x1024 ![] Cert.Reference10Ideal.Gen.bcast_S_S8192x1024 (constant Cert.Reference10Ideal.S_ .f32 0x40000000#32)) (REFS X W U V Z))

/-- The gradient that reaches the mean square of each row, spread over the row. -/
abbrev REFC (X : FVec Ideal S8192x4096 .f32) (W : FVec Ideal S4096x1024 .f32) (U : FVec Ideal S8192x1024 .f32) (V : FVec Ideal S8192x1024 .f32) (Z : FVec Ideal S1x1024 .f32) : FVec Ideal S8192x1024 .f32 :=
  broadcastInDim S8192x1024 ![0] Cert.Reference10Ideal.Gen.bcast_S8192_S8192x1024_0 (Host.reduceAdd (Host.divf (mulf (shapeCast Cert.Reference10Ideal.S8192x1 (Host.reduceAdd (mulf (REFH X W U) (mulf (REFE X W U V Z) (broadcastInDim S8192x1024 ![0, 1] Cert.Reference10Ideal.Gen.bcast_S1x1024_S8192x1024_0_1 Z))) (constant Cert.Reference10Ideal.S_ .f32 0x00000000#32) Cert.Reference10Ideal.Gen.reducesTo_S8192x1024_S8192_d1 Cert.Reference10Ideal.Gen.h_S_) Cert.Reference10Ideal.Gen.shapeCasts_S8192_S8192x1) (mulf (broadcastInDim Cert.Reference10Ideal.S8192x1 ![] Cert.Reference10Ideal.Gen.bcast_S_S8192x1 (constant Cert.Reference10Ideal.S_ .f32 0xBF000000#32)) (Host.divf (Host.rsqrt (REFM X W U)) (REFM X W U)))) (broadcastInDim Cert.Reference10Ideal.S8192x1 ![] Cert.Reference10Ideal.Gen.bcast_S_S8192x1 (constant Cert.Reference10Ideal.S_ .f32 0x44800000#32))) (constant Cert.Reference10Ideal.S_ .f32 0x00000000#32) Cert.Reference10Ideal.Gen.reducesTo_S8192x1_S8192_d1 Cert.Reference10Ideal.Gen.h_S_)

/-- The gradient of the residual stream as the reference computes it. -/
abbrev REFX (X : FVec Ideal S8192x4096 .f32) (W : FVec Ideal S4096x1024 .f32) (U : FVec Ideal S8192x1024 .f32) (V : FVec Ideal S8192x1024 .f32) (Z : FVec Ideal S1x1024 .f32) : FVec Ideal S8192x1024 .f32 :=
  addf (addf (mulf (mulf (REFE X W U V Z) (broadcastInDim S8192x1024 ![0, 1] Cert.Reference10Ideal.Gen.bcast_S1x1024_S8192x1024_0_1 Z)) (broadcastInDim S8192x1024 ![0, 1] Cert.Reference10Ideal.Gen.bcast_S8192x1_S8192x1024_0_1 (Host.rsqrt (REFM X W U)))) (mulf (REFH X W U) (REFC X W U V Z))) (mulf (REFC X W U V Z) (REFH X W U))

/-- The loss as the reference computes it, in every place of a row of places. -/
abbrev REFL (X : FVec Ideal S8192x4096 .f32) (W : FVec Ideal S4096x1024 .f32) (U : FVec Ideal S8192x1024 .f32) (V : FVec Ideal S8192x1024 .f32) (Z : FVec Ideal S1x1024 .f32) : FVec Ideal S1x128 .f32 :=
  broadcastInDim S1x128 ![] Cert.Reference10Ideal.Gen.bcast_S_S1x128 (mulf (constant Cert.Reference10Ideal.S_ .f32 0x3F000000#32) (Host.reduceAdd (Host.divf (Host.reduceAdd (mulf (REFS X W U V Z) (REFS X W U V Z)) (constant Cert.Reference10Ideal.S_ .f32 0x00000000#32) Cert.Reference10Ideal.Gen.reducesTo_S8192x1024_S8192_d1 Cert.Reference10Ideal.Gen.h_S_) (broadcastInDim Cert.Reference10Ideal.S8192 ![] Cert.Reference10Ideal.Gen.bcast_S_S8192 (constant Cert.Reference10Ideal.S_ .f32 0x44800000#32))) (constant Cert.Reference10Ideal.S_ .f32 0x00000000#32) Cert.Reference10Ideal.Gen.reducesTo_S8192_S_d0 Cert.Reference10Ideal.Gen.h_S_))

/-- The gradient of the gain as the reference computes it. -/
abbrev REFG (X : FVec Ideal S8192x4096 .f32) (W : FVec Ideal S4096x1024 .f32) (U : FVec Ideal S8192x1024 .f32) (V : FVec Ideal S8192x1024 .f32) (Z : FVec Ideal S1x1024 .f32) : FVec Ideal S1x1024 .f32 :=
  shapeCast S1x1024 (Host.reduceAdd (mulf (mulf (REFH X W U) (broadcastInDim S8192x1024 ![0, 1] Cert.Reference10Ideal.Gen.bcast_S8192x1_S8192x1024_0_1 (Host.rsqrt (REFM X W U)))) (REFE X W U V Z)) (constant Cert.Reference10Ideal.S_ .f32 0x00000000#32) Cert.Reference10Ideal.Gen.reducesTo_S8192x1024_S1024_d0 Cert.Reference10Ideal.Gen.h_S_) Cert.Reference10Ideal.Gen.shapeCasts_S1024_S1x1024

/-- The factor of a row's squares in the loss, spread over the rows. -/
abbrev FACTOR : FVec Ideal S8192x1024 .f32 :=
  broadcastInDim S8192x1024 ![0] Cert.Reference10Ideal.Gen.bcast_S8192_S8192x1024_0 (Host.reduceAdd (Host.divf (mulf (broadcastInDim Cert.Reference10Ideal.S8192x1 ![] Cert.Reference10Ideal.Gen.bcast_S_S8192x1 (constant Cert.Reference10Ideal.S_ .f32 0x3F000000#32)) (broadcastInDim Cert.Reference10Ideal.S8192x1 ![] Cert.Reference10Ideal.Gen.bcast_S_S8192x1 (constant Cert.Reference10Ideal.S_ .f32 0x3F800000#32))) (broadcastInDim Cert.Reference10Ideal.S8192x1 ![] Cert.Reference10Ideal.Gen.bcast_S_S8192x1 (constant Cert.Reference10Ideal.S_ .f32 0x44800000#32))) (constant Cert.Reference10Ideal.S_ .f32 0x00000000#32) Cert.Reference10Ideal.Gen.reducesTo_S8192x1_S8192_d1 Cert.Reference10Ideal.Gen.h_S_)

/-- The loss's gradient in the normalised rows as a square's two equal parts. -/
abbrev REFF (X : FVec Ideal S8192x4096 .f32) (W : FVec Ideal S4096x1024 .f32) (U : FVec Ideal S8192x1024 .f32) (V : FVec Ideal S8192x1024 .f32) (Z : FVec Ideal S1x1024 .f32) : FVec Ideal S8192x1024 .f32 :=
  addf (mulf (REFS X W U V Z) FACTOR) (mulf FACTOR (REFS X W U V Z))

/-- The constant one half. -/
theorem half_val : Ideal.ofBits .f32 0x3F000000#32 = ((1 / 2 : ℝ) : EReal) := by
  simp [Ideal.ofBits, Ideal.ieee, -EReal.coe_mul]; norm_num

/-- The constant one. -/
theorem one_val : Ideal.ofBits .f32 0x3F800000#32 = ((1 : ℝ) : EReal) := by
  simp [Ideal.ofBits, Ideal.ieee, -EReal.coe_mul]; norm_num

/-- The constant two. -/
theorem two_val : Ideal.ofBits .f32 0x40000000#32 = ((2 : ℝ) : EReal) := by
  simp [Ideal.ofBits, Ideal.ieee, -EReal.coe_mul]; norm_num

/-- The length of a row. -/
theorem len_val : Ideal.ofBits .f32 0x44800000#32 = ((1024 : ℝ) : EReal) := by
  simp [Ideal.ofBits, Ideal.ieee, -EReal.coe_mul]; norm_num

/-- A row's factor in the loss. -/
theorem factor_val : Ideal.div (Ideal.ofBits .f32 0x3F000000#32) (Ideal.ofBits .f32 0x44800000#32) = ((1 / 2048 : ℝ) : EReal) := by
  rw [half_val, len_val, Ideal.div_coe (by norm_num), ← EReal.coe_mul]; norm_num

/-- A real factor that is not negative goes into a sum. -/
theorem mul_add_of_real {r : ℝ} (hr : 0 ≤ r) (a b : EReal) : (r : EReal) * (a + b) = r * a + r * b :=
  EReal.left_distrib_of_nonneg_of_ne_top (EReal.coe_nonneg.mpr hr) (EReal.coe_ne_top r) a b

/-- The same for a sum of many terms. -/
theorem mul_sum_of_real {r : ℝ} (hr : 0 ≤ r) {n : ℕ} (f : Fin n → EReal) : (r : EReal) * ∑ l, f l = ∑ l, (r : EReal) * f l := by
  induction n with
  | zero => simp
  | succ n ih => rw [Fin.sum_univ_succ, Fin.sum_univ_succ, mul_add_of_real hr, ih]

/-- A real factor times a doubled value, as two equal parts. -/
theorem two_parts {r : ℝ} (hr : 0 ≤ r) (s : EReal) : (r : EReal) * (((2 : ℝ) : EReal) * s) = s * r + r * s := by
  have h2 : (((2 : ℝ) : EReal) * s) = s + s := by
    have h : ((2 : ℝ) : EReal) = ((1 : ℝ) : EReal) + ((1 : ℝ) : EReal) := by rw [← EReal.coe_add]; norm_num
    rw [h, EReal.right_distrib_of_nonneg (EReal.coe_nonneg.mpr zero_le_one) (EReal.coe_nonneg.mpr zero_le_one), EReal.coe_one, one_mul]
  rw [h2, mul_add_of_real hr, mul_comm s]

/-- Both ways of writing the loss's gradient agree. -/
theorem ref_e (X : FVec Ideal S8192x4096 .f32) (W : FVec Ideal S4096x1024 .f32) (U : FVec Ideal S8192x1024 .f32) (V : FVec Ideal S8192x1024 .f32) (Z : FVec Ideal S1x1024 .f32) : REFE X W U V Z = REFF X W U V Z := by
  funext i
  pointwise [REFE, REFF, FACTOR]
  rw [Fin.sum_univ_one, factor_val, two_val]
  exact two_parts (by norm_num) _

/-- Which blocks the windows take at each point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

/-- What a point stores of the stream's gradient, from its blocks. -/
abbrev PAYX (x0 : FVec Ideal S512x4096 .bf16) (x1 : FVec Ideal S4096x1024 .bf16) (x2 x3 : FVec Ideal S512x1024 .f32) (x4 : FVec Ideal S1x1024 .f32) : FVec Ideal S512x1024 .f32 :=
  k0_pay14 x4 (k0_pay3 x0 x1 x2) (k0_pay5 x0 x1 x2) (k0_pay6 x0 x1 x2) (k0_pay8 x0 x1 x2 x3 x4) k0_pay10 k0_pay11

/-- What a point adds to the loss, from its blocks. -/
abbrev PAYL (x0 : FVec Ideal S512x4096 .bf16) (x1 : FVec Ideal S4096x1024 .bf16) (x2 x3 : FVec Ideal S512x1024 .f32) (x4 : FVec Ideal S1x1024 .f32) : FVec Ideal S1x128 .f32 :=
  k0_pay15 (k0_pay9 x0 x1 x2 x3 x4)

/-- What a point adds to the gain's gradient, from its blocks. -/
abbrev PAYG (x0 : FVec Ideal S512x4096 .bf16) (x1 : FVec Ideal S4096x1024 .bf16) (x2 x3 : FVec Ideal S512x1024 .f32) (x4 : FVec Ideal S1x1024 .f32) : FVec Ideal S1x1024 .f32 :=
  k0_pay13 (k0_pay7 x0 x1 x2) (k0_pay8 x0 x1 x2 x3 x4) k0_pay10 k0_pay11

/-- What a point stores of the stream's gradient, at a place of its block, is the reference's value at that place of the array. -/
theorem point_x (c : Dev nD) (t : Fin cfg0.N) (y) : PAYX (iblk m c 0 t) (iblk m c 1 t) (iblk m c 2 t) (iblk m c 3 t) (iblk m c 4 t) y
    = REFX (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [REFX, REFC, ref_e]
  pointwise [PAYX, k0_pay14, k0_pay12, k0_pay11, k0_pay10, k0_pay8, k0_pay7, k0_pay6, k0_pay5, k0_pay4, k0_pay3, REFF, FACTOR, REFS, REFM, REFH]
  blk_point [iblk, V, idx t]

/-- The same for the rounded copy, whose elements over the reals are the same. -/
theorem point_b (c : Dev nD) (t : Fin cfg0.N) (y) : truncf .bf16 (PAYX (iblk m c 0 t) (iblk m c 1 t) (iblk m c 2 t) (iblk m c 3 t) (iblk m c 4 t)) bitsLt_bf16_f32 y
    = truncf .bf16 (REFX (m ((c : Thread nD τ).loc main_arg0)) (m ((c : Thread nD τ).loc main_arg1)) (m ((c : Thread nD τ).loc main_arg2)) (m ((c : Thread nD τ).loc main_arg3)) (m ((c : Thread nD τ).loc main_arg4))) Cert.Reference10Ideal.Gen.bitsLt_bf16_f32 (((cfg0.win 6).blk t).view.emb y) := by
  rw [REFX, REFC, ref_e]
  pointwise [PAYX, k0_pay14, k0_pay12, k0_pay11, k0_pay10, k0_pay8, k0_pay7, k0_pay6, k0_pay5, k0_pay4, k0_pay3, REFF, FACTOR, REFS, REFM, REFH]
  blk_point [iblk, V, idx t]

/-- A later point adds its part to the loss that is there. -/
theorem later_l (g a : FVec Ideal S1x128 .f32) (y : S1x128.Idx) : @Eq EReal (k0_pay1 (F := Ideal) g a y) (a y + g y) := by
  pointwise [k0_pay1]

/-- A later point adds its part to the gain's gradient that is there. -/
theorem later_g (g a : FVec Ideal S1x1024 .f32) (y : S1x1024.Idx) : @Eq EReal (k0_pay2 (F := Ideal) g a y) (a y + g y) := by
  pointwise [k0_pay2]

/-- What a point leaves of the stream's gradient. -/
theorem outs_x (c : Dev nD) (t : Fin cfg0.N) : (outsAt0 m c t.val t.isLt).1 = PAYX (iblk m c 0 t) (iblk m c 1 t) (iblk m c 2 t) (iblk m c 3 t) (iblk m c 4 t) := by
  have hN := lt_of_lt_of_eq t.isLt N_0
  by_cases h : t.val % 16 = 0
  · rw [outsAt0_A m c t h (by omega)]; frame_out
  · rw [outsAt0_B m c t h (by omega)]; frame_out

/-- What a point leaves of its rounded copy. -/
theorem outs_b (c : Dev nD) (t : Fin cfg0.N) : (outsAt0 m c t.val t.isLt).2.1 = truncf .bf16 (PAYX (iblk m c 0 t) (iblk m c 1 t) (iblk m c 2 t) (iblk m c 3 t) (iblk m c 4 t)) bitsLt_bf16_f32 := by
  have hN := lt_of_lt_of_eq t.isLt N_0
  by_cases h : t.val % 16 = 0
  · rw [outsAt0_A m c t h (by omega)]; frame_out; rfl
  · rw [outsAt0_B m c t h (by omega)]; frame_out; rfl

/-- The first result array after the run is the gradient of the residual stream. -/
theorem final_x (c : Dev nD) : (dats m 0 c).arrAt 5 (cfgs 0).N
    = REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, outs_x]
  exact point_x m c t y

/-- The second result array after the run is its rounded copy. -/
theorem final_b (c : Dev nD) : (dats m 0 c).arrAt 6 (cfgs 0).N
    = truncf .bf16 (REFX (m ((c : Thread nD τ).loc main_arg0)) (m ((c : Thread nD τ).loc main_arg1)) (m ((c : Thread nD τ).loc main_arg2)) (m ((c : Thread nD τ).loc main_arg3)) (m ((c : Thread nD τ).loc main_arg4))) Cert.Reference10Ideal.Gen.bitsLt_bf16_f32 := by
  refine (dats m 0 c).arrAt_eq_of_covers 6 _ (by decide +kernel) fun t _ y => ?_
  blk_simp
  rw [after0_6, outs_b]
  exact point_b m c t y

/-- The loss so far is the loss of the points so far. -/
theorem acc_l (c : Dev nD) (t : Fin cfg0.N) (ht : t.val % 16 = 15) (y : S1x128.Idx) :
    (show FVec Ideal S1x128 .f32 from (outsAt0 m c t.val t.isLt).2.2.1) y = ∑ s : Fin 16, PAYL (iblk m c 0 ⟨16 * (t.val / 16) + s.val, Pipeline.run_point_lt_of_flush t ht s⟩) (iblk m c 1 ⟨16 * (t.val / 16) + s.val, Pipeline.run_point_lt_of_flush t ht s⟩) (iblk m c 2 ⟨16 * (t.val / 16) + s.val, Pipeline.run_point_lt_of_flush t ht s⟩) (iblk m c 3 ⟨16 * (t.val / 16) + s.val, Pipeline.run_point_lt_of_flush t ht s⟩) (iblk m c 4 ⟨16 * (t.val / 16) + s.val, Pipeline.run_point_lt_of_flush t ht s⟩) y := by
  rw [Pipeline.eq_sum_fin_of_reset_step_apply_of_flush (fun n h => (show FVec Ideal S1x128 .f32 from (outsAt0 m c n h).2.2.1)) 16 (fun _ => (0 : EReal)) (fun t y => PAYL (iblk m c 0 t) (iblk m c 1 t) (iblk m c 2 t) (iblk m c 3 t) (iblk m c 4 t) y)
    (fun t h j => by
      have hN := lt_of_lt_of_eq t.isLt N_0
      rw [outsAt0_A m c t h (by omega)]; frame_out; exact (zero_add _).symm)
    (fun t h j => by
      rw [outsAt0_B m c t h (by omega)]; frame_out; exact later_l _ _ j)
    t ht y, zero_add]

/-- The gain's gradient so far is that of the points so far. -/
theorem acc_g (c : Dev nD) (t : Fin cfg0.N) (ht : t.val % 16 = 15) (y : S1x1024.Idx) :
    (show FVec Ideal S1x1024 .f32 from (outsAt0 m c t.val t.isLt).2.2.2) y = ∑ s : Fin 16, PAYG (iblk m c 0 ⟨16 * (t.val / 16) + s.val, Pipeline.run_point_lt_of_flush t ht s⟩) (iblk m c 1 ⟨16 * (t.val / 16) + s.val, Pipeline.run_point_lt_of_flush t ht s⟩) (iblk m c 2 ⟨16 * (t.val / 16) + s.val, Pipeline.run_point_lt_of_flush t ht s⟩) (iblk m c 3 ⟨16 * (t.val / 16) + s.val, Pipeline.run_point_lt_of_flush t ht s⟩) (iblk m c 4 ⟨16 * (t.val / 16) + s.val, Pipeline.run_point_lt_of_flush t ht s⟩) y := by
  rw [Pipeline.eq_sum_fin_of_reset_step_apply_of_flush (fun n h => (show FVec Ideal S1x1024 .f32 from (outsAt0 m c n h).2.2.2)) 16 (fun _ => (0 : EReal)) (fun t y => PAYG (iblk m c 0 t) (iblk m c 1 t) (iblk m c 2 t) (iblk m c 3 t) (iblk m c 4 t) y)
    (fun t h j => by
      have hN := lt_of_lt_of_eq t.isLt N_0
      rw [outsAt0_A m c t h (by omega)]; frame_out; exact (zero_add _).symm)
    (fun t h j => by
      rw [outsAt0_B m c t h (by omega)]; frame_out; exact later_g _ _ j)
    t ht y, zero_add]

/-- The fourth result array after the run is the gradient of the gain. -/
theorem final_g (c : Dev nD) : (dats m 0 c).arrAt 8 (cfgs 0).N
    = REFG (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have ht := (flush0_8 t).mp hf
  rw [after0_8]
  refine (acc_g m c t ht y).trans ?_
  rw [REFG, ref_e]
  pointwise [PAYG, k0_pay13, k0_pay12, k0_pay11, k0_pay10, k0_pay8, k0_pay7, k0_pay5, k0_pay4, k0_pay3, REFF, FACTOR, REFS, REFM, REFH]
  refine Fin.sum_mul_add_congr fun s k hl => ?_
  blk_point [iblk, V, idx t, idx ⟨_, Pipeline.run_point_lt_of_flush t ht s⟩]

/-- The third result array after the run is the loss. -/
theorem final_l (c : Dev nD) : (dats m 0 c).arrAt 7 (cfgs 0).N
    = REFL (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  have ht := (flush0_7 t).mp hf
  rw [after0_7]
  refine (acc_l m c t ht y).trans ?_
  pointwise [PAYL, k0_pay15, k0_pay9, k0_pay8, k0_pay7, k0_pay5, k0_pay4, k0_pay3, REFL, REFS, REFM, REFH]
  rw [half_val, mul_sum_of_real (by norm_num)]
  refine Fin.sum_mul_add_congr fun s k hl => ?_
  rw [Fin.sum_univ_one]
  blk_point [iblk, V, idx t, idx ⟨_, Pipeline.run_point_lt_of_flush t ht s⟩]

/-- Both programs run from launches that agree on the arguments, and leave the same four results. -/
theorem value : Cert.algebraic_Kernel10Ideal_Reference10Ideal (hKernel10Ideal := Gen.facts) (hReference10Ideal := Cert.Reference10Ideal.Gen.facts) := by
  intro m ρ m' ρ' _ hag
  refine ⟨_, _, _, _, Cert.Kernel10Ideal.Value.run_blocks m ρ, (θ_run Cert.Reference10Ideal.defs _ _).mono (fun r h c => ?_) (Cert.Reference10Ideal.Value.run m' ρ')⟩
  obtain ⟨h0, h1, h2, h3, rest⟩ := h c
  refine ⟨h0.trans ?_, h1.trans ?_, h2.trans ?_, h3.trans ?_, rest⟩
  · rw [Cert.Reference10Ideal.Value.res_main_v50, (hag c).1, (hag c).2.1, (hag c).2.2.1, (hag c).2.2.2.1, (hag c).2.2.2.2]
    exact (final_x m c).symm
  · rw [Cert.Reference10Ideal.Value.res_main_v51, (hag c).1, (hag c).2.1, (hag c).2.2.1, (hag c).2.2.2.1, (hag c).2.2.2.2]
    exact (final_b m c).symm
  · rw [(hag c).1, (hag c).2.1, (hag c).2.2.1, (hag c).2.2.2.1, (hag c).2.2.2.2]
    exact (final_l m c).symm
  · rw [(hag c).1, (hag c).2.1, (hag c).2.2.1, (hag c).2.2.2.1, (hag c).2.2.2.2]
    exact (final_g m c).symm

end Cert.MlpDown

end
-- ==== Proof.DYcat.lean ====
/- The output projection's backward product: the kernel's blocks are the blocks of the one product. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.DYcat

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The product the reference computes. -/
abbrev REF (X : FVec Ideal S8192x1024 .f32) (W : FVec Ideal S1024x1024 .f32) : FVec Ideal S8192x1024 .f32 :=
  Host.dotGeneral Cert.Reference11Ideal.dot_S8192x1024_S1024x1024_S8192x1024_1_1_0_0_n_n none X W

/-- Which blocks the windows take at each point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of its block is the product at that place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs run from launches that agree on the arguments, and leave the same result. -/
theorem value : Cert.algebraic_Kernel11Ideal_Reference11Ideal (hKernel11Ideal := Gen.facts) (hReference11Ideal := Cert.Reference11Ideal.Gen.facts) := by
  intro m ρ m' ρ' _ hag
  refine ⟨_, Cert.Kernel11Ideal.Value.run_blocks m ρ, (θ_run Cert.Reference11Ideal.defs _ _).mono (fun r h c => ?_) (Cert.Reference11Ideal.Value.run m' ρ')⟩
  obtain ⟨h0, rest⟩ := h c
  refine ⟨h0.trans ?_, rest⟩
  rw [(hag c).1, (hag c).2.1]
  exact (final m c).symm

end Cert.DYcat

end
-- ==== Proof.DwOut.lean ====
/- The gradient of the output projection's weight: four steps add up the one block. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

namespace Cert.DwOut

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The gradient of the weight as the reference computes it: the product of the two arrays over all the rows. -/
abbrev REF (X : FVec Ideal S8192x1024 .f32) (W : FVec Ideal S8192x1024 .f32) : FVec Ideal S1024x1024 .bf16 :=
  truncf .bf16 (transpose S1024x1024 [1, 0] (Host.dotGeneral Cert.Reference12Ideal.dot_S8192x1024_S8192x1024_S1024x1024_0_0_1_1_n_n none W X) Cert.Reference12Ideal.Gen.transposes_S1024x1024_S1024x1024_1_0) Cert.Reference12Ideal.Gen.bitsLt_bf16_f32

/-- The reference's gradient at a place is a sum over all the rows. -/
theorem ref_at (X : FVec Ideal S8192x1024 .f32) (W : FVec Ideal S8192x1024 .f32) (i : S1024x1024.Idx) :
    REF X W i = ∑ l : Fin 8192, X (ix2 l (i 0)) * W (ix2 l (i 1)) := by
  pointwise [REF]
  exact Fintype.sum_congr _ _ fun l => mul_comm _ _

/-- The first step of a run stores the product of its two blocks. -/
theorem pay_first (x0 : FVec Ideal S2048x1024 .bf16) (x1 : FVec Ideal S2048x1024 .bf16) (y : S1024x1024.Idx) :
    @Eq EReal (k0_pay2 (F := Ideal) x0 x1 y) (∑ k : Fin 2048, x0 (ix2 k (y 0)) * x1 (ix2 k (y 1))) := by
  pointwise [k0_pay2, k0_pay1]

/-- A middle step adds the product of its two blocks. -/
theorem pay_middle (x0 : FVec Ideal S2048x1024 .bf16) (x1 : FVec Ideal S2048x1024 .bf16) (a : FVec Ideal S1024x1024 .f32) (y : S1024x1024.Idx) :
    @Eq EReal (k0_pay3 (F := Ideal) x0 x1 a y) (a y + ∑ k : Fin 2048, x0 (ix2 k (y 0)) * x1 (ix2 k (y 1))) := by
  pointwise [k0_pay3, k0_pay1]

/-- The last step of a run adds the product of its two blocks and stores the sum as the result. -/
theorem pay_last (x0 : FVec Ideal S2048x1024 .bf16) (x1 : FVec Ideal S2048x1024 .bf16) (a : FVec Ideal S1024x1024 .f32) (y : S1024x1024.Idx) :
    @Eq EReal (k0_pay4 (F := Ideal) x0 x1 a y) (a y + ∑ k : Fin 2048, x0 (ix2 k (y 0)) * x1 (ix2 k (y 1))) := by
  pointwise [k0_pay4, k0_pay1]

/-- Which blocks the windows take at each point. -/
theorem idx : ∀ t : Fin cfg0.N, win0_0.index t = ![t.val % 4, 0] ∧ win0_1.index t = ![t.val % 4, 0] ∧ win0_2.index t = ![0, 0] :=
  (by decide +kernel : ∀ t : Fin grid0.N, _)

/-- The sum so far after a point: in the result's block at the last step of a run, in the scratch before it. -/
def acc (c : Dev nD) (n : ℕ) (h : n < cfg0.N) (y : S1024x1024.Idx) : EReal :=
  if n % 4 = 3 then (show FVec Ideal S1024x1024 .bf16 from (outsAt0 m c n h).1) y else (show FVec Ideal S1024x1024 .f32 from (outsAt0 m c n h).2) y

/-- At the last step of a run the sum is in the result's block. -/
theorem acc_last (c : Dev nD) (t : Fin cfg0.N) (h : t.val % 4 = 3) (y : S1024x1024.Idx) :
    acc m c t.val t.isLt y = (outsAt0 m c t.val t.isLt).1 y := if_pos h

/-- Before the last step of a run the sum is in the scratch. -/
theorem acc_mid (c : Dev nD) (t : Fin cfg0.N) (h : ¬t.val % 4 = 3) (y : S1024x1024.Idx) :
    acc m c t.val t.isLt y = (outsAt0 m c t.val t.isLt).2 y := if_neg h

/-- Before a later step of a run the sum is in the scratch. -/
theorem acc_before (c : Dev nD) (t : Fin cfg0.N) (h : ¬t.val % 4 = 0) (hb : t.val - 1 < cfg0.N) (y : S1024x1024.Idx) :
    acc m c (t.val - 1) hb y = (outsAt0 m c (t.val - 1) (Nat.lt_of_le_of_lt (Nat.sub_le _ _) t.isLt)).2 y := if_neg (by omega)

/-- What a point adds to the sum: the product of its two blocks. -/
def term (c : Dev nD) (t : Fin cfg0.N) (y : S1024x1024.Idx) : EReal :=
  ∑ k : Fin 2048, (show FVec Ideal S2048x1024 .bf16 from iblk m c 0 t) (ix2 k (y 0)) * (show FVec Ideal S2048x1024 .bf16 from iblk m c 1 t) (ix2 k (y 1))

/-- At the last point of a run the sum has all the run's terms. -/
theorem acc_run (c : Dev nD) (t : Fin cfg0.N) (ht : t.val % 4 = 3) (y : S1024x1024.Idx) :
    acc m c t.val t.isLt y = ∑ s : Fin 4, term m c ⟨4 * (t.val / 4) + s.val, Pipeline.run_point_lt_of_flush t ht s⟩ y := by
  rw [Pipeline.eq_sum_fin_of_reset_step_apply_of_flush (fun n h => acc m c n h) 4 (fun _ => (0 : EReal)) (term m c)
    (fun t h j => by
      rw [acc_mid m c t (by omega), outsAt0_A m c t h (by omega) (by omega)]; frame_out; exact (pay_first _ _ j).trans (zero_add _).symm)
    (fun t h j => by
      rw [acc_before m c t h (by omega)]
      by_cases h3 : t.val % 4 = 3
      · rw [acc_last m c t h3, outsAt0_C m c t h (by omega) h3]; frame_out; refine (pay_last _ _ _ j).trans ?_; rw [read_unread_whole]; rfl
      · rw [acc_mid m c t h3, outsAt0_B m c t h (by omega) h3]; frame_out; refine (pay_middle _ _ _ j).trans ?_; rw [read_unread_whole]; rfl)
    t ht y, zero_add]

/-- The result array after the run is the gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  refine ((acc_last m c t ht y).symm.trans (acc_run m c t ht y)).trans ?_
  rw [ref_at]
  unfold term
  refine Fin.sum_mul_add_congr fun s k hl => ?_
  blk_point [iblk, V, idx t, idx ⟨_, Pipeline.run_point_lt_of_flush t ht s⟩]

/-- Both programs run from launches that agree on the arguments, and leave the same result. -/
theorem value : Cert.algebraic_Kernel12Ideal_Reference12Ideal (hKernel12Ideal := Gen.facts) (hReference12Ideal := Cert.Reference12Ideal.Gen.facts) := by
  intro m ρ m' ρ' _ hag
  refine ⟨_, Cert.Kernel12Ideal.Value.run_blocks m ρ, (θ_run Cert.Reference12Ideal.defs _ _).mono (fun r h c => ?_) (Cert.Reference12Ideal.Value.run m' ρ')⟩
  obtain ⟨h0, rest⟩ := h c
  refine ⟨h0.trans ?_, rest⟩
  rw [(hag c).1, (hag c).2.1]
  exact (final m c).symm

end Cert.DwOut

end
-- ==== Proof.DH1.lean ====
/- The gradient through the input projection and the first norm: the product, the rows it is spread over, and the sum for the gain. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

namespace Cert.DH1

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- Four summands, the first of them moved to the end. -/
theorem sum_order (v p q r : EReal) : v + p + q + r = p + q + r + v := by
  rw [add_assoc, add_assoc, add_comm, ← add_assoc]

/-- The product the reference computes. -/
abbrev REFD (X : FVec Ideal S8192x3328 .f32) (W : FVec Ideal S1024x3328 .f32) : FVec Ideal S8192x1024 .f32 :=
  Host.dotGeneral Cert.Reference13Ideal.dot_S8192x3328_S1024x3328_S8192x1024_1_1_0_0_n_n none X W

/-- The mean square of each row, with the small constant added. -/
abbrev REFM (U : FVec Ideal S8192x1024 .f32) : FVec Ideal Cert.Reference13Ideal.S8192x1 .f32 :=
  addf (Host.divf (broadcastInDim Cert.Reference13Ideal.S8192x1 ![0] Cert.Reference13Ideal.Gen.bcast_S8192_S8192x1_0 (Host.reduceAdd (mulf U U) (constant Cert.Reference13Ideal.S_ .f32 0x00000000#32) Cert.Reference13Ideal.Gen.reducesTo_S8192x1024_S8192_d1 Cert.Reference13Ideal.Gen.h_S_)) (broadcastInDim Cert.Reference13Ideal.S8192x1 ![] Cert.Reference13Ideal.Gen.bcast_S_S8192x1 (constant Cert.Reference13Ideal.S_ .f32 0x44800000#32))) (broadcastInDim Cert.Reference13Ideal.S8192x1 ![] Cert.Reference13Ideal.Gen.bcast_S_S8192x1 (constant Cert.Reference13Ideal.S_ .f32 0x3727C5AC#32))

/-- The gradient that reaches the mean square of each row, spread over the row. -/
abbrev REFC (X : FVec Ideal S8192x3328 .f32) (W : FVec Ideal S1024x3328 .f32) (U : FVec Ideal S8192x1024 .f32) (Z : FVec Ideal S1x1024 .f32) : FVec Ideal S8192x1024 .f32 :=
  broadcastInDim S8192x1024 ![0] Cert.Reference13Ideal.Gen.bcast_S8192_S8192x1024_0 (Host.reduceAdd (Host.divf (mulf (shapeCast Cert.Reference13Ideal.S8192x1 (Host.reduceAdd (mulf U (mulf (REFD X W) (broadcastInDim S8192x1024 ![0, 1] Cert.Reference13Ideal.Gen.bcast_S1x1024_S8192x1024_0_1 Z))) (constant Cert.Reference13Ideal.S_ .f32 0x00000000#32) Cert.Reference13Ideal.Gen.reducesTo_S8192x1024_S8192_d1 Cert.Reference13Ideal.Gen.h_S_) Cert.Reference13Ideal.Gen.shapeCasts_S8192_S8192x1) (mulf (broadcastInDim Cert.Reference13Ideal.S8192x1 ![] Cert.Reference13Ideal.Gen.bcast_S_S8192x1 (constant Cert.Reference13Ideal.S_ .f32 0xBF000000#32)) (Host.divf (Host.rsqrt (REFM U)) (REFM U)))) (broadcastInDim Cert.Reference13Ideal.S8192x1 ![] Cert.Reference13Ideal.Gen.bcast_S_S8192x1 (constant Cert.Reference13Ideal.S_ .f32 0x44800000#32))) (constant Cert.Reference13Ideal.S_ .f32 0x00000000#32) Cert.Reference13Ideal.Gen.reducesTo_S8192x1_S8192_d1 Cert.Reference13Ideal.Gen.h_S_)

/-- The gradient of the residual stream as the reference computes it. -/
abbrev REFX (X : FVec Ideal S8192x3328 .f32) (W : FVec Ideal S1024x3328 .f32) (U : FVec Ideal S8192x1024 .f32) (V : FVec Ideal S8192x1024 .f32) (Z : FVec Ideal S1x1024 .f32) : FVec Ideal S8192x1024 .f32 :=
  addf (addf (addf V (mulf (mulf (REFD X W) (broadcastInDim S8192x1024 ![0, 1] Cert.Reference13Ideal.Gen.bcast_S1x1024_S8192x1024_0_1 Z)) (broadcastInDim S8192x1024 ![0, 1] Cert.Reference13Ideal.Gen.bcast_S8192x1_S8192x1024_0_1 (Host.rsqrt (REFM U))))) (mulf U (REFC X W U Z))) (mulf (REFC X W U Z) U)

/-- The same gradient with the two halves of the row's part next to each other and the incoming gradient last. -/
abbrev REFY (X : FVec Ideal S8192x3328 .f32) (W : FVec Ideal S1024x3328 .f32) (U : FVec Ideal S8192x1024 .f32) (V : FVec Ideal S8192x1024 .f32) (Z : FVec Ideal S1x1024 .f32) : FVec Ideal S8192x1024 .f32 :=
  addf (addf (addf (mulf (mulf (REFD X W) (broadcastInDim S8192x1024 ![0, 1] Cert.Reference13Ideal.Gen.bcast_S1x1024_S8192x1024_0_1 Z)) (broadcastInDim S8192x1024 ![0, 1] Cert.Reference13Ideal.Gen.bcast_S8192x1_S8192x1024_0_1 (Host.rsqrt (REFM U)))) (mulf U (REFC X W U Z))) (mulf (REFC X W U Z) U)) V

/-- The order of the four summands does not matter. -/
theorem ref_eq (X : FVec Ideal S8192x3328 .f32) (W : FVec Ideal S1024x3328 .f32) (U : FVec Ideal S8192x1024 .f32) (V : FVec Ideal S8192x1024 .f32) (Z : FVec Ideal S1x1024 .f32) : REFX X W U V Z = REFY X W U V Z :=
  funext fun i => sum_order (V i) _ _ _

/-- The gradient of the gain as the reference computes it. -/
abbrev REFG (X : FVec Ideal S8192x3328 .f32) (W : FVec Ideal S1024x3328 .f32) (U : FVec Ideal S8192x1024 .f32) : FVec Ideal S1x1024 .f32 :=
  shapeCast S1x1024 (Host.reduceAdd (mulf (mulf U (broadcastInDim S8192x1024 ![0, 1] Cert.Reference13Ideal.Gen.bcast_S8192x1_S8192x1024_0_1 (Host.rsqrt (REFM U)))) (REFD X W)) (constant Cert.Reference13Ideal.S_ .f32 0x00000000#32) Cert.Reference13Ideal.Gen.reducesTo_S8192x1024_S1024_d0 Cert.Reference13Ideal.Gen.h_S_) Cert.Reference13Ideal.Gen.shapeCasts_S1024_S1x1024

/-- Which blocks the windows take at each point. -/
theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![0, 0] :=
  (by decide +kernel : ∀ t : Fin grid0.N, _)

/-- What a point stores of the stream's gradient, from its blocks. -/
abbrev PAYX (x0 : FVec Ideal S512x3328 .bf16) (x1 : FVec Ideal S1024x3328 .bf16) (x2 x3 : FVec Ideal S512x1024 .f32) (x4 : FVec Ideal S1x1024 .f32) : FVec Ideal S512x1024 .f32 :=
  k0_pay1 x2 x3 (k0_pay8 x0 x1 x2 x4) (k0_pay9 x0 x1 x2 x4) (k0_pay10 x0 x1 x2 x4)

/-- What a point stores of the stream's gradient, at a place of its block, is the reference's value at that place of the array. -/
theorem point_x (c : Dev nD) (t : Fin cfg0.N) (y) : PAYX (iblk m c 0 t) (iblk m c 1 t) (iblk m c 2 t) (iblk m c 3 t) (iblk m c 4 t) y
    = REFX (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [ref_eq]
  pointwise [PAYX, k0_pay1, k0_pay10, k0_pay9, k0_pay8, k0_pay7, k0_pay5, k0_pay4, k0_pay3, REFY, REFC, REFM, REFD]
  blk_point [iblk, V, idx t]

/-- What a point adds to the gain's gradient, from its blocks. -/
abbrev PAYG (x0 : FVec Ideal S512x3328 .bf16) (x1 : FVec Ideal S1024x3328 .bf16) (x2 : FVec Ideal S512x1024 .f32) : FVec Ideal S1x1024 .f32 :=
  k0_pay6 x0 x1 x2

/-- A later point adds its part to what is there. -/
theorem pay_later (g a : FVec Ideal S1x1024 .f32) (y : S1x1024.Idx) : @Eq EReal (k0_pay2 (F := Ideal) g a y) (a y + g y) := by
  pointwise [k0_pay2]

/-- A point's stored gradient of the stream. -/
theorem outs_x (c : Dev nD) (t : Fin cfg0.N) : (outsAt0 m c t.val t.isLt).1 = PAYX (iblk m c 0 t) (iblk m c 1 t) (iblk m c 2 t) (iblk m c 3 t) (iblk m c 4 t) := by
  have hN := lt_of_lt_of_eq t.isLt N_0
  by_cases h : t.val % 16 = 0
  · rw [outsAt0_A m c t h (by omega)]; frame_out
  · rw [outsAt0_B m c t h (by omega)]; frame_out

/-- The first result array after the run is the gradient of the residual stream. -/
theorem final_x (c : Dev nD) : (dats m 0 c).arrAt 5 (cfgs 0).N
    = REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, outs_x]
  exact point_x m c t y

/-- The sum so far is the gain's gradient of the points so far. -/
theorem acc_run (c : Dev nD) (t : Fin cfg0.N) (ht : t.val % 16 = 15) (y : S1x1024.Idx) :
    (show FVec Ideal S1x1024 .f32 from (outsAt0 m c t.val t.isLt).2) y = ∑ s : Fin 16, PAYG (iblk m c 0 ⟨16 * (t.val / 16) + s.val, Pipeline.run_point_lt_of_flush t ht s⟩) (iblk m c 1 ⟨16 * (t.val / 16) + s.val, Pipeline.run_point_lt_of_flush t ht s⟩) (iblk m c 2 ⟨16 * (t.val / 16) + s.val, Pipeline.run_point_lt_of_flush t ht s⟩) y := by
  rw [Pipeline.eq_sum_fin_of_reset_step_apply_of_flush (fun n h => (show FVec Ideal S1x1024 .f32 from (outsAt0 m c n h).2)) 16 (fun _ => (0 : EReal)) (fun t y => PAYG (iblk m c 0 t) (iblk m c 1 t) (iblk m c 2 t) y)
    (fun t h j => by
      have hN := lt_of_lt_of_eq t.isLt N_0
      rw [outsAt0_A m c t h (by omega)]; frame_out; exact (zero_add _).symm)
    (fun t h j => by
      rw [outsAt0_B m c t h (by omega)]; frame_out; exact pay_later _ _ j)
    t ht y, zero_add]

/-- The second result array after the run is the gradient of the gain. -/
theorem final_g (c : Dev nD) : (dats m 0 c).arrAt 6 (cfgs 0).N
    = REFG (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  have ht := (flush0_6 t).mp hf
  rw [after0_6]
  refine (acc_run m c t ht y).trans ?_
  pointwise [PAYG, k0_pay6, k0_pay5, k0_pay4, k0_pay3, REFG, REFM, REFD]
  refine Fin.sum_mul_add_congr fun s k hl => ?_
  blk_point [iblk, V, idx t, idx ⟨_, Pipeline.run_point_lt_of_flush t ht s⟩]

/-- Both programs run from launches that agree on the arguments, and leave the same two results. -/
theorem value : Cert.algebraic_Kernel13Ideal_Reference13Ideal (hKernel13Ideal := Gen.facts) (hReference13Ideal := Cert.Reference13Ideal.Gen.facts) := by
  intro m ρ m' ρ' _ hag
  refine ⟨_, _, Cert.Kernel13Ideal.Value.run_blocks m ρ, (θ_run Cert.Reference13Ideal.defs _ _).mono (fun r h c => ?_) (Cert.Reference13Ideal.Value.run m' ρ')⟩
  obtain ⟨h0, h1, rest⟩ := h c
  refine ⟨h0.trans ?_, h1.trans ?_, rest⟩
  · rw [Cert.Reference13Ideal.Value.res_main_v36, (hag c).1, (hag c).2.1, (hag c).2.2.1, (hag c).2.2.2.1, (hag c).2.2.2.2]
    exact (final_x m c).symm
  · rw [(hag c).1, (hag c).2.1, (hag c).2.2.1]
    exact (final_g m c).symm

end Cert.DH1

end
-- ==== Proof.Norm1.lean ====
/- The first norm of the residual stream, block by block. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack

@[expose] public section

set_option maxRecDepth 16384

noncomputable section

namespace Cert.Norm1

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

/-- The normed rows as the reference computes it. -/
abbrev REF (X : FVec Ideal S8192x1024 .f32) (W : FVec Ideal S1x1024 .f32) : FVec Ideal S8192x1024 .bf16 :=
  truncf .bf16 (mulf (mulf X (broadcastInDim S8192x1024 ![0, 1] Cert.Reference14Ideal.Gen.bcast_S8192x1_S8192x1024_0_1 (Host.rsqrt (addf (Host.divf (broadcastInDim Cert.Reference14Ideal.S8192x1 ![0] Cert.Reference14Ideal.Gen.bcast_S8192_S8192x1_0 (Host.reduceAdd (mulf X X) (constant Cert.Reference14Ideal.S_ .f32 0x00000000#32) Cert.Reference14Ideal.Gen.reducesTo_S8192x1024_S8192_d1 Cert.Reference14Ideal.Gen.h_S_)) (broadcastInDim Cert.Reference14Ideal.S8192x1 ![] Cert.Reference14Ideal.Gen.bcast_S_S8192x1 (constant Cert.Reference14Ideal.S_ .f32 0x44800000#32))) (broadcastInDim Cert.Reference14Ideal.S8192x1 ![] Cert.Reference14Ideal.Gen.bcast_S_S8192x1 (constant Cert.Reference14Ideal.S_ .f32 0x3727C5AC#32)))))) (broadcastInDim S8192x1024 ![0, 1] Cert.Reference14Ideal.Gen.bcast_S1x1024_S8192x1024_0_1 W)) Cert.Reference14Ideal.Gen.bitsLt_bf16_f32

/-- Which blocks the windows take at each point. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of its block is the reference's value at that place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs run from launches that agree on the arguments, and leave the same result. -/
theorem value : Cert.algebraic_Kernel14Ideal_Reference14Ideal (hKernel14Ideal := Gen.facts) (hReference14Ideal := Cert.Reference14Ideal.Gen.facts) := by
  intro m ρ m' ρ' _ hag
  refine ⟨_, Cert.Kernel14Ideal.Value.run_blocks m ρ, (θ_run Cert.Reference14Ideal.defs _ _).mono (fun r h c => ?_) (Cert.Reference14Ideal.Value.run m' ρ')⟩
  obtain ⟨h0, rest⟩ := h c
  refine ⟨h0.trans ?_, rest⟩
  rw [(hag c).1, (hag c).2]
  exact (final m c).symm

end Cert.Norm1

end
-- ==== Proof.MixCat.lean ====
/- The two halves of the mixing layer side by side, block by block. -/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

@[expose] public section

set_option maxRecDepth 16384

noncomputable section

namespace Cert.MixCat

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

/-- The gated half and the attention half side by side as the reference computes it. -/
abbrev REF (X : FVec Ideal S8192x512 .f32) (W : FVec Ideal S8192x512 .f32) (U : FVec Ideal S8192x512 .f32) : FVec Ideal S8192x1024 .bf16 :=
  truncf .bf16 (concatenate S8192x1024 1 [⟨S8192x512, (mulf X W)⟩, ⟨S8192x512, U⟩] Cert.Reference15Ideal.Gen.concatenates_S8192x512_S8192x512_S8192x1024_d1) Cert.Reference15Ideal.Gen.bitsLt_bf16_f32

/-- Which blocks the windows take at each point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- What the body stores at a place of its block is the reference's value at that place of the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]
  all_goals (exfalso; blk_simp [idx t] at *; omega)

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Both programs run from launches that agree on the arguments, and leave the same result. -/
theorem value : Cert.algebraic_Kernel15Ideal_Reference15Ideal (hKernel15Ideal := Gen.facts) (hReference15Ideal := Cert.Reference15Ideal.Gen.facts) := by
  intro m ρ m' ρ' _ hag
  refine ⟨_, Cert.Kernel15Ideal.Value.run_blocks m ρ, (θ_run Cert.Reference15Ideal.defs _ _).mono (fun r h c => ?_) (Cert.Reference15Ideal.Value.run m' ρ')⟩
  obtain ⟨h0, rest⟩ := h c
  refine ⟨h0.trans ?_, rest⟩
  rw [(hag c).1, (hag c).2.1, (hag c).2.2]
  exact (final m c).symm

end Cert.MixCat

end
-- ==== Proof.AdamWIn.lean ====
/- The optimiser step of the input projection: the sum over the devices, the two moments and the step. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

namespace Cert.AdamWIn

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

/-- The sum of the devices' gradients as the reference computes it. -/
abbrev REFG (W : FVec Ideal S8x1024x416 .f32) : FVec Ideal S1024x416 .f32 :=
  Host.reduceAdd W (constant Cert.Reference16Ideal.S_ .f32 0x00000000#32) Cert.Reference16Ideal.Gen.reducesTo_S8x1024x416_S1024x416_d0 Cert.Reference16Ideal.Gen.h_S_

/-- A constant at every place, as the reference writes it. -/
abbrev K (b : BitVec 32) : FVec Ideal S1024x416 .f32 := broadcastInDim S1024x416 ![] Cert.Reference16Ideal.Gen.bcast_S_S1024x416 (constant Cert.Reference16Ideal.S_ .f32 b)

/-- The new first moment as the reference computes it. -/
abbrev REFM (W : FVec Ideal S8x1024x416 .f32) (U : FVec Ideal S1024x416 .f32) : FVec Ideal S1024x416 .f32 :=
  addf (mulf (K 0x3F666666#32) U) (mulf (K 0x3DCCCCCD#32) (REFG W))

/-- The new second moment as the reference computes it. -/
abbrev REFV (W : FVec Ideal S8x1024x416 .f32) (V : FVec Ideal S1024x416 .f32) : FVec Ideal S1024x416 .f32 :=
  addf (mulf (K 0x3F7FBE77#32) V) (mulf (K 0x3A83126F#32) (mulf (REFG W) (REFG W)))

/-- The step as the reference computes it. -/
abbrev REFD (X : FVec Ideal S1024x416 .f32) (W : FVec Ideal S8x1024x416 .f32) (U V : FVec Ideal S1024x416 .f32) : FVec Ideal S1024x416 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x256x416 .bf16) : FVec Ideal S256x416 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum at a place, its eight summands spelt out. -/
theorem ref_g (W : FVec Ideal S8x1024x416 .f32) (i : S1024x416.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S256x416.Idx) (i : S1024x416.Idx) (h0 : (i 0 : ℕ) = t.val * 256 + y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S256x416.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S256x416.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S256x416.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel16Ideal_Reference16Ideal (hKernel16Ideal := Gen.facts) (hReference16Ideal := Cert.Reference16Ideal.Gen.facts) := by
  intro m ρ m' ρ' _ hag
  refine ⟨_, _, _, _, Cert.Kernel16Ideal.Value.run_blocks m ρ, (θ_run Cert.Reference16Ideal.defs _ _).mono (fun r h c => ?_) (Cert.Reference16Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWIn

end
-- ==== Proof.AdamWLora.lean ====
/- The optimiser step of the two smaller low-rank weights: the sum over the devices, the two moments and the step. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack

@[expose] public section

set_option maxRecDepth 16384

noncomputable section

namespace Cert.AdamWLora

open Idealize.ShloMosaic Idealize.ShloMosaic.TcCoe Idealize.SL.Sem
open Idealize.ShloMosaic.Pipeline (Dat)
open Cert.Kernel17Ideal Cert.Kernel17Ideal.Gen

variable (m : (ℓ : Loc nD τ sig) → Buf (Elt Ideal) ℓ)

/-- The sum of the devices' gradients as the reference computes it. -/
abbrev REFG (W : FVec Ideal S8x64x64 .f32) : FVec Ideal S64x64 .f32 :=
  Host.reduceAdd W (constant Cert.Reference17Ideal.S_ .f32 0x00000000#32) Cert.Reference17Ideal.Gen.reducesTo_S8x64x64_S64x64_d0 Cert.Reference17Ideal.Gen.h_S_

/-- A constant at every place, as the reference writes it. -/
abbrev K (b : BitVec 32) : FVec Ideal S64x64 .f32 := broadcastInDim S64x64 ![] Cert.Reference17Ideal.Gen.bcast_S_S64x64 (constant Cert.Reference17Ideal.S_ .f32 b)

/-- The new first moment as the reference computes it. -/
abbrev REFM (W : FVec Ideal S8x64x64 .f32) (U : FVec Ideal S64x64 .f32) : FVec Ideal S64x64 .f32 :=
  addf (mulf (K 0x3F666666#32) U) (mulf (K 0x3DCCCCCD#32) (REFG W))

/-- The new second moment as the reference computes it. -/
abbrev REFV (W : FVec Ideal S8x64x64 .f32) (V : FVec Ideal S64x64 .f32) : FVec Ideal S64x64 .f32 :=
  addf (mulf (K 0x3F7FBE77#32) V) (mulf (K 0x3A83126F#32) (mulf (REFG W) (REFG W)))

/-- The step as the reference computes it. -/
abbrev REFD (X : FVec Ideal S64x64 .f32) (W : FVec Ideal S8x64x64 .f32) (U V : FVec Ideal S64x64 .f32) : FVec Ideal S64x64 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x64x64 .bf16) : FVec Ideal S64x64 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The reference's sum at a place, its eight summands spelt out. -/
theorem ref_g (W : FVec Ideal S8x64x64 .f32) (i : S64x64.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S64x64.Idx) (i : S64x64.Idx) (h0 : (i 0 : ℕ) = y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S64x64.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S64x64.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S64x64.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel17Ideal_Reference17Ideal (hKernel17Ideal := Gen.facts) (hReference17Ideal := Cert.Reference17Ideal.Gen.facts) := by
  intro m ρ m' ρ' _ hag
  refine ⟨_, _, _, _, Cert.Kernel17Ideal.Value.run_blocks m ρ, (θ_run Cert.Reference17Ideal.defs _ _).mono (fun r h c => ?_) (Cert.Reference17Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWLora

end
-- ==== Proof.AdamWGateUp.lean ====
/- The optimiser step of the gate low-rank weight: the sum over the devices, the two moments and the step. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack

@[expose] public section

set_option maxRecDepth 16384

noncomputable section

namespace Cert.AdamWGateUp

open Idealize.ShloMosaic Idealize.ShloMosaic.TcCoe Idealize.SL.Sem
open Idealize.ShloMosaic.Pipeline (Dat)
open Cert.Kernel18Ideal Cert.Kernel18Ideal.Gen

variable (m : (ℓ : Loc nD τ sig) → Buf (Elt Ideal) ℓ)

/-- The sum of the devices' gradients as the reference computes it. -/
abbrev REFG (W : FVec Ideal S8x128x64 .f32) : FVec Ideal S128x64 .f32 :=
  Host.reduceAdd W (constant Cert.Reference18Ideal.S_ .f32 0x00000000#32) Cert.Reference18Ideal.Gen.reducesTo_S8x128x64_S128x64_d0 Cert.Reference18Ideal.Gen.h_S_

/-- A constant at every place, as the reference writes it. -/
abbrev K (b : BitVec 32) : FVec Ideal S128x64 .f32 := broadcastInDim S128x64 ![] Cert.Reference18Ideal.Gen.bcast_S_S128x64 (constant Cert.Reference18Ideal.S_ .f32 b)

/-- The new first moment as the reference computes it. -/
abbrev REFM (W : FVec Ideal S8x128x64 .f32) (U : FVec Ideal S128x64 .f32) : FVec Ideal S128x64 .f32 :=
  addf (mulf (K 0x3F666666#32) U) (mulf (K 0x3DCCCCCD#32) (REFG W))

/-- The new second moment as the reference computes it. -/
abbrev REFV (W : FVec Ideal S8x128x64 .f32) (V : FVec Ideal S128x64 .f32) : FVec Ideal S128x64 .f32 :=
  addf (mulf (K 0x3F7FBE77#32) V) (mulf (K 0x3A83126F#32) (mulf (REFG W) (REFG W)))

/-- The step as the reference computes it. -/
abbrev REFD (X : FVec Ideal S128x64 .f32) (W : FVec Ideal S8x128x64 .f32) (U V : FVec Ideal S128x64 .f32) : FVec Ideal S128x64 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x128x64 .bf16) : FVec Ideal S128x64 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The reference's sum at a place, its eight summands spelt out. -/
theorem ref_g (W : FVec Ideal S8x128x64 .f32) (i : S128x64.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S128x64.Idx) (i : S128x64.Idx) (h0 : (i 0 : ℕ) = y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S128x64.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S128x64.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S128x64.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel18Ideal_Reference18Ideal (hKernel18Ideal := Gen.facts) (hReference18Ideal := Cert.Reference18Ideal.Gen.facts) := by
  intro m ρ m' ρ' _ hag
  refine ⟨_, _, _, _, Cert.Kernel18Ideal.Value.run_blocks m ρ, (θ_run Cert.Reference18Ideal.defs _ _).mono (fun r h c => ?_) (Cert.Reference18Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWGateUp

end
-- ==== Proof.AdamWOut.lean ====
/- The optimiser step of the output projection: the sum over the devices, the two moments and the step. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack

@[expose] public section

set_option maxRecDepth 16384

noncomputable section

namespace Cert.AdamWOut

open Idealize.ShloMosaic Idealize.ShloMosaic.TcCoe Idealize.SL.Sem
open Idealize.ShloMosaic.Pipeline (Dat)
open Cert.Kernel19Ideal Cert.Kernel19Ideal.Gen

variable (m : (ℓ : Loc nD τ sig) → Buf (Elt Ideal) ℓ)

/-- The sum of the devices' gradients as the reference computes it. -/
abbrev REFG (W : FVec Ideal S8x128x1024 .f32) : FVec Ideal S128x1024 .f32 :=
  Host.reduceAdd W (constant Cert.Reference19Ideal.S_ .f32 0x00000000#32) Cert.Reference19Ideal.Gen.reducesTo_S8x128x1024_S128x1024_d0 Cert.Reference19Ideal.Gen.h_S_

/-- A constant at every place, as the reference writes it. -/
abbrev K (b : BitVec 32) : FVec Ideal S128x1024 .f32 := broadcastInDim S128x1024 ![] Cert.Reference19Ideal.Gen.bcast_S_S128x1024 (constant Cert.Reference19Ideal.S_ .f32 b)

/-- The new first moment as the reference computes it. -/
abbrev REFM (W : FVec Ideal S8x128x1024 .f32) (U : FVec Ideal S128x1024 .f32) : FVec Ideal S128x1024 .f32 :=
  addf (mulf (K 0x3F666666#32) U) (mulf (K 0x3DCCCCCD#32) (REFG W))

/-- The new second moment as the reference computes it. -/
abbrev REFV (W : FVec Ideal S8x128x1024 .f32) (V : FVec Ideal S128x1024 .f32) : FVec Ideal S128x1024 .f32 :=
  addf (mulf (K 0x3F7FBE77#32) V) (mulf (K 0x3A83126F#32) (mulf (REFG W) (REFG W)))

/-- The step as the reference computes it. -/
abbrev REFD (X : FVec Ideal S128x1024 .f32) (W : FVec Ideal S8x128x1024 .f32) (U V : FVec Ideal S128x1024 .f32) : FVec Ideal S128x1024 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x128x1024 .bf16) : FVec Ideal S128x1024 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The reference's sum at a place, its eight summands spelt out. -/
theorem ref_g (W : FVec Ideal S8x128x1024 .f32) (i : S128x1024.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S128x1024.Idx) (i : S128x1024.Idx) (h0 : (i 0 : ℕ) = y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S128x1024.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S128x1024.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S128x1024.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel19Ideal_Reference19Ideal (hKernel19Ideal := Gen.facts) (hReference19Ideal := Cert.Reference19Ideal.Gen.facts) := by
  intro m ρ m' ρ' _ hag
  refine ⟨_, _, _, _, Cert.Kernel19Ideal.Value.run_blocks m ρ, (θ_run Cert.Reference19Ideal.defs _ _).mono (fun r h c => ?_) (Cert.Reference19Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWOut

end
-- ==== Proof.AdamWUp.lean ====
/- The optimiser step of the up projection: the sum over the devices, the two moments and the step. -/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack

@[expose] public section

set_option maxRecDepth 16384

noncomputable section

namespace Cert.AdamWUp

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

/-- The sum of the devices' gradients as the reference computes it. -/
abbrev REFG (W : FVec Ideal S8x1024x512 .f32) : FVec Ideal S1024x512 .f32 :=
  Host.reduceAdd W (constant Cert.Reference20Ideal.S_ .f32 0x00000000#32) Cert.Reference20Ideal.Gen.reducesTo_S8x1024x512_S1024x512_d0 Cert.Reference20Ideal.Gen.h_S_

/-- A constant at every place, as the reference writes it. -/
abbrev K (b : BitVec 32) : FVec Ideal S1024x512 .f32 := broadcastInDim S1024x512 ![] Cert.Reference20Ideal.Gen.bcast_S_S1024x512 (constant Cert.Reference20Ideal.S_ .f32 b)

/-- The new first moment as the reference computes it. -/
abbrev REFM (W : FVec Ideal S8x1024x512 .f32) (U : FVec Ideal S1024x512 .f32) : FVec Ideal S1024x512 .f32 :=
  addf (mulf (K 0x3F666666#32) U) (mulf (K 0x3DCCCCCD#32) (REFG W))

/-- The new second moment as the reference computes it. -/
abbrev REFV (W : FVec Ideal S8x1024x512 .f32) (V : FVec Ideal S1024x512 .f32) : FVec Ideal S1024x512 .f32 :=
  addf (mulf (K 0x3F7FBE77#32) V) (mulf (K 0x3A83126F#32) (mulf (REFG W) (REFG W)))

/-- The step as the reference computes it. -/
abbrev REFD (X : FVec Ideal S1024x512 .f32) (W : FVec Ideal S8x1024x512 .f32) (U V : FVec Ideal S1024x512 .f32) : FVec Ideal S1024x512 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x256x512 .bf16) : FVec Ideal S256x512 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum at a place, its eight summands spelt out. -/
theorem ref_g (W : FVec Ideal S8x1024x512 .f32) (i : S1024x512.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S256x512.Idx) (i : S1024x512.Idx) (h0 : (i 0 : ℕ) = t.val * 256 + y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S256x512.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S256x512.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S256x512.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel20Ideal_Reference20Ideal (hKernel20Ideal := Gen.facts) (hReference20Ideal := Cert.Reference20Ideal.Gen.facts) := by
  intro m ρ m' ρ' _ hag
  refine ⟨_, _, _, _, Cert.Kernel20Ideal.Value.run_blocks m ρ, (θ_run Cert.Reference20Ideal.defs _ _).mono (fun r h c => ?_) (Cert.Reference20Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWUp

end
-- ==== Proof.AdamWDown.lean ====
/- The optimiser step of the down projection: the sum over the devices, the two moments and the step. -/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pipeline.ReadBack

@[expose] public section

set_option maxRecDepth 16384

noncomputable section

namespace Cert.AdamWDown

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

/-- The sum of the devices' gradients as the reference computes it. -/
abbrev REFG (W : FVec Ideal S8x512x1024 .f32) : FVec Ideal S512x1024 .f32 :=
  Host.reduceAdd W (constant Cert.Reference21Ideal.S_ .f32 0x00000000#32) Cert.Reference21Ideal.Gen.reducesTo_S8x512x1024_S512x1024_d0 Cert.Reference21Ideal.Gen.h_S_

/-- A constant at every place, as the reference writes it. -/
abbrev K (b : BitVec 32) : FVec Ideal S512x1024 .f32 := broadcastInDim S512x1024 ![] Cert.Reference21Ideal.Gen.bcast_S_S512x1024 (constant Cert.Reference21Ideal.S_ .f32 b)

/-- The new first moment as the reference computes it. -/
abbrev REFM (W : FVec Ideal S8x512x1024 .f32) (U : FVec Ideal S512x1024 .f32) : FVec Ideal S512x1024 .f32 :=
  addf (mulf (K 0x3F666666#32) U) (mulf (K 0x3DCCCCCD#32) (REFG W))

/-- The new second moment as the reference computes it. -/
abbrev REFV (W : FVec Ideal S8x512x1024 .f32) (V : FVec Ideal S512x1024 .f32) : FVec Ideal S512x1024 .f32 :=
  addf (mulf (K 0x3F7FBE77#32) V) (mulf (K 0x3A83126F#32) (mulf (REFG W) (REFG W)))

/-- The step as the reference computes it. -/
abbrev REFD (X : FVec Ideal S512x1024 .f32) (W : FVec Ideal S8x512x1024 .f32) (U V : FVec Ideal S512x1024 .f32) : FVec Ideal S512x1024 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x256x1024 .bf16) : FVec Ideal S256x1024 .f32 :=
  k0_pay4 (View.ld x1 r0_0) (View.ld x1 r0_1) (View.ld x1 r0_2) (View.ld x1 r0_3) (View.ld x1 r0_4) (View.ld x1 r0_5) (View.ld x1 r0_6) (View.ld x1 r0_7)

/-- Which blocks the windows take at each point. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum at a place, its eight summands spelt out. -/
theorem ref_g (W : FVec Ideal S8x512x1024 .f32) (i : S512x1024.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S256x1024.Idx) (i : S512x1024.Idx) (h0 : (i 0 : ℕ) = t.val * 256 + y 0) (h1 : (i 1 : ℕ) = y 1) : PG (iblk m c 1 t) y = REFG (m ((c : Thread nD τ).loc main_arg1)) i := by
  rw [ref_g]
  pointwise [PG, k0_pay4]
  blk_point [iblk, V, idx t, h0, h1]

/-- At a place of its block a point stores the new first moment the reference has at that place of the array. -/
theorem point_m (c : Dev nD) (t : Fin cfg0.N) (y : S256x1024.Idx) : k0_pay1 (PG (iblk m c 1 t)) (iblk m c 2 t) (Scalar.ofBits .f32 0x3F666666#32) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  generalize PG (iblk m c 1 t) = g at *
  unfold REFM
  generalize REFG (m ((c : Thread nD τ).loc main_arg1)) = r at *
  pointwise [K, k0_pay1]
  rw [hg]
  blk_point [iblk, V, idx t]

/-- At a place of its block a point stores the new second moment the reference has at that place of the array. -/
theorem point_v (c : Dev nD) (t : Fin cfg0.N) (y : S256x1024.Idx) : k0_pay2 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay2]
  rw [hg]
  blk_point [iblk, V, idx t]

/-- At a place of its block a point stores the step the reference has at that place of the array. -/
theorem point_d (c : Dev nD) (t : Fin cfg0.N) (y : S256x1024.Idx) : k0_pay3 (PG (iblk m c 1 t)) (iblk m c 2 t) (Scalar.ofBits .f32 0x3F666666#32) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  generalize PG (iblk m c 1 t) = g at *
  unfold REFD REFM REFV
  generalize REFG (m ((c : Thread nD τ).loc main_arg1)) = r at *
  pointwise [K, k0_pay3, k0_pay1, k0_pay2]
  rw [hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_d m c t y

/-- Both programs run from launches that agree on the arguments, and leave the same four results. -/
theorem value : Cert.algebraic_Kernel21Ideal_Reference21Ideal (hKernel21Ideal := Gen.facts) (hReference21Ideal := Cert.Reference21Ideal.Gen.facts) := by
  intro m ρ m' ρ' _ hag
  refine ⟨_, _, _, _, Cert.Kernel21Ideal.Value.run_blocks m ρ, (θ_run Cert.Reference21Ideal.defs _ _).mono (fun r h c => ?_) (Cert.Reference21Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamWDown

end
-- ==== Proof.AdamSmall.lean ====
/- The optimiser step of the packed small parameters: the sum over the devices, the two moments and the step. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pipeline.ReadBack

@[expose] public section

set_option maxRecDepth 16384

noncomputable section

namespace Cert.AdamSmall

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

/-- The sum of the devices' gradients as the reference computes it. -/
abbrev REFG (W : FVec Ideal S8x72x128 .f32) : FVec Ideal S72x128 .f32 :=
  Host.reduceAdd W (constant Cert.Reference22Ideal.S_ .f32 0x00000000#32) Cert.Reference22Ideal.Gen.reducesTo_S8x72x128_S72x128_d0 Cert.Reference22Ideal.Gen.h_S_

/-- A constant at every place, as the reference writes it. -/
abbrev K (b : BitVec 32) : FVec Ideal S72x128 .f32 := broadcastInDim S72x128 ![] Cert.Reference22Ideal.Gen.bcast_S_S72x128 (constant Cert.Reference22Ideal.S_ .f32 b)

/-- The new first moment as the reference computes it. -/
abbrev REFM (W : FVec Ideal S8x72x128 .f32) (U : FVec Ideal S72x128 .f32) : FVec Ideal S72x128 .f32 :=
  addf (mulf (K 0x3F666666#32) U) (mulf (K 0x3DCCCCCD#32) (REFG W))

/-- The new second moment as the reference computes it. -/
abbrev REFV (W : FVec Ideal S8x72x128 .f32) (V : FVec Ideal S72x128 .f32) : FVec Ideal S72x128 .f32 :=
  addf (mulf (K 0x3F7FBE77#32) V) (mulf (K 0x3A83126F#32) (mulf (REFG W) (REFG W)))

/-- The step as the reference computes it. -/
abbrev REFD (X : FVec Ideal S72x128 .f32) (W : FVec Ideal S8x72x128 .f32) (U V : FVec Ideal S72x128 .f32) : FVec Ideal S72x128 .f32 :=
  mulf (K 0xBA83126F#32) (addf (Host.divf (Host.divf (REFM W U) (K 0x3F26BD02#32)) (addf (Host.sqrt (Host.divf (REFV W V) (K 0x3C231ACC#32))) (K 0x322BCC77#32))) (mulf (K 0x3C23D70A#32) X))

/-- What a point sums, from its block of the parts. -/
abbrev PG (x1 : FVec Ideal S8x72x128 .f32) : FVec Ideal S72x128 .f32 :=
  k0_pay3 (View.ld x1 r0_0) (View.ld x1 r0_1) (View.ld x1 r0_2) (View.ld x1 r0_3) (View.ld x1 r0_4) (View.ld x1 r0_5) (View.ld x1 r0_6) (View.ld x1 r0_7)

/-- The first moment a point stores, from its blocks. -/
abbrev PM (x1 : FVec Ideal S8x72x128 .f32) (x2 : FVec Ideal S72x128 .f32) : FVec Ideal S72x128 .f32 :=
  k0_pay4 (View.ld x1 r0_0) (View.ld x1 r0_1) (View.ld x1 r0_2) (View.ld x1 r0_3) (View.ld x1 r0_4) (View.ld x1 r0_5) (View.ld x1 r0_6) (View.ld x1 r0_7) x2

/-- The first moment, from the sum. -/
theorem pm_eq (x1 : FVec Ideal S8x72x128 .f32) (x2 : FVec Ideal S72x128 .f32) (y : S72x128.Idx) : @Eq EReal (PM x1 x2 y) (Ideal.ofBits .f32 0x3F666666#32 * x2 y + Ideal.ofBits .f32 0x3DCCCCCD#32 * PG x1 y) := rfl

/-- Which blocks the windows take at each point. -/
theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The reference's sum at a place, its eight summands spelt out. -/
theorem ref_g (W : FVec Ideal S8x72x128 .f32) (i : S72x128.Idx) : @Eq EReal (REFG W i) (W (ix3 0 (i 0) (i 1)) + W (ix3 1 (i 0) (i 1)) + W (ix3 2 (i 0) (i 1)) + W (ix3 3 (i 0) (i 1)) + W (ix3 4 (i 0) (i 1)) + W (ix3 5 (i 0) (i 1)) + W (ix3 6 (i 0) (i 1)) + W (ix3 7 (i 0) (i 1))) := by
  pointwise [REFG]
  rw [Fin.sum_univ_eight]

/-- What a point sums, at a place of its block, is the reference's sum at that place of the array. -/
theorem point_g (c : Dev nD) (t : Fin cfg0.N) (y : S72x128.Idx) (i : S72x128.Idx) (h0 : (i 0 : ℕ) = y 0) (h1 : (i 1 : ℕ) = y 1) : PG (iblk m c 1 t) y = REFG (m ((c : Thread nD τ).loc main_arg1)) i := by
  rw [ref_g]
  pointwise [PG, k0_pay3]
  blk_point [iblk, V, idx t, h0, h1]

/-- At a place of its block a point stores the new first moment the reference has at that place of the array. -/
theorem point_m (c : Dev nD) (t : Fin cfg0.N) (y : S72x128.Idx) : PM (iblk m c 1 t) (iblk m c 2 t) y = REFM (m ((c : Thread nD τ).loc main_arg1)) (m ((c : Thread nD τ).loc main_arg2)) (((cfg0.win 6).blk t).view.emb y) := by
  have hg := point_g m c t y (((cfg0.win 6).blk t).view.emb y) (by blk_simp [idx t]) (by blk_simp [idx t])
  refine Eq.trans ( pm_eq (iblk m c 1 t) (iblk m c 2 t) y) ?_
  generalize PG (iblk m c 1 t) = g at *
  unfold REFM
  generalize REFG (m ((c : Thread nD τ).loc main_arg1)) = r at *
  pointwise [PM, k0_pay4]
  rw [hg]
  blk_point [iblk, V, idx t]

/-- At a place of its block a point stores the new second moment the reference has at that place of the array. -/
theorem point_v (c : Dev nD) (t : Fin cfg0.N) (y : S72x128.Idx) : k0_pay1 (PG (iblk m c 1 t)) (iblk m c 3 t) y = REFV (m ((c : Thread nD τ).loc main_arg1)) (m ((c : Thread nD τ).loc main_arg3)) (((cfg0.win 7).blk t).view.emb y) := by
  have hg := point_g m c t y (((cfg0.win 7).blk t).view.emb y) (by blk_simp [idx t]) (by blk_simp [idx t])
  generalize PG (iblk m c 1 t) = g at *
  unfold REFV
  generalize REFG (m ((c : Thread nD τ).loc main_arg1)) = r at *
  pointwise [K, k0_pay1]
  rw [hg]
  blk_point [iblk, V, idx t]

/-- At a place of its block a point stores the step the reference has at that place of the array. -/
theorem point_d (c : Dev nD) (t : Fin cfg0.N) (y : S72x128.Idx) : k0_pay2 (PG (iblk m c 1 t)) (PM (iblk m c 1 t) (iblk m c 2 t)) (iblk m c 3 t) (iblk m c 0 t) y = REFD (m ((c : Thread nD τ).loc main_arg0)) (m ((c : Thread nD τ).loc main_arg1)) (m ((c : Thread nD τ).loc main_arg2)) (m ((c : Thread nD τ).loc main_arg3)) (((cfg0.win 5).blk t).view.emb y) := by
  have hg := point_g m c t y (((cfg0.win 5).blk t).view.emb y) (by blk_simp [idx t]) (by blk_simp [idx t])
  have hp : PM (iblk m c 1 t) (iblk m c 2 t) y = _ := pm_eq (iblk m c 1 t) (iblk m c 2 t) y
  generalize PM (iblk m c 1 t) (iblk m c 2 t) = p at *
  generalize PG (iblk m c 1 t) = g at *
  unfold REFD REFM REFV
  generalize REFG (m ((c : Thread nD τ).loc main_arg1)) = r at *
  pointwise [K, k0_pay2, k0_pay1]
  rw [hp, hg]
  blk_point [iblk, V, idx t]

/-- The result array after the run holds the sum of the parts. -/
theorem final_g (c : Dev nD) : (dats m 0 c).arrAt 4 (cfgs 0).N = REFG (m ((c : Thread nD τ).loc main_arg1)) := by
  refine (dats m 0 c).arrAt_eq_of_covers 4 _ (by decide +kernel) fun t _ y => ?_
  blk_simp
  rw [after0_4]; unfold_out out0_4; frame_out
  exact point_g m c t y _ (by blk_simp [idx t]) (by blk_simp [idx t])

/-- The result array after the run holds the new first moment. -/
theorem final_m (c : Dev nD) : (dats m 0 c).arrAt 6 (cfgs 0).N = REFM (m ((c : Thread nD τ).loc main_arg1)) (m ((c : Thread nD τ).loc main_arg2)) := by
  refine (dats m 0 c).arrAt_eq_of_covers 6 _ (by decide +kernel) fun t _ y => ?_
  blk_simp
  rw [after0_6]; unfold_out out0_6; frame_out
  exact point_m m c t y

/-- The result array after the run holds the new second moment. -/
theorem final_v (c : Dev nD) : (dats m 0 c).arrAt 7 (cfgs 0).N = REFV (m ((c : Thread nD τ).loc main_arg1)) (m ((c : Thread nD τ).loc main_arg3)) := by
  refine (dats m 0 c).arrAt_eq_of_covers 7 _ (by decide +kernel) fun t _ y => ?_
  blk_simp
  rw [after0_7]; unfold_out out0_7; frame_out
  exact point_v m c t y

/-- The result array after the run holds the step. -/
theorem final_d (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold_out out0_5; frame_out
  exact point_d m c t y

/-- Both programs run from launches that agree on the arguments, and leave the same four results. -/
theorem value : Cert.algebraic_Kernel22Ideal_Reference22Ideal (hKernel22Ideal := Gen.facts) (hReference22Ideal := Cert.Reference22Ideal.Gen.facts) := by
  intro m ρ m' ρ' _ hag
  refine ⟨_, _, _, _, Cert.Kernel22Ideal.Value.run_blocks m ρ, (θ_run Cert.Reference22Ideal.defs _ _).mono (fun r h c => ?_) (Cert.Reference22Ideal.Value.run m' ρ')⟩
  obtain ⟨h0, h1, h2, h3, rest⟩ := h c
  refine ⟨h0.trans ?_, h1.trans ?_, h2.trans ?_, h3.trans ?_, rest⟩
  · rw [(hag c).2.1]
    exact (final_g m c).symm
  · rw [(hag c).1, (hag c).2.1, (hag c).2.2.1, (hag c).2.2.2]
    exact (final_d m c).symm
  · rw [(hag c).2.1, (hag c).2.2.1]
    exact (final_m m c).symm
  · rw [(hag c).2.1, (hag c).2.2.2]
    exact (final_v m c).symm

end Cert.AdamSmall

end
-- ==== Proof.Exchange.Prog.lean ====
/-
  The exchange, read as a short program: one local copy and seven copies to the peers, then the fifteen waits. Every
  device copies a block of its argument into its own slot of its own result and of each peer's.
-/
module

public import proofs.«01_k».proof.Proof.Gen.Kernel23.Launch
public import proofs.«01_k».proof.Proof.Gen.Kernel23.Skeleton
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Harness.Basic

@[expose] public section

noncomputable section

namespace Cert.Proof.Exchange

open Idealize.ShloMosaic Idealize.ShloMosaic.TcCoe
open Idealize.SL.Sem
open Idealize.ShloMosaic.RefSig (ofTc tcTables tileCredit tileCredit_eq_zero tileCredit_pos)
open Cert.Kernel23 (nD τ nBuf bufScoped semScoped dmaSemScoped grid0 k0_off1 k0_dev1 k0_dev2 k0_dev3 k0_dev4 k0_dev5 k0_dev6 k0_dev7)

/-- The shape and the element type of the block that one copy moves, `a` rows of `b` elements, and the shape of a
    device's argument. -/
class Size where
  a : ℕ
  b : ℕ
  e : EltTy
  pos : 0 < a * b
  given : Shape

variable [Size]

/-- The block, the eight blocks of a result, and one slot of them. -/
abbrev SX : Shape := ⟨2, ![Size.a, Size.b]⟩
abbrev SY : Shape := ⟨3, ![8, Size.a, Size.b]⟩
abbrev S1X : Shape := ⟨3, ![1, Size.a, Size.b]⟩

/-- The buffers: the argument and the result. -/
abbrev bufTy : (tb : Table) → Fin (tcTables nBuf tb) → BufTy
  | .hbm, ⟨0, _⟩ => ⟨Size.given, Size.e⟩
  | .hbm, ⟨1, _⟩ => ⟨SY, Size.e⟩
  | _, _ => ⟨Size.given, Size.e⟩
abbrev sig : RefSig := ofTc nBuf bufTy 0 15 bufScoped semScoped dmaSemScoped tileCredit tileCredit_eq_zero tileCredit_pos
abbrev main_arg0 : Ref sig .tc := ⟨.hbm, 0, rfl⟩
abbrev main_v1 : Ref sig .tc := ⟨.hbm, 1, rfl⟩

theorem off_0 : ∀ d : Dev nD, k0_off1 d 0 = d.val := by decide +kernel
theorem off_1 : ∀ d : Dev nD, k0_off1 d 1 = 0 := by decide +kernel
theorem off_2 : ∀ d : Dev nD, k0_off1 d 2 = 0 := by decide +kernel

/-- A slot is inside the result, -/
theorem inb (d : Dev nD) (x : Fin 3) : k0_off1 d x + S1X.size x ≤ SY.size x := by
  have h0 := off_0 d
  have h1 := off_1 d
  have h2 := off_2 d
  have hd : d.val < 8 := d.isLt
  match x with
  | 0 => show k0_off1 d 0 + 1 ≤ 8; omega
  | 1 => show k0_off1 d 1 + Size.a ≤ Size.a; omega
  | 2 => show k0_off1 d 2 + Size.b ≤ Size.b; omega
/-- and has a block's shape once its leading one is dropped. -/
theorem squeezes : S1X.Squeezes SX := by
  show Shape.dropsOnes [Size.b, Size.a, 1] [Size.b, Size.a] = true
  simp [Shape.dropsOnes]

variable {F : FTy → Type} [FloatOps F]

/-- The result as the kernel's reference. -/
abbrev yM : Memref sig .tc .hbm SY Size.e := Memref.whole main_v1
/-- Slot `d` of a result. -/
abbrev slotM (d : Dev nD) : Memref sig .tc .hbm SX Size.e :=
  (yM.slice (Rect.unit (s := SY) (k0_off1 d) S1X.size (inb d)) (fun _ => rfl)).squeeze SX squeezes

/-- A slot is whole rows of its result, so a copy through it is of whole words. -/
theorem slot_exact (d : Dev nD) : (slotM d).view.WordExact :=
  ((Memref.isWhole_whole main_v1).wordExact_slice rfl _ (Or.inr ⟨Nat.le_succ 2, rfl, off_1 d, rfl⟩)).reshape _ _

/-- Where the eight copies of a device read: copy 0 is the local one, copy `j + 1` the one to peer `j`. `share` is the
    share of the elements read that a copy takes, `block x p` what a device of argument `x` sends to device `p`. -/
class Source where
  src : Dev nD → Fin 8 → Memref sig .tc .hbm SX Size.e
  exact : ∀ c i, (src c i).view.WordExact
  share : Fin 8 → Idealize.SL.RA.PosShare Idealize.SL.RA.TreeShare
  block : {F : FTy → Type} → main_arg0.ty.Contents (Elt F) → Dev nD → (⟨SX, Size.e⟩ : BufTy).Contents (Elt F)

/-- The pipeline's names for a call without windows. -/
abbrev win0 : Fin 0 → Pipeline.Window sig grid0 := Fin.elim0
abbrev Λ₀ : Labels := ⟨Fin 1, fun | 0 => Fin grid0.N × ((w : Fin 0) → Fin (win0 w).nbuf) | ⟨_ + 1, h⟩ => absurd h (Nat.not_lt.2 (Nat.le_add_left _ _)), fun _ => PUnit⟩

/-- The `j`-th send cell, the `j`-th receive cell, and the local copy's cell, as numbers among the fifteen. -/
def snd (j : Fin 7) : Fin 15 := ⟨j.val, by omega⟩
def rcv (j : Fin 7) : Fin 15 := ⟨7 + j.val, by omega⟩
abbrev loc : Fin 15 := 14

/-- Device `c`'s `j`-th peer, as the kernel computes it. -/
def peer (j : Fin 7) (c : Dev nD) : Dev nD :=
  match j with
  | 0 => ⟨k0_dev1 c, Cert.Kernel23.Gen.k0_dev1_lt c⟩
  | 1 => ⟨k0_dev2 c, Cert.Kernel23.Gen.k0_dev2_lt c⟩
  | 2 => ⟨k0_dev3 c, Cert.Kernel23.Gen.k0_dev3_lt c⟩
  | 3 => ⟨k0_dev4 c, Cert.Kernel23.Gen.k0_dev4_lt c⟩
  | 4 => ⟨k0_dev5 c, Cert.Kernel23.Gen.k0_dev5_lt c⟩
  | 5 => ⟨k0_dev6 c, Cert.Kernel23.Gen.k0_dev6_lt c⟩
  | 6 => ⟨k0_dev7 c, Cert.Kernel23.Gen.k0_dev7_lt c⟩

/-- The peer's peer is the device itself. -/
theorem peer_peer (j : Fin 7) (c : Dev nD) : peer j (peer j c) = c := by revert j c; decide +kernel
/-- A device and its seven peers are the eight devices, -/
theorem univ_peers : ∀ c : Dev nD, (Finset.univ : Finset (Dev nD)) = (c :: (List.finRange 7).map (peer · c)).toFinset := by decide +kernel
/-- each once. -/
theorem nodup_peers : ∀ c : Dev nD, (c :: (List.finRange 7).map (peer · c)).Nodup := by decide +kernel

variable [Source]

/-- The copies to the peers `js`, then `k`. -/
def sends (c : Dev nD) (k : Prog (TpuEff nD τ sig (Elt F) Λ₀ .tc) PUnit) : List (Fin 7) → Prog (TpuEff nD τ sig (Elt F) Λ₀ .tc) PUnit
  | [] => k
  | j :: js => .op (.enqueueDma (Source.src c j.succ) (.remote (Dev.tc (peer j c)) (slotM c) (.dma (snd j))) (.dma (rcv j)) (Source.exact c j.succ)
      (slot_exact c) ⟨⟨rfl, Or.inl rfl⟩, trivial⟩) fun _ => sends c k js

/-- The two waits of each copy in `js`, then `k`. -/
def waits (c : Dev nD) (k : Prog (TpuEff nD τ sig (Elt F) Λ₀ .tc) PUnit) : List (Fin 7) → Prog (TpuEff nD τ sig (Elt F) Λ₀ .tc) PUnit
  | [] => k
  | j :: js => .op (.waitDma2 (snd j) (slotM c) (Source.src c j.succ) (slot_exact c) (Source.exact c j.succ)) fun _ =>
      .op (.waitDma2 (rcv j) (Source.src c j.succ) (slotM c) (Source.exact c j.succ) (slot_exact c)) fun _ => waits c k js

/-- The whole kernel on device `c`. -/
def prog (c : Dev nD) : Prog (TpuEff nD τ sig (Elt F) Λ₀ .tc) PUnit :=
  .op (.enqueueDma (Source.src c 0) (.here (slotM c)) (.dma loc) (Source.exact c 0) (slot_exact c) ⟨Or.inl rfl, trivial⟩) fun _ =>
  sends c (.op (.waitDma2 loc (Source.src c 0) (slotM c) (Source.exact c 0) (slot_exact c)) fun _ =>
    waits c (.ret ⟨⟩) (List.finRange 7)) (List.finRange 7)

/-- The program: its one call runs the kernel read off its device's number. -/
def defs₀ : Defs nD τ sig (Elt F) Λ₀ := Defs.onTc fun
  | 0, _ => .op .deviceId fun c => prog (F := F) c
  | ⟨_ + 1, h⟩, _ => absurd h (Nat.not_lt.2 (Nat.le_add_left _ _))
abbrev cfg0 : Pipeline.Cfg sig Λ₀ where
  grid := grid0
  W := 0
  win := win0
  body := 0
  bodyArgs t s := (t, s)
abbrev cfgs : Fin 1 → Pipeline.Cfg sig Λ₀ := fun _ => cfg0
abbrev pcfgs : Fin 1 → Pipeline.PCfg sig Λ₀ (Elt F) := fun p => (cfgs p).toPCfg
def defs : Defs nD τ sig (Elt F) (Pipeline.Sig Λ₀ (Fin 1) fun p => (pcfgs (F := F) p).Adm) := Pipeline.defs pcfgs defs₀
def main : Dev nD → Prog (TpuEff nD τ sig (Elt F) (Pipeline.Sig Λ₀ (Fin 1) fun p => (pcfgs (F := F) p).Adm) .tc) PUnit := fun _ =>
  .op (.customCall (Pipeline.entry 0) ()) fun _ => .ret ⟨⟩

end Cert.Proof.Exchange

end
-- ==== Proof.Exchange.Slots.lean ====
/-
  The slots of a result: slot `d` is the elements of first coordinate `d`; what a device's copy leaves in its slot.
-/
module

public import proofs.«01_k».proof.Proof.Exchange.Prog

@[expose] public section

noncomputable section

namespace Cert.Proof.Exchange

open Idealize.ShloMosaic Idealize.ShloMosaic.TcCoe
open Cert.Kernel23 (nD τ nBuf bufScoped semScoped dmaSemScoped grid0 k0_off1 k0_dev1 k0_dev2 k0_dev3 k0_dev4 k0_dev5 k0_dev6 k0_dev7)

variable [Size] {F : FTy → Type}

/-- Slot `d` is the elements whose first coordinate is `d`. -/
theorem mem_slot (d : Dev nD) (i : SY.Idx) : i ∈ (slotM d).view.set ↔ (i 0).val = d.val := by
  have h : ((slotM d).view.set : Finset SY.Idx) = (Rect.unit (s := SY) (k0_off1 d) S1X.size (inb d)).set :=
    ((((View.whole main_v1).slice _).set_reshape _).trans (View.set_slice_whole _ _) : _)
  refine (iff_of_eq (congrArg (fun S : Finset SY.Idx => i ∈ S) h)).trans ?_
  rw [Rect.mem_set_unit, Fin.forall_fin_succ, Fin.forall_fin_succ, Fin.forall_fin_succ]
  have h1 : (i 1).val < Size.a := (i 1).isLt
  have h2 : (i 2).val < Size.b := (i 2).isLt
  have e0 := off_0 d
  have e1 := off_1 d
  have e2 := off_2 d
  constructor
  · rintro ⟨⟨a, b⟩, -⟩
    have b' : (i 0).val < k0_off1 d 0 + 1 := b
    have a' : k0_off1 d 0 ≤ (i 0).val := a
    omega
  · intro e
    refine ⟨⟨?_, ?_⟩, ⟨?_, ?_⟩, ⟨?_, ?_⟩, fun k => k.elim0⟩
    · show k0_off1 d 0 ≤ (i 0).val; omega
    · show (i 0).val < k0_off1 d 0 + 1; omega
    · show k0_off1 d 1 ≤ (i 1).val; omega
    · show (i 1).val < k0_off1 d 1 + Size.a; omega
    · show k0_off1 d 2 ≤ (i 2).val; omega
    · show (i 2).val < k0_off1 d 2 + Size.b; omega

/-- The slot an element of a result is in. -/
def slotOf (i : SY.Idx) : Dev nD := ⟨(i 0).val, (i 0).isLt⟩

/-- Slot `d` as a set of elements of the result. -/
abbrev slotSet (d : Dev nD) : Finset SY.Idx := (slotM d).view.set

/-- Distinct slots have no element in common, -/
theorem slot_disjoint (d d' : Dev nD) (h : d ≠ d') : Disjoint (slotSet d) (slotSet d') :=
  Finset.disjoint_left.mpr fun i hi hi' => h (Fin.ext (((mem_slot d i).mp hi).symm.trans ((mem_slot d' i).mp hi')))
/-- and the slots make the whole result. -/
theorem slot_cover : Finset.univ.biUnion slotSet = Finset.univ :=
  Finset.eq_univ_of_forall fun i => Finset.mem_biUnion.mpr ⟨slotOf i, Finset.mem_univ _, (mem_slot (slotOf i) i).mpr rfl⟩

variable [Source] (m : (ℓ : Loc nD τ sig) → Buf (Elt F) ℓ)

/-- Row and lane of an element of a result. -/
def rowLane (i : SY.Idx) : SX.Idx := fun | 0 => i 1 | 1 => i 2

/-- Device `d`'s argument. -/
def arg (d : Dev nD) : main_arg0.ty.Contents (Elt F) := m ((d.tc : Thread nD τ).loc main_arg0)

/-- What device `p`'s result ends at: slot `d` what device `d` sends to `p`. -/
def gathered (p : Dev nD) : main_v1.ty.Contents (Elt F) := fun i => Source.block (arg m (slotOf i)) p (rowLane i)

/-- What device `d` sends to `p`, written into slot `d`, is there what `p`'s result ends at. -/
theorem written_eq (d p : Dev nD) (fd : main_v1.ty.Contents (Elt F)) (i : SY.Idx) (hi : i ∈ slotSet d) :
    (slotM d).view.write (Elt F) fd (Source.block (arg m d) p) Finset.univ i = gathered m p i := by
  obtain ⟨x, -, rfl⟩ := Finset.mem_map.mp hi
  refine (View.write_emb (v := (slotM d).view) fd _ Finset.univ x).trans ?_
  rw [if_pos (Finset.mem_univ _)]
  have e0 : slotOf ((slotM d).view.emb x) = d := Fin.ext ((mem_slot d _).mp hi)
  have e1 : rowLane ((slotM d).view.emb x) = x := by
    have h : ((slotM d).view.emb x : SY.Idx)
        = (Rect.unit (s := SY) (k0_off1 d) S1X.size (inb d)).emb (Fin.cons ⟨0, Nat.one_pos⟩ x) :=
      congrArg (Rect.unit (s := SY) (k0_off1 d) S1X.size (inb d)).emb
        (Shape.reshapeEquiv_cons_one (d := ![Size.a, Size.b]) squeezes.numel_eq x)
    rw [h]
    have o1 := off_1 d
    have o2 := off_2 d
    funext a
    match a with
    | 0 =>
      refine Fin.ext ?_
      show k0_off1 d 1 + 1 * (x 0).val = (x 0).val
      omega
    | 1 =>
      refine Fin.ext ?_
      show k0_off1 d 2 + 1 * (x 1).val = (x 1).val
      omega
  show _ = Source.block (arg m (slotOf ((slotM d).view.emb x))) p (rowLane ((slotM d).view.emb x))
  rw [e1, e0]
  rfl

end Cert.Proof.Exchange

end
-- ==== Proof.Exchange.Protocol.lean ====
/-
  The protocol of the exchange: one cell for every device and counter, one round and one payer for each cell. A copy
  pays its two cells what it has moved: the source's share back to its sender, the slot rewritten to its receiver.
-/
module

public import proofs.«01_k».proof.Proof.Exchange.Slots
public import Idealize.ShloMosaic.Lib.SparseCore.Stream
public import Idealize.ShloMosaic.Lib.Ring
public import Idealize.ShloMosaic.Lib.Pipeline.BigSepL

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Cert.Kernel23 (nD τ nBuf bufScoped semScoped dmaSemScoped grid0 k0_off1 k0_dev1 k0_dev2 k0_dev3 k0_dev4 k0_dev5 k0_dev6 k0_dev7)

variable [Size] [Source] {F : FTy → Type}

/-- Two copies of the rounds algebra: the pipeline's (unused, its grid has no window) and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-- Counter `k` of device `c`. -/
abbrev cell (c : Dev nD) (k : Fin 15) : GSem nD τ sig := ((c.tc : Thread nD τ), .dma k)

/-- What one copy moves, as the counters count it. -/
abbrev N : ℕ := (slotM 0).view.dmaCredit
theorem N_pos : 0 < N := View.dmaCredit_pos _ (by
  rw [show SX.numel = Size.a * Size.b from Fin.prod_univ_two _]; exact Size.pos)

/-- What copy `i` of device `c` takes of its argument, at what it held at launch. -/
def xP (c : Dev nD) (i : Fin 8) : sProp 𝕄 :=
  (Source.src c i).view.loc (c.tc : Thread nD τ) ↦[(Source.src c i).view.set]{Source.share i} m ((Source.src c i).view.loc (c.tc : Thread nD τ))
/-- Slot `d` of device `p`'s result at `f`. -/
def yP (p d : Dev nD) (f : main_v1.ty.Contents (Elt F)) : sProp 𝕄 :=
  (slotM d).view.loc (p.tc : Thread nD τ) ↦[(slotM d).view.set]{fullShare} f

/-- Where copy `i` of device `c` goes: home, or to a peer. -/
def dest (c : Dev nD) : Fin 8 → Dev nD
  | 0 => c
  | ⟨j + 1, h⟩ => peer ⟨j, Nat.lt_of_succ_lt_succ h⟩ c

/-- What the proof takes of the places read: a copy from each counts as much as one into a slot; what is read there is
    the block for where the copy goes; together the eight are the argument. -/
class Law : Prop where
  credit : ∀ c i, (Source.src c i).view.dmaCredit = N
  read : ∀ {F : FTy → Type} (m : (ℓ : Loc nD τ sig) → Buf (Elt F) ℓ) (c : Dev nD) (i : Fin 8),
    (Source.src c i).view.read (Elt F) (m ((Source.src c i).view.loc (c.tc : Thread nD τ))) = Source.block (arg m c) (dest c i)
  pieces : ∀ {F : FTy → Type} (m : (ℓ : Loc nD τ sig) → Buf (Elt F) ℓ) (c : Dev nD),
    (((c.tc : Thread nD τ).loc main_arg0) ↦{fullShare} arg m c : sProp (MT nD τ sig Unit (Elt F) ℕ UU ℕ))
      = iprop(xP m c 0 ∗ bigSep Finset.univ fun j : Fin 7 => xP m c j.succ)

/-- What the cell of counter `k` of device `c` is paid. -/
def pay (c : Dev nD) (k : Fin 15) : sProp 𝕄 :=
  if k.val < 7 then xP m c ⟨(k.val + 1) % 8, Nat.mod_lt _ (by decide)⟩
  else if k.val < 14 then yP c (peer ⟨(k.val - 7) % 7, Nat.mod_lt _ (by decide)⟩ c) (gathered m c)
  else iprop(yP c c (gathered m c) ∗ xP m c 0)

theorem pay_snd (c : Dev nD) (j : Fin 7) : pay m c (snd j) = xP m c j.succ := by
  unfold pay snd
  rw [if_pos j.isLt]
  congr 1
  exact Fin.ext (Nat.mod_eq_of_lt (by have := j.isLt; show j.val + 1 < 8; omega))
theorem pay_rcv (c : Dev nD) (j : Fin 7) : pay m c (rcv j) = yP c (peer j c) (gathered m c) := by
  unfold pay rcv
  rw [if_neg (by show ¬ (7 + j.val < 7); omega), if_pos (by have := j.isLt; show 7 + j.val < 14; omega)]
  congr 2
  exact Fin.ext (by have := j.isLt; show (7 + j.val - 7) % 7 = j.val; omega)
theorem pay_loc (c : Dev nD) : pay m c loc = iprop(yP c c (gathered m c) ∗ xP m c 0) := rfl

/-- One round, one payer, on every counter of every tensor core. -/
def Rd : Rounds.Schedule (GSem nD τ sig) Unit 𝕄 where
  duties g r := if r = 0 then {()} else ∅
  unitless _ := False
  amount _ _ _ := N
  payload g _ _ := match g.2 with | .dma k => pay m g.1.1 k | _ => iprop(emp)
  amount_pos _ _ _ _ := N_pos

instance Rd_storable (g : GSem nD τ sig) (r : ℕ) (d : Unit) : BI.Storable (upEmb : UEmb _ 𝕄) ((Rd (F := F) m).payload g r d) := by
  show BI.Storable upEmb (match g.2 with | .dma k => pay m g.1.1 k | _ => iprop(emp))
  unfold pay xP yP
  (repeat' split) <;> infer_instance

theorem duty (g : GSem nD τ sig) : () ∈ (Rd (F := F) m).duties g 0 := Finset.mem_singleton_self _
theorem expect_eq (g : GSem nD τ sig) : (Rd (F := F) m).expect g 0 = N := by
  show (Finset.sum _ fun _ => N) = N
  exact Finset.sum_singleton _ _
theorem rest_eq (c : Dev nD) (k : Fin 15) :
    bigSep ((Rd (F := F) m).duties (cell c k) 0 \ ∅) (fun d => (Rd (F := F) m).payload (cell c k) 0 d) = pay m c k := by
  rw [Finset.sdiff_empty, show (Rd (F := F) m).duties (cell c k) 0 = {()} from rfl, BI.bigSep_singleton]
  rfl

/-- A cell whose round is over is closed: its counter is back, at zero. -/
theorem close (κ : ℕ) (g : GSem nD τ sig) :
    iprop(cellInv ER (Rd m) κ g ∗ atPos ER g 1 ∅ 0) ⊢ (iprop(|={Set.univ}=> semVal g 0) : sProp 𝕄) :=
  Rounds.cell_close ER (Rd m) (Set.mem_univ κ) id fun r hr => if_neg (by omega)

/-- No call of the program is measured. -/
abbrev 𝒱₀ : Variants := Variants.none

/-- Every cell. -/
def cellEmb : Dev nD × Fin 15 ↪ GSem nD τ sig :=
  ⟨fun p => cell p.1 p.2, fun p q h => by
    have h1 : p.1 = q.1 := congrArg (fun g : GSem nD τ sig => g.1.1) h
    have h2 : (SemLoc.dma p.2 : SemLoc sig) = .dma q.2 := congrArg Prod.snd h
    exact Prod.ext h1 (SemLoc.dma.inj h2)⟩
def cells : Finset (GSem nD τ sig) := Finset.univ.map cellEmb
theorem mem_cells (c : Dev nD) (k : Fin 15) : cell c k ∈ cells := Finset.mem_map.mpr ⟨(c, k), Finset.mem_univ _, rfl⟩

/-- What every device knows: the cells' invariants, and that their only round has begun. -/
def records (κ : GSem nD τ sig → ℕ) : sProp 𝕄 :=
  iprop(bigSep cells (fun g => cellInv ER (Rd m) (κ g) g) ∗ bigSep cells (fun g => reached ER g 0))

instance records_persistent (κ : GSem nD τ sig → ℕ) : BI.Persistent (records m κ) := by
  unfold records; infer_instance

theorem records_cell (κ : GSem nD τ sig → ℕ) (c : Dev nD) (k : Fin 15) :
    records m κ ⊢ (iprop(cellInv ER (Rd m) (κ (cell c k)) (cell c k) ∗ reached ER (cell c k) 0) : sProp 𝕄) := by
  unfold records
  iintro ⟨#H1, #H2⟩
  isplitr
  · iapply (show bigSep cells (fun g => (cellInv ER (Rd m) (κ g) g : sProp 𝕄)) ⊢ cellInv ER (Rd m) (κ (cell c k)) (cell c k) from
      BI.bigSep_elim (Φ := fun g => (cellInv ER (Rd m) (κ g) g : sProp 𝕄)) (mem_cells c k)) $$ H1
  · iapply (show bigSep cells (fun g => (reached ER g 0 : sProp 𝕄)) ⊢ reached ER (cell c k) 0 from
      BI.bigSep_elim (Φ := fun g => (reached ER g 0 : sProp 𝕄)) (mem_cells c k)) $$ H2

/-! ## What a device owes and holds -/

/-- What device `c` has still to send, the copies to the peers `js` ahead. -/
def owe (c : Dev nD) : List (Fin 7) → CellTallies nD τ sig Unit
  | [] => 0
  | j :: js => owe c js + tallyAt (cell (peer j c) (rcv j)) () N

/-- What the copy to peer `j` takes: a piece of the argument, the slot at the peer, the two cells' tokens. -/
def sendRes (V : Dev nD → main_v1.ty.Contents (Elt F)) (c : Dev nD) (j : Fin 7) : sProp 𝕄 :=
  iprop(xP m c j.succ ∗ yP (peer j c) c (V (peer j c)) ∗ dutyTok ER (cell c (snd j)) 0 () ∗ dutyTok ER (cell (peer j c) (rcv j)) 0 ())
/-- What the two waits of peer `j` take. -/
def waitRes (c : Dev nD) (j : Fin 7) : sProp 𝕄 :=
  iprop(cred (tallyAt (cell c (rcv j)) () N) ∗ atPos ER (cell c (snd j)) 0 ∅ 0 ∗ atPos ER (cell c (rcv j)) 0 ∅ 0)
/-- What the two waits of peer `j` leave. -/
def waited (c : Dev nD) (j : Fin 7) : sProp 𝕄 :=
  iprop(xP m c j.succ ∗ yP c (peer j c) (gathered m c) ∗ semVal (cell c (snd j)) 0 ∗ semVal (cell c (rcv j)) 0)

variable [Law] [FloatOps F]

theorem written (c : Dev nD) (i : Fin 8) (fd : main_v1.ty.Contents (Elt F)) :
    ((slotM c).view.loc ((dest c i).tc : Thread nD τ) ↦[(slotM c).view.set]{fullShare}
        ((slotM c).view.write (Elt F) fd ((Source.src c i).view.read (Elt F) (m ((Source.src c i).view.loc (c.tc : Thread nD τ)))) Finset.univ))
      ⊢ (yP (dest c i) c (gathered m (dest c i)) : sProp 𝕄) := by
  unfold yP
  rw [Law.read]
  exact Entails.of_eq (pointsTo_congr fun x hx => written_eq m c (dest c i) fd x hx)

/-- The copies to the peers `js`: each pays the sender's cell its piece back and the peer's cell the slot rewritten. -/
theorem wp_sends (V : Dev nD → main_v1.ty.Contents (Elt F)) (κ : GSem nD τ sig → ℕ) (c : Dev nD)
    (k : Prog (TpuEff nD τ sig (Elt F) Λ₀ .tc) PUnit) (Kt : PUnit → sProp 𝕄) (W : Waits sig Unit) : ∀ js : List (Fin 7),
    iprop(records m κ ∗ bigSepL js (sendRes m V c) ∗ owes (c.tc : Thread nD τ) (owe c js) W)
      ⊢ iprop(((bigSepL js (fun j => cred (tallyAt (cell c (snd j)) () N)) ∗ owes (c.tc : Thread nD τ) 0 W)
            -∗ wp frame (wpE (defs₀ (F := F)) 𝒱₀ (c.tc : Thread nD τ) none) Set.univ k Kt)
          -∗ wp frame (wpE (defs₀ (F := F)) 𝒱₀ (c.tc : Thread nD τ) none) Set.univ (sends c k js) Kt)
  | [] => by
    iintro ⟨-, Hl, HO⟩ Hk
    iapply Hk
    isplitl [Hl]; · iexact Hl
    iexact HO
  | j :: js => by
    rw [bigSepL_cons', bigSepL_cons']
    unfold sends owe
    iintro ⟨#Hr, ⟨Hj, Hl⟩, HO⟩ Hk
    unfold sendRes
    icases Hj with ⟨Hx, Hy, HtS, HtR⟩
    ihave H1 := (records_cell m κ c (snd j)) $$ Hr
    icases H1 with ⟨#HIs, #HrS⟩
    ihave H2 := (records_cell m κ (peer j c) (rcv j)) $$ Hr
    icases H2 with ⟨#HIr, #HrR⟩
    unfold xP yP
    iapply (Rounds.wp_send_pointsTo 𝒱₀ ER (Rd m) (c.tc : Thread nD τ) none (c' := ((peer j c).tc : Thread nD τ)) (src := Source.src c j.succ) (dst := slotM c)
        (sS := .dma (snd j)) (sem := .dma (rcv j)) (q := Source.share j.succ) (fs := m ((Source.src c j.succ).view.loc (c.tc : Thread nD τ))) (κ₁ := κ (cell c (snd j))) (κ₂ := κ (cell (peer j c) (rcv j)))
        (r₁ := 0) (r₂ := 0) (d₁ := ()) (d₂ := ()) (fd := V (peer j c))
        (duty m _) (duty m _) () () N rfl rfl rfl (owe c js) rfl (W := W)
        (Entails.of_eq (pay_snd m c j).symm)
        ((written m c j.succ (V (peer j c))).trans (Entails.of_eq (by
          show _ = pay m (peer j c) (rcv j)
          rw [pay_rcv, peer_peer]
          rfl)))) $$ [Hx Hy HO HtS HtR]
    · isplitr; · iexact HIs
      isplitr; · iexact HIr
      isplitl [Hx]; · iexact Hx
      isplitl [Hy]; · iexact Hy
      isplitl [HO]; · iexact HO
      isplitl [HtS]; · iexact HtS
      isplitr; · iexact HrS
      isplitl [HtR]; · iexact HtR
      iexact HrR
    iintro ⟨Hc, HO⟩
    iapply (wp_sends V κ c k Kt W js) $$ [Hl HO]
    · isplitr; · iexact Hr
      isplitl [Hl]; · iexact Hl
      iexact HO
    iintro ⟨Hcs, HO⟩
    iapply Hk
    isplitr [HO]
    · isplitl [Hc]; · iexact Hc
      iexact Hcs
    iexact HO

/-- The two waits of each peer in `js`: the pieces come back, the slots come in, the counters are closed at zero. -/
theorem wp_waits (κ : GSem nD τ sig → ℕ) (c : Dev nD)
    (k : Prog (TpuEff nD τ sig (Elt F) Λ₀ .tc) PUnit) (Kt : PUnit → sProp 𝕄) : ∀ (js : List (Fin 7)) (W : Waits sig Unit),
    iprop(records m κ ∗ bigSepL js (fun j => cred (tallyAt (cell c (snd j)) () N)) ∗ bigSepL js (waitRes c) ∗ owes (c.tc : Thread nD τ) 0 W)
      ⊢ iprop(((bigSepL js (waited m c) ∗ ∃ W', owes (c.tc : Thread nD τ) 0 W')
            -∗ wp frame (wpE (defs₀ (F := F)) 𝒱₀ (c.tc : Thread nD τ) none) Set.univ k Kt)
          -∗ wp frame (wpE (defs₀ (F := F)) 𝒱₀ (c.tc : Thread nD τ) none) Set.univ (waits c k js) Kt)
  | [], W => by
    iintro ⟨-, -, Hl, HO⟩ Hk
    iapply Hk
    isplitl [Hl]; · iexact Hl
    iexists W; iexact HO
  | j :: js, W => by
    rw [bigSepL_cons', bigSepL_cons', bigSepL_cons']
    unfold waits
    iintro ⟨#Hr, ⟨HcS, Hcs⟩, ⟨Hj, Hl⟩, HO⟩ Hk
    unfold waitRes
    icases Hj with ⟨HcR, HaS, HaR⟩
    ihave H1 := (records_cell m κ c (snd j)) $$ Hr
    icases H1 with ⟨#HIs, -⟩
    ihave H2 := (records_cell m κ c (rcv j)) $$ Hr
    icases H2 with ⟨#HIr, -⟩
    iapply (Rounds.wp_wait_rest_token 𝒱₀ ER (Rd m) (c.tc : Thread nD τ) none (κ := κ (cell c (snd j)))
        (wpE_waitDma2_eq (src := slotM c) (dst := Source.src c j.succ) (hsrc := slot_exact c) (hdst := Source.exact c j.succ) 𝒱₀ (c.tc : Thread nD τ) none Set.univ) (Set.mem_univ _) () (O := 0) (W := W) (R := 0) (m := 0) (T := ∅)
        ((Nat.zero_add _).trans ((Law.credit c j.succ).trans (expect_eq m (cell c (snd j))).symm))) $$ [HcS HO HaS]
    · isplitr; · iexact HIs
      isplitl [HcS]; · iexact HcS
      isplitl [HO]; · iexact HO
      isplitr; · rw [MayWait_zero]; iempintro
      iexact HaS
    iintro ⟨HO, HaS, -, Hp⟩
    ihave HpS := (Entails.of_eq ((rest_eq m c (snd j)).trans (pay_snd m c j))) $$ Hp
    iapply (Rounds.wp_wait_rest_token 𝒱₀ ER (Rd m) (c.tc : Thread nD τ) none (κ := κ (cell c (rcv j)))
        (wpE_waitDma2_eq (src := Source.src c j.succ) (dst := slotM c) (hsrc := Source.exact c j.succ) (hdst := slot_exact c) 𝒱₀ (c.tc : Thread nD τ) none Set.univ) (Set.mem_univ _) () (O := 0)
        (W := insert (SemLoc.dma (snd j), ()) W) (R := 0) (m := 0) (T := ∅)
        ((Nat.zero_add _).trans (expect_eq m (cell c (rcv j))).symm)) $$ [HcR HO HaR]
    · isplitr; · iexact HIr
      isplitl [HcR]; · iexact HcR
      isplitl [HO]; · iexact HO
      isplitr; · rw [MayWait_zero]; iempintro
      iexact HaR
    iintro ⟨HO, HaR, -, Hp⟩
    ihave HpR := (Entails.of_eq ((rest_eq m c (rcv j)).trans (pay_rcv m c j))) $$ Hp
    iapply (fupd_wp frame (wpE (defs₀ (F := F)) 𝒱₀ (c.tc : Thread nD τ) none) Set.univ)
    imod (close m (κ (cell c (snd j))) (cell c (snd j))) $$ [HaS] with HsS
    · isplitr; · iexact HIs
      iexact HaS
    imod (close m (κ (cell c (rcv j))) (cell c (rcv j))) $$ [HaR] with HsR
    · isplitr; · iexact HIr
      iexact HaR
    imodintro
    iapply (wp_waits κ c k Kt js) $$ [Hcs Hl HO]
    · isplitr; · iexact Hr
      isplitl [Hcs]; · iexact Hcs
      isplitl [Hl]; · iexact Hl
      iexact HO
    iintro ⟨Hw, HO⟩
    iapply Hk
    isplitr [HO]
    · isplitr [Hw]
      · unfold waited
        isplitl [HpS]; · iexact HpS
        isplitl [HpR]; · iexact HpR
        isplitl [HsS]; · iexact HsS
        iexact HsR
      iexact Hw
    iexact HO

/-- What device `c` starts with: beside what every device knows, its own share of the tokens, slots and pieces. -/
def start (V : Dev nD → main_v1.ty.Contents (Elt F)) (c : Dev nD) : sProp 𝕄 :=
  iprop(xP m c 0 ∗ yP c c (V c) ∗ dutyTok ER (cell c loc) 0 () ∗ atPos ER (cell c loc) 0 ∅ 0
    ∗ bigSepL (List.finRange 7) (sendRes m V c) ∗ bigSepL (List.finRange 7) (waitRes c))
/-- What it ends with. -/
def done (c : Dev nD) : sProp 𝕄 :=
  iprop(xP m c 0 ∗ yP c c (gathered m c) ∗ semVal (cell c loc) 0 ∗ bigSepL (List.finRange 7) (waited m c))

/-- The kernel on device `c`. -/
theorem run_body (V : Dev nD → main_v1.ty.Contents (Elt F)) (κ : GSem nD τ sig → ℕ) (c : Dev nD) (W : Waits sig Unit) (Kt : PUnit → sProp 𝕄) :
    iprop(records m κ ∗ start m V c ∗ owes (c.tc : Thread nD τ) (owe c (List.finRange 7)) W)
      ⊢ iprop(((done m c ∗ ∃ W', owes (c.tc : Thread nD τ) 0 W') -∗ Kt ⟨⟩)
        -∗ wp frame (wpE (defs₀ (F := F)) 𝒱₀ (c.tc : Thread nD τ) none) Set.univ
          (.op .deviceId fun c => prog (F := F) c) Kt) := by
  rw [wp_deviceId]
  unfold start prog
  iintro ⟨#Hr, ⟨Hx, Hy, Ht, Ha, Hs, Hw⟩, HO⟩ Hk
  ihave H1 := (records_cell m κ c loc) $$ Hr
  icases H1 with ⟨#HI, #HR⟩
  unfold xP yP
  iapply (Rounds.wp_copy_pointsTo 𝒱₀ ER (Rd m) (c.tc : Thread nD τ) none (src := Source.src c 0) (dst := slotM c) (sem := .dma loc) (q := Source.share 0)
      (fs := m ((Source.src c 0).view.loc (c.tc : Thread nD τ))) (fd := V c) (r := 0) (d := ()) (κ := κ (cell c loc))
      (duty m _) () N rfl rfl
      (show _ ⊢ pay m c loc from (sep_mono_left (written m c 0 (V c))).trans (Entails.of_eq (pay_loc m c).symm))) $$ [Hx Hy Ht]
  · isplitr; · iexact HI
    isplitl [Hx]; · iexact Hx
    isplitl [Hy]; · iexact Hy
    isplitl [Ht]; · iexact Ht
    iexact HR
  iintro Hc
  iapply (wp_sends m V κ c _ Kt W (List.finRange 7)) $$ [Hs HO]
  · isplitr; · iexact Hr
    isplitl [Hs]; · iexact Hs
    iexact HO
  iintro ⟨Hcs, HO⟩
  iapply (Rounds.wp_wait_rest_token 𝒱₀ ER (Rd m) (c.tc : Thread nD τ) none (κ := κ (cell c loc))
      (wpE_waitDma2_eq (src := Source.src c 0) (dst := slotM c) (hsrc := Source.exact c 0) (hdst := slot_exact c) 𝒱₀ (c.tc : Thread nD τ) none Set.univ) (Set.mem_univ _) () (O := 0)
      (W := W) (R := 0) (m := 0) (T := ∅)
      ((Nat.zero_add _).trans (expect_eq m (cell c loc)).symm)) $$ [Hc HO Ha]
  · isplitr; · iexact HI
    isplitl [Hc]; · iexact Hc
    isplitl [HO]; · iexact HO
    isplitr; · rw [MayWait_zero]; iempintro
    iexact Ha
  iintro ⟨HO, Ha, -, Hp⟩
  ihave HpL := (Entails.of_eq ((rest_eq m c loc).trans (pay_loc m c))) $$ Hp
  icases HpL with ⟨Hy, Hx⟩
  iapply (wp_waits m κ c _ Kt (List.finRange 7)) $$ [Hcs Hw HO]
  · isplitr; · iexact Hr
    isplitl [Hcs]; · iexact Hcs
    isplitl [Hw]; · iexact Hw
    iexact HO
  iintro ⟨Hd, HO⟩
  rw [wp_ret]
  imod (close m (κ (cell c loc)) (cell c loc)) $$ [Ha] with Hs0
  · isplitr; · iexact HI
    iexact Ha
  imodintro
  iapply Hk
  isplitr [HO]
  · unfold done
    isplitl [Hx]; · iexact Hx
    isplitl [Hy]; · iexact Hy
    isplitl [Hs0]; · iexact Hs0
    iexact Hd
  iexact HO

end Cert.Proof.Exchange

end
-- ==== Proof.Exchange.Deal.lean ====
/-
  How the launch's holdings are dealt for the exchange: every device's result is cut in its eight slots and the slots
  handed to their senders; every argument in eight pieces; the tokens of the receive cells to the devices that pay them.
-/
module

public import proofs.«01_k».proof.Proof.Exchange.Protocol

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Cert.Kernel23 (nD τ nBuf bufScoped semScoped dmaSemScoped grid0 k0_off1 k0_dev1 k0_dev2 k0_dev3 k0_dev4 k0_dev5 k0_dev6 k0_dev7)

variable [Size] [Source] [Law] {F : FTy → Type}

local notation "𝕄" => MT nD τ sig Unit (Elt F) ℕ UU ℕ

variable (m : (ℓ : Loc nD τ sig) → Buf (Elt F) ℓ)

/-- The seven copies, as a list and as a type. -/
theorem seven_eq (Φ : Fin 7 → sProp 𝕄) : bigSepL (List.finRange 7) Φ = bigSep Finset.univ Φ :=
  (bigSep_univ_eq_bigSepL _ (by decide) (List.nodup_finRange 7) Φ).symm
/-- A family over the counters: the local copy's, the send cells', the receive cells'. -/
theorem counters_eq (Ψ : Fin 15 → sProp 𝕄) : bigSep Finset.univ Ψ
    = iprop(Ψ loc ∗ (bigSep Finset.univ fun j => Ψ (snd j)) ∗ bigSep Finset.univ fun j => Ψ (rcv j)) := by
  rw [bigSep_univ_eq_bigSepL (loc :: ((List.finRange 7).map snd ++ (List.finRange 7).map rcv)) (by decide) (by decide),
    bigSepL_cons', bigSepL_append, bigSepL_map, bigSepL_map, seven_eq, seven_eq]
/-- A family over the devices: one's own, and its peers'. -/
theorem peers_eq (Ψ : Dev nD → sProp 𝕄) (c : Dev nD) : bigSep Finset.univ Ψ = iprop(Ψ c ∗ bigSep Finset.univ fun j => Ψ (peer j c)) := by
  rw [bigSep_univ_eq_bigSepL _ (univ_peers c) (nodup_peers c), bigSepL_cons', bigSepL_map, seven_eq]

/-- Device and peer exchanged, its own inverse. -/
def swap : Dev nD × Fin 7 ≃ Dev nD × Fin 7 :=
  ⟨fun p => (peer p.2 p.1, p.2), fun p => (peer p.2 p.1, p.2), fun p => Prod.ext (peer_peer p.2 p.1) rfl, fun p => Prod.ext (peer_peer p.2 p.1) rfl⟩
/-- What is held for every device and peer is held with the two exchanged. -/
theorem around (Φ : Dev nD → Fin 7 → sProp 𝕄) :
    (bigSep Finset.univ fun c => bigSep Finset.univ fun j => Φ c j) = bigSep Finset.univ fun c => bigSep Finset.univ fun j => Φ (peer j c) j := by
  rw [← bigSep_univ_prod fun p : Dev nD × Fin 7 => Φ p.1 p.2, ← bigSep_univ_prod fun p : Dev nD × Fin 7 => Φ (peer p.2 p.1) p.2, bigSep_univ_equiv swap]
  rfl

theorem cells_eq (Φ : GSem nD τ sig → sProp 𝕄) : bigSep cells Φ = bigSep Finset.univ fun c => bigSep Finset.univ fun k => Φ (cell c k) := by
  unfold cells; rw [bigSep_map, bigSep_univ_prod]; rfl

/-- The one token of every cell. -/
def toks : Finset (GSem nD τ sig × ℕ × Unit) :=
  cells.map ⟨fun g => (g, 0, ()), fun _ _ h => congrArg Prod.fst h⟩
theorem toks_eq : bigSep toks (fun x => (dutyTok ER x.1 x.2.1 x.2.2 : sProp 𝕄))
    = bigSep Finset.univ fun c => bigSep Finset.univ fun k => dutyTok ER (cell c k) 0 () := by
  unfold toks; rw [bigSep_map, ← cells_eq fun g => (dutyTok ER g 0 () : sProp 𝕄)]; rfl

/-- A result, in its eight slots. -/
theorem y_split (p : Dev nD) (f : main_v1.ty.Contents (Elt F)) : (((p.tc : Thread nD τ).loc main_v1) ↦{fullShare} f : sProp 𝕄)
    = iprop(yP p p f ∗ bigSep Finset.univ fun j => yP p (peer j p) f) := by
  rw [← peers_eq (fun d => yP p d f) p]
  exact Ring.pointsTo_blocks (ℓ := (p.tc : Thread nD τ).loc main_v1) slotSet slot_disjoint slot_cover f

/-- Every counter is the kernel's own. -/
theorem all_scoped : ∀ sm : SemLoc sig, sm.isScoped .tc = true
  | .reg s => s.elim0
  | .dma k => (by decide : ∀ k : Fin 15, dmaSemScoped k = true) k
theorem scoped_eq : (Finset.univ.filter fun sm : SemLoc sig => sm.isScoped .tc) = Finset.univ.map ⟨SemLoc.dma, fun _ _ h => SemLoc.dma.inj h⟩ := by
  ext sm
  simp only [Finset.mem_filter, Finset.mem_univ, true_and, Finset.mem_map, Function.Embedding.coeFn_mk, all_scoped sm, true_iff]
  match sm with
  | .reg s => exact s.elim0
  | .dma k => exact ⟨k, rfl⟩
/-- A device's counters, all of them. -/
theorem sems_eq (c : Dev nD) : (scopedSems0 (c.tc : Thread nD τ) : sProp 𝕄) = bigSep Finset.univ fun k => semVal (cell c k) 0 := by
  rw [show (scopedSems0 (c.tc : Thread nD τ) : sProp 𝕄) = _ from scopedSems0_tc c, scoped_eq, bigSep_map]; rfl
/-- A device's two buffers. -/
theorem bufs_eq (c : Dev nD) (V : (b : Ref sig .tc) → Buf (Elt F) ((c.tc : Thread nD τ).loc b)) : (unscopedBufs c V : sProp 𝕄)
    = iprop((((c.tc : Thread nD τ).loc main_arg0) ↦{fullShare} V main_arg0) ∗ (((c.tc : Thread nD τ).loc main_v1) ↦{fullShare} V main_v1)) := by
  unfold unscopedBufs
  rw [bigSep_eq_bigSepL_of_eq [main_arg0, main_v1] (of_decide_eq_true rfl) (of_decide_eq_true rfl)]
  rfl

/-- What a device owes at launch. -/
abbrev O₀ (c : Dev nD) : CellTallies nD τ sig Unit := owe c (List.finRange 7)

theorem owe_apply (d c : Dev nD) (j : Fin 7) : ∀ js : List (Fin 7),
    owe d js (cell c (rcv j)) () = js.count j * (if d = peer j c then N else 0)
  | [] => by rw [List.count_nil, Nat.zero_mul]; rfl
  | i :: js => by
    have hi : (tallyAt (cell (peer i d) (rcv i)) () N : CellTallies nD τ sig Unit) (cell c (rcv j)) () = (if i = j then 1 else 0) * (if d = peer j c then N else 0) := by
      rw [tallyAt_apply]
      by_cases h : i = j
      · subst h
        rw [if_pos rfl, Nat.one_mul]
        by_cases h' : d = peer i c
        · subst h'; rw [peer_peer, if_pos ⟨rfl, rfl⟩, if_pos rfl]
        · rw [if_neg h', if_neg]
          rintro ⟨h1, -⟩
          have h2 : c = peer i d := congrArg (fun g : GSem nD τ sig => g.1.1) h1
          exact h' (by rw [h2, peer_peer])
      · rw [if_neg h, Nat.zero_mul, if_neg]
        rintro ⟨h1, -⟩
        have h2 : rcv j = rcv i := SemLoc.dma.inj (congrArg Prod.snd h1)
        have h3 : 7 + j.val = 7 + i.val := congrArg Fin.val h2
        exact h (Fin.ext (by omega))
    show owe d js (cell c (rcv j)) () + (tallyAt (cell (peer i d) (rcv i)) () N : CellTallies nD τ sig Unit) (cell c (rcv j)) () = _
    rw [owe_apply d c j js, hi, List.count_cons, Nat.add_mul]
    simp only [beq_iff_eq]

theorem launch_rcv (c : Dev nD) (j : Fin 7) :
    tallyOn (cell c (rcv j)) (launchCredit (Pipeline.owing O₀) 0 (cell c (rcv j))) = (tallyAt (cell c (rcv j)) () N : CellTallies nD τ sig Unit) := by
  unfold tallyAt; refine congrArg _ (Finsupp.ext fun u => ?_); cases u
  rw [Pipeline.launchCredit_owing, Finsupp.single_eq_same, Finset.sum_congr rfl fun d _ => (owe_apply d c j (List.finRange 7)).trans (by
      rw [List.count_eq_one_of_mem (List.nodup_finRange 7) (List.mem_finRange j), Nat.one_mul]),
    Finset.sum_ite_eq' Finset.univ (peer j c) fun _ => N, if_pos (Finset.mem_univ _)]

/-- The credit of the seven receive cells, out of the launch's. -/
theorem creds (c : Dev nD) :
    (Pipeline.launchCred O₀ c : sProp 𝕄) ⊢ bigSep Finset.univ fun j : Fin 7 => cred (tallyAt (cell c (rcv j)) () N) := by
  have hinj : Function.Injective fun j : Fin 7 => (SemLoc.dma (rcv j) : SemLoc sig) := fun i j h =>
    Fin.ext (Nat.add_left_cancel (congrArg Fin.val (SemLoc.dma.inj h)))
  unfold Pipeline.launchCred
  rw [bigSep_sdiff_split (Finset.subset_univ (Finset.univ.map ⟨_, hinj⟩)), bigSep_map]
  refine sep_elim_left.trans (Entails.of_eq (bigSep_congr fun j _ => ?_))
  exact congrArg cred (launch_rcv c j)

/-- The holdings of all the devices at launch, dealt. -/
theorem deal (V : Dev nD → main_v1.ty.Contents (Elt F)) :
    iprop((bigSep Finset.univ fun c : Dev nD => ((c.tc : Thread nD τ).loc main_arg0) ↦{fullShare} arg m c)
        ∗ (bigSep Finset.univ fun c : Dev nD => ((c.tc : Thread nD τ).loc main_v1) ↦{fullShare} V c)
        ∗ bigSep cells (fun g => atPos ER g 0 ∅ 0)
        ∗ bigSep toks (fun x => dutyTok ER x.1 x.2.1 x.2.2)
        ∗ bigSep Finset.univ (Pipeline.launchCred O₀))
      ⊢ (bigSep Finset.univ (start m V) : sProp 𝕄) := by
  have hy : (bigSep Finset.univ fun c : Dev nD => (((c.tc : Thread nD τ).loc main_v1) ↦{fullShare} V c : sProp 𝕄))
      = iprop((bigSep Finset.univ fun c => yP c c (V c)) ∗ bigSep Finset.univ fun c => bigSep Finset.univ fun j => yP (peer j c) c (V (peer j c))) := by
    rw [bigSep_congr fun c _ => y_split c (V c), bigSep_sep', around fun c j => yP c (peer j c) (V c)]
    simp only [peer_peer]
  have hx : (bigSep Finset.univ fun c : Dev nD => (((c.tc : Thread nD τ).loc main_arg0) ↦{fullShare} arg m c : sProp 𝕄))
      = iprop((bigSep Finset.univ fun c => xP m c 0) ∗ bigSep Finset.univ fun c => bigSep Finset.univ fun j : Fin 7 => xP m c j.succ) := by
    rw [bigSep_congr fun c _ => Law.pieces m c, bigSep_sep']
  have hat : bigSep cells (fun g => (atPos ER g 0 ∅ 0 : sProp 𝕄))
      = iprop((bigSep Finset.univ fun c => atPos ER (cell c loc) 0 ∅ 0) ∗ (bigSep Finset.univ fun c => bigSep Finset.univ fun j => atPos ER (cell c (snd j)) 0 ∅ 0)
          ∗ bigSep Finset.univ fun c => bigSep Finset.univ fun j => atPos ER (cell c (rcv j)) 0 ∅ 0) := by
    rw [cells_eq, bigSep_congr fun c _ => counters_eq fun k => (atPos ER (cell c k) 0 ∅ 0 : sProp 𝕄), bigSep_sep', bigSep_sep']
  have htk : bigSep toks (fun x => (dutyTok ER x.1 x.2.1 x.2.2 : sProp 𝕄))
      = iprop((bigSep Finset.univ fun c => dutyTok ER (cell c loc) 0 ()) ∗ (bigSep Finset.univ fun c => bigSep Finset.univ fun j => dutyTok ER (cell c (snd j)) 0 ())
          ∗ bigSep Finset.univ fun c => bigSep Finset.univ fun j => dutyTok ER (cell (peer j c) (rcv j)) 0 ()) := by
    rw [toks_eq, bigSep_congr fun c _ => counters_eq fun k => (dutyTok ER (cell c k) 0 () : sProp 𝕄), bigSep_sep', bigSep_sep',
      around fun c j => (dutyTok ER (cell c (rcv j)) 0 () : sProp 𝕄)]
  have hst : (bigSep Finset.univ (start m V) : sProp 𝕄)
      = iprop((bigSep Finset.univ fun c => xP m c 0) ∗ (bigSep Finset.univ fun c => yP c c (V c)) ∗ (bigSep Finset.univ fun c => dutyTok ER (cell c loc) 0 ())
        ∗ (bigSep Finset.univ fun c => atPos ER (cell c loc) 0 ∅ 0)
        ∗ ((bigSep Finset.univ fun c => bigSep Finset.univ fun j : Fin 7 => xP m c j.succ)
          ∗ (bigSep Finset.univ fun c => bigSep Finset.univ fun j => yP (peer j c) c (V (peer j c)))
          ∗ (bigSep Finset.univ fun c => bigSep Finset.univ fun j => dutyTok ER (cell c (snd j)) 0 ())
          ∗ bigSep Finset.univ fun c => bigSep Finset.univ fun j => dutyTok ER (cell (peer j c) (rcv j)) 0 ())
        ∗ (bigSep Finset.univ fun c => bigSep Finset.univ fun j => cred (tallyAt (cell c (rcv j)) () N))
          ∗ (bigSep Finset.univ fun c => bigSep Finset.univ fun j => atPos ER (cell c (snd j)) 0 ∅ 0)
          ∗ bigSep Finset.univ fun c => bigSep Finset.univ fun j => atPos ER (cell c (rcv j)) 0 ∅ 0) := by
    have h1 (c : Dev nD) : start m V c = (iprop(xP m c 0 ∗ yP c c (V c) ∗ dutyTok ER (cell c loc) 0 () ∗ atPos ER (cell c loc) 0 ∅ 0
        ∗ ((bigSep Finset.univ fun j : Fin 7 => xP m c j.succ) ∗ (bigSep Finset.univ fun j => yP (peer j c) c (V (peer j c)))
          ∗ (bigSep Finset.univ fun j => dutyTok ER (cell c (snd j)) 0 ()) ∗ bigSep Finset.univ fun j => dutyTok ER (cell (peer j c) (rcv j)) 0 ())
        ∗ (bigSep Finset.univ fun j => cred (tallyAt (cell c (rcv j)) () N)) ∗ (bigSep Finset.univ fun j => atPos ER (cell c (snd j)) 0 ∅ 0)
          ∗ bigSep Finset.univ fun j => atPos ER (cell c (rcv j)) 0 ∅ 0) : sProp 𝕄) := by
      unfold start sendRes waitRes
      rw [seven_eq, seven_eq, bigSep_sep', bigSep_sep', bigSep_sep', bigSep_sep', bigSep_sep']
    rw [bigSep_congr fun c _ => h1 c]
    simp only [bigSep_sep']
  rw [hx, hy, hat, htk, hst]
  iintro ⟨⟨X0, Xj⟩, ⟨Y0, Yj⟩, ⟨A0, As, Ar⟩, ⟨T0, Ts, Tr⟩, Hc⟩
  isplitl [X0]; · iexact X0
  isplitl [Y0]; · iexact Y0
  isplitl [T0]; · iexact T0
  isplitl [A0]; · iexact A0
  isplitl [Xj Yj Ts Tr]
  · isplitl [Xj]; · iexact Xj
    isplitl [Yj]; · iexact Yj
    isplitl [Ts]; · iexact Ts
    iexact Tr
  isplitl [Hc]; · iapply (show bigSep Finset.univ (Pipeline.launchCred O₀) ⊢ (bigSep Finset.univ fun c => bigSep Finset.univ fun j => cred (tallyAt (cell c (rcv j)) () N) : sProp 𝕄) from
      bigSep_mono fun c _ => creds (F := F) c) $$ Hc
  isplitl [As]; · iexact As
  iexact Ar

/-- What a device ends with: its argument whole and as it was, its result whole and gathered, its counters at zero. -/
theorem done_whole (c : Dev nD) : done m c
    ⊢ (iprop((((c.tc : Thread nD τ).loc main_arg0) ↦{fullShare} arg m c) ∗ (((c.tc : Thread nD τ).loc main_v1) ↦{fullShare} gathered m c)
        ∗ scopedSems0 (c.tc : Thread nD τ)) : sProp 𝕄) := by
  rw [Law.pieces, y_split, sems_eq, counters_eq]
  unfold done waited
  rw [seven_eq, bigSep_sep', bigSep_sep', bigSep_sep']
  iintro ⟨Hx, Hy, Hs, Hxs, Hys, Hss, Hsr⟩
  isplitl [Hx Hxs]; · isplitl [Hx] <;> iassumption
  isplitl [Hy Hys]; · isplitl [Hy] <;> iassumption
  isplitl [Hs]; · iexact Hs
  isplitl [Hss] <;> iassumption

end Cert.Proof.Exchange

end
-- ==== Proof.Exchange.Run.lean ====
/-
  The exchange run on the eight devices: from any memory with zero counters every run ends, every device's argument is
  unchanged, every result holds what the eight devices send to it slot by slot, and every counter is zero.
-/
module

public import proofs.«01_k».proof.Proof.Exchange.Deal
public import Idealize.ShloMosaic.Lib.Quiescent
public import Idealize.ShloMosaic.Lib.Pipeline.Launch

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg BodyObligation cellOf)
open Cert.Kernel23 (nD τ nBuf bufScoped semScoped dmaSemScoped grid0 k0_off1 k0_dev1 k0_dev2 k0_dev3 k0_dev4 k0_dev5 k0_dev6 k0_dev7)

variable [Size] [Source] [Law] {F : FTy → Type}

local notation "𝕄" => MT nD τ sig Unit (Elt F) ℕ UU ℕ

variable (m : (ℓ : Loc nD τ sig) → Buf (Elt F) ℓ) (ρ : Dev nD → PrngReg)

/-- What every result holds at launch. -/
def held (c : Dev nD) : main_v1.ty.Contents (Elt F) := m ((c.tc : Thread nD τ).loc main_v1)

/-- What device `c` brings to the kernel, and what it takes from it. -/
def X (c : Dev nD) : sProp 𝕄 := iprop(∃ κ, records m κ ∗ start m (held m) c)
def Y (c : Dev nD) : sProp 𝕄 :=
  iprop((((c.tc : Thread nD τ).loc main_arg0) ↦{fullShare} arg m c) ∗ (((c.tc : Thread nD τ).loc main_v1) ↦{fullShare} gathered m c))

variable [FloatOps F]

/-- The one call's data: no window; before its point the launch's deal is held and seven copies are owed, after it
    nothing is owed. -/
def dat (c : Dev nD) : Pipeline.Dat τ (Elt F) Unit ℕ UU ℕ cfg0 c where
  A w := w.elim0
  after w := w.elim0
  Φ t := if t.val = 0 then X m c else done m c
  q w := w.elim0
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ c => dat m c

/-- The call has no window, and the core no buffer of its own. -/
theorem cellOf_inj : Function.Injective (cellOf (nD := nD) (τ := τ) cfgs) := fun ⟨_, _, w, _⟩ => w.elim0
theorem winFacts0 : Pipeline.WinFacts cfg0.spec := of_decide_eq_true rfl
theorem stage_whole0 : ∀ (w : Fin 0) (s : Fin (cfg0.spec w).nbuf), ((cfg0.spec w).stage s).IsWhole := fun w => w.elim0
theorem scopedRest0_eq (c : Dev nD) : (Pipeline.scopedRest (Ix := Unit) (Name := ℕ) (U := UU) (Lvl := ℕ) (Val := Elt F) cfg0.spec c : sProp 𝕄) = (BI.emp : sProp 𝕄) :=
  Pipeline.scopedRest_eq_of_list cfg0.spec c [] (of_decide_eq_true rfl) (of_decide_eq_true rfl)

theorem none_eq {M : Type} [URA M] (Φ : Fin 0 → sProp M) : bigSep Finset.univ Φ = (BI.emp : sProp M) :=
  bigSep_univ_eq_bigSepL [] (by decide) (by decide) Φ

/-- The call prefetches no table. -/
theorem tables_eq (c : Dev nD) (q) (pf) : (Pipeline.prefHeld (Ix := Unit) (Name := ℕ) (U := UU) (Lvl := ℕ) (Val := Elt F) (pcfgs (F := F) 0).pre c q pf : sProp 𝕄) = BI.emp :=
  none_eq _

theorem owed_last (c : Dev nD) : (dat m c).owed (Fin.last _) = 0 := by
  show (if (Fin.last cfg0.N).val = 0 then O₀ c else 0) = 0
  rw [Fin.val_last, if_neg (by rw [show cfg0.N = 1 from Cert.Kernel23.Gen.N_0]; decide)]
theorem after_last (c : Dev nD) : (dat m c).Φ (Fin.last _) = done m c := by
  show (if (Fin.last cfg0.N).val = 0 then X m c else done m c) = _
  rw [Fin.val_last, if_neg (by rw [show cfg0.N = 1 from Cert.Kernel23.Gen.N_0]; decide)]

theorem owes_in (c : Dev nD) (t : Fin (cfg0.N + 1)) (O : CellTallies nD τ sig Unit) (h : (dat m c).owed t = O) (W : Waits sig Unit) :
    (owes (c.tc : Thread nD τ) O W : sProp 𝕄) ⊢ (dat m c).owesAt () t := by
  unfold Dat.owesAt Pipeline.owesWithin Dat.bound
  rw [h, show (dat m c).recorded t = Set.univ from rfl]
  iintro H; iexists W
  isplitr; · ipureintro; exact fun _ _ => Or.inl trivial
  iexact H
theorem owes_out (c : Dev nD) (t : Fin (cfg0.N + 1)) (O : CellTallies nD τ sig Unit) (h : (dat m c).owed t = O) :
    (dat m c).owesAt () t ⊢ (iprop(∃ W, owes (c.tc : Thread nD τ) O W) : sProp 𝕄) := by
  unfold Dat.owesAt Pipeline.owesWithin
  rw [h]
  iintro ⟨%W, -, H⟩; iexists W; iexact H

/-- The call's one point runs the kernel. -/
theorem body (c : Dev nD) : BodyObligation (dat m c) defs₀ 𝒱₀ () Set.univ := fun t => by
  obtain rfl := Cert.Kernel23.Gen.fin_N0 t
  rw [none_eq, none_eq]
  rw [show (dat m c).Φ Cert.Kernel23.Gen.t0_0.castSucc = X m c from rfl, show (dat m c).Φ Cert.Kernel23.Gen.t0_0.succ = done m c from rfl]
  unfold X
  iintro ⟨⟨%κ, #Hr, Hst⟩, HO, -⟩
  ihave HO' := (owes_out m c Cert.Kernel23.Gen.t0_0.castSucc (O₀ c) rfl) $$ HO
  icases HO' with ⟨%W, HO⟩
  iapply (run_body m (held m) κ c W _) $$ [Hst HO]
  · isplitr; · iexact Hr
    isplitl [Hst]; · iexact Hst
    iexact HO
  iintro ⟨Hd, ⟨%W', HO⟩⟩
  isplitl [Hd]; · iexact Hd
  isplitl [HO]; · iapply (owes_in m c Cert.Kernel23.Gen.t0_0.succ 0 (owed_last m c) W'); iexact HO
  iempintro

/-- The element of the resources' own component the launch starts from. -/
def u₀ : UU := (1, launchOf cells ∅ toks)

/-- What device `c` holds when it starts, and when it has ended. -/
def pre (c : Dev nD) : sProp 𝕄 := iprop(scopedBufs (c.tc : Thread nD τ) ∗ owes (c.tc : Thread nD τ) (O₀ c) ∅ ∗ X m c)
def fin (c : Dev nD) : sProp 𝕄 := iprop(Y m c ∗ scopedSems0 (c.tc : Thread nD τ))

/-- What one device's launch bundle gives. -/
theorem core (c : Dev nD) : coreInit (Ix := Unit) (Name := ℕ) (U := UU) (Lvl := ℕ) (Pipeline.owing O₀) 0 ⟨m, fun _ => 0, ρ⟩ (c.tc : Thread nD τ)
    ⊢ (iprop((scopedBufs (c.tc : Thread nD τ) ∗ owes (c.tc : Thread nD τ) (O₀ c) ∅)
        ∗ (bigSep Finset.univ fun k => semVal (cell c k) 0)
        ∗ (((c.tc : Thread nD τ).loc main_arg0) ↦{fullShare} arg m c) ∗ (((c.tc : Thread nD τ).loc main_v1) ↦{fullShare} held m c)
        ∗ Pipeline.launchCred O₀ c) : sProp 𝕄) := by
  refine (Pipeline.coreInit_boundary_owing O₀ m ρ c).trans ?_
  rw [bufs_eq, ← sems_eq]
  unfold boundary
  iintro ⟨⟨Hb, Hs, -⟩, ⟨Hx, Hy⟩, -, HO, -, -, Hc⟩
  isplitl [Hb HO]; · isplitl [Hb] <;> iassumption
  isplitl [Hs]; · iexact Hs
  isplitl [Hx]; · iexact Hx
  isplitl [Hy]; · iexact Hy
  iexact Hc

/-- The launch: the cells opened on every device at once, the holdings dealt. -/
theorem launch : iprop((bigSep Finset.univ fun d : Dev nD => coreInit (Ix := Unit) (Name := ℕ) (U := UU) (Lvl := ℕ) (Pipeline.owing O₀) 0 ⟨m, fun _ => 0, ρ⟩ d.tc) ∗ ownU u₀)
    ⊢ (iprop(|={Set.univ}=> ∃ _ : Unit, bigSep Finset.univ (pre m) ∗ emp) : sProp 𝕄) := by
  have hcs : (bigSep Finset.univ fun d : Dev nD => coreInit (Ix := Unit) (Name := ℕ) (U := UU) (Lvl := ℕ) (Pipeline.owing O₀) 0 ⟨m, fun _ => 0, ρ⟩ d.tc)
      ⊢ (iprop(((bigSep Finset.univ fun c : Dev nD => scopedBufs (c.tc : Thread nD τ)) ∗ bigSep Finset.univ fun c : Dev nD => owes (c.tc : Thread nD τ) (O₀ c) ∅)
        ∗ (bigSep Finset.univ fun c => bigSep Finset.univ fun k => semVal (cell c k) 0)
        ∗ (bigSep Finset.univ fun c : Dev nD => ((c.tc : Thread nD τ).loc main_arg0) ↦{fullShare} arg m c)
        ∗ (bigSep Finset.univ fun c : Dev nD => ((c.tc : Thread nD τ).loc main_v1) ↦{fullShare} held m c)
        ∗ bigSep Finset.univ (Pipeline.launchCred O₀)) : sProp 𝕄) := by
    refine (bigSep_mono fun c _ => core m ρ c).trans ?_
    simp only [bigSep_sep']
    exact BI.Entails.refl _
  iintro ⟨H, Hu⟩
  ihave H' := hcs $$ H
  icases H' with ⟨⟨Hb, HO⟩, Hs, Hx, Hy, Hc⟩
  unfold u₀
  ihave Hu' := (ownU_pair _ _) $$ Hu
  icases Hu' with ⟨-, Hu⟩
  imod (Rounds.fund_launch ER (Rd m) (S := cells) (Sd := ∅) (Finset.disjoint_empty_right _) (fun g h => absurd h (Finset.notMem_empty g)) toks) $$ [Hs Hu] with ⟨%κ, -, #Hinv, #Hr, Hat, -, Htok⟩
  · isplitl [Hs]
    · iapply (Entails.of_eq (cells_eq fun g => (semVal g 0 : sProp 𝕄)).symm) $$ Hs
    · iexact Hu
  ihave Hst := (deal m (held m)) $$ [Hx Hy Hat Htok Hc]
  · isplitl [Hx]; · iexact Hx
    isplitl [Hy]; · iexact Hy
    isplitl [Hat]; · iexact Hat
    isplitl [Htok]; · iexact Htok
    iexact Hc
  imodintro
  iexists ()
  isplitl
  · unfold pre
    simp only [bigSep_sep']
    isplitl [Hb]; · iexact Hb
    isplitl [HO]; · iexact HO
    iapply (bigSep_with_persistent (R := records m κ) (Φ := start m (held m)) (Ψ := X m) fun c _ => by
      unfold X; iintro ⟨#HR, H⟩; iexists κ; isplitr; · iexact HR
      iexact H)
    isplitr
    · unfold records
      isplitr
      · rw [Finset.union_empty]; iexact Hinv
      · iexact Hr
    iexact Hst
  · iempintro

theorem main_eq (c : Dev nD) : main (F := F) c = .op (.customCall (Pipeline.entry 0) ()) fun _ => .ret ⟨⟩ := rfl

/-- One device's run of the program: its one call. -/
theorem device (c : Dev nD) : pre m c ⊢ wp frame (wpE (Pipeline.defs pcfgs (defs₀ (F := F))) (Variants.lift 𝒱₀) (c.tc : Thread nD τ) none) Set.univ (main (F := F) c)
    (fun _ => post (liftTc (fin m) BI.emp) (c.tc : Thread nD τ)) := by
  have hsb : (scopedBufs (c.tc : Thread nD τ) : sProp 𝕄) = iprop(Dat.staging (Pipeline.pin (pcfgs (F := F)) adm 0) c ∗ Pipeline.scopedRest (cfg0.spec) c) :=
    Pipeline.scopedBufs_split (Pipeline.pin (pcfgs (F := F)) adm) 0 (winFacts0.stage_scoped) (winFacts0.stage_inj) stage_whole0 c
  rw [main_eq c]
  unfold pre
  iintro ⟨Hb, HO, HX⟩
  iapply (Pipeline.wp_customCall_entry (pcfgs (F := F)) adm (pdats m) () EP (fun _ => 0) cellOf_inj 0 defs₀ 𝒱₀ (fun _ => fullShare) c Set.univ (fun _ _ => Set.mem_univ _)
      (body m c).loose (fun w => w.elim0) none (fun u h => nomatch h) (X := X m c) (Y := iprop(Y m c)) (R := Pipeline.scopedRest (cfg0.spec) c)
      (Entails.of_eq hsb)
      (by
        show _ ⊢ X m c
        iintro ⟨H, -, -⟩; iexact H)
      (by
        rw [show (pdats m 0 c).Φ (Fin.last (Pipeline.pin (pcfgs (F := F)) adm 0).N) = done m c from after_last m c, hsb, scopedRest0_eq]
        unfold Y
        iintro ⟨Hd, -, Hs⟩
        ihave H := (done_whole m c) $$ Hd
        icases H with ⟨Hx, Hy, Hss⟩
        isplitl [Hx Hy]; · isplitl [Hx] <;> iassumption
        isplitl [Hss]; · iexact Hss
        isplitl [Hs]; · iexact Hs
        iempintro)
      (k := fun _ => .ret ⟨⟩) (Q := fun _ => post (liftTc (fin m) BI.emp) (c.tc : Thread nD τ))) $$ [Hb HO HX]
  · isplitl [HO]
    · unfold Pipeline.EntryPre Pipeline.PerCore.EntryPre
      isplitr; · rw [show (pdats m 0 c).arrays (fun w => (pdats m 0 c).arrAt w 0) = BI.emp from none_eq _]; iempintro
      isplitl [HO]; · iapply (owes_in m c 0 (O₀ c) rfl ∅); iexact HO
      isplitr; · rw [show Pipeline.PerCore.cellsWaits (fun _ => Pipeline.pin (pcfgs (F := F)) adm) (pdats m) () 0 c = BI.emp from none_eq _]; iempintro
      isplitr; · rw [show Pipeline.PerCore.cellsInit (fun _ => Pipeline.pin (pcfgs (F := F)) adm) (pdats m) EP (fun _ => 0) 0 c = BI.emp from none_eq _]; iempintro
      rw [show Pipeline.PerCore.toksInit (fun _ => Pipeline.pin (pcfgs (F := F)) adm) EP 0 c = BI.emp from none_eq _]; iempintro
    isplitr; · rw [tables_eq c]; iempintro
    isplitl [HX]; · iexact HX
    iexact Hb
  unfold Pipeline.EntryPost Pipeline.PerCore.EntryPost
  iintro ⟨⟨-, HO⟩, HY, Hss, -⟩
  rw [wp_ret]; imodintro
  unfold post; simp only [liftTc_tc]
  unfold fin
  isplitr [HO]
  · isplitl [HY]; · iexact HY
    iexact Hss
  · iapply (owes_out m c (Fin.last _) 0 (owed_last m c)); iexact HO

/-- THE RUN. -/
theorem run : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v1) = gathered m c) ∧ r.2.sem = fun _ => 0) := by
  classical
  refine (θ_run (Pipeline.defs pcfgs (defs₀ (F := F))) _ _).mono (Q := fun r => (∀ c : Dev nD, (r.2.mem ((c.tc : Thread nD τ).loc main_arg0) = arg m c
        ∧ r.2.mem ((c.tc : Thread nD τ).loc main_v1) = gathered m c)
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun g => sems_of_reads (fun c => (hr.1 c).2) hr.2 g
      (Or.inr (all_scoped g.2))⟩)
    (adequate_tpu (Pipeline.defs pcfgs (defs₀ (F := F))) _ _ _
    (reflect_intro_fupd_tc_sems (X := Unit) (Variants.lift 𝒱₀) (Pipeline.owing O₀) 0 (noBookings fun _ => le_rfl) (Pipeline.owing_of_ne O₀) u₀ (fun _ => pre m) (fun _ => fin m)
      (fun _ => iprop(emp)) Set.univ (launch m ρ) (fun _ c => device m c) fun _ => ?_))
  have hcore (c : Dev nD) (s' : Phys nD τ sig (Elt F)) : iprop(fin m c ∗ SI s') ⊢ (iprop(|={Set.univ}=>
      (⌜(s'.mem.mem ((c.tc : Thread nD τ).loc main_arg0) = arg m c ∧ s'.mem.mem ((c.tc : Thread nD τ).loc main_v1) = gathered m c)
        ∧ ∀ sm : SemLoc sig, sm.isScoped .tc = true → s'.mem.sem ((c.tc : Thread nD τ), sm) = 0⌝ ∗ SI s')) : sProp 𝕄) := by
    unfold fin Y
    iintro ⟨⟨⟨Hx, Hy⟩, Hss⟩, HSI⟩
    ihave %hz := (tcScoped_read_pers c s') $$ [Hss HSI]
    · isplitl [Hss] <;> iassumption
    icombine HSI Hx gives %hx
    icombine HSI Hy gives %hy
    imodintro
    isplitr
    · ipureintro; exact ⟨⟨Buf.eq_of_forall_mem_univ hx, Buf.eq_of_forall_mem_univ hy⟩, hz⟩
    · iexact HSI
  iintro ⟨H, -, Hsc⟩ %s' HSI
  ihave %hsc := (scSems_read_zero m ρ s') $$ [Hsc HSI]
  · isplitl [Hsc] <;> iassumption
  imod (posts_fupd Finset.univ hcore s') $$ [H HSI] with %h
  · isplitl [H] <;> iassumption
  imodintro
  ipureintro
  exact ⟨fun c => h c (Finset.mem_univ c), hsc⟩

end Cert.Proof.Exchange

end
-- ==== Proof.Exchange.Sources.lean ====
/-
  The two ways an exchange reads its argument. A gather sends every device the whole argument: each of the eight copies
  takes an eighth share of all of it. A hand-out sends every device the slot of the argument that is for it: each of
  the eight copies takes one slot.
-/
module

public import proofs.«01_k».proof.Proof.Exchange.Run
public import proofs.«01_k».proof.Kernel27

@[expose] public section

noncomputable section

namespace Cert.Proof.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode
open Cert.Kernel23 (nD τ k0_off1)
open Cert.Kernel27 (k0_off2)

/-! ## The gather -/

/-- The sizes of a gather: the argument is the block. -/
abbrev gatherSize (a b : ℕ) (e : EltTy) (pos : 0 < a * b) : Size := ⟨a, b, e, pos, ⟨2, ![a, b]⟩⟩

/-- Every copy of a gather reads the whole argument. -/
@[reducible] def gatherSource (a b : ℕ) (e : EltTy) (pos : 0 < a * b) : @Source (gatherSize a b e pos) :=
  letI := gatherSize a b e pos
  { src := fun _ _ => Memref.whole main_arg0
    exact := fun _ _ => (Memref.isWhole_whole main_arg0).wordExact
    share := piece fullShare 7
    block := fun x _ => x }

theorem gatherLaw (a b : ℕ) (e : EltTy) (pos : 0 < a * b) : @Law (gatherSize a b e pos) (gatherSource a b e pos) :=
  letI := gatherSize a b e pos
  letI := gatherSource a b e pos
  { credit := fun _ _ => rfl
    read := fun _ _ _ => rfl
    pieces := fun m c => by
      refine (pointsTo_pieces (ℓ := (c.tc : Thread nD τ).loc main_arg0) Finset.univ (arg m c) 7 fullShare).trans ?_
      rw [bigSep_univ_succ]
      unfold xP
      show _ = iprop((((c.tc : Thread nD τ).loc main_arg0) ↦[(View.whole main_arg0).set]{piece fullShare 7 0} arg m c)
        ∗ bigSep Finset.univ fun j : Fin 7 => (((c.tc : Thread nD τ).loc main_arg0) ↦[(View.whole main_arg0).set]{piece fullShare 7 j.succ} arg m c))
      rw [show (View.whole main_arg0).set = Finset.univ from View.set_whole _] }

/-! ## The hand-out -/

/-- The sizes of a hand-out: the argument is eight blocks. -/
abbrev handSize (a b : ℕ) (e : EltTy) (pos : 0 < a * b) : Size := ⟨a, b, e, pos, ⟨3, ![8, a, b]⟩⟩

/-- Where copy `i` of device `c` starts to read, as the kernel computes it. -/
def readOff (c : Dev nD) : Fin 8 → Fin 3 → ℕ
  | 0 => k0_off1 c
  | 1 => k0_off2 c 0#32 0#32 1#32
  | 2 => k0_off2 c 0#32 1#32 0#32
  | 3 => k0_off2 c 0#32 1#32 1#32
  | 4 => k0_off2 c 1#32 0#32 0#32
  | 5 => k0_off2 c 1#32 0#32 1#32
  | 6 => k0_off2 c 1#32 1#32 0#32
  | 7 => k0_off2 c 1#32 1#32 1#32

/-- Copy `i`'s destination, as a number. -/
def destNo (c : Dev nD) : Fin 8 → ℕ
  | 0 => c.val
  | ⟨j + 1, h⟩ => (peer ⟨j, Nat.lt_of_succ_lt_succ h⟩ c).val
theorem read_0 : ∀ (c : Dev nD) (i : Fin 8), readOff c i 0 = destNo c i := by decide +kernel
theorem read_1 : ∀ (c : Dev nD) (i : Fin 8), readOff c i 1 = 0 := by decide +kernel
theorem read_2 : ∀ (c : Dev nD) (i : Fin 8), readOff c i 2 = 0 := by decide +kernel
theorem destNo_lt : ∀ (c : Dev nD) (i : Fin 8), destNo c i < 8 := by decide +kernel
/-- The eight destinations are different, -/
theorem destNo_inj : ∀ (c : Dev nD) (i j : Fin 8), destNo c i = destNo c j → i = j := by decide +kernel
/-- and are all the devices. -/
theorem destNo_surj : ∀ (c : Dev nD) (d : Fin 8), ∃ i, destNo c i = d.val := by decide +kernel

section Hand

variable (a b : ℕ) (e : EltTy) (pos : 0 < a * b)

/-- A slot is inside the argument. -/
theorem read_inb (c : Dev nD) (i : Fin 8) (x : Fin 3) : readOff c i x + ![1, a, b] x ≤ ![8, a, b] x := by
  have h0 := read_0 c i
  have h1 := read_1 c i
  have h2 := read_2 c i
  have hd := destNo_lt c i
  match x with
  | 0 => show readOff c i 0 + 1 ≤ 8; omega
  | 1 => show readOff c i 1 + a ≤ a; omega
  | 2 => show readOff c i 2 + b ≤ b; omega

/-- What copy `i` of device `c` reads: the slot of its destination. -/
abbrev handM (c : Dev nD) (i : Fin 8) : Memref (@sig (handSize a b e pos)) .tc .hbm (@SX (handSize a b e pos)) e :=
  letI := handSize a b e pos
  ((Memref.whole main_arg0 : Memref sig .tc .hbm SY e).slice (Rect.unit (s := SY) (readOff c i) S1X.size (read_inb a b c i)) (fun _ => rfl)).squeeze SX squeezes

/-- Row and lane of a block, in slot `p` of the eight. -/
def inSlot (p : Dev nD) (y : (⟨2, ![a, b]⟩ : Shape).Idx) : (⟨3, ![8, a, b]⟩ : Shape).Idx := fun
  | 0 => ⟨p.val, p.isLt⟩
  | 1 => y 0
  | 2 => y 1

/-- Copy `i` of a hand-out reads its destination's slot. -/
@[reducible] def handSource : @Source (handSize a b e pos) :=
  letI := handSize a b e pos
  { src := fun c i => handM a b e pos c i
    exact := fun c i => ((Memref.isWhole_whole main_arg0).wordExact_slice rfl _ (Or.inr ⟨Nat.le_succ 2, rfl, read_1 c i, rfl⟩)).reshape _ _
    share := fun _ => fullShare
    block := fun x p y => x (inSlot a b p y) }

/-- The slot of copy `i` is the elements whose first coordinate is its destination. -/
theorem mem_hand (c : Dev nD) (k : Fin 8) (i : (⟨3, ![8, a, b]⟩ : Shape).Idx) :
    i ∈ ((handM a b e pos c k).view.set : Finset (⟨3, ![8, a, b]⟩ : Shape).Idx) ↔ (i 0).val = destNo c k := by
  letI := handSize a b e pos
  have h : ((handM a b e pos c k).view.set : Finset SY.Idx) = (Rect.unit (s := SY) (readOff c k) S1X.size (read_inb a b c k)).set :=
    ((((View.whole main_arg0).slice _).set_reshape _).trans (View.set_slice_whole _ _) : _)
  refine (iff_of_eq (congrArg (fun S : Finset SY.Idx => i ∈ S) h)).trans ?_
  rw [Rect.mem_set_unit, Fin.forall_fin_succ, Fin.forall_fin_succ, Fin.forall_fin_succ]
  have h1 : (i 1).val < a := (i 1).isLt
  have h2 : (i 2).val < b := (i 2).isLt
  have e0 := read_0 c k
  have e1 := read_1 c k
  have e2 := read_2 c k
  constructor
  · rintro ⟨⟨p, q⟩, -⟩
    have q' : (i 0).val < readOff c k 0 + 1 := q
    have p' : readOff c k 0 ≤ (i 0).val := p
    omega
  · intro e
    refine ⟨⟨?_, ?_⟩, ⟨?_, ?_⟩, ⟨?_, ?_⟩, fun k => k.elim0⟩
    · show readOff c k 0 ≤ (i 0).val; omega
    · show (i 0).val < readOff c k 0 + 1; omega
    · show readOff c k 1 ≤ (i 1).val; omega
    · show (i 1).val < readOff c k 1 + a; omega
    · show readOff c k 2 ≤ (i 2).val; omega
    · show (i 2).val < readOff c k 2 + b; omega

/-- The place of row and lane `x` in the slot of copy `i`. -/
theorem emb_hand (c : Dev nD) (i : Fin 8) (p : Dev nD) (hp : p.val = destNo c i) (x : (⟨2, ![a, b]⟩ : Shape).Idx) :
    ((handM a b e pos c i).view.emb x : (⟨3, ![8, a, b]⟩ : Shape).Idx) = inSlot a b p x := by
  letI := handSize a b e pos
  have h : ((handM a b e pos c i).view.emb x : SY.Idx)
      = (Rect.unit (s := SY) (readOff c i) S1X.size (read_inb a b c i)).emb (Fin.cons ⟨0, Nat.one_pos⟩ x) :=
    congrArg (Rect.unit (s := SY) (readOff c i) S1X.size (read_inb a b c i)).emb
      (Shape.reshapeEquiv_cons_one (d := ![a, b]) squeezes.numel_eq x)
  rw [h]
  have o0 := read_0 c i
  have o1 := read_1 c i
  have o2 := read_2 c i
  funext k
  match k with
  | 0 =>
    refine Fin.ext ?_
    show readOff c i 0 + 1 * 0 = p.val
    omega
  | 1 =>
    refine Fin.ext ?_
    show readOff c i 1 + 1 * (x 0).val = (x 0).val
    omega
  | 2 =>
    refine Fin.ext ?_
    show readOff c i 2 + 1 * (x 1).val = (x 1).val
    omega

theorem handLaw : @Law (handSize a b e pos) (handSource a b e pos) :=
  letI := handSize a b e pos
  letI := handSource a b e pos
  { credit := fun _ _ => rfl
    read := fun m c i => funext fun x =>
      congrArg (arg m c) (emb_hand a b e pos c i (dest c i) (match i with | 0 => rfl | ⟨_ + 1, _⟩ => rfl) x)
    pieces := fun m c => by
      rw [← bigSep_univ_succ (fun i : Fin 8 => xP m c i)]
      exact Ring.pointsTo_blocks (ℓ := (c.tc : Thread nD τ).loc main_arg0) (fun i : Fin 8 => (handM a b e pos c i).view.set)
        (fun i j h => Finset.disjoint_left.mpr fun x hx hy =>
          h (destNo_inj c i j (((mem_hand a b e pos c i x).mp hx).symm.trans ((mem_hand a b e pos c j x).mp hy))))
        (Finset.eq_univ_of_forall fun (x : SY.Idx) => by
          obtain ⟨i, hi⟩ := destNo_surj c ⟨(x 0).val, (x 0).isLt⟩
          exact Finset.mem_biUnion.mpr ⟨i, Finset.mem_univ _, (mem_hand a b e pos c i x).mpr hi.symm⟩)
        (arg m c) }

end Hand

end Cert.Proof.Exchange

end
-- ==== Proof.Gather.lean ====
/-
  The exchanges that gather: each printed kernel is the exchange's program at its own block's size, so it runs, and what
  it leaves on every device is its reference's result.
-/
module

public import proofs.«01_k».proof.Defs
public import proofs.«01_k».proof.Proof.Exchange.Sources
public import proofs.«01_k».proof.Proof.Gen.Kernel23
public import proofs.«01_k».proof.Proof.Gen.Kernel23Ideal
public import proofs.«01_k».proof.Proof.Gen.Reference23Ideal.Read
public import proofs.«01_k».proof.Proof.Gen.Kernel24
public import proofs.«01_k».proof.Proof.Gen.Kernel24Ideal
public import proofs.«01_k».proof.Proof.Gen.Reference24Ideal.Read
public import proofs.«01_k».proof.Proof.Gen.Kernel25
public import proofs.«01_k».proof.Proof.Gen.Kernel25Ideal
public import proofs.«01_k».proof.Proof.Gen.Reference25Ideal.Read
public import proofs.«01_k».proof.Proof.Gen.Kernel26
public import proofs.«01_k».proof.Proof.Gen.Kernel26Ideal
public import proofs.«01_k».proof.Proof.Gen.Reference26Ideal.Read

@[expose] public section

noncomputable section

open Idealize.ShloMosaic Idealize.ShloMosaic.TcCoe Idealize.SL.Sem

/-! The exchange `gather_small`: every device ends with the eight blocks of 72 rows of the whole array, one in each of
  the eight leading places. -/

namespace Cert.Proof.GatherSmall

/-- The block of one device: 72 rows of 128 elements. -/
abbrev size : Exchange.Size := Exchange.gatherSize 72 128 .f32 (by decide)
abbrev source : @Exchange.Source size := Exchange.gatherSource 72 128 .f32 (by decide)

section Kernel
open Cert.Kernel23

variable {F : FTy → Type} [FloatOps F]

set_option maxRecDepth 65536 in
/-- The printed kernel is the exchange's program at that size, -/
theorem body_eq : cc0_gather_small (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    the eight arguments slot by slot, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.gatherLaw _ _ _ _) F m ρ _

end Kernel

open Cert.Kernel23Ideal

/-- What every result ends at: slot `d` the argument of device `d`. -/
def gathered (m : (ℓ : Loc nD τ sig) → Buf (Elt Ideal) ℓ) : main_v1.ty.Contents (Elt Ideal) := @Exchange.gathered size Ideal source m 0

/-- The ideal program is the kernel read over the reals, so it runs as the kernel does. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = gathered m) ∧ r.2.sem = fun _ => 0) :=
  run (F := Ideal) m ρ

/-- If every device's argument is its block of rows of the whole array, then the arguments slot by slot are the whole
    array read in eight leading places. -/
theorem gathered_eq (m : (ℓ : Loc nD τ sig) → Buf (Elt Ideal) ℓ) (w : (⟨Cert.Reference23Ideal.S576x128, .f32⟩ : BufTy).Contents (Elt Ideal))
    (h : ∀ c : Dev nD, m ((c.tc : Thread nD τ).loc main_arg0) = Layout.block ⟨2, ![72, 128]⟩ ⟨2, ![576, 128]⟩ 0 8 c w) :
    gathered m = Cert.Reference23Ideal.Read.val_main_v0 (F := Ideal) w := by
  funext i
  rw [Cert.Reference23Ideal.Read.val_main_v0_apply]
  refine (congrFun (h (@Exchange.slotOf size i)) (@Exchange.rowLane size i)).trans ?_
  refine congrArg w (funext fun x => Fin.ext ?_)
  have h0 : (i 0).val < 8 := (i 0).isLt
  have h1 : (i 1).val < 72 := (i 1).isLt
  have h2 : (i 2).val < 128 := (i 2).isLt
  match x with
  | 0 =>
    show (i 0).val * 72 + (i 1).val = (((i 0).val * 72 + (i 1).val) * 128 + (i 2).val) / 128
    omega
  | 1 =>
    show (i 2).val = (((i 0).val * 72 + (i 1).val) * 128 + (i 2).val) % 128
    omega

/-- Both programs run, the exchange on eight devices and the reference on one; every device ends with the reference's
    result, and the arguments are unchanged. -/
theorem value : Cert.algebraic_Kernel23Ideal_Reference23Ideal (hKernel23Ideal := Cert.Kernel23Ideal.Gen.facts) (hReference23Ideal := Cert.Reference23Ideal.Gen.facts) := by
  intro m ρ m' ρ' _ hag
  refine ⟨_, (θ_run _ _ _).mono (fun r h c => ⟨(h.1 c).2, (h.1 c).1⟩) (ideal_run m ρ), (θ_run _ _ _).mono (fun r h => ⟨(h 0).1.trans ?_, (h 0).2⟩) (Cert.Reference23Ideal.Value.run m' ρ')⟩
  exact (gathered_eq m _ hag).symm

end Cert.Proof.GatherSmall

/-! The exchange of `w_out`: every device ends with the eight blocks of 128 rows of the whole array, one in each of the
  eight leading places. -/

namespace Cert.Proof.GatherOut

/-- The block of one device: 128 rows of 1024 elements. -/
abbrev size : Exchange.Size := Exchange.gatherSize 128 1024 .bf16 (by decide)
abbrev source : @Exchange.Source size := Exchange.gatherSource 128 1024 .bf16 (by decide)

section Kernel
open Cert.Kernel24

variable {F : FTy → Type} [FloatOps F]

set_option maxRecDepth 65536 in
/-- The printed kernel is the exchange's program at that size, -/
theorem body_eq : cc0_gather_w_out (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    the eight arguments slot by slot, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.gatherLaw _ _ _ _) F m ρ _

end Kernel

open Cert.Kernel24Ideal

/-- What every result ends at: slot `d` the argument of device `d`. -/
def gathered (m : (ℓ : Loc nD τ sig) → Buf (Elt Ideal) ℓ) : main_v1.ty.Contents (Elt Ideal) := @Exchange.gathered size Ideal source m 0

/-- The ideal program is the kernel read over the reals, so it runs as the kernel does. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = gathered m) ∧ r.2.sem = fun _ => 0) :=
  run (F := Ideal) m ρ

/-- If every device's argument is its block of rows of the whole array, then the arguments slot by slot are the whole
    array read in eight leading places. -/
theorem gathered_eq (m : (ℓ : Loc nD τ sig) → Buf (Elt Ideal) ℓ) (w : (⟨Cert.Reference24Ideal.S1024x1024, .bf16⟩ : BufTy).Contents (Elt Ideal))
    (h : ∀ c : Dev nD, m ((c.tc : Thread nD τ).loc main_arg0) = Layout.block ⟨2, ![128, 1024]⟩ ⟨2, ![1024, 1024]⟩ 0 8 c w) :
    gathered m = Cert.Reference24Ideal.Read.val_main_v0 (F := Ideal) w := by
  funext i
  rw [Cert.Reference24Ideal.Read.val_main_v0_apply]
  refine (congrFun (h (@Exchange.slotOf size i)) (@Exchange.rowLane size i)).trans ?_
  refine congrArg w (funext fun x => Fin.ext ?_)
  have h0 : (i 0).val < 8 := (i 0).isLt
  have h1 : (i 1).val < 128 := (i 1).isLt
  have h2 : (i 2).val < 1024 := (i 2).isLt
  match x with
  | 0 =>
    show (i 0).val * 128 + (i 1).val = (((i 0).val * 128 + (i 1).val) * 1024 + (i 2).val) / 1024
    omega
  | 1 =>
    show (i 2).val = (((i 0).val * 128 + (i 1).val) * 1024 + (i 2).val) % 1024
    omega

/-- Both programs run, the exchange on eight devices and the reference on one; every device ends with the reference's
    result, and the arguments are unchanged. -/
theorem value : Cert.algebraic_Kernel24Ideal_Reference24Ideal (hKernel24Ideal := Cert.Kernel24Ideal.Gen.facts) (hReference24Ideal := Cert.Reference24Ideal.Gen.facts) := by
  intro m ρ m' ρ' _ hag
  refine ⟨_, (θ_run _ _ _).mono (fun r h c => ⟨(h.1 c).2, (h.1 c).1⟩) (ideal_run m ρ), (θ_run _ _ _).mono (fun r h => ⟨(h 0).1.trans ?_, (h 0).2⟩) (Cert.Reference24Ideal.Value.run m' ρ')⟩
  exact (gathered_eq m _ hag).symm

end Cert.Proof.GatherOut

/-! The exchange of `w_up`: every device ends with the eight blocks of 512 columns of the whole array, one in each of the
  eight leading places. -/

namespace Cert.Proof.GatherUp

/-- The block of one device: 1024 rows of 512 elements. -/
abbrev size : Exchange.Size := Exchange.gatherSize 1024 512 .bf16 (by decide)
abbrev source : @Exchange.Source size := Exchange.gatherSource 1024 512 .bf16 (by decide)

section Kernel
open Cert.Kernel25

variable {F : FTy → Type} [FloatOps F]

set_option maxRecDepth 65536 in
/-- The printed kernel is the exchange's program at that size, -/
theorem body_eq : cc0_gather_w_up (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    the eight arguments slot by slot, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.gatherLaw _ _ _ _) F m ρ _

end Kernel

open Cert.Kernel25Ideal

/-- What every result ends at: slot `d` the argument of device `d`. -/
def gathered (m : (ℓ : Loc nD τ sig) → Buf (Elt Ideal) ℓ) : main_v1.ty.Contents (Elt Ideal) := @Exchange.gathered size Ideal source m 0

/-- The ideal program is the kernel read over the reals, so it runs as the kernel does. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = gathered m) ∧ r.2.sem = fun _ => 0) :=
  run (F := Ideal) m ρ

/-- If every device's argument is its block of columns of the whole array, then the arguments slot by slot are the
    whole array with its columns cut in eight and the eight cuts led to the front. -/
theorem gathered_eq (m : (ℓ : Loc nD τ sig) → Buf (Elt Ideal) ℓ) (w : (⟨Cert.Reference25Ideal.S1024x4096, .bf16⟩ : BufTy).Contents (Elt Ideal))
    (h : ∀ c : Dev nD, m ((c.tc : Thread nD τ).loc main_arg0) = Layout.block ⟨2, ![1024, 512]⟩ ⟨2, ![1024, 4096]⟩ 1 8 c w) :
    gathered m = Cert.Reference25Ideal.Read.val_main_v1 (F := Ideal) w := by
  funext i
  rw [Cert.Reference25Ideal.Read.val_main_v1_apply, Cert.Reference25Ideal.Read.val_main_v0_apply]
  refine (congrFun (h (@Exchange.slotOf size i)) (@Exchange.rowLane size i)).trans ?_
  refine congrArg w (funext fun x => Fin.ext ?_)
  have h0 : (i 0).val < 8 := (i 0).isLt
  have h1 : (i 1).val < 1024 := (i 1).isLt
  have h2 : (i 2).val < 512 := (i 2).isLt
  match x with
  | 0 =>
    show (i 1).val = (((i 1).val * 8 + (i 0).val) * 512 + (i 2).val) / 4096
    omega
  | 1 =>
    show (i 0).val * 512 + (i 2).val = (((i 1).val * 8 + (i 0).val) * 512 + (i 2).val) % 4096
    omega

/-- Both programs run, the exchange on eight devices and the reference on one; every device ends with the reference's
    result, and the arguments are unchanged. -/
theorem value : Cert.algebraic_Kernel25Ideal_Reference25Ideal (hKernel25Ideal := Cert.Kernel25Ideal.Gen.facts) (hReference25Ideal := Cert.Reference25Ideal.Gen.facts) := by
  intro m ρ m' ρ' _ hag
  refine ⟨_, (θ_run _ _ _).mono (fun r h c => ⟨(h.1 c).2, (h.1 c).1⟩) (ideal_run m ρ), (θ_run _ _ _).mono (fun r h => ⟨(h 0).1.trans ?_, (h 0).2⟩) (Cert.Reference25Ideal.Value.run m' ρ')⟩
  exact (gathered_eq m _ hag).symm

end Cert.Proof.GatherUp

/-! The exchange of `w_down`: every device ends with the eight blocks of 512 rows of the whole array, one in each of the
  eight leading places. -/

namespace Cert.Proof.GatherDown

/-- The block of one device: 512 rows of 1024 elements. -/
abbrev size : Exchange.Size := Exchange.gatherSize 512 1024 .bf16 (by decide)
abbrev source : @Exchange.Source size := Exchange.gatherSource 512 1024 .bf16 (by decide)

section Kernel
open Cert.Kernel26

variable {F : FTy → Type} [FloatOps F]

set_option maxRecDepth 65536 in
/-- The printed kernel is the exchange's program at that size, -/
theorem body_eq : cc0_gather_w_down (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    the eight arguments slot by slot, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.gatherLaw _ _ _ _) F m ρ _

end Kernel

open Cert.Kernel26Ideal

/-- What every result ends at: slot `d` the argument of device `d`. -/
def gathered (m : (ℓ : Loc nD τ sig) → Buf (Elt Ideal) ℓ) : main_v1.ty.Contents (Elt Ideal) := @Exchange.gathered size Ideal source m 0

/-- The ideal program is the kernel read over the reals, so it runs as the kernel does. -/
theorem ideal_run (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = gathered m) ∧ r.2.sem = fun _ => 0) :=
  run (F := Ideal) m ρ

/-- If every device's argument is its block of rows of the whole array, then the arguments slot by slot are the whole
    array read in eight leading places. -/
theorem gathered_eq (m : (ℓ : Loc nD τ sig) → Buf (Elt Ideal) ℓ) (w : (⟨Cert.Reference26Ideal.S4096x1024, .bf16⟩ : BufTy).Contents (Elt Ideal))
    (h : ∀ c : Dev nD, m ((c.tc : Thread nD τ).loc main_arg0) = Layout.block ⟨2, ![512, 1024]⟩ ⟨2, ![4096, 1024]⟩ 0 8 c w) :
    gathered m = Cert.Reference26Ideal.Read.val_main_v0 (F := Ideal) w := by
  funext i
  rw [Cert.Reference26Ideal.Read.val_main_v0_apply]
  refine (congrFun (h (@Exchange.slotOf size i)) (@Exchange.rowLane size i)).trans ?_
  refine congrArg w (funext fun x => Fin.ext ?_)
  have h0 : (i 0).val < 8 := (i 0).isLt
  have h1 : (i 1).val < 512 := (i 1).isLt
  have h2 : (i 2).val < 1024 := (i 2).isLt
  match x with
  | 0 =>
    show (i 0).val * 512 + (i 1).val = (((i 0).val * 512 + (i 1).val) * 1024 + (i 2).val) / 1024
    omega
  | 1 =>
    show (i 2).val = (((i 0).val * 512 + (i 1).val) * 1024 + (i 2).val) % 1024
    omega

/-- Both programs run, the exchange on eight devices and the reference on one; every device ends with the reference's
    result, and the arguments are unchanged. -/
theorem value : Cert.algebraic_Kernel26Ideal_Reference26Ideal (hKernel26Ideal := Cert.Kernel26Ideal.Gen.facts) (hReference26Ideal := Cert.Reference26Ideal.Gen.facts) := by
  intro m ρ m' ρ' _ hag
  refine ⟨_, (θ_run _ _ _).mono (fun r h c => ⟨(h.1 c).2, (h.1 c).1⟩) (ideal_run m ρ), (θ_run _ _ _).mono (fun r h => ⟨(h 0).1.trans ?_, (h 0).2⟩) (Cert.Reference26Ideal.Value.run m' ρ')⟩
  exact (gathered_eq m _ hag).symm

end Cert.Proof.GatherDown

end
-- ==== Proof.HandOut.lean ====
/-
  The exchanges that hand out: each printed kernel is the exchange's program at its own block's size, so it runs, and what
  it leaves on every device is that device's part of its reference's result.
-/
module

public import proofs.«01_k».proof.Defs
public import proofs.«01_k».proof.Proof.Exchange.Sources
public import proofs.«01_k».proof.Proof.Gen.Kernel27
public import proofs.«01_k».proof.Proof.Gen.Kernel27Ideal
public import proofs.«01_k».proof.Proof.Gen.Reference27Ideal.Read
public import proofs.«01_k».proof.Proof.Gen.Kernel28
public import proofs.«01_k».proof.Proof.Gen.Kernel28Ideal
public import proofs.«01_k».proof.Proof.Gen.Reference28Ideal.Read
public import proofs.«01_k».proof.Proof.Gen.Kernel29
public import proofs.«01_k».proof.Proof.Gen.Kernel29Ideal
public import proofs.«01_k».proof.Proof.Gen.Reference29Ideal.Read
public import proofs.«01_k».proof.Proof.Gen.Kernel30
public import proofs.«01_k».proof.Proof.Gen.Kernel30Ideal
public import proofs.«01_k».proof.Proof.Gen.Reference30Ideal.Read
public import proofs.«01_k».proof.Proof.Gen.Kernel31
public import proofs.«01_k».proof.Proof.Gen.Kernel31Ideal
public import proofs.«01_k».proof.Proof.Gen.Reference31Ideal.Read
public import proofs.«01_k».proof.Proof.Gen.Kernel32
public import proofs.«01_k».proof.Proof.Gen.Kernel32Ideal
public import proofs.«01_k».proof.Proof.Gen.Reference32Ideal.Read
public import proofs.«01_k».proof.Proof.Gen.Kernel33
public import proofs.«01_k».proof.Proof.Gen.Kernel33Ideal
public import proofs.«01_k».proof.Proof.Gen.Reference33Ideal.Read

@[expose] public section

noncomputable section

open Idealize.ShloMosaic Idealize.ShloMosaic.TcCoe Idealize.SL.Sem

/-! The handing out of the gradient of `w_out`: device `p` ends with block `p` of each of the eight devices' eight blocks of
  128 rows. -/

namespace Cert.Proof.HandOutOut

/-- What one device sends to another: 128 rows of 1024 elements. -/
abbrev size : Exchange.Size := Exchange.handSize 128 1024 .bf16 (by decide)
abbrev source : @Exchange.Source size := Exchange.handSource 128 1024 .bf16 (by decide)

section Kernel
open Cert.Kernel27

variable {F : FTy → Type} [FloatOps F]

set_option maxRecDepth 65536 in
/-- The printed kernel is the exchange's program at that size, -/
theorem body_eq : cc0_hand_out_w_out (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel27Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference27Ideal.S64x128x1024, .bf16⟩ : BufTy).Contents (Elt Ideal))
    (h : ∀ c : Dev nD, m ((c.tc : Thread nD τ).loc main_arg0) = Layout.block ⟨3, ![8, 128, 1024]⟩ ⟨3, ![64, 128, 1024]⟩ 0 8 c w) (p : Dev nD) :
    handed m p = Layout.block ⟨3, ![8, 128, 1024]⟩ ⟨3, ![64, 128, 1024]⟩ 0 8 p (Cert.Reference27Ideal.Read.val_main_v2 (F := Ideal) w) := by
  funext i
  rw [Layout.block_apply, Cert.Reference27Ideal.Read.val_main_v2_apply, Cert.Reference27Ideal.Read.val_main_v1_apply, Cert.Reference27Ideal.Read.val_main_v0_apply]
  refine (congrFun (h (@Exchange.slotOf size i)) (Exchange.inSlot 128 1024 p (@Exchange.rowLane size i))).trans ?_
  refine congrArg w (funext fun x => Fin.ext ?_)
  have h0 : (i 0).val < 8 := (i 0).isLt
  have h1 : (i 1).val < 128 := (i 1).isLt
  have h2 : (i 2).val < 1024 := (i 2).isLt
  have hp : p.val < 8 := p.isLt
  have q0 : (((p.val * 8 + (i 0).val) * 128 + (i 1).val) * 1024 + (i 2).val) / 1048576 = p.val := by omega
  have q1 : (((p.val * 8 + (i 0).val) * 128 + (i 1).val) * 1024 + (i 2).val) / 131072 % 8 = (i 0).val := by omega
  have q2 : (((p.val * 8 + (i 0).val) * 128 + (i 1).val) * 1024 + (i 2).val) / 1024 % 128 = (i 1).val := by omega
  have q3 : (((p.val * 8 + (i 0).val) * 128 + (i 1).val) * 1024 + (i 2).val) % 1024 = (i 2).val := by omega
  match x with
  | 0 =>
    show (i 0).val * 8 + p.val = ((((((p.val * 8 + (i 0).val) * 128 + (i 1).val) * 1024 + (i 2).val) / 131072 % 8 * 8 + (((p.val * 8 + (i 0).val) * 128 + (i 1).val) * 1024 + (i 2).val) / 1048576) * 128 + (((p.val * 8 + (i 0).val) * 128 + (i 1).val) * 1024 + (i 2).val) / 1024 % 128) * 1024 + (((p.val * 8 + (i 0).val) * 128 + (i 1).val) * 1024 + (i 2).val) % 1024) / 131072
    rw [q0, q1, q2, q3]; omega
  | 1 =>
    show (i 1).val = ((((((p.val * 8 + (i 0).val) * 128 + (i 1).val) * 1024 + (i 2).val) / 131072 % 8 * 8 + (((p.val * 8 + (i 0).val) * 128 + (i 1).val) * 1024 + (i 2).val) / 1048576) * 128 + (((p.val * 8 + (i 0).val) * 128 + (i 1).val) * 1024 + (i 2).val) / 1024 % 128) * 1024 + (((p.val * 8 + (i 0).val) * 128 + (i 1).val) * 1024 + (i 2).val) % 1024) / 1024 % 128
    rw [q0, q1, q2, q3]; omega
  | 2 =>
    show (i 2).val = ((((((p.val * 8 + (i 0).val) * 128 + (i 1).val) * 1024 + (i 2).val) / 131072 % 8 * 8 + (((p.val * 8 + (i 0).val) * 128 + (i 1).val) * 1024 + (i 2).val) / 1048576) * 128 + (((p.val * 8 + (i 0).val) * 128 + (i 1).val) * 1024 + (i 2).val) / 1024 % 128) * 1024 + (((p.val * 8 + (i 0).val) * 128 + (i 1).val) * 1024 + (i 2).val) % 1024) % 1024
    rw [q0, q1, q2, q3]; omega

/-- Both programs run, the exchange on eight devices and the reference on one; every device ends with its eight
    blocks of the reference's result, and the arguments are unchanged. -/
theorem value : Cert.algebraic_Kernel27Ideal_Reference27Ideal (hKernel27Ideal := Cert.Kernel27Ideal.Gen.facts) (hReference27Ideal := Cert.Reference27Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference27Ideal.Value.run m' ρ')⟩

end Cert.Proof.HandOutOut

/-! The handing out of the gradient of `w_up`: device `p` ends with block `p` of each of the eight devices' eight blocks of
  1024 rows. -/

namespace Cert.Proof.HandOutUp

/-- What one device sends to another: 1024 rows of 512 elements. -/
abbrev size : Exchange.Size := Exchange.handSize 1024 512 .bf16 (by decide)
abbrev source : @Exchange.Source size := Exchange.handSource 1024 512 .bf16 (by decide)

section Kernel
open Cert.Kernel28

variable {F : FTy → Type} [FloatOps F]

set_option maxRecDepth 65536 in
/-- The printed kernel is the exchange's program at that size, -/
theorem body_eq : cc0_hand_out_w_up (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel28Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference28Ideal.S64x1024x512, .bf16⟩ : BufTy).Contents (Elt Ideal))
    (h : ∀ c : Dev nD, m ((c.tc : Thread nD τ).loc main_arg0) = Layout.block ⟨3, ![8, 1024, 512]⟩ ⟨3, ![64, 1024, 512]⟩ 0 8 c w) (p : Dev nD) :
    handed m p = Layout.block ⟨3, ![8, 1024, 512]⟩ ⟨3, ![64, 1024, 512]⟩ 0 8 p (Cert.Reference28Ideal.Read.val_main_v2 (F := Ideal) w) := by
  funext i
  rw [Layout.block_apply, Cert.Reference28Ideal.Read.val_main_v2_apply, Cert.Reference28Ideal.Read.val_main_v1_apply, Cert.Reference28Ideal.Read.val_main_v0_apply]
  refine (congrFun (h (@Exchange.slotOf size i)) (Exchange.inSlot 1024 512 p (@Exchange.rowLane size i))).trans ?_
  refine congrArg w (funext fun x => Fin.ext ?_)
  have h0 : (i 0).val < 8 := (i 0).isLt
  have h1 : (i 1).val < 1024 := (i 1).isLt
  have h2 : (i 2).val < 512 := (i 2).isLt
  have hp : p.val < 8 := p.isLt
  have q0 : (((p.val * 8 + (i 0).val) * 1024 + (i 1).val) * 512 + (i 2).val) / 4194304 = p.val := by omega
  have q1 : (((p.val * 8 + (i 0).val) * 1024 + (i 1).val) * 512 + (i 2).val) / 524288 % 8 = (i 0).val := by omega
  have q2 : (((p.val * 8 + (i 0).val) * 1024 + (i 1).val) * 512 + (i 2).val) / 512 % 1024 = (i 1).val := by omega
  have q3 : (((p.val * 8 + (i 0).val) * 1024 + (i 1).val) * 512 + (i 2).val) % 512 = (i 2).val := by omega
  match x with
  | 0 =>
    show (i 0).val * 8 + p.val = ((((((p.val * 8 + (i 0).val) * 1024 + (i 1).val) * 512 + (i 2).val) / 524288 % 8 * 8 + (((p.val * 8 + (i 0).val) * 1024 + (i 1).val) * 512 + (i 2).val) / 4194304) * 1024 + (((p.val * 8 + (i 0).val) * 1024 + (i 1).val) * 512 + (i 2).val) / 512 % 1024) * 512 + (((p.val * 8 + (i 0).val) * 1024 + (i 1).val) * 512 + (i 2).val) % 512) / 524288
    rw [q0, q1, q2, q3]; omega
  | 1 =>
    show (i 1).val = ((((((p.val * 8 + (i 0).val) * 1024 + (i 1).val) * 512 + (i 2).val) / 524288 % 8 * 8 + (((p.val * 8 + (i 0).val) * 1024 + (i 1).val) * 512 + (i 2).val) / 4194304) * 1024 + (((p.val * 8 + (i 0).val) * 1024 + (i 1).val) * 512 + (i 2).val) / 512 % 1024) * 512 + (((p.val * 8 + (i 0).val) * 1024 + (i 1).val) * 512 + (i 2).val) % 512) / 512 % 1024
    rw [q0, q1, q2, q3]; omega
  | 2 =>
    show (i 2).val = ((((((p.val * 8 + (i 0).val) * 1024 + (i 1).val) * 512 + (i 2).val) / 524288 % 8 * 8 + (((p.val * 8 + (i 0).val) * 1024 + (i 1).val) * 512 + (i 2).val) / 4194304) * 1024 + (((p.val * 8 + (i 0).val) * 1024 + (i 1).val) * 512 + (i 2).val) / 512 % 1024) * 512 + (((p.val * 8 + (i 0).val) * 1024 + (i 1).val) * 512 + (i 2).val) % 512) % 512
    rw [q0, q1, q2, q3]; omega

/-- Both programs run, the exchange on eight devices and the reference on one; every device ends with its eight
    blocks of the reference's result, and the arguments are unchanged. -/
theorem value : Cert.algebraic_Kernel28Ideal_Reference28Ideal (hKernel28Ideal := Cert.Kernel28Ideal.Gen.facts) (hReference28Ideal := Cert.Reference28Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference28Ideal.Value.run m' ρ')⟩

end Cert.Proof.HandOutUp

/-! The handing out of the gradient of `w_down`: device `p` ends with block `p` of each of the eight devices' eight blocks of
  512 rows. -/

namespace Cert.Proof.HandOutDown

/-- What one device sends to another: 512 rows of 1024 elements. -/
abbrev size : Exchange.Size := Exchange.handSize 512 1024 .bf16 (by decide)
abbrev source : @Exchange.Source size := Exchange.handSource 512 1024 .bf16 (by decide)

section Kernel
open Cert.Kernel29

variable {F : FTy → Type} [FloatOps F]

set_option maxRecDepth 65536 in
/-- The printed kernel is the exchange's program at that size, -/
theorem body_eq : cc0_hand_out_w_down (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel29Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference29Ideal.S64x512x1024, .bf16⟩ : BufTy).Contents (Elt Ideal))
    (h : ∀ c : Dev nD, m ((c.tc : Thread nD τ).loc main_arg0) = Layout.block ⟨3, ![8, 512, 1024]⟩ ⟨3, ![64, 512, 1024]⟩ 0 8 c w) (p : Dev nD) :
    handed m p = Layout.block ⟨3, ![8, 512, 1024]⟩ ⟨3, ![64, 512, 1024]⟩ 0 8 p (Cert.Reference29Ideal.Read.val_main_v2 (F := Ideal) w) := by
  funext i
  rw [Layout.block_apply, Cert.Reference29Ideal.Read.val_main_v2_apply, Cert.Reference29Ideal.Read.val_main_v1_apply, Cert.Reference29Ideal.Read.val_main_v0_apply]
  refine (congrFun (h (@Exchange.slotOf size i)) (Exchange.inSlot 512 1024 p (@Exchange.rowLane size i))).trans ?_
  refine congrArg w (funext fun x => Fin.ext ?_)
  have h0 : (i 0).val < 8 := (i 0).isLt
  have h1 : (i 1).val < 512 := (i 1).isLt
  have h2 : (i 2).val < 1024 := (i 2).isLt
  have hp : p.val < 8 := p.isLt
  have q0 : (((p.val * 8 + (i 0).val) * 512 + (i 1).val) * 1024 + (i 2).val) / 4194304 = p.val := by omega
  have q1 : (((p.val * 8 + (i 0).val) * 512 + (i 1).val) * 1024 + (i 2).val) / 524288 % 8 = (i 0).val := by omega
  have q2 : (((p.val * 8 + (i 0).val) * 512 + (i 1).val) * 1024 + (i 2).val) / 1024 % 512 = (i 1).val := by omega
  have q3 : (((p.val * 8 + (i 0).val) * 512 + (i 1).val) * 1024 + (i 2).val) % 1024 = (i 2).val := by omega
  match x with
  | 0 =>
    show (i 0).val * 8 + p.val = ((((((p.val * 8 + (i 0).val) * 512 + (i 1).val) * 1024 + (i 2).val) / 524288 % 8 * 8 + (((p.val * 8 + (i 0).val) * 512 + (i 1).val) * 1024 + (i 2).val) / 4194304) * 512 + (((p.val * 8 + (i 0).val) * 512 + (i 1).val) * 1024 + (i 2).val) / 1024 % 512) * 1024 + (((p.val * 8 + (i 0).val) * 512 + (i 1).val) * 1024 + (i 2).val) % 1024) / 524288
    rw [q0, q1, q2, q3]; omega
  | 1 =>
    show (i 1).val = ((((((p.val * 8 + (i 0).val) * 512 + (i 1).val) * 1024 + (i 2).val) / 524288 % 8 * 8 + (((p.val * 8 + (i 0).val) * 512 + (i 1).val) * 1024 + (i 2).val) / 4194304) * 512 + (((p.val * 8 + (i 0).val) * 512 + (i 1).val) * 1024 + (i 2).val) / 1024 % 512) * 1024 + (((p.val * 8 + (i 0).val) * 512 + (i 1).val) * 1024 + (i 2).val) % 1024) / 1024 % 512
    rw [q0, q1, q2, q3]; omega
  | 2 =>
    show (i 2).val = ((((((p.val * 8 + (i 0).val) * 512 + (i 1).val) * 1024 + (i 2).val) / 524288 % 8 * 8 + (((p.val * 8 + (i 0).val) * 512 + (i 1).val) * 1024 + (i 2).val) / 4194304) * 512 + (((p.val * 8 + (i 0).val) * 512 + (i 1).val) * 1024 + (i 2).val) / 1024 % 512) * 1024 + (((p.val * 8 + (i 0).val) * 512 + (i 1).val) * 1024 + (i 2).val) % 1024) % 1024
    rw [q0, q1, q2, q3]; omega

/-- Both programs run, the exchange on eight devices and the reference on one; every device ends with its eight
    blocks of the reference's result, and the arguments are unchanged. -/
theorem value : Cert.algebraic_Kernel29Ideal_Reference29Ideal (hKernel29Ideal := Cert.Kernel29Ideal.Gen.facts) (hReference29Ideal := Cert.Reference29Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference29Ideal.Value.run m' ρ')⟩

end Cert.Proof.HandOutDown

/-! The handing out of the gradient of `w_in`: device `p` ends with block `p` of each of the eight devices' eight blocks of
  1024 rows. -/

namespace Cert.Proof.HandOutIn

/-- What one device sends to another: 1024 rows of 416 elements. -/
abbrev size : Exchange.Size := Exchange.handSize 1024 416 .bf16 (by decide)
abbrev source : @Exchange.Source size := Exchange.handSource 1024 416 .bf16 (by decide)

section Kernel
open Cert.Kernel30

variable {F : FTy → Type} [FloatOps F]

set_option maxRecDepth 65536 in
/-- The printed kernel is the exchange's program at that size, -/
theorem body_eq : cc0_hand_out_w_in (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel30Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference30Ideal.S64x1024x416, .bf16⟩ : BufTy).Contents (Elt Ideal))
    (h : ∀ c : Dev nD, m ((c.tc : Thread nD τ).loc main_arg0) = Layout.block ⟨3, ![8, 1024, 416]⟩ ⟨3, ![64, 1024, 416]⟩ 0 8 c w) (p : Dev nD) :
    handed m p = Layout.block ⟨3, ![8, 1024, 416]⟩ ⟨3, ![64, 1024, 416]⟩ 0 8 p (Cert.Reference30Ideal.Read.val_main_v2 (F := Ideal) w) := by
  funext i
  rw [Layout.block_apply, Cert.Reference30Ideal.Read.val_main_v2_apply, Cert.Reference30Ideal.Read.val_main_v1_apply, Cert.Reference30Ideal.Read.val_main_v0_apply]
  refine (congrFun (h (@Exchange.slotOf size i)) (Exchange.inSlot 1024 416 p (@Exchange.rowLane size i))).trans ?_
  refine congrArg w (funext fun x => Fin.ext ?_)
  have h0 : (i 0).val < 8 := (i 0).isLt
  have h1 : (i 1).val < 1024 := (i 1).isLt
  have h2 : (i 2).val < 416 := (i 2).isLt
  have hp : p.val < 8 := p.isLt
  have q0 : (((p.val * 8 + (i 0).val) * 1024 + (i 1).val) * 416 + (i 2).val) / 3407872 = p.val := by omega
  have q1 : (((p.val * 8 + (i 0).val) * 1024 + (i 1).val) * 416 + (i 2).val) / 425984 % 8 = (i 0).val := by omega
  have q2 : (((p.val * 8 + (i 0).val) * 1024 + (i 1).val) * 416 + (i 2).val) / 416 % 1024 = (i 1).val := by omega
  have q3 : (((p.val * 8 + (i 0).val) * 1024 + (i 1).val) * 416 + (i 2).val) % 416 = (i 2).val := by omega
  match x with
  | 0 =>
    show (i 0).val * 8 + p.val = ((((((p.val * 8 + (i 0).val) * 1024 + (i 1).val) * 416 + (i 2).val) / 425984 % 8 * 8 + (((p.val * 8 + (i 0).val) * 1024 + (i 1).val) * 416 + (i 2).val) / 3407872) * 1024 + (((p.val * 8 + (i 0).val) * 1024 + (i 1).val) * 416 + (i 2).val) / 416 % 1024) * 416 + (((p.val * 8 + (i 0).val) * 1024 + (i 1).val) * 416 + (i 2).val) % 416) / 425984
    rw [q0, q1, q2, q3]; omega
  | 1 =>
    show (i 1).val = ((((((p.val * 8 + (i 0).val) * 1024 + (i 1).val) * 416 + (i 2).val) / 425984 % 8 * 8 + (((p.val * 8 + (i 0).val) * 1024 + (i 1).val) * 416 + (i 2).val) / 3407872) * 1024 + (((p.val * 8 + (i 0).val) * 1024 + (i 1).val) * 416 + (i 2).val) / 416 % 1024) * 416 + (((p.val * 8 + (i 0).val) * 1024 + (i 1).val) * 416 + (i 2).val) % 416) / 416 % 1024
    rw [q0, q1, q2, q3]; omega
  | 2 =>
    show (i 2).val = ((((((p.val * 8 + (i 0).val) * 1024 + (i 1).val) * 416 + (i 2).val) / 425984 % 8 * 8 + (((p.val * 8 + (i 0).val) * 1024 + (i 1).val) * 416 + (i 2).val) / 3407872) * 1024 + (((p.val * 8 + (i 0).val) * 1024 + (i 1).val) * 416 + (i 2).val) / 416 % 1024) * 416 + (((p.val * 8 + (i 0).val) * 1024 + (i 1).val) * 416 + (i 2).val) % 416) % 416
    rw [q0, q1, q2, q3]; omega

/-- Both programs run, the exchange on eight devices and the reference on one; every device ends with its eight
    blocks of the reference's result, and the arguments are unchanged. -/
theorem value : Cert.algebraic_Kernel30Ideal_Reference30Ideal (hKernel30Ideal := Cert.Kernel30Ideal.Gen.facts) (hReference30Ideal := Cert.Reference30Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference30Ideal.Value.run m' ρ')⟩

end Cert.Proof.HandOutIn

/-! The handing out of the gradient of `w_decay_up`: device `p` ends with block `p` of each of the eight devices' eight blocks of
  64 rows. -/

namespace Cert.Proof.HandOutDecay

/-- What one device sends to another: 64 rows of 64 elements. -/
abbrev size : Exchange.Size := Exchange.handSize 64 64 .bf16 (by decide)
abbrev source : @Exchange.Source size := Exchange.handSource 64 64 .bf16 (by decide)

section Kernel
open Cert.Kernel31

variable {F : FTy → Type} [FloatOps F]

set_option maxRecDepth 65536 in
/-- The printed kernel is the exchange's program at that size, -/
theorem body_eq : cc0_hand_out_w_decay_up (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel31Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference31Ideal.S64x64x64, .bf16⟩ : BufTy).Contents (Elt Ideal))
    (h : ∀ c : Dev nD, m ((c.tc : Thread nD τ).loc main_arg0) = Layout.block ⟨3, ![8, 64, 64]⟩ ⟨3, ![64, 64, 64]⟩ 0 8 c w) (p : Dev nD) :
    handed m p = Layout.block ⟨3, ![8, 64, 64]⟩ ⟨3, ![64, 64, 64]⟩ 0 8 p (Cert.Reference31Ideal.Read.val_main_v2 (F := Ideal) w) := by
  funext i
  rw [Layout.block_apply, Cert.Reference31Ideal.Read.val_main_v2_apply, Cert.Reference31Ideal.Read.val_main_v1_apply, Cert.Reference31Ideal.Read.val_main_v0_apply]
  refine (congrFun (h (@Exchange.slotOf size i)) (Exchange.inSlot 64 64 p (@Exchange.rowLane size i))).trans ?_
  refine congrArg w (funext fun x => Fin.ext ?_)
  have h0 : (i 0).val < 8 := (i 0).isLt
  have h1 : (i 1).val < 64 := (i 1).isLt
  have h2 : (i 2).val < 64 := (i 2).isLt
  have hp : p.val < 8 := p.isLt
  have q0 : (((p.val * 8 + (i 0).val) * 64 + (i 1).val) * 64 + (i 2).val) / 32768 = p.val := by omega
  have q1 : (((p.val * 8 + (i 0).val) * 64 + (i 1).val) * 64 + (i 2).val) / 4096 % 8 = (i 0).val := by omega
  have q2 : (((p.val * 8 + (i 0).val) * 64 + (i 1).val) * 64 + (i 2).val) / 64 % 64 = (i 1).val := by omega
  have q3 : (((p.val * 8 + (i 0).val) * 64 + (i 1).val) * 64 + (i 2).val) % 64 = (i 2).val := by omega
  match x with
  | 0 =>
    show (i 0).val * 8 + p.val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) / 4096
    rw [q0, q1, q2, q3]; omega
  | 1 =>
    show (i 1).val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) / 64 % 64
    rw [q0, q1, q2, q3]; omega
  | 2 =>
    show (i 2).val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) % 64
    rw [q0, q1, q2, q3]; omega

/-- Both programs run, the exchange on eight devices and the reference on one; every device ends with its eight
    blocks of the reference's result, and the arguments are unchanged. -/
theorem value : Cert.algebraic_Kernel31Ideal_Reference31Ideal (hKernel31Ideal := Cert.Kernel31Ideal.Gen.facts) (hReference31Ideal := Cert.Reference31Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference31Ideal.Value.run m' ρ')⟩

end Cert.Proof.HandOutDecay

/-! The handing out of the gradient of `w_aaa_up`: device `p` ends with block `p` of each of the eight devices' eight blocks of
  64 rows. -/

namespace Cert.Proof.HandOutAaa

/-- What one device sends to another: 64 rows of 64 elements. -/
abbrev size : Exchange.Size := Exchange.handSize 64 64 .bf16 (by decide)
abbrev source : @Exchange.Source size := Exchange.handSource 64 64 .bf16 (by decide)

section Kernel
open Cert.Kernel32

variable {F : FTy → Type} [FloatOps F]

set_option maxRecDepth 65536 in
/-- The printed kernel is the exchange's program at that size, -/
theorem body_eq : cc0_hand_out_w_aaa_up (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel32Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference32Ideal.S64x64x64, .bf16⟩ : BufTy).Contents (Elt Ideal))
    (h : ∀ c : Dev nD, m ((c.tc : Thread nD τ).loc main_arg0) = Layout.block ⟨3, ![8, 64, 64]⟩ ⟨3, ![64, 64, 64]⟩ 0 8 c w) (p : Dev nD) :
    handed m p = Layout.block ⟨3, ![8, 64, 64]⟩ ⟨3, ![64, 64, 64]⟩ 0 8 p (Cert.Reference32Ideal.Read.val_main_v2 (F := Ideal) w) := by
  funext i
  rw [Layout.block_apply, Cert.Reference32Ideal.Read.val_main_v2_apply, Cert.Reference32Ideal.Read.val_main_v1_apply, Cert.Reference32Ideal.Read.val_main_v0_apply]
  refine (congrFun (h (@Exchange.slotOf size i)) (Exchange.inSlot 64 64 p (@Exchange.rowLane size i))).trans ?_
  refine congrArg w (funext fun x => Fin.ext ?_)
  have h0 : (i 0).val < 8 := (i 0).isLt
  have h1 : (i 1).val < 64 := (i 1).isLt
  have h2 : (i 2).val < 64 := (i 2).isLt
  have hp : p.val < 8 := p.isLt
  have q0 : (((p.val * 8 + (i 0).val) * 64 + (i 1).val) * 64 + (i 2).val) / 32768 = p.val := by omega
  have q1 : (((p.val * 8 + (i 0).val) * 64 + (i 1).val) * 64 + (i 2).val) / 4096 % 8 = (i 0).val := by omega
  have q2 : (((p.val * 8 + (i 0).val) * 64 + (i 1).val) * 64 + (i 2).val) / 64 % 64 = (i 1).val := by omega
  have q3 : (((p.val * 8 + (i 0).val) * 64 + (i 1).val) * 64 + (i 2).val) % 64 = (i 2).val := by omega
  match x with
  | 0 =>
    show (i 0).val * 8 + p.val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) / 4096
    rw [q0, q1, q2, q3]; omega
  | 1 =>
    show (i 1).val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) / 64 % 64
    rw [q0, q1, q2, q3]; omega
  | 2 =>
    show (i 2).val = ((((((p.val * 8 + (i 0).val) * 64 + (i 1).val) * 64 + (i 2).val) / 4096 % 8 * 8 + (((p.val * 8 + (i 0).val) * 64 + (i 1).val) * 64 + (i 2).val) / 32768) * 64 + (((p.val * 8 + (i 0).val) * 64 + (i 1).val) * 64 + (i 2).val) / 64 % 64) * 64 + (((p.val * 8 + (i 0).val) * 64 + (i 1).val) * 64 + (i 2).val) % 64) % 64
    rw [q0, q1, q2, q3]; omega

/-- Both programs run, the exchange on eight devices and the reference on one; every device ends with its eight
    blocks of the reference's result, and the arguments are unchanged. -/
theorem value : Cert.algebraic_Kernel32Ideal_Reference32Ideal (hKernel32Ideal := Cert.Kernel32Ideal.Gen.facts) (hReference32Ideal := Cert.Reference32Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference32Ideal.Value.run m' ρ')⟩

end Cert.Proof.HandOutAaa

/-! The handing out of the gradient of `w_gate_up`: device `p` ends with block `p` of each of the eight devices' eight blocks of
  128 rows. -/

namespace Cert.Proof.HandOutGate

/-- What one device sends to another: 128 rows of 64 elements. -/
abbrev size : Exchange.Size := Exchange.handSize 128 64 .bf16 (by decide)
abbrev source : @Exchange.Source size := Exchange.handSource 128 64 .bf16 (by decide)

section Kernel
open Cert.Kernel33

variable {F : FTy → Type} [FloatOps F]

set_option maxRecDepth 65536 in
/-- The printed kernel is the exchange's program at that size, -/
theorem body_eq : cc0_hand_out_w_gate_up (F := F) (Memref.whole main_arg0) (Memref.isWhole_whole _) (Memref.whole main_v1) (Memref.isWhole_whole _) cc0_scratch0 cc0_scratch1 cc0_scratch2
    = .op .deviceId fun c => @Exchange.prog size F source c := rfl
/-- so the program's table is the exchange's. -/
theorem kernels_eq : @Exchange.defs₀ size F source = defs₀ (F := F) := by
  unfold Exchange.defs₀ defs₀
  refine congrArg Defs.onTc (funext fun l => funext fun x => ?_)
  match l, x with
  | 0, (t, s) => exact (body_eq (F := F)).symm
theorem defs_eq : @Exchange.defs size F source = defs (F := F) := by
  unfold Exchange.defs defs
  exact congrArg (Pipeline.defs pcfgs) kernels_eq

/-- Every run ends, the arguments are unchanged, every result holds
    slot by slot what the eight devices send to its device, and every counter is zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_v1) = @Exchange.gathered size F source m c) ∧ r.2.sem = fun _ => 0) := by
  rw [← defs_eq]
  exact @Exchange.run size source (Exchange.handLaw _ _ _ _) F m ρ _

end Kernel

open Cert.Kernel33Ideal

/-- What device `p`'s result ends at: slot `d` what device `d` sends to `p`. -/
def handed (m : (ℓ : Loc nD τ sig) → Buf (Elt Ideal) ℓ) (p : Dev nD) : main_v1.ty.Contents (Elt Ideal) := @Exchange.gathered size Ideal source m p

/-- If every device's argument is its eight blocks of the whole array, then device `p`'s result is its eight blocks of the
    whole array with the sender's and the receiver's number exchanged. -/
theorem handed_eq (m : (ℓ : Loc nD τ sig) → Buf (Elt Ideal) ℓ) (w : (⟨Cert.Reference33Ideal.S64x128x64, .bf16⟩ : BufTy).Contents (Elt Ideal))
    (h : ∀ c : Dev nD, m ((c.tc : Thread nD τ).loc main_arg0) = Layout.block ⟨3, ![8, 128, 64]⟩ ⟨3, ![64, 128, 64]⟩ 0 8 c w) (p : Dev nD) :
    handed m p = Layout.block ⟨3, ![8, 128, 64]⟩ ⟨3, ![64, 128, 64]⟩ 0 8 p (Cert.Reference33Ideal.Read.val_main_v2 (F := Ideal) w) := by
  funext i
  rw [Layout.block_apply, Cert.Reference33Ideal.Read.val_main_v2_apply, Cert.Reference33Ideal.Read.val_main_v1_apply, Cert.Reference33Ideal.Read.val_main_v0_apply]
  refine (congrFun (h (@Exchange.slotOf size i)) (Exchange.inSlot 128 64 p (@Exchange.rowLane size i))).trans ?_
  refine congrArg w (funext fun x => Fin.ext ?_)
  have h0 : (i 0).val < 8 := (i 0).isLt
  have h1 : (i 1).val < 128 := (i 1).isLt
  have h2 : (i 2).val < 64 := (i 2).isLt
  have hp : p.val < 8 := p.isLt
  have q0 : (((p.val * 8 + (i 0).val) * 128 + (i 1).val) * 64 + (i 2).val) / 65536 = p.val := by omega
  have q1 : (((p.val * 8 + (i 0).val) * 128 + (i 1).val) * 64 + (i 2).val) / 8192 % 8 = (i 0).val := by omega
  have q2 : (((p.val * 8 + (i 0).val) * 128 + (i 1).val) * 64 + (i 2).val) / 64 % 128 = (i 1).val := by omega
  have q3 : (((p.val * 8 + (i 0).val) * 128 + (i 1).val) * 64 + (i 2).val) % 64 = (i 2).val := by omega
  match x with
  | 0 =>
    show (i 0).val * 8 + p.val = ((((((p.val * 8 + (i 0).val) * 128 + (i 1).val) * 64 + (i 2).val) / 8192 % 8 * 8 + (((p.val * 8 + (i 0).val) * 128 + (i 1).val) * 64 + (i 2).val) / 65536) * 128 + (((p.val * 8 + (i 0).val) * 128 + (i 1).val) * 64 + (i 2).val) / 64 % 128) * 64 + (((p.val * 8 + (i 0).val) * 128 + (i 1).val) * 64 + (i 2).val) % 64) / 8192
    rw [q0, q1, q2, q3]; omega
  | 1 =>
    show (i 1).val = ((((((p.val * 8 + (i 0).val) * 128 + (i 1).val) * 64 + (i 2).val) / 8192 % 8 * 8 + (((p.val * 8 + (i 0).val) * 128 + (i 1).val) * 64 + (i 2).val) / 65536) * 128 + (((p.val * 8 + (i 0).val) * 128 + (i 1).val) * 64 + (i 2).val) / 64 % 128) * 64 + (((p.val * 8 + (i 0).val) * 128 + (i 1).val) * 64 + (i 2).val) % 64) / 64 % 128
    rw [q0, q1, q2, q3]; omega
  | 2 =>
    show (i 2).val = ((((((p.val * 8 + (i 0).val) * 128 + (i 1).val) * 64 + (i 2).val) / 8192 % 8 * 8 + (((p.val * 8 + (i 0).val) * 128 + (i 1).val) * 64 + (i 2).val) / 65536) * 128 + (((p.val * 8 + (i 0).val) * 128 + (i 1).val) * 64 + (i 2).val) / 64 % 128) * 64 + (((p.val * 8 + (i 0).val) * 128 + (i 1).val) * 64 + (i 2).val) % 64) % 64
    rw [q0, q1, q2, q3]; omega

/-- Both programs run, the exchange on eight devices and the reference on one; every device ends with its eight
    blocks of the reference's result, and the arguments are unchanged. -/
theorem value : Cert.algebraic_Kernel33Ideal_Reference33Ideal (hKernel33Ideal := Cert.Kernel33Ideal.Gen.facts) (hReference33Ideal := Cert.Reference33Ideal.Gen.facts) := by
  intro m ρ m' ρ' _ hag
  exact ⟨_, (θ_run _ _ _).mono (fun r h c => ⟨(h.1 c).2.trans (handed_eq m _ hag c), (h.1 c).1⟩) (run (F := Ideal) m ρ), (θ_run _ _ _).mono (fun r h => ⟨(h 0).1, (h 0).2⟩) (Cert.Reference33Ideal.Value.run m' ρ')⟩

end Cert.Proof.HandOutGate

end
-- ==== Proof.lean ====
/- The claim, assembled: the frames, the named mask constant, and the equations of the results. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Kernel.Frame
public import proofs.«01_k».proof.Proof.KernelIdeal.Frame
public import proofs.«01_k».proof.Proof.Value
public import proofs.«01_k».proof.Proof.DAct
public import proofs.«01_k».proof.Proof.DwDown
public import proofs.«01_k».proof.Proof.DwUp
public import proofs.«01_k».proof.Proof.DH2
public import proofs.«01_k».proof.Proof.MlpUp
public import proofs.«01_k».proof.Proof.ProjIn
public import proofs.«01_k».proof.Proof.DwIn
public import proofs.«01_k».proof.Proof.ProjOut
public import proofs.«01_k».proof.Proof.MlpDown
public import proofs.«01_k».proof.Proof.DYcat
public import proofs.«01_k».proof.Proof.DwOut
public import proofs.«01_k».proof.Proof.DH1
public import proofs.«01_k».proof.Proof.Norm1
public import proofs.«01_k».proof.Proof.MixCat
public import proofs.«01_k».proof.Proof.AdamWIn
public import proofs.«01_k».proof.Proof.AdamWLora
public import proofs.«01_k».proof.Proof.AdamWGateUp
public import proofs.«01_k».proof.Proof.AdamWOut
public import proofs.«01_k».proof.Proof.AdamWUp
public import proofs.«01_k».proof.Proof.AdamWDown
public import proofs.«01_k».proof.Proof.AdamSmall
public import proofs.«01_k».proof.Proof.Exchange.Run
public import proofs.«01_k».proof.Proof.Gather
public import proofs.«01_k».proof.Proof.HandOut
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe
open Idealize.SL Idealize.SL.Sem
open Cert

/-- Every claim of the certificate. -/
theorem Cert.Proof.claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Kernel33.Gen.facts, Kernel33Ideal.Gen.facts, Reference33Ideal.Gen.facts, Finite.facts,
    fun m g _ => Kernel.Hand.frame m g,
    fun m g _ => KernelIdeal.Hand.frame m g,
    fun m g _ => KernelIdeal.Hand.frame m g,
    fun m g _ => (θ_run _ _ _).mono (fun r h => ⟨fun c => (h c).2.2.2.2, sem_eq_zero_of_no_sems (by decide) r.2⟩)
      (ReferenceIdeal.Value.run m g),
    fun m g _ => (θ_run _ _ _).mono (fun r h => ⟨fun c => (h c).2.2.2.2, sem_eq_zero_of_no_sems (by decide) r.2⟩)
      (ReferenceIdeal.Value.run m g),
    fun m g _ => Kernel2.Gen.frame m g,
    fun m g _ => Kernel2Ideal.Gen.frame m g,
    fun m g _ => (θ_run _ _ _).mono (fun r h => ⟨fun c => (h c).2, sem_eq_zero_of_no_sems (by decide) r.2⟩)
      (Reference2Ideal.Value.run m g),
    fun m g _ => Kernel3.Gen.frame m g,
    fun m g _ => Kernel3Ideal.Gen.frame m g,
    fun m g _ => (θ_run _ _ _).mono (fun r h => ⟨fun c => (h c).2, sem_eq_zero_of_no_sems (by decide) r.2⟩)
      (Reference3Ideal.Value.run m g),
    fun m g _ => Kernel4.Gen.frame m g,
    fun m g _ => Kernel4Ideal.Gen.frame m g,
    fun m g _ => (θ_run _ _ _).mono (fun r h => ⟨fun c => (h c).2, sem_eq_zero_of_no_sems (by decide) r.2⟩)
      (Reference4Ideal.Value.run m g),
    fun m g _ => Kernel5.Gen.frame m g,
    fun m g _ => Kernel5Ideal.Gen.frame m g,
    fun m g _ => (θ_run _ _ _).mono (fun r h => ⟨fun c => (h c).2.2.2, sem_eq_zero_of_no_sems (by decide) r.2⟩)
      (Reference5Ideal.Value.run m g),
    fun m g _ => Kernel6.Gen.frame m g,
    fun m g _ => Kernel6Ideal.Gen.frame m g,
    fun m g _ => (θ_run _ _ _).mono (fun r h => ⟨fun c => (h c).2.2, sem_eq_zero_of_no_sems (by decide) r.2⟩)
      (Reference6Ideal.Value.run m g),
    fun m g _ => Kernel7.Gen.frame m g,
    fun m g _ => Kernel7Ideal.Gen.frame m g,
    fun m g _ => (θ_run _ _ _).mono (fun r h => ⟨fun c => (h c).2, sem_eq_zero_of_no_sems (by decide) r.2⟩)
      (Reference7Ideal.Value.run m g),
    fun m g _ => Kernel8.Gen.frame m g,
    fun m g _ => Kernel8Ideal.Gen.frame m g,
    fun m g _ => (θ_run _ _ _).mono (fun r h => ⟨fun c => (h c).2, sem_eq_zero_of_no_sems (by decide) r.2⟩)
      (Reference8Ideal.Value.run m g),
    fun m g _ => Kernel9.Gen.frame m g,
    fun m g _ => Kernel9Ideal.Gen.frame m g,
    fun m g _ => (θ_run _ _ _).mono (fun r h => ⟨fun c => (h c).2.2, sem_eq_zero_of_no_sems (by decide) r.2⟩)
      (Reference9Ideal.Value.run m g),
    fun m g _ => Kernel10.Gen.frame m g,
    fun m g _ => Kernel10Ideal.Gen.frame m g,
    fun m g _ => (θ_run _ _ _).mono (fun r h => ⟨fun c => (h c).2.2.2.2, sem_eq_zero_of_no_sems (by decide) r.2⟩)
      (Reference10Ideal.Value.run m g),
    fun m g _ => Kernel11.Gen.frame m g,
    fun m g _ => Kernel11Ideal.Gen.frame m g,
    fun m g _ => (θ_run _ _ _).mono (fun r h => ⟨fun c => (h c).2, sem_eq_zero_of_no_sems (by decide) r.2⟩)
      (Reference11Ideal.Value.run m g),
    fun m g _ => Kernel12.Gen.frame m g,
    fun m g _ => Kernel12Ideal.Gen.frame m g,
    fun m g _ => (θ_run _ _ _).mono (fun r h => ⟨fun c => (h c).2, sem_eq_zero_of_no_sems (by decide) r.2⟩)
      (Reference12Ideal.Value.run m g),
    fun m g _ => Kernel13.Gen.frame m g,
    fun m g _ => Kernel13Ideal.Gen.frame m g,
    fun m g _ => (θ_run _ _ _).mono (fun r h => ⟨fun c => (h c).2.2, sem_eq_zero_of_no_sems (by decide) r.2⟩)
      (Reference13Ideal.Value.run m g),
    fun m g _ => Kernel14.Gen.frame m g,
    fun m g _ => Kernel14Ideal.Gen.frame m g,
    fun m g _ => (θ_run _ _ _).mono (fun r h => ⟨fun c => (h c).2, sem_eq_zero_of_no_sems (by decide) r.2⟩)
      (Reference14Ideal.Value.run m g),
    fun m g _ => Kernel15.Gen.frame m g,
    fun m g _ => Kernel15Ideal.Gen.frame m g,
    fun m g _ => (θ_run _ _ _).mono (fun r h => ⟨fun c => (h c).2, sem_eq_zero_of_no_sems (by decide) r.2⟩)
      (Reference15Ideal.Value.run m g),
    fun m g _ => Kernel16.Gen.frame m g,
    fun m g _ => Kernel16Ideal.Gen.frame m g,
    fun m g _ => (θ_run _ _ _).mono (fun r h => ⟨fun c => (h c).2.2.2.2, sem_eq_zero_of_no_sems (by decide) r.2⟩)
      (Reference16Ideal.Value.run m g),
    fun m g _ => Kernel17.Gen.frame m g,
    fun m g _ => Kernel17Ideal.Gen.frame m g,
    fun m g _ => (θ_run _ _ _).mono (fun r h => ⟨fun c => (h c).2.2.2.2, sem_eq_zero_of_no_sems (by decide) r.2⟩)
      (Reference17Ideal.Value.run m g),
    fun m g _ => Kernel18.Gen.frame m g,
    fun m g _ => Kernel18Ideal.Gen.frame m g,
    fun m g _ => (θ_run _ _ _).mono (fun r h => ⟨fun c => (h c).2.2.2.2, sem_eq_zero_of_no_sems (by decide) r.2⟩)
      (Reference18Ideal.Value.run m g),
    fun m g _ => Kernel19.Gen.frame m g,
    fun m g _ => Kernel19Ideal.Gen.frame m g,
    fun m g _ => (θ_run _ _ _).mono (fun r h => ⟨fun c => (h c).2.2.2.2, sem_eq_zero_of_no_sems (by decide) r.2⟩)
      (Reference19Ideal.Value.run m g),
    fun m g _ => Kernel20.Gen.frame m g,
    fun m g _ => Kernel20Ideal.Gen.frame m g,
    fun m g _ => (θ_run _ _ _).mono (fun r h => ⟨fun c => (h c).2.2.2.2, sem_eq_zero_of_no_sems (by decide) r.2⟩)
      (Reference20Ideal.Value.run m g),
    fun m g _ => Kernel21.Gen.frame m g,
    fun m g _ => Kernel21Ideal.Gen.frame m g,
    fun m g _ => (θ_run _ _ _).mono (fun r h => ⟨fun c => (h c).2.2.2.2, sem_eq_zero_of_no_sems (by decide) r.2⟩)
      (Reference21Ideal.Value.run m g),
    fun m g _ => Kernel22.Gen.frame m g,
    fun m g _ => Kernel22Ideal.Gen.frame m g,
    fun m g _ => (θ_run _ _ _).mono (fun r h => ⟨fun c => (h c).2.2.2.2, sem_eq_zero_of_no_sems (by decide) r.2⟩)
      (Reference22Ideal.Value.run m g),
    fun m g _ => (θ_run _ _ _).mono (fun r h => ⟨fun c => (h.1 c).1, h.2⟩) (Proof.GatherSmall.run m g),
    fun m g _ => (θ_run _ _ _).mono (fun r h => ⟨fun c => (h.1 c).1, h.2⟩) (Proof.GatherSmall.ideal_run m g),
    fun m g _ => (θ_run _ _ _).mono (fun r h => ⟨fun c => (h c).2, sem_eq_zero_of_no_sems (by decide) r.2⟩)
      (Reference23Ideal.Value.run m g),
    fun m g _ => (θ_run _ _ _).mono (fun r h => ⟨fun c => (h.1 c).1, h.2⟩) (Proof.GatherOut.run m g),
    fun m g _ => (θ_run _ _ _).mono (fun r h => ⟨fun c => (h.1 c).1, h.2⟩) (Proof.GatherOut.ideal_run m g),
    fun m g _ => (θ_run _ _ _).mono (fun r h => ⟨fun c => (h c).2, sem_eq_zero_of_no_sems (by decide) r.2⟩)
      (Reference24Ideal.Value.run m g),
    fun m g _ => (θ_run _ _ _).mono (fun r h => ⟨fun c => (h.1 c).1, h.2⟩) (Proof.GatherUp.run m g),
    fun m g _ => (θ_run _ _ _).mono (fun r h => ⟨fun c => (h.1 c).1, h.2⟩) (Proof.GatherUp.ideal_run m g),
    fun m g _ => (θ_run _ _ _).mono (fun r h => ⟨fun c => (h c).2, sem_eq_zero_of_no_sems (by decide) r.2⟩)
      (Reference25Ideal.Value.run m g),
    fun m g _ => (θ_run _ _ _).mono (fun r h => ⟨fun c => (h.1 c).1, h.2⟩) (Proof.GatherDown.run m g),
    fun m g _ => (θ_run _ _ _).mono (fun r h => ⟨fun c => (h.1 c).1, h.2⟩) (Proof.GatherDown.ideal_run m g),
    fun m g _ => (θ_run _ _ _).mono (fun r h => ⟨fun c => (h c).2, sem_eq_zero_of_no_sems (by decide) r.2⟩)
      (Reference26Ideal.Value.run m g),
    fun m g _ => (θ_run _ _ _).mono (fun r h => ⟨fun c => (h.1 c).1, h.2⟩) (Proof.HandOutOut.run m g),
    fun m g _ => (θ_run _ _ _).mono (fun r h => ⟨fun c => (h.1 c).1, h.2⟩) (Proof.HandOutOut.run (F := Ideal) m g),
    fun m g _ => (θ_run _ _ _).mono (fun r h => ⟨fun c => (h c).2, sem_eq_zero_of_no_sems (by decide) r.2⟩)
      (Reference27Ideal.Value.run m g),
    fun m g _ => (θ_run _ _ _).mono (fun r h => ⟨fun c => (h.1 c).1, h.2⟩) (Proof.HandOutUp.run m g),
    fun m g _ => (θ_run _ _ _).mono (fun r h => ⟨fun c => (h.1 c).1, h.2⟩) (Proof.HandOutUp.run (F := Ideal) m g),
    fun m g _ => (θ_run _ _ _).mono (fun r h => ⟨fun c => (h c).2, sem_eq_zero_of_no_sems (by decide) r.2⟩)
      (Reference28Ideal.Value.run m g),
    fun m g _ => (θ_run _ _ _).mono (fun r h => ⟨fun c => (h.1 c).1, h.2⟩) (Proof.HandOutDown.run m g),
    fun m g _ => (θ_run _ _ _).mono (fun r h => ⟨fun c => (h.1 c).1, h.2⟩) (Proof.HandOutDown.run (F := Ideal) m g),
    fun m g _ => (θ_run _ _ _).mono (fun r h => ⟨fun c => (h c).2, sem_eq_zero_of_no_sems (by decide) r.2⟩)
      (Reference29Ideal.Value.run m g),
    fun m g _ => (θ_run _ _ _).mono (fun r h => ⟨fun c => (h.1 c).1, h.2⟩) (Proof.HandOutIn.run m g),
    fun m g _ => (θ_run _ _ _).mono (fun r h => ⟨fun c => (h.1 c).1, h.2⟩) (Proof.HandOutIn.run (F := Ideal) m g),
    fun m g _ => (θ_run _ _ _).mono (fun r h => ⟨fun c => (h c).2, sem_eq_zero_of_no_sems (by decide) r.2⟩)
      (Reference30Ideal.Value.run m g),
    fun m g _ => (θ_run _ _ _).mono (fun r h => ⟨fun c => (h.1 c).1, h.2⟩) (Proof.HandOutDecay.run m g),
    fun m g _ => (θ_run _ _ _).mono (fun r h => ⟨fun c => (h.1 c).1, h.2⟩) (Proof.HandOutDecay.run (F := Ideal) m g),
    fun m g _ => (θ_run _ _ _).mono (fun r h => ⟨fun c => (h c).2, sem_eq_zero_of_no_sems (by decide) r.2⟩)
      (Reference31Ideal.Value.run m g),
    fun m g _ => (θ_run _ _ _).mono (fun r h => ⟨fun c => (h.1 c).1, h.2⟩) (Proof.HandOutAaa.run m g),
    fun m g _ => (θ_run _ _ _).mono (fun r h => ⟨fun c => (h.1 c).1, h.2⟩) (Proof.HandOutAaa.run (F := Ideal) m g),
    fun m g _ => (θ_run _ _ _).mono (fun r h => ⟨fun c => (h c).2, sem_eq_zero_of_no_sems (by decide) r.2⟩)
      (Reference32Ideal.Value.run m g),
    fun m g _ => (θ_run _ _ _).mono (fun r h => ⟨fun c => (h.1 c).1, h.2⟩) (Proof.HandOutGate.run m g),
    fun m g _ => (θ_run _ _ _).mono (fun r h => ⟨fun c => (h.1 c).1, h.2⟩) (Proof.HandOutGate.run (F := Ideal) m g),
    fun m g _ => (θ_run _ _ _).mono (fun r h => ⟨fun c => (h c).2, sem_eq_zero_of_no_sems (by decide) r.2⟩)
      (Reference33Ideal.Value.run m g),
    IdealRules.named_const.statement KernelIdeal.κ "mask" .f32 0xF149F2CA#32 ⊥ rfl,
    Value.value,
    trivial, DAct.value,
    trivial, DwDown.value,
    trivial, DwUp.value,
    trivial, DH2.value,
    trivial, MlpUp.value,
    trivial, ProjIn.value,
    trivial, DwIn.value,
    trivial, ProjOut.value,
    trivial, MlpDown.value,
    trivial, DYcat.value,
    trivial, DwOut.value,
    trivial, DH1.value,
    trivial, Norm1.value,
    trivial, MixCat.value,
    trivial, AdamWIn.value,
    trivial, AdamWLora.value,
    trivial, AdamWGateUp.value,
    trivial, AdamWOut.value,
    trivial, AdamWUp.value,
    trivial, AdamWDown.value,
    trivial, AdamSmall.value,
    trivial, Proof.GatherSmall.value,
    trivial, Proof.GatherOut.value,
    trivial, Proof.GatherUp.value,
    trivial, Proof.GatherDown.value,
    trivial, Proof.HandOutOut.value,
    trivial, Proof.HandOutUp.value,
    trivial, Proof.HandOutDown.value,
    trivial, Proof.HandOutIn.value,
    trivial, Proof.HandOutDecay.value,
    trivial, Proof.HandOutAaa.value,
    trivial, Proof.HandOutGate.value⟩

end
